-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9)
      ∧ r.2.mem ((c.tc : Thread Cert.Kernel15.nD Cert.Kernel15.τ).loc Cert.Kernel15.main_arg10) = m ((c.tc : Thread Cert.Kernel15.nD Cert.Kernel15.τ).loc Cert.Kernel15.main_arg10)
      ∧ r.2.mem ((c.tc : Thread Cert.Kernel15.nD Cert.Kernel15.τ).loc Cert.Kernel15.main_arg11) = m ((c.tc : Thread Cert.Kernel15.nD Cert.Kernel15.τ).loc Cert.Kernel15.main_arg11)
      ∧ r.2.mem ((c.tc : Thread Cert.Kernel15.nD Cert.Kernel15.τ).loc Cert.Kernel15.main_arg12) = m ((c.tc : Thread Cert.Kernel15.nD Cert.Kernel15.τ).loc Cert.Kernel15.main_arg12)
      ∧ r.2.mem ((c.tc : Thread Cert.Kernel15.nD Cert.Kernel15.τ).loc Cert.Kernel15.main_arg13) = m ((c.tc : Thread Cert.Kernel15.nD Cert.Kernel15.τ).loc Cert.Kernel15.main_arg13))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
      ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
      ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
      ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
      ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9)
      ∧ r.2.mem ((c.tc : Thread Cert.Reference15Ideal.nD Cert.Reference15Ideal.τ).loc Cert.Reference15Ideal.main_arg10) = m ((c.tc : Thread Cert.Reference15Ideal.nD Cert.Reference15Ideal.τ).loc Cert.Reference15Ideal.main_arg10)
      ∧ r.2.mem ((c.tc : Thread Cert.Reference15Ideal.nD Cert.Reference15Ideal.τ).loc Cert.Reference15Ideal.main_arg11) = m ((c.tc : Thread Cert.Reference15Ideal.nD Cert.Reference15Ideal.τ).loc Cert.Reference15Ideal.main_arg11)
      ∧ r.2.mem ((c.tc : Thread Cert.Reference15Ideal.nD Cert.Reference15Ideal.τ).loc Cert.Reference15Ideal.main_arg12) = m ((c.tc : Thread Cert.Reference15Ideal.nD Cert.Reference15Ideal.τ).loc Cert.Reference15Ideal.main_arg12)
      ∧ r.2.mem ((c.tc : Thread Cert.Reference15Ideal.nD Cert.Reference15Ideal.τ).loc Cert.Reference15Ideal.main_arg13) = m ((c.tc : Thread Cert.Reference15Ideal.nD Cert.Reference15Ideal.τ).loc Cert.Reference15Ideal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)) (v2 : (c : Dev Cert.KernelIdeal.nD) → Buf (Elt Ideal) ((c.tc : Thread Cert.KernelIdeal.nD Cert.KernelIdeal.τ).loc Cert.KernelIdeal.main_v47_2)) (v3 : (c : Dev Cert.KernelIdeal.nD) → Buf (Elt Ideal) ((c.tc : Thread Cert.KernelIdeal.nD Cert.KernelIdeal.τ).loc Cert.KernelIdeal.main_v47_3)) (v4 : (c : Dev Cert.KernelIdeal.nD) → Buf (Elt Ideal) ((c.tc : Thread Cert.KernelIdeal.nD Cert.KernelIdeal.τ).loc Cert.KernelIdeal.main_v47_4)) (v5 : (c : Dev Cert.KernelIdeal.nD) → Buf (Elt Ideal) ((c.tc : Thread Cert.KernelIdeal.nD Cert.KernelIdeal.τ).loc Cert.KernelIdeal.main_v47_5)) (v6 : (c : Dev Cert.KernelIdeal.nD) → Buf (Elt Ideal) ((c.tc : Thread Cert.KernelIdeal.nD Cert.KernelIdeal.τ).loc Cert.KernelIdeal.main_v47_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_v47_2) = v2 c
          ∧ r.2.mem ((c.tc : Thread Cert.KernelIdeal.nD Cert.KernelIdeal.τ).loc Cert.KernelIdeal.main_v47_3) = v3 c
          ∧ r.2.mem ((c.tc : Thread Cert.KernelIdeal.nD Cert.KernelIdeal.τ).loc Cert.KernelIdeal.main_v47_4) = v4 c
          ∧ r.2.mem ((c.tc : Thread Cert.KernelIdeal.nD Cert.KernelIdeal.τ).loc Cert.KernelIdeal.main_v47_5) = v5 c
          ∧ r.2.mem ((c.tc : Thread Cert.KernelIdeal.nD Cert.KernelIdeal.τ).loc Cert.KernelIdeal.main_v47_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v59) = v3 c
          ∧ r.2.mem ((c.tc : Thread Cert.ReferenceIdeal.nD Cert.ReferenceIdeal.τ).loc Cert.ReferenceIdeal.main_v62) = v4 c
          ∧ r.2.mem ((c.tc : Thread Cert.ReferenceIdeal.nD Cert.ReferenceIdeal.τ).loc Cert.ReferenceIdeal.main_v88) = v5 c
          ∧ r.2.mem ((c.tc : Thread Cert.ReferenceIdeal.nD Cert.ReferenceIdeal.τ).loc Cert.ReferenceIdeal.main_v94) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v37)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v37) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v41)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v41) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)) (v2 : (c : Dev Cert.Kernel4Ideal.nD) → Buf (Elt Ideal) ((c.tc : Thread Cert.Kernel4Ideal.nD Cert.Kernel4Ideal.τ).loc Cert.Kernel4Ideal.main_v9_2)) (v3 : (c : Dev Cert.Kernel4Ideal.nD) → Buf (Elt Ideal) ((c.tc : Thread Cert.Kernel4Ideal.nD Cert.Kernel4Ideal.τ).loc Cert.Kernel4Ideal.main_v9_3)) (v4 : (c : Dev Cert.Kernel4Ideal.nD) → Buf (Elt Ideal) ((c.tc : Thread Cert.Kernel4Ideal.nD Cert.Kernel4Ideal.τ).loc Cert.Kernel4Ideal.main_v9_4)) (v5 : (c : Dev Cert.Kernel4Ideal.nD) → Buf (Elt Ideal) ((c.tc : Thread Cert.Kernel4Ideal.nD Cert.Kernel4Ideal.τ).loc Cert.Kernel4Ideal.main_v9_5)) (v6 : (c : Dev Cert.Kernel4Ideal.nD) → Buf (Elt Ideal) ((c.tc : Thread Cert.Kernel4Ideal.nD Cert.Kernel4Ideal.τ).loc Cert.Kernel4Ideal.main_v9_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_v9_2) = v2 c
          ∧ r.2.mem ((c.tc : Thread Cert.Kernel4Ideal.nD Cert.Kernel4Ideal.τ).loc Cert.Kernel4Ideal.main_v9_3) = v3 c
          ∧ r.2.mem ((c.tc : Thread Cert.Kernel4Ideal.nD Cert.Kernel4Ideal.τ).loc Cert.Kernel4Ideal.main_v9_4) = v4 c
          ∧ r.2.mem ((c.tc : Thread Cert.Kernel4Ideal.nD Cert.Kernel4Ideal.τ).loc Cert.Kernel4Ideal.main_v9_5) = v5 c
          ∧ r.2.mem ((c.tc : Thread Cert.Kernel4Ideal.nD Cert.Kernel4Ideal.τ).loc Cert.Kernel4Ideal.main_v9_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v57) = v0 c
          ∧ r.2.mem ((c.tc : Thread Cert.Reference4Ideal.nD Cert.Reference4Ideal.τ).loc Cert.Reference4Ideal.main_v58) = v1 c
          ∧ r.2.mem ((c.tc : Thread Cert.Reference4Ideal.nD Cert.Reference4Ideal.τ).loc Cert.Reference4Ideal.main_v60) = v2 c
          ∧ r.2.mem ((c.tc : Thread Cert.Reference4Ideal.nD Cert.Reference4Ideal.τ).loc Cert.Reference4Ideal.main_v61) = v3 c
          ∧ r.2.mem ((c.tc : Thread Cert.Reference4Ideal.nD Cert.Reference4Ideal.τ).loc Cert.Reference4Ideal.main_v63) = v4 c
          ∧ r.2.mem ((c.tc : Thread Cert.Reference4Ideal.nD Cert.Reference4Ideal.τ).loc Cert.Reference4Ideal.main_v55) = v5 c
          ∧ r.2.mem ((c.tc : Thread Cert.Reference4Ideal.nD Cert.Reference4Ideal.τ).loc Cert.Reference4Ideal.main_v64) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v31)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v31) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v13)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v14_0)) (v1 : (c : Dev Cert.Kernel7Ideal.nD) → Buf (Elt Ideal) ((c.tc : Thread Cert.Kernel7Ideal.nD Cert.Kernel7Ideal.τ).loc Cert.Kernel7Ideal.main_v14_1)) (v2 : (c : Dev Cert.Kernel7Ideal.nD) → Buf (Elt Ideal) ((c.tc : Thread Cert.Kernel7Ideal.nD Cert.Kernel7Ideal.τ).loc Cert.Kernel7Ideal.main_v14_2)) (v3 : (c : Dev Cert.Kernel7Ideal.nD) → Buf (Elt Ideal) ((c.tc : Thread Cert.Kernel7Ideal.nD Cert.Kernel7Ideal.τ).loc Cert.Kernel7Ideal.main_v14_3)) (v4 : (c : Dev Cert.Kernel7Ideal.nD) → Buf (Elt Ideal) ((c.tc : Thread Cert.Kernel7Ideal.nD Cert.Kernel7Ideal.τ).loc Cert.Kernel7Ideal.main_v14_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v14_0) = v0 c
          ∧ r.2.mem ((c.tc : Thread Cert.Kernel7Ideal.nD Cert.Kernel7Ideal.τ).loc Cert.Kernel7Ideal.main_v14_1) = v1 c
          ∧ r.2.mem ((c.tc : Thread Cert.Kernel7Ideal.nD Cert.Kernel7Ideal.τ).loc Cert.Kernel7Ideal.main_v14_2) = v2 c
          ∧ r.2.mem ((c.tc : Thread Cert.Kernel7Ideal.nD Cert.Kernel7Ideal.τ).loc Cert.Kernel7Ideal.main_v14_3) = v3 c
          ∧ r.2.mem ((c.tc : Thread Cert.Kernel7Ideal.nD Cert.Kernel7Ideal.τ).loc Cert.Kernel7Ideal.main_v14_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v39) = v0 c
          ∧ r.2.mem ((c.tc : Thread Cert.Reference7Ideal.nD Cert.Reference7Ideal.τ).loc Cert.Reference7Ideal.main_v40) = v1 c
          ∧ r.2.mem ((c.tc : Thread Cert.Reference7Ideal.nD Cert.Reference7Ideal.τ).loc Cert.Reference7Ideal.main_v41) = v2 c
          ∧ r.2.mem ((c.tc : Thread Cert.Reference7Ideal.nD Cert.Reference7Ideal.τ).loc Cert.Reference7Ideal.main_v42) = v3 c
          ∧ r.2.mem ((c.tc : Thread Cert.Reference7Ideal.nD Cert.Reference7Ideal.τ).loc Cert.Reference7Ideal.main_v50) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v12)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v12) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v12)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v12) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)
      ∧ m' ((c.tc : Thread Cert.Reference15Ideal.nD Cert.Reference15Ideal.τ).loc Cert.Reference15Ideal.main_arg10) = m ((c.tc : Thread Cert.Kernel15Ideal.nD Cert.Kernel15Ideal.τ).loc Cert.Kernel15Ideal.main_arg10)
      ∧ m' ((c.tc : Thread Cert.Reference15Ideal.nD Cert.Reference15Ideal.τ).loc Cert.Reference15Ideal.main_arg11) = m ((c.tc : Thread Cert.Kernel15Ideal.nD Cert.Kernel15Ideal.τ).loc Cert.Kernel15Ideal.main_arg11)
      ∧ m' ((c.tc : Thread Cert.Reference15Ideal.nD Cert.Reference15Ideal.τ).loc Cert.Reference15Ideal.main_arg12) = m ((c.tc : Thread Cert.Kernel15Ideal.nD Cert.Kernel15Ideal.τ).loc Cert.Kernel15Ideal.main_arg12)
      ∧ m' ((c.tc : Thread Cert.Reference15Ideal.nD Cert.Reference15Ideal.τ).loc Cert.Reference15Ideal.main_arg13) = m ((c.tc : Thread Cert.Kernel15Ideal.nD Cert.Kernel15Ideal.τ).loc Cert.Kernel15Ideal.main_arg13)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)) (v4 : (c : Dev Cert.Kernel15Ideal.nD) → Buf (Elt Ideal) ((c.tc : Thread Cert.Kernel15Ideal.nD Cert.Kernel15Ideal.τ).loc Cert.Kernel15Ideal.main_v0_4)) (v5 : (c : Dev Cert.Kernel15Ideal.nD) → Buf (Elt Ideal) ((c.tc : Thread Cert.Kernel15Ideal.nD Cert.Kernel15Ideal.τ).loc Cert.Kernel15Ideal.main_v0_5)) (v6 : (c : Dev Cert.Kernel15Ideal.nD) → Buf (Elt Ideal) ((c.tc : Thread Cert.Kernel15Ideal.nD Cert.Kernel15Ideal.τ).loc Cert.Kernel15Ideal.main_v0_6)) (v7 : (c : Dev Cert.Kernel15Ideal.nD) → Buf (Elt Ideal) ((c.tc : Thread Cert.Kernel15Ideal.nD Cert.Kernel15Ideal.τ).loc Cert.Kernel15Ideal.main_v0_7)) (v8 : (c : Dev Cert.Kernel15Ideal.nD) → Buf (Elt Ideal) ((c.tc : Thread Cert.Kernel15Ideal.nD Cert.Kernel15Ideal.τ).loc Cert.Kernel15Ideal.main_v0_8)) (v9 : (c : Dev Cert.Kernel15Ideal.nD) → Buf (Elt Ideal) ((c.tc : Thread Cert.Kernel15Ideal.nD Cert.Kernel15Ideal.τ).loc Cert.Kernel15Ideal.main_v0_9)) (v10 : (c : Dev Cert.Kernel15Ideal.nD) → Buf (Elt Ideal) ((c.tc : Thread Cert.Kernel15Ideal.nD Cert.Kernel15Ideal.τ).loc Cert.Kernel15Ideal.main_v0_10)) (v11 : (c : Dev Cert.Kernel15Ideal.nD) → Buf (Elt Ideal) ((c.tc : Thread Cert.Kernel15Ideal.nD Cert.Kernel15Ideal.τ).loc Cert.Kernel15Ideal.main_v0_11)) (v12 : (c : Dev Cert.Kernel15Ideal.nD) → Buf (Elt Ideal) ((c.tc : Thread Cert.Kernel15Ideal.nD Cert.Kernel15Ideal.τ).loc Cert.Kernel15Ideal.main_v0_12)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_v0_4) = v4 c
          ∧ r.2.mem ((c.tc : Thread Cert.Kernel15Ideal.nD Cert.Kernel15Ideal.τ).loc Cert.Kernel15Ideal.main_v0_5) = v5 c
          ∧ r.2.mem ((c.tc : Thread Cert.Kernel15Ideal.nD Cert.Kernel15Ideal.τ).loc Cert.Kernel15Ideal.main_v0_6) = v6 c
          ∧ r.2.mem ((c.tc : Thread Cert.Kernel15Ideal.nD Cert.Kernel15Ideal.τ).loc Cert.Kernel15Ideal.main_v0_7) = v7 c
          ∧ r.2.mem ((c.tc : Thread Cert.Kernel15Ideal.nD Cert.Kernel15Ideal.τ).loc Cert.Kernel15Ideal.main_v0_8) = v8 c
          ∧ r.2.mem ((c.tc : Thread Cert.Kernel15Ideal.nD Cert.Kernel15Ideal.τ).loc Cert.Kernel15Ideal.main_v0_9) = v9 c
          ∧ r.2.mem ((c.tc : Thread Cert.Kernel15Ideal.nD Cert.Kernel15Ideal.τ).loc Cert.Kernel15Ideal.main_v0_10) = v10 c
          ∧ r.2.mem ((c.tc : Thread Cert.Kernel15Ideal.nD Cert.Kernel15Ideal.τ).loc Cert.Kernel15Ideal.main_v0_11) = v11 c
          ∧ r.2.mem ((c.tc : Thread Cert.Kernel15Ideal.nD Cert.Kernel15Ideal.τ).loc Cert.Kernel15Ideal.main_v0_12) = v12 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
          ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
          ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
          ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
          ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_v6) = v1 c
          ∧ r.2.mem ((c.tc : Thread Cert.Reference15Ideal.nD Cert.Reference15Ideal.τ).loc Cert.Reference15Ideal.main_v7) = v2 c
          ∧ r.2.mem ((c.tc : Thread Cert.Reference15Ideal.nD Cert.Reference15Ideal.τ).loc Cert.Reference15Ideal.main_v8) = v3 c
          ∧ r.2.mem ((c.tc : Thread Cert.Reference15Ideal.nD Cert.Reference15Ideal.τ).loc Cert.Reference15Ideal.main_v9) = v4 c
          ∧ r.2.mem ((c.tc : Thread Cert.Reference15Ideal.nD Cert.Reference15Ideal.τ).loc Cert.Reference15Ideal.main_v10) = v5 c
          ∧ r.2.mem ((c.tc : Thread Cert.Reference15Ideal.nD Cert.Reference15Ideal.τ).loc Cert.Reference15Ideal.main_v11) = v6 c
          ∧ r.2.mem ((c.tc : Thread Cert.Reference15Ideal.nD Cert.Reference15Ideal.τ).loc Cert.Reference15Ideal.main_v12) = v7 c
          ∧ r.2.mem ((c.tc : Thread Cert.Reference15Ideal.nD Cert.Reference15Ideal.τ).loc Cert.Reference15Ideal.main_v13) = v8 c
          ∧ r.2.mem ((c.tc : Thread Cert.Reference15Ideal.nD Cert.Reference15Ideal.τ).loc Cert.Reference15Ideal.main_v14) = v9 c
          ∧ r.2.mem ((c.tc : Thread Cert.Reference15Ideal.nD Cert.Reference15Ideal.τ).loc Cert.Reference15Ideal.main_v15) = v10 c
          ∧ r.2.mem ((c.tc : Thread Cert.Reference15Ideal.nD Cert.Reference15Ideal.τ).loc Cert.Reference15Ideal.main_v16) = v11 c
          ∧ r.2.mem ((c.tc : Thread Cert.Reference15Ideal.nD Cert.Reference15Ideal.τ).loc Cert.Reference15Ideal.main_v17) = v12 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9)
          ∧ r.2.mem ((c.tc : Thread Cert.Reference15Ideal.nD Cert.Reference15Ideal.τ).loc Cert.Reference15Ideal.main_arg10) = m' ((c.tc : Thread Cert.Reference15Ideal.nD Cert.Reference15Ideal.τ).loc Cert.Reference15Ideal.main_arg10)
          ∧ r.2.mem ((c.tc : Thread Cert.Reference15Ideal.nD Cert.Reference15Ideal.τ).loc Cert.Reference15Ideal.main_arg11) = m' ((c.tc : Thread Cert.Reference15Ideal.nD Cert.Reference15Ideal.τ).loc Cert.Reference15Ideal.main_arg11)
          ∧ r.2.mem ((c.tc : Thread Cert.Reference15Ideal.nD Cert.Reference15Ideal.τ).loc Cert.Reference15Ideal.main_arg12) = m' ((c.tc : Thread Cert.Reference15Ideal.nD Cert.Reference15Ideal.τ).loc Cert.Reference15Ideal.main_arg12)
          ∧ r.2.mem ((c.tc : Thread Cert.Reference15Ideal.nD Cert.Reference15Ideal.τ).loc Cert.Reference15Ideal.main_arg13) = m' ((c.tc : Thread Cert.Reference15Ideal.nD Cert.Reference15Ideal.τ).loc Cert.Reference15Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Kernel.lean ====
abbrev S4x2048x1024 : Shape := ⟨3, ![4, 2048, 1024]⟩
abbrev S4x6144 : Shape := ⟨2, ![4, 6144]⟩
abbrev S1x1024 : Shape := ⟨2, ![1, 1024]⟩
abbrev S1x1024x4096 : Shape := ⟨3, ![1, 1024, 4096]⟩
abbrev S1x4096x1024 : Shape := ⟨3, ![1, 4096, 1024]⟩
abbrev S4x1x6144 : Shape := ⟨3, ![4, 1, 6144]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S1024 : Shape := ⟨1, ![1024]⟩
abbrev S1x1x1024 : Shape := ⟨3, ![1, 1, 1024]⟩
abbrev S1024x4096 : Shape := ⟨2, ![1024, 4096]⟩
abbrev S4x2048x4096 : Shape := ⟨3, ![4, 2048, 4096]⟩
abbrev S1024x4x1024 : Shape := ⟨3, ![1024, 4, 1024]⟩
abbrev S4x1024x1024 : Shape := ⟨3, ![4, 1024, 1024]⟩
abbrev S4096x1024 : Shape := ⟨2, ![4096, 1024]⟩
abbrev S8192x1024 : Shape := ⟨2, ![8192, 1024]⟩
abbrev S8192x4096 : Shape := ⟨2, ![8192, 4096]⟩
abbrev S4x6x1024 : Shape := ⟨3, ![4, 6, 1024]⟩
abbrev S256x1024 : Shape := ⟨2, ![256, 1024]⟩
abbrev S256x4096 : Shape := ⟨2, ![256, 4096]⟩
abbrev S1x6x1024 : Shape := ⟨3, ![1, 6, 1024]⟩
abbrev S1024x1024 : Shape := ⟨2, ![1024, 1024]⟩
abbrev S1x1024x1024 : Shape := ⟨3, ![1, 1024, 1024]⟩
abbrev S256 : Shape := ⟨1, ![256]⟩
abbrev S256x1 : Shape := ⟨2, ![256, 1]⟩

abbrev nBuf : Space → Nat
  | .hbm => 65
  | .vmem => 28
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x6144, .f32⟩
  | .hbm, ⟨3, _⟩ => ⟨S1x1024, .f32⟩
  | .hbm, ⟨4, _⟩ => ⟨S1x1024x4096, .f32⟩
  | .hbm, ⟨5, _⟩ => ⟨S1x4096x1024, .f32⟩
  | .hbm, ⟨6, _⟩ => ⟨S4x2048x1024, .f32⟩
  | .hbm, ⟨7, _⟩ => ⟨S4x1x6144, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S4x2048x1024, .f32⟩
  | .hbm, ⟨29, _⟩ => ⟨S4x2048x1024, .f32⟩
  | .hbm, ⟨30, _⟩ => ⟨S1024, .f32⟩
  | .hbm, ⟨31, _⟩ => ⟨S1x1x1024, .f32⟩
  | .hbm, ⟨32, _⟩ => ⟨S4x2048x1024, .f32⟩
  | .hbm, ⟨33, _⟩ => ⟨S4x2048x1024, .f32⟩
  | .hbm, ⟨34, _⟩ => ⟨S_, .f32⟩
  | .hbm, ⟨35, _⟩ => ⟨S4x1x1024, .f32⟩
  | .hbm, ⟨36, _⟩ => ⟨S4x1x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S1024x4096, .f32⟩
  | .hbm, ⟨42, _⟩ => ⟨S4x2048x4096, .f32⟩
  | .hbm, ⟨43, _⟩ => ⟨S4x2048x1024, .f32⟩
  | .hbm, ⟨44, _⟩ => ⟨S4x2048x1024, .f32⟩
  | .hbm, ⟨45, _⟩ => ⟨S4x2048x1024, .bf16⟩
  | .hbm, ⟨46, _⟩ => ⟨S1024x4096, .f32⟩
  | .hbm, ⟨47, _⟩ => ⟨S1024x4096, .bf16⟩
  | .hbm, ⟨48, _⟩ => ⟨S1024x4x1024, .bf16⟩
  | .hbm, ⟨49, _⟩ => ⟨S4x1024x1024, .bf16⟩
  | .hbm, ⟨50, _⟩ => ⟨S4096x1024, .f32⟩
  | .hbm, ⟨51, _⟩ => ⟨S4096x1024, .bf16⟩
  | .hbm, ⟨52, _⟩ => ⟨S8192x1024, .bf16⟩
  | .hbm, ⟨53, _⟩ => ⟨S8192x4096, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S4x6x1024, .f32⟩
  | .hbm, ⟨58, _⟩ => ⟨S8192x4096, .bf16⟩
  | .hbm, ⟨59, _⟩ => ⟨S8192x1024, .f32⟩
  | .hbm, ⟨60, _⟩ => ⟨S8192x1024, .bf16⟩
  | .hbm, ⟨61, _⟩ => ⟨S4x1x1024, .f32⟩
  | .hbm, ⟨62, _⟩ => ⟨S4x1x1024, .f32⟩
  | .hbm, ⟨63, _⟩ => ⟨S4x1x1024, .f32⟩
  | .hbm, ⟨64, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x4096, .f32⟩
  | .local _ .vmem, ⟨3, _⟩ => ⟨S256x4096, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x6x1024, .f32⟩
  | .local _ .vmem, ⟨12, _⟩ => ⟨S1x6x1024, .f32⟩
  | .local _ .vmem, ⟨13, _⟩ => ⟨S256x4096, .bf16⟩
  | .local _ .vmem, ⟨14, _⟩ => ⟨S256x4096, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1024, .f32⟩
  | .local _ .vmem, ⟨26, _⟩ => ⟨S4096x1024, .bf16⟩
  | .local _ .vmem, ⟨27, _⟩ => ⟨S1024x4096, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47_0 : Ref sig .tc := ⟨.hbm, 58, rfl⟩
abbrev main_v47_1 : Ref sig .tc := ⟨.hbm, 59, rfl⟩
abbrev main_v47_2 : Ref sig .tc := ⟨.hbm, 60, rfl⟩
abbrev main_v47_3 : Ref sig .tc := ⟨.hbm, 61, rfl⟩
abbrev main_v47_4 : Ref sig .tc := ⟨.hbm, 62, rfl⟩
abbrev main_v47_5 : Ref sig .tc := ⟨.hbm, 63, rfl⟩
abbrev main_v47_6 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c8_i32 : BitVec 32 := 8#32
  let c0_i32_2 : BitVec 32 := 0#32
  let v3 : BitVec 1 := Scalar.cmpi .eq c8_i32 c0_i32_2
  let c1_i32_3 : BitVec 32 := 1#32
  let v4 : BitVec 32 := Scalar.select v3 c1_i32_3 c8_i32
  let v5 : BitVec 32 := Scalar.remsi arg0 v4
  let c0_i32_5 : BitVec 32 := 0#32
  let v7 : BitVec 1 := Scalar.cmpi .slt v5 c0_i32_5
  let c0_i32_6 : BitVec 32 := 0#32
  let v8 : BitVec 1 := Scalar.cmpi .slt v4 c0_i32_6
  let v9 : BitVec 1 := Scalar.xori v7 v8
  let c0_i32_4 : BitVec 32 := 0#32
  let v6 : BitVec 1 := Scalar.cmpi .ne v5 c0_i32_4
  let v10 : BitVec 1 := Scalar.andi v9 v6
  let v11 : BitVec 32 := Scalar.addi v5 v4
  let v12 : BitVec 32 := Scalar.select v10 v11 v5
  let c0_i32_7 : BitVec 32 := 0#32
  let v13 : BitVec 1 := Scalar.cmpi .eq v12 c0_i32_7
  let v48 : BitVec 32 := Scalar.extui v13
  let c0_i32_31 : BitVec 32 := 0#32
  let v49 : BitVec 1 := Scalar.cmpi .ne v48 c0_i32_31
  v49

def k0_cond3 (i : grid0.Coords) : BitVec 1 :=
  let arg0 : BitVec 32 := BitVec.ofNat 32 (i 0).val
  let c8_i32 : BitVec 32 := 8#32
  let c0_i32_2 : BitVec 32 := 0#32
  let v3 : BitVec 1 := Scalar.cmpi .eq c8_i32 c0_i32_2
  let c1_i32_3 : BitVec 32 := 1#32
  let v4 : BitVec 32 := Scalar.select v3 c1_i32_3 c8_i32
  let v5 : BitVec 32 := Scalar.remsi arg0 v4
  let c0_i32_5 : BitVec 32 := 0#32
  let v7 : BitVec 1 := Scalar.cmpi .slt v5 c0_i32_5
  let c0_i32_6 : BitVec 32 := 0#32
  let v8 : BitVec 1 := Scalar.cmpi .slt v4 c0_i32_6
  let v9 : BitVec 1 := Scalar.xori v7 v8
  let c0_i32_4 : BitVec 32 := 0#32
  let v6 : BitVec 1 := Scalar.cmpi .ne v5 c0_i32_4
  let v10 : BitVec 1 := Scalar.andi v9 v6
  let v11 : BitVec 32 := Scalar.addi v5 v4
  let v12 : BitVec 32 := Scalar.select v10 v11 v5
  let c0_i32_7 : BitVec 32 := 0#32
  let v13 : BitVec 1 := Scalar.cmpi .eq v12 c0_i32_7
  let v_true : BitVec 1 := 1#1
  let v50 : BitVec 1 := Scalar.xori v13 v_true
  let v51 : BitVec 32 := Scalar.extui v50
  let c0_i32_32 : BitVec 32 := 0#32
  let v52 : BitVec 1 := Scalar.cmpi .ne v51 c0_i32_32
  v52

def k0_cond4 (i : grid0.Coords) : BitVec 1 :=
  let arg0 : BitVec 32 := BitVec.ofNat 32 (i 0).val
  let c8_i32 : BitVec 32 := 8#32
  let c0_i32_2 : BitVec 32 := 0#32
  let v3 : BitVec 1 := Scalar.cmpi .eq c8_i32 c0_i32_2
  let c1_i32_3 : BitVec 32 := 1#32
  let v4 : BitVec 32 := Scalar.select v3 c1_i32_3 c8_i32
  let v5 : BitVec 32 := Scalar.remsi arg0 v4
  let c0_i32_5 : BitVec 32 := 0#32
  let v7 : BitVec 1 := Scalar.cmpi .slt v5 c0_i32_5
  let c0_i32_6 : BitVec 32 := 0#32
  let v8 : BitVec 1 := Scalar.cmpi .slt v4 c0_i32_6
  let v9 : BitVec 1 := Scalar.xori v7 v8
  let c0_i32_4 : BitVec 32 := 0#32
  let v6 : BitVec 1 := Scalar.cmpi .ne v5 c0_i32_4
  let v10 : BitVec 1 := Scalar.andi v9 v6
  let v11 : BitVec 32 := Scalar.addi v5 v4
  let v12 : BitVec 32 := Scalar.select v10 v11 v5
  let c0_i32_7 : BitVec 32 := 0#32
  let v13 : BitVec 1 := Scalar.cmpi .eq v12 c0_i32_7
  let v58 : BitVec 32 := Scalar.extui v13
  let c0_i32_34 : BitVec 32 := 0#32
  let v59 : BitVec 1 := Scalar.cmpi .ne v58 c0_i32_34
  v59

def k0_cond5 (i : grid0.Coords) : BitVec 1 :=
  let arg0 : BitVec 32 := BitVec.ofNat 32 (i 0).val
  let c8_i32 : BitVec 32 := 8#32
  let c0_i32_2 : BitVec 32 := 0#32
  let v3 : BitVec 1 := Scalar.cmpi .eq c8_i32 c0_i32_2
  let c1_i32_3 : BitVec 32 := 1#32
  let v4 : BitVec 32 := Scalar.select v3 c1_i32_3 c8_i32
  let v5 : BitVec 32 := Scalar.remsi arg0 v4
  let c0_i32_5 : BitVec 32 := 0#32
  let v7 : BitVec 1 := Scalar.cmpi .slt v5 c0_i32_5
  let c0_i32_6 : BitVec 32 := 0#32
  let v8 : BitVec 1 := Scalar.cmpi .slt v4 c0_i32_6
  let v9 : BitVec 1 := Scalar.xori v7 v8
  let c0_i32_4 : BitVec 32 := 0#32
  let v6 : BitVec 1 := Scalar.cmpi .ne v5 c0_i32_4
  let v10 : BitVec 1 := Scalar.andi v9 v6
  let v11 : BitVec 32 := Scalar.addi v5 v4
  let v12 : BitVec 32 := Scalar.select v10 v11 v5
  let c0_i32_7 : BitVec 32 := 0#32
  let v13 : BitVec 1 := Scalar.cmpi .eq v12 c0_i32_7
  let true_35 : BitVec 1 := 1#1
  let v60 : BitVec 1 := Scalar.xori v13 true_35
  let v61 : BitVec 32 := Scalar.extui v60
  let c0_i32_36 : BitVec 32 := 0#32
  let v62 : BitVec 1 := Scalar.cmpi .ne v61 c0_i32_36
  v62

def k0_cond8 (i : grid0.Coords) : BitVec 1 :=
  let arg0 : BitVec 32 := BitVec.ofNat 32 (i 0).val
  let c8_i32 : BitVec 32 := 8#32
  let c0_i32_2 : BitVec 32 := 0#32
  let v3 : BitVec 1 := Scalar.cmpi .eq c8_i32 c0_i32_2
  let c1_i32_3 : BitVec 32 := 1#32
  let v4 : BitVec 32 := Scalar.select v3 c1_i32_3 c8_i32
  let v5 : BitVec 32 := Scalar.remsi arg0 v4
  let c0_i32_5 : BitVec 32 := 0#32
  let v7 : BitVec 1 := Scalar.cmpi .slt v5 c0_i32_5
  let c0_i32_6 : BitVec 32 := 0#32
  let v8 : BitVec 1 := Scalar.cmpi .slt v4 c0_i32_6
  let v9 : BitVec 1 := Scalar.xori v7 v8
  let c0_i32_4 : BitVec 32 := 0#32
  let v6 : BitVec 1 := Scalar.cmpi .ne v5 c0_i32_4
  let v10 : BitVec 1 := Scalar.andi v9 v6
  let v11 : BitVec 32 := Scalar.addi v5 v4
  let v12 : BitVec 32 := Scalar.select v10 v11 v5
  let c0_i32_7 : BitVec 32 := 0#32
  let v13 : BitVec 1 := Scalar.cmpi .eq v12 c0_i32_7
  let v97 : BitVec 32 := Scalar.extui v13
  let c0_i32_51 : BitVec 32 := 0#32
  let v98 : BitVec 1 := Scalar.cmpi .ne v97 c0_i32_51
  v98

def k0_cond9 (i : grid0.Coords) : BitVec 1 :=
  let arg0 : BitVec 32 := BitVec.ofNat 32 (i 0).val
  let c8_i32 : BitVec 32 := 8#32
  let c0_i32_2 : BitVec 32 := 0#32
  let v3 : BitVec 1 := Scalar.cmpi .eq c8_i32 c0_i32_2
  let c1_i32_3 : BitVec 32 := 1#32
  let v4 : BitVec 32 := Scalar.select v3 c1_i32_3 c8_i32
  let v5 : BitVec 32 := Scalar.remsi arg0 v4
  let c0_i32_5 : BitVec 32 := 0#32
  let v7 : BitVec 1 := Scalar.cmpi .slt v5 c0_i32_5
  let c0_i32_6 : BitVec 32 := 0#32
  let v8 : BitVec 1 := Scalar.cmpi .slt v4 c0_i32_6
  let v9 : BitVec 1 := Scalar.xori v7 v8
  let c0_i32_4 : BitVec 32 := 0#32
  let v6 : BitVec 1 := Scalar.cmpi .ne v5 c0_i32_4
  let v10 : BitVec 1 := Scalar.andi v9 v6
  let v11 : BitVec 32 := Scalar.addi v5 v4
  let v12 : BitVec 32 := Scalar.select v10 v11 v5
  let c0_i32_7 : BitVec 32 := 0#32
  let v13 : BitVec 1 := Scalar.cmpi .eq v12 c0_i32_7
  let true_52 : BitVec 1 := 1#1
  let v99 : BitVec 1 := Scalar.xori v13 true_52
  let v100 : BitVec 32 := Scalar.extui v99
  let c0_i32_53 : BitVec 32 := 0#32
  let v101 : BitVec 1 := Scalar.cmpi .ne v100 c0_i32_53
  v101

def k0_cond6 (i : grid0.Coords) : BitVec 1 :=
  let arg0 : BitVec 32 := BitVec.ofNat 32 (i 0).val
  let c0_i32_38 : BitVec 32 := 0#32
  let v68 : BitVec 1 := Scalar.cmpi .eq arg0 c0_i32_38
  let v69 : BitVec 32 := Scalar.extui v68
  let c0_i32_39 : BitVec 32 := 0#32
  let v70 : BitVec 1 := Scalar.cmpi .ne v69 c0_i32_39
  v70

def k0_cond7 (i : grid0.Coords) : BitVec 1 :=
  let arg0 : BitVec 32 := BitVec.ofNat 32 (i 0).val
  let c0_i32_38 : BitVec 32 := 0#32
  let v68 : BitVec 1 := Scalar.cmpi .eq arg0 c0_i32_38
  let true_40 : BitVec 1 := 1#1
  let v71 : BitVec 1 := Scalar.xori v68 true_40
  let v72 : BitVec 32 := Scalar.extui v71
  let c0_i32_41 : BitVec 32 := 0#32
  let v73 : BitVec 1 := Scalar.cmpi .ne v72 c0_i32_41
  v73

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S4x2048x1024 : Shape := ⟨3, ![4, 2048, 1024]⟩
abbrev S4x6144 : Shape := ⟨2, ![4, 6144]⟩
abbrev S1x1024 : Shape := ⟨2, ![1, 1024]⟩
abbrev S1x1024x4096 : Shape := ⟨3, ![1, 1024, 4096]⟩
abbrev S1x4096x1024 : Shape := ⟨3, ![1, 4096, 1024]⟩
abbrev S4x1x6144 : Shape := ⟨3, ![4, 1, 6144]⟩
abbrev S4x1x1024 : Shape := ⟨3, ![4, 1, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x4096 : Shape := ⟨3, ![4, 2048, 4096]⟩
abbrev S4x1024 : Shape := ⟨2, ![4, 1024]⟩
abbrev S8192x4096 : Shape := ⟨2, ![8192, 4096]⟩
abbrev S8192x1024 : Shape := ⟨2, ![8192, 1024]⟩

abbrev nBuf : Space → Nat
  | .hbm => 122
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x6144, .f32⟩
  | .hbm, ⟨3, _⟩ => ⟨S1x1024, .f32⟩
  | .hbm, ⟨4, _⟩ => ⟨S1x1024x4096, .f32⟩
  | .hbm, ⟨5, _⟩ => ⟨S1x4096x1024, .f32⟩
  | .hbm, ⟨6, _⟩ => ⟨S4x2048x1024, .f32⟩
  | .hbm, ⟨7, _⟩ => ⟨S4x1x6144, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S1024x4096, .f32⟩
  | .hbm, ⟨15, _⟩ => ⟨S4096x1024, .f32⟩
  | .hbm, ⟨16, _⟩ => ⟨S1024, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S4x2048x1024, .f32⟩
  | .hbm, ⟨21, _⟩ => ⟨S_, .f32⟩
  | .hbm, ⟨22, _⟩ => ⟨S4x2048x1024, .f32⟩
  | .hbm, ⟨23, _⟩ => ⟨S4x2048x1024, .f32⟩
  | .hbm, ⟨24, _⟩ => ⟨S_, .f32⟩
  | .hbm, ⟨25, _⟩ => ⟨S4x2048, .f32⟩
  | .hbm, ⟨26, _⟩ => ⟨S4x2048x1, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S4x2048x1, .f32⟩
  | .hbm, ⟨34, _⟩ => ⟨S4x2048x1, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S4x2048x1024, .f32⟩
  | .hbm, ⟨39, _⟩ => ⟨S4x2048x1024, .f32⟩
  | .hbm, ⟨40, _⟩ => ⟨S1x1x1024, .f32⟩
  | .hbm, ⟨41, _⟩ => ⟨S4x2048x1024, .f32⟩
  | .hbm, ⟨42, _⟩ => ⟨S4x2048x1024, .f32⟩
  | .hbm, ⟨43, _⟩ => ⟨S_, .f32⟩
  | .hbm, ⟨44, _⟩ => ⟨S4x1x1024, .f32⟩
  | .hbm, ⟨45, _⟩ => ⟨S4x1x1024, .f32⟩
  | .hbm, ⟨46, _⟩ => ⟨S4x2048x1024, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S4x2048x4096, .f32⟩
  | .hbm, ⟨51, _⟩ => ⟨S_, .f32⟩
  | .hbm, ⟨52, _⟩ => ⟨S4x2048x4096, .f32⟩
  | .hbm, ⟨53, _⟩ => ⟨S4x2048x4096, .f32⟩
  | .hbm, ⟨54, _⟩ => ⟨S_, .f32⟩
  | .hbm, ⟨55, _⟩ => ⟨S4x2048x4096, .f32⟩
  | .hbm, ⟨56, _⟩ => ⟨S4x2048x4096, .i1⟩
  | .hbm, ⟨57, _⟩ => ⟨S_, .f32⟩
  | .hbm, ⟨58, _⟩ => ⟨S4x2048x4096, .f32⟩
  | .hbm, ⟨59, _⟩ => ⟨S4x2048x4096, .f32⟩
  | .hbm, ⟨60, _⟩ => ⟨S_, .f32⟩
  | .hbm, ⟨61, _⟩ => ⟨S4x2048x4096, .f32⟩
  | .hbm, ⟨62, _⟩ => ⟨S4x2048x4096, .f32⟩
  | .hbm, ⟨63, _⟩ => ⟨S4x2048x1024, .f32⟩
  | .hbm, ⟨64, _⟩ => ⟨S4x2048x1024, .f32⟩
  | .hbm, ⟨65, _⟩ => ⟨S4x2048x1024, .f32⟩
  | .hbm, ⟨66, _⟩ => ⟨S4x2048x1024, .f32⟩
  | .hbm, ⟨67, _⟩ => ⟨S4x2048x1024, .f32⟩
  | .hbm, ⟨68, _⟩ => ⟨S4x2048x1024, .f32⟩
  | .hbm, ⟨69, _⟩ => ⟨S4x2048x1024, .f32⟩
  | .hbm, ⟨70, _⟩ => ⟨S4x2048x1024, .f32⟩
  | .hbm, ⟨71, _⟩ => ⟨S4x2048x4096, .f32⟩
  | .hbm, ⟨72, _⟩ => ⟨S4x2048x4096, .f32⟩
  | .hbm, ⟨73, _⟩ => ⟨S_, .f32⟩
  | .hbm, ⟨74, _⟩ => ⟨S4x2048x4096, .f32⟩
  | .hbm, ⟨75, _⟩ => ⟨S4x2048x4096, .f32⟩
  | .hbm, ⟨76, _⟩ => ⟨S4x2048x1024, .f32⟩
  | .hbm, ⟨77, _⟩ => ⟨S_, .f32⟩
  | .hbm, ⟨78, _⟩ => ⟨S4x1024, .f32⟩
  | .hbm, ⟨79, _⟩ => ⟨S4x1x1024, .f32⟩
  | .hbm, ⟨80, _⟩ => ⟨S4x2048x1024, .f32⟩
  | .hbm, ⟨81, _⟩ => ⟨S_, .f32⟩
  | .hbm, ⟨82, _⟩ => ⟨S4x1024, .f32⟩
  | .hbm, ⟨83, _⟩ => ⟨S4x1x1024, .f32⟩
  | .hbm, ⟨84, _⟩ => ⟨S4x2048x1024, .f32⟩
  | .hbm, ⟨85, _⟩ => ⟨S4x2048x1024, .f32⟩
  | .hbm, ⟨86, _⟩ => ⟨S4x2048x1024, .f32⟩
  | .hbm, ⟨87, _⟩ => ⟨S_, .f32⟩
  | .hbm, ⟨88, _⟩ => ⟨S1024, .f32⟩
  | .hbm, ⟨89, _⟩ => ⟨S1x1x1024, .f32⟩
  | .hbm, ⟨90, _⟩ => ⟨S4x2048x1024, .f32⟩
  | .hbm, ⟨91, _⟩ => ⟨S4x2048x1024, .f32⟩
  | .hbm, ⟨92, _⟩ => ⟨S_, .f32⟩
  | .hbm, ⟨93, _⟩ => ⟨S1024, .f32⟩
  | .hbm, ⟨94, _⟩ => ⟨S4x2048x1024, .f32⟩
  | .hbm, ⟨95, _⟩ => ⟨S_, .f32⟩
  | .hbm, ⟨96, _⟩ => ⟨S4x2048, .f32⟩
  | .hbm, ⟨97, _⟩ => ⟨S4x2048x1, .f32⟩
  | .hbm, ⟨98, _⟩ => ⟨S4x2048x1024, .f32⟩
  | .hbm, ⟨99, _⟩ => ⟨S4x2048x1024, .f32⟩
  | .hbm, ⟨100, _⟩ => ⟨S4x2048x1024, .f32⟩
  | .hbm, ⟨101, _⟩ => ⟨S4x2048x1, .f32⟩
  | .hbm, ⟨102, _⟩ => ⟨S_, .f32⟩
  | .hbm, ⟨103, _⟩ => ⟨S4x2048x1, .f32⟩
  | .hbm, ⟨104, _⟩ => ⟨S4x2048x1, .f32⟩
  | .hbm, ⟨105, _⟩ => ⟨S_, .f32⟩
  | .hbm, ⟨106, _⟩ => ⟨S4x2048, .f32⟩
  | .hbm, ⟨107, _⟩ => ⟨S4x2048x1024, .f32⟩
  | .hbm, ⟨108, _⟩ => ⟨S4x2048x1024, .f32⟩
  | .hbm, ⟨109, _⟩ => ⟨S4x2048x1024, .f32⟩
  | .hbm, ⟨110, _⟩ => ⟨S4x2048x1024, .f32⟩
  | .hbm, ⟨111, _⟩ => ⟨S4x2048x1024, .f32⟩
  | .hbm, ⟨112, _⟩ => ⟨S4x2048x1024, .f32⟩
  | .hbm, ⟨113, _⟩ => ⟨S_, .f32⟩
  | .hbm, ⟨114, _⟩ => ⟨S4x1024, .f32⟩
  | .hbm, ⟨115, _⟩ => ⟨S4x1x1024, .f32⟩
  | .hbm, ⟨116, _⟩ => ⟨S8192x4096, .f32⟩
  | .hbm, ⟨117, _⟩ => ⟨S8192x4096, .bf16⟩
  | .hbm, ⟨118, _⟩ => ⟨S8192x1024, .f32⟩
  | .hbm, ⟨119, _⟩ => ⟨S8192x1024, .f32⟩
  | .hbm, ⟨120, _⟩ => ⟨S8192x1024, .bf16⟩
  | .hbm, ⟨121, _⟩ => ⟨S1x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_call0_cst : Ref sig .tc := ⟨.hbm, 51, rfl⟩
abbrev main_call0_v0 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_10 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_11 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_12 : Ref sig .tc := ⟨.hbm, 92, rfl⟩
abbrev main_v70 : Ref sig .tc := ⟨.hbm, 93, rfl⟩
abbrev main_v71 : Ref sig .tc := ⟨.hbm, 94, rfl⟩
abbrev main_cst_13 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_14 : Ref sig .tc := ⟨.hbm, 102, rfl⟩
abbrev main_v78 : Ref sig .tc := ⟨.hbm, 103, rfl⟩
abbrev main_v79 : Ref sig .tc := ⟨.hbm, 104, rfl⟩
abbrev main_cst_15 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_16 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩

abbrev nD : Nat := 1
abbrev τ : Topo := Topo.v7x

variable {F : FTy → Type} [FloatOps F]
-- ==== Kernel2.lean ====
abbrev S4x2048x1024 : Shape := ⟨3, ![4, 2048, 1024]⟩
abbrev S4x6144 : Shape := ⟨2, ![4, 6144]⟩
abbrev S1x1024 : Shape := ⟨2, ![1, 1024]⟩
abbrev S1x1024x4096 : Shape := ⟨3, ![1, 1024, 4096]⟩
abbrev S4x1x6144 : Shape := ⟨3, ![4, 1, 6144]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S1024 : Shape := ⟨1, ![1024]⟩
abbrev S1x1x1024 : Shape := ⟨3, ![1, 1, 1024]⟩
abbrev S1024x4096 : Shape := ⟨2, ![1024, 4096]⟩
abbrev S4x2048x4096 : Shape := ⟨3, ![4, 2048, 4096]⟩
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 49
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S4x6144, .f32⟩
  | .hbm, ⟨2, _⟩ => ⟨S1x1024, .f32⟩
  | .hbm, ⟨3, _⟩ => ⟨S1x1024x4096, .f32⟩
  | .hbm, ⟨4, _⟩ => ⟨S4x2048x1024, .f32⟩
  | .hbm, ⟨5, _⟩ => ⟨S4x1x6144, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x2048x1024, .f32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1, .f32⟩
  | .hbm, ⟨23, _⟩ => ⟨S4x2048x1024, .f32⟩
  | .hbm, ⟨24, _⟩ => ⟨S4x2048x1024, .f32⟩
  | .hbm, ⟨25, _⟩ => ⟨S1024, .f32⟩
  | .hbm, ⟨26, _⟩ => ⟨S1x1x1024, .f32⟩
  | .hbm, ⟨27, _⟩ => ⟨S4x2048x1024, .f32⟩
  | .hbm, ⟨28, _⟩ => ⟨S4x2048x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S1024x4096, .f32⟩
  | .hbm, ⟨37, _⟩ => ⟨S4x2048x4096, .f32⟩
  | .hbm, ⟨38, _⟩ => ⟨S_, .f32⟩
  | .hbm, ⟨39, _⟩ => ⟨S4x2048x4096, .f32⟩
  | .hbm, ⟨40, _⟩ => ⟨S4x2048x4096, .f32⟩
  | .hbm, ⟨41, _⟩ => ⟨S4x2048x4096, .f32⟩
  | .hbm, ⟨42, _⟩ => ⟨S4x2048x4096, .bf16⟩
  | .hbm, ⟨43, _⟩ => ⟨S4x2048x1024, .f32⟩
  | .hbm, ⟨44, _⟩ => ⟨S4x2048x1024, .f32⟩
  | .hbm, ⟨45, _⟩ => ⟨S4x2048x1024, .bf16⟩
  | .hbm, ⟨46, _⟩ => ⟨S8192x4096, .bf16⟩
  | .hbm, ⟨47, _⟩ => ⟨S8192x1024, .bf16⟩
  | .hbm, ⟨48, _⟩ => ⟨S4096x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_call0_cst : Ref sig .tc := ⟨.hbm, 38, rfl⟩
abbrev main_call0_v0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32 : BitVec 32 := 0#32
  let v5 : BitVec 1 := Scalar.cmpi .eq arg2 c0_i32
  let v_true : BitVec 1 := 1#1
  let v8 : BitVec 1 := Scalar.xori v5 v_true
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4x2048x1024 : Shape := ⟨3, ![4, 2048, 1024]⟩
abbrev S4x6144 : Shape := ⟨2, ![4, 6144]⟩
abbrev S1x1024 : Shape := ⟨2, ![1, 1024]⟩
abbrev S1x1024x4096 : Shape := ⟨3, ![1, 1024, 4096]⟩
abbrev S4x1x6144 : Shape := ⟨3, ![4, 1, 6144]⟩
abbrev S4x1x1024 : Shape := ⟨3, ![4, 1, 1024]⟩
abbrev S_ : Shape := ⟨0, ![]⟩
abbrev S4096x1024 : Shape := ⟨2, ![4096, 1024]⟩
abbrev S4x2048 : Shape := ⟨2, ![4, 2048]⟩
abbrev S4x2048x1 : Shape := ⟨3, ![4, 2048, 1]⟩
abbrev S1024 : Shape := ⟨1, ![1024]⟩
abbrev S1x1x1024 : Shape := ⟨3, ![1, 1, 1024]⟩
abbrev S1024x4096 : Shape := ⟨2, ![1024, 4096]⟩
abbrev S4x2048x4096 : Shape := ⟨3, ![4, 2048, 4096]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x6144, .f32⟩
  | .hbm, ⟨2, _⟩ => ⟨S1x1024, .f32⟩
  | .hbm, ⟨3, _⟩ => ⟨S1x1024x4096, .f32⟩
  | .hbm, ⟨4, _⟩ => ⟨S4x2048x1024, .f32⟩
  | .hbm, ⟨5, _⟩ => ⟨S4x1x6144, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S_, .f32⟩
  | .hbm, ⟨13, _⟩ => ⟨S4096x1024, .f32⟩
  | .hbm, ⟨14, _⟩ => ⟨S4x2048x1024, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x1024, .f32⟩
  | .hbm, ⟨26, _⟩ => ⟨S4x2048x1024, .f32⟩
  | .hbm, ⟨27, _⟩ => ⟨S1024, .f32⟩
  | .hbm, ⟨28, _⟩ => ⟨S1x1x1024, .f32⟩
  | .hbm, ⟨29, _⟩ => ⟨S4x2048x1024, .f32⟩
  | .hbm, ⟨30, _⟩ => ⟨S4x2048x1024, .f32⟩
  | .hbm, ⟨31, _⟩ => ⟨S_, .f32⟩
  | .hbm, ⟨32, _⟩ => ⟨S4x1x1024, .f32⟩
  | .hbm, ⟨33, _⟩ => ⟨S4x1x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S1024x4096, .f32⟩
  | .hbm, ⟨39, _⟩ => ⟨S4x2048x4096, .f32⟩
  | .hbm, ⟨40, _⟩ => ⟨S_, .f32⟩
  | .hbm, ⟨41, _⟩ => ⟨S4x2048x4096, .f32⟩
  | .hbm, ⟨42, _⟩ => ⟨S4x2048x4096, .f32⟩
  | .hbm, ⟨43, _⟩ => ⟨S4x2048x4096, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S1024x4096, .f32⟩
  | .hbm, ⟨51, _⟩ => ⟨S4096x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_cst : Ref sig .tc := ⟨.hbm, 40, rfl⟩
abbrev main_call0_v0 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Kernel3.lean ====
abbrev S4x2048x1024 : Shape := ⟨3, ![4, 2048, 1024]⟩
abbrev S4x6144 : Shape := ⟨2, ![4, 6144]⟩
abbrev S1x1024 : Shape := ⟨2, ![1, 1024]⟩
abbrev S1x1024x4096 : Shape := ⟨3, ![1, 1024, 4096]⟩
abbrev S1x4096x1024 : Shape := ⟨3, ![1, 4096, 1024]⟩
abbrev S4x1x6144 : Shape := ⟨3, ![4, 1, 6144]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S1024 : Shape := ⟨1, ![1024]⟩
abbrev S1x1x1024 : Shape := ⟨3, ![1, 1, 1024]⟩
abbrev S4096x1024 : Shape := ⟨2, ![4096, 1024]⟩
abbrev S4x2048x4096 : Shape := ⟨3, ![4, 2048, 4096]⟩
abbrev S1024x4096 : Shape := ⟨2, ![1024, 4096]⟩
abbrev S8192x1024 : Shape := ⟨2, ![8192, 1024]⟩
abbrev S8192x4096 : Shape := ⟨2, ![8192, 4096]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 55
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S4x6144, .f32⟩
  | .hbm, ⟨2, _⟩ => ⟨S1x1024, .f32⟩
  | .hbm, ⟨3, _⟩ => ⟨S1x1024x4096, .f32⟩
  | .hbm, ⟨4, _⟩ => ⟨S1x4096x1024, .f32⟩
  | .hbm, ⟨5, _⟩ => ⟨S4x2048x1024, .f32⟩
  | .hbm, ⟨6, _⟩ => ⟨S4x1x6144, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x2048x1024, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x1, .f32⟩
  | .hbm, ⟨24, _⟩ => ⟨S4x2048x1024, .f32⟩
  | .hbm, ⟨25, _⟩ => ⟨S4x2048x1024, .f32⟩
  | .hbm, ⟨26, _⟩ => ⟨S1024, .f32⟩
  | .hbm, ⟨27, _⟩ => ⟨S1x1x1024, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S4096x1024, .f32⟩
  | .hbm, ⟨40, _⟩ => ⟨S4x2048x4096, .f32⟩
  | .hbm, ⟨41, _⟩ => ⟨S1024x4096, .f32⟩
  | .hbm, ⟨42, _⟩ => ⟨S4x2048x4096, .f32⟩
  | .hbm, ⟨43, _⟩ => ⟨S_, .f32⟩
  | .hbm, ⟨44, _⟩ => ⟨S4x2048x4096, .f32⟩
  | .hbm, ⟨45, _⟩ => ⟨S4x2048x4096, .f32⟩
  | .hbm, ⟨46, _⟩ => ⟨S_, .f32⟩
  | .hbm, ⟨47, _⟩ => ⟨S4x2048x4096, .f32⟩
  | .hbm, ⟨48, _⟩ => ⟨S4x2048x4096, .f32⟩
  | .hbm, ⟨49, _⟩ => ⟨S4x2048x4096, .f32⟩
  | .hbm, ⟨50, _⟩ => ⟨S4x2048x4096, .bf16⟩
  | .hbm, ⟨51, _⟩ => ⟨S4x2048x1024, .bf16⟩
  | .hbm, ⟨52, _⟩ => ⟨S8192x1024, .bf16⟩
  | .hbm, ⟨53, _⟩ => ⟨S8192x4096, .bf16⟩
  | .hbm, ⟨54, _⟩ => ⟨S4x1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_cst : Ref sig .tc := ⟨.hbm, 43, rfl⟩
abbrev main_call0_v0 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32 : BitVec 32 := 0#32
  let v5 : BitVec 1 := Scalar.cmpi .eq arg2 c0_i32
  let v_true : BitVec 1 := 1#1
  let v8 : BitVec 1 := Scalar.xori v5 v_true
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4x2048x1024 : Shape := ⟨3, ![4, 2048, 1024]⟩
abbrev S4x6144 : Shape := ⟨2, ![4, 6144]⟩
abbrev S1x1024 : Shape := ⟨2, ![1, 1024]⟩
abbrev S1x1024x4096 : Shape := ⟨3, ![1, 1024, 4096]⟩
abbrev S1x4096x1024 : Shape := ⟨3, ![1, 4096, 1024]⟩
abbrev S4x1x6144 : Shape := ⟨3, ![4, 1, 6144]⟩
abbrev S4x1x1024 : Shape := ⟨3, ![4, 1, 1024]⟩
abbrev S1024x4096 : Shape := ⟨2, ![1024, 4096]⟩
abbrev S_ : Shape := ⟨0, ![]⟩
abbrev S4x2048 : Shape := ⟨2, ![4, 2048]⟩
abbrev S4x2048x1 : Shape := ⟨3, ![4, 2048, 1]⟩
abbrev S1024 : Shape := ⟨1, ![1024]⟩
abbrev S1x1x1024 : Shape := ⟨3, ![1, 1, 1024]⟩
abbrev S4x2048x4096 : Shape := ⟨3, ![4, 2048, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 67
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x6144, .f32⟩
  | .hbm, ⟨2, _⟩ => ⟨S1x1024, .f32⟩
  | .hbm, ⟨3, _⟩ => ⟨S1x1024x4096, .f32⟩
  | .hbm, ⟨4, _⟩ => ⟨S1x4096x1024, .f32⟩
  | .hbm, ⟨5, _⟩ => ⟨S4x2048x1024, .f32⟩
  | .hbm, ⟨6, _⟩ => ⟨S4x1x6144, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S1024x4096, .f32⟩
  | .hbm, ⟨14, _⟩ => ⟨S4x2048x1024, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x1024, .f32⟩
  | .hbm, ⟨26, _⟩ => ⟨S4x2048x1024, .f32⟩
  | .hbm, ⟨27, _⟩ => ⟨S1024, .f32⟩
  | .hbm, ⟨28, _⟩ => ⟨S1x1x1024, .f32⟩
  | .hbm, ⟨29, _⟩ => ⟨S4x2048x1024, .f32⟩
  | .hbm, ⟨30, _⟩ => ⟨S4x2048x1024, .f32⟩
  | .hbm, ⟨31, _⟩ => ⟨S_, .f32⟩
  | .hbm, ⟨32, _⟩ => ⟨S4x1x1024, .f32⟩
  | .hbm, ⟨33, _⟩ => ⟨S4x1x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S4x2048x4096, .f32⟩
  | .hbm, ⟨39, _⟩ => ⟨S_, .f32⟩
  | .hbm, ⟨40, _⟩ => ⟨S4x2048x4096, .f32⟩
  | .hbm, ⟨41, _⟩ => ⟨S4x2048x4096, .f32⟩
  | .hbm, ⟨42, _⟩ => ⟨S_, .f32⟩
  | .hbm, ⟨43, _⟩ => ⟨S4x2048x4096, .f32⟩
  | .hbm, ⟨44, _⟩ => ⟨S4x2048x4096, .i1⟩
  | .hbm, ⟨45, _⟩ => ⟨S_, .f32⟩
  | .hbm, ⟨46, _⟩ => ⟨S4x2048x4096, .f32⟩
  | .hbm, ⟨47, _⟩ => ⟨S4x2048x4096, .f32⟩
  | .hbm, ⟨48, _⟩ => ⟨S_, .f32⟩
  | .hbm, ⟨49, _⟩ => ⟨S4x2048x4096, .f32⟩
  | .hbm, ⟨50, _⟩ => ⟨S4x2048x4096, .f32⟩
  | .hbm, ⟨51, _⟩ => ⟨S4096x1024, .f32⟩
  | .hbm, ⟨52, _⟩ => ⟨S4x2048x1024, .f32⟩
  | .hbm, ⟨53, _⟩ => ⟨S4x2048x1024, .f32⟩
  | .hbm, ⟨54, _⟩ => ⟨S4x2048x1024, .f32⟩
  | .hbm, ⟨55, _⟩ => ⟨S4x2048x1024, .f32⟩
  | .hbm, ⟨56, _⟩ => ⟨S4x2048x1024, .f32⟩
  | .hbm, ⟨57, _⟩ => ⟨S4x2048x1024, .f32⟩
  | .hbm, ⟨58, _⟩ => ⟨S4x2048x4096, .f32⟩
  | .hbm, ⟨59, _⟩ => ⟨S4x2048x4096, .f32⟩
  | .hbm, ⟨60, _⟩ => ⟨S_, .f32⟩
  | .hbm, ⟨61, _⟩ => ⟨S4x2048x4096, .f32⟩
  | .hbm, ⟨62, _⟩ => ⟨S4x2048x4096, .f32⟩
  | .hbm, ⟨63, _⟩ => ⟨S4096x1024, .f32⟩
  | .hbm, ⟨64, _⟩ => ⟨S1024x4096, .f32⟩
  | .hbm, ⟨65, _⟩ => ⟨S1024x4x1024, .f32⟩
  | .hbm, ⟨66, _⟩ => ⟨S4x1024x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_cst : Ref sig .tc := ⟨.hbm, 39, rfl⟩
abbrev main_call0_v0 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Kernel4.lean ====
abbrev S4x2048x1024 : Shape := ⟨3, ![4, 2048, 1024]⟩
abbrev S4x6144 : Shape := ⟨2, ![4, 6144]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x1024 : Shape := ⟨2, ![4096, 1024]⟩
abbrev S8192x1024 : Shape := ⟨2, ![8192, 1024]⟩
abbrev S4x6x1024 : Shape := ⟨3, ![4, 6, 1024]⟩
abbrev S8192x4096 : Shape := ⟨2, ![8192, 4096]⟩
abbrev S4x1x1024 : Shape := ⟨3, ![4, 1, 1024]⟩
abbrev S8x128 : Shape := ⟨2, ![8, 128]⟩
abbrev S256x1024 : Shape := ⟨2, ![256, 1024]⟩
abbrev S1x6x1024 : Shape := ⟨3, ![1, 6, 1024]⟩
abbrev S256x4096 : Shape := ⟨2, ![256, 4096]⟩
abbrev S1x1x1024 : Shape := ⟨3, ![1, 1, 1024]⟩
abbrev S_ : Shape := ⟨0, ![]⟩
abbrev S1024x1024 : Shape := ⟨2, ![1024, 1024]⟩
abbrev S1x1024x1024 : Shape := ⟨3, ![1, 1024, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 22
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x6144, .f32⟩
  | .hbm, ⟨3, _⟩ => ⟨S1x1024, .f32⟩
  | .hbm, ⟨4, _⟩ => ⟨S1x1024x4096, .f32⟩
  | .hbm, ⟨5, _⟩ => ⟨S1x4096x1024, .f32⟩
  | .hbm, ⟨6, _⟩ => ⟨S1024x4096, .f32⟩
  | .hbm, ⟨7, _⟩ => ⟨S1024x4096, .bf16⟩
  | .hbm, ⟨8, _⟩ => ⟨S1024x4x1024, .bf16⟩
  | .hbm, ⟨9, _⟩ => ⟨S4x1024x1024, .bf16⟩
  | .hbm, ⟨10, _⟩ => ⟨S4096x1024, .f32⟩
  | .hbm, ⟨11, _⟩ => ⟨S4096x1024, .bf16⟩
  | .hbm, ⟨12, _⟩ => ⟨S8192x1024, .f32⟩
  | .hbm, ⟨13, _⟩ => ⟨S8192x1024, .f32⟩
  | .hbm, ⟨14, _⟩ => ⟨S4x6x1024, .f32⟩
  | .hbm, ⟨15, _⟩ => ⟨S8192x1024, .bf16⟩
  | .hbm, ⟨16, _⟩ => ⟨S8192x4096, .f32⟩
  | .hbm, ⟨17, _⟩ => ⟨S8192x4096, .bf16⟩
  | .hbm, ⟨18, _⟩ => ⟨S8192x1024, .f32⟩
  | .hbm, ⟨19, _⟩ => ⟨S8192x1024, .bf16⟩
  | .hbm, ⟨20, _⟩ => ⟨S4x1x1024, .f32⟩
  | .hbm, ⟨21, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x6x1024, .f32⟩
  | .local _ .vmem, ⟨6, _⟩ => ⟨S1x6x1024, .f32⟩
  | .local _ .vmem, ⟨7, _⟩ => ⟨S256x1024, .bf16⟩
  | .local _ .vmem, ⟨8, _⟩ => ⟨S256x1024, .bf16⟩
  | .local _ .vmem, ⟨9, _⟩ => ⟨S256x4096, .f32⟩
  | .local _ .vmem, ⟨10, _⟩ => ⟨S256x4096, .f32⟩
  | .local _ .vmem, ⟨11, _⟩ => ⟨S256x4096, .bf16⟩
  | .local _ .vmem, ⟨12, _⟩ => ⟨S256x4096, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1x1024, .f32⟩
  | .local _ .vmem, ⟨18, _⟩ => ⟨S1x1x1024, .f32⟩
  | .local _ .vmem, ⟨19, _⟩ => ⟨S8x128, .f32⟩
  | .local _ .vmem, ⟨20, _⟩ => ⟨S1024x4096, .bf16⟩
  | .local _ .vmem, ⟨21, _⟩ => ⟨S4096x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev main_v9_5 : Ref sig .tc := ⟨.hbm, 20, rfl⟩
abbrev main_v9_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![32], ![false]⟩

def k0_cond4 (i : grid0.Coords) : BitVec 1 :=
  let arg0 : BitVec 32 := BitVec.ofNat 32 (i 0).val
  let c8_i32 : BitVec 32 := 8#32
  let c0_i32_42 : BitVec 32 := 0#32
  let v75 : BitVec 1 := Scalar.cmpi .eq c8_i32 c0_i32_42
  let c1_i32_43 : BitVec 32 := 1#32
  let v76 : BitVec 32 := Scalar.select v75 c1_i32_43 c8_i32
  let v77 : BitVec 32 := Scalar.remsi arg0 v76
  let c0_i32_45 : BitVec 32 := 0#32
  let v79 : BitVec 1 := Scalar.cmpi .slt v77 c0_i32_45
  let c0_i32_46 : BitVec 32 := 0#32
  let v80 : BitVec 1 := Scalar.cmpi .slt v76 c0_i32_46
  let v81 : BitVec 1 := Scalar.xori v79 v80
  let c0_i32_44 : BitVec 32 := 0#32
  let v78 : BitVec 1 := Scalar.cmpi .ne v77 c0_i32_44
  let v82 : BitVec 1 := Scalar.andi v81 v78
  let v83 : BitVec 32 := Scalar.addi v77 v76
  let v84 : BitVec 32 := Scalar.select v82 v83 v77
  let c0_i32_47 : BitVec 32 := 0#32
  let v85 : BitVec 1 := Scalar.cmpi .eq v84 c0_i32_47
  let v86 : BitVec 32 := Scalar.extui v85
  let c0_i32_48 : BitVec 32 := 0#32
  let v87 : BitVec 1 := Scalar.cmpi .ne v86 c0_i32_48
  v87

def k0_cond5 (i : grid0.Coords) : BitVec 1 :=
  let arg0 : BitVec 32 := BitVec.ofNat 32 (i 0).val
  let c8_i32 : BitVec 32 := 8#32
  let c0_i32_42 : BitVec 32 := 0#32
  let v75 : BitVec 1 := Scalar.cmpi .eq c8_i32 c0_i32_42
  let c1_i32_43 : BitVec 32 := 1#32
  let v76 : BitVec 32 := Scalar.select v75 c1_i32_43 c8_i32
  let v77 : BitVec 32 := Scalar.remsi arg0 v76
  let c0_i32_45 : BitVec 32 := 0#32
  let v79 : BitVec 1 := Scalar.cmpi .slt v77 c0_i32_45
  let c0_i32_46 : BitVec 32 := 0#32
  let v80 : BitVec 1 := Scalar.cmpi .slt v76 c0_i32_46
  let v81 : BitVec 1 := Scalar.xori v79 v80
  let c0_i32_44 : BitVec 32 := 0#32
  let v78 : BitVec 1 := Scalar.cmpi .ne v77 c0_i32_44
  let v82 : BitVec 1 := Scalar.andi v81 v78
  let v83 : BitVec 32 := Scalar.addi v77 v76
  let v84 : BitVec 32 := Scalar.select v82 v83 v77
  let c0_i32_47 : BitVec 32 := 0#32
  let v85 : BitVec 1 := Scalar.cmpi .eq v84 c0_i32_47
  let true_49 : BitVec 1 := 1#1
  let v88 : BitVec 1 := Scalar.xori v85 true_49
  let v89 : BitVec 32 := Scalar.extui v88
  let c0_i32_50 : BitVec 32 := 0#32
  let v90 : BitVec 1 := Scalar.cmpi .ne v89 c0_i32_50
  v90

def k0_cond2 (i : grid0.Coords) : BitVec 1 :=
  let arg0 : BitVec 32 := BitVec.ofNat 32 (i 0).val
  let c0_i32_33 : BitVec 32 := 0#32
  let v59 : BitVec 1 := Scalar.cmpi .eq arg0 c0_i32_33
  let v60 : BitVec 32 := Scalar.extui v59
  let c0_i32_34 : BitVec 32 := 0#32
  let v61 : BitVec 1 := Scalar.cmpi .ne v60 c0_i32_34
  v61

def k0_cond3 (i : grid0.Coords) : BitVec 1 :=
  let arg0 : BitVec 32 := BitVec.ofNat 32 (i 0).val
  let c0_i32_33 : BitVec 32 := 0#32
  let v59 : BitVec 1 := Scalar.cmpi .eq arg0 c0_i32_33
  let v_true : BitVec 1 := 1#1
  let v62 : BitVec 1 := Scalar.xori v59 v_true
  let v63 : BitVec 32 := Scalar.extui v62
  let c0_i32_35 : BitVec 32 := 0#32
  let v64 : BitVec 1 := Scalar.cmpi .ne v63 c0_i32_35
  v64

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference4Ideal.lean ====
abbrev S4x2048x1024 : Shape := ⟨3, ![4, 2048, 1024]⟩
abbrev S4x6144 : Shape := ⟨2, ![4, 6144]⟩
abbrev S1x1024 : Shape := ⟨2, ![1, 1024]⟩
abbrev S1x1024x4096 : Shape := ⟨3, ![1, 1024, 4096]⟩
abbrev S1x4096x1024 : Shape := ⟨3, ![1, 4096, 1024]⟩
abbrev S4x1x6144 : Shape := ⟨3, ![4, 1, 6144]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S1024 : Shape := ⟨1, ![1024]⟩
abbrev S1x1x1024 : Shape := ⟨3, ![1, 1, 1024]⟩
abbrev S1024x4096 : Shape := ⟨2, ![1024, 4096]⟩
abbrev S4x2048x4096 : Shape := ⟨3, ![4, 2048, 4096]⟩
abbrev S4096x1024 : Shape := ⟨2, ![4096, 1024]⟩
abbrev S4x1024 : Shape := ⟨2, ![4, 1024]⟩
abbrev S8192x1024 : Shape := ⟨2, ![8192, 1024]⟩
abbrev S8192x4096 : Shape := ⟨2, ![8192, 4096]⟩
abbrev S8x128 : Shape := ⟨2, ![8, 128]⟩

abbrev nBuf : Space → Nat
  | .hbm => 86
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x6144, .f32⟩
  | .hbm, ⟨3, _⟩ => ⟨S1x1024, .f32⟩
  | .hbm, ⟨4, _⟩ => ⟨S1x1024x4096, .f32⟩
  | .hbm, ⟨5, _⟩ => ⟨S1x4096x1024, .f32⟩
  | .hbm, ⟨6, _⟩ => ⟨S4x1x6144, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x2048x1024, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x1, .f32⟩
  | .hbm, ⟨24, _⟩ => ⟨S4x2048x1024, .f32⟩
  | .hbm, ⟨25, _⟩ => ⟨S4x2048x1024, .f32⟩
  | .hbm, ⟨26, _⟩ => ⟨S1024, .f32⟩
  | .hbm, ⟨27, _⟩ => ⟨S1x1x1024, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S1024x4096, .f32⟩
  | .hbm, ⟨38, _⟩ => ⟨S4x2048x4096, .f32⟩
  | .hbm, ⟨39, _⟩ => ⟨S_, .f32⟩
  | .hbm, ⟨40, _⟩ => ⟨S4x2048x4096, .f32⟩
  | .hbm, ⟨41, _⟩ => ⟨S4x2048x4096, .f32⟩
  | .hbm, ⟨42, _⟩ => ⟨S4x2048x4096, .f32⟩
  | .hbm, ⟨43, _⟩ => ⟨S4096x1024, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S_, .f32⟩
  | .hbm, ⟨51, _⟩ => ⟨S4x2048x1024, .f32⟩
  | .hbm, ⟨52, _⟩ => ⟨S4x2048x1024, .f32⟩
  | .hbm, ⟨53, _⟩ => ⟨S_, .f32⟩
  | .hbm, ⟨54, _⟩ => ⟨S4x2048, .f32⟩
  | .hbm, ⟨55, _⟩ => ⟨S_, .f32⟩
  | .hbm, ⟨56, _⟩ => ⟨S4x2048, .f32⟩
  | .hbm, ⟨57, _⟩ => ⟨S4x2048, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S4x2048, .f32⟩
  | .hbm, ⟨66, _⟩ => ⟨S_, .f32⟩
  | .hbm, ⟨67, _⟩ => ⟨S4x2048, .f32⟩
  | .hbm, ⟨68, _⟩ => ⟨S4x2048, .f32⟩
  | .hbm, ⟨69, _⟩ => ⟨S4x2048x1024, .f32⟩
  | .hbm, ⟨70, _⟩ => ⟨S4x2048x1024, .f32⟩
  | .hbm, ⟨71, _⟩ => ⟨S4x2048x1024, .f32⟩
  | .hbm, ⟨72, _⟩ => ⟨S4x2048x1024, .f32⟩
  | .hbm, ⟨73, _⟩ => ⟨S4x2048x1024, .f32⟩
  | .hbm, ⟨74, _⟩ => ⟨S_, .f32⟩
  | .hbm, ⟨75, _⟩ => ⟨S4x1024, .f32⟩
  | .hbm, ⟨76, _⟩ => ⟨S4x1x1024, .f32⟩
  | .hbm, ⟨77, _⟩ => ⟨S8192x1024, .f32⟩
  | .hbm, ⟨78, _⟩ => ⟨S8192x1024, .bf16⟩
  | .hbm, ⟨79, _⟩ => ⟨S8192x4096, .f32⟩
  | .hbm, ⟨80, _⟩ => ⟨S8192x4096, .f32⟩
  | .hbm, ⟨81, _⟩ => ⟨S8192x4096, .bf16⟩
  | .hbm, ⟨82, _⟩ => ⟨S8192x1024, .f32⟩
  | .hbm, ⟨83, _⟩ => ⟨S8192x1024, .f32⟩
  | .hbm, ⟨84, _⟩ => ⟨S8192x1024, .bf16⟩
  | .hbm, ⟨85, _⟩ => ⟨S8x128, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_cst : Ref sig .tc := ⟨.hbm, 39, rfl⟩
abbrev main_call0_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_cst_8 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_11 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]
-- ==== Kernel5.lean ====
abbrev S4x2048x1024 : Shape := ⟨3, ![4, 2048, 1024]⟩
abbrev S4x6144 : Shape := ⟨2, ![4, 6144]⟩
abbrev S1x1024 : Shape := ⟨2, ![1, 1024]⟩
abbrev S4x2048x3584 : Shape := ⟨3, ![4, 2048, 3584]⟩
abbrev S4x1x6144 : Shape := ⟨3, ![4, 1, 6144]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S1024 : Shape := ⟨1, ![1024]⟩
abbrev S1x1x1024 : Shape := ⟨3, ![1, 1, 1024]⟩
abbrev S8192x1024 : Shape := ⟨2, ![8192, 1024]⟩
abbrev S8192x3584 : Shape := ⟨2, ![8192, 3584]⟩
abbrev S1024x3584 : Shape := ⟨2, ![1024, 3584]⟩
abbrev S4096x1024 : Shape := ⟨2, ![4096, 1024]⟩
abbrev S4096x896 : Shape := ⟨2, ![4096, 896]⟩
abbrev S1024x896 : Shape := ⟨2, ![1024, 896]⟩

abbrev nBuf : Space → Nat
  | .hbm => 40
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S4x6144, .f32⟩
  | .hbm, ⟨2, _⟩ => ⟨S1x1024, .f32⟩
  | .hbm, ⟨3, _⟩ => ⟨S4x2048x3584, .f32⟩
  | .hbm, ⟨4, _⟩ => ⟨S4x1x6144, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x2048x1024, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S4x2048x1024, .f32⟩
  | .hbm, ⟨23, _⟩ => ⟨S4x2048x1024, .f32⟩
  | .hbm, ⟨24, _⟩ => ⟨S1024, .f32⟩
  | .hbm, ⟨25, _⟩ => ⟨S1x1x1024, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S4x2048x1024, .bf16⟩
  | .hbm, ⟨36, _⟩ => ⟨S8192x1024, .bf16⟩
  | .hbm, ⟨37, _⟩ => ⟨S4x2048x3584, .bf16⟩
  | .hbm, ⟨38, _⟩ => ⟨S8192x3584, .bf16⟩
  | .hbm, ⟨39, _⟩ => ⟨S1024x3584, .f32⟩
  | .local _ .vmem, ⟨0, _⟩ => ⟨S4096x1024, .bf16⟩
  | .local _ .vmem, ⟨1, _⟩ => ⟨S4096x1024, .bf16⟩
  | .local _ .vmem, ⟨2, _⟩ => ⟨S4096x896, .bf16⟩
  | .local _ .vmem, ⟨3, _⟩ => ⟨S4096x896, .bf16⟩
  | .local _ .vmem, ⟨4, _⟩ => ⟨S1024x896, .f32⟩
  | .local _ .vmem, ⟨5, _⟩ => ⟨S1024x896, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32 : BitVec 32 := 0#32
  let v5 : BitVec 1 := Scalar.cmpi .eq arg2 c0_i32
  let v_true : BitVec 1 := 1#1
  let v8 : BitVec 1 := Scalar.xori v5 v_true
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4x2048x1024 : Shape := ⟨3, ![4, 2048, 1024]⟩
abbrev S4x6144 : Shape := ⟨2, ![4, 6144]⟩
abbrev S1x1024 : Shape := ⟨2, ![1, 1024]⟩
abbrev S4x2048x3584 : Shape := ⟨3, ![4, 2048, 3584]⟩
abbrev S4x1x6144 : Shape := ⟨3, ![4, 1, 6144]⟩
abbrev S4x1x1024 : Shape := ⟨3, ![4, 1, 1024]⟩
abbrev S_ : Shape := ⟨0, ![]⟩
abbrev S1024x3584 : Shape := ⟨2, ![1024, 3584]⟩
abbrev S4x2048 : Shape := ⟨2, ![4, 2048]⟩
abbrev S4x2048x1 : Shape := ⟨3, ![4, 2048, 1]⟩
abbrev S1024 : Shape := ⟨1, ![1024]⟩
abbrev S1x1x1024 : Shape := ⟨3, ![1, 1, 1024]⟩
abbrev S3584x1024 : Shape := ⟨2, ![3584, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x6144, .f32⟩
  | .hbm, ⟨2, _⟩ => ⟨S1x1024, .f32⟩
  | .hbm, ⟨3, _⟩ => ⟨S4x2048x3584, .f32⟩
  | .hbm, ⟨4, _⟩ => ⟨S4x1x6144, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S_, .f32⟩
  | .hbm, ⟨12, _⟩ => ⟨S1024x3584, .f32⟩
  | .hbm, ⟨13, _⟩ => ⟨S4x2048x1024, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x1, .f32⟩
  | .hbm, ⟨24, _⟩ => ⟨S4x2048x1024, .f32⟩
  | .hbm, ⟨25, _⟩ => ⟨S4x2048x1024, .f32⟩
  | .hbm, ⟨26, _⟩ => ⟨S1024, .f32⟩
  | .hbm, ⟨27, _⟩ => ⟨S1x1x1024, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S4x2048x3584, .f32⟩
  | .hbm, ⟨38, _⟩ => ⟨S3584x1024, .f32⟩
  | .hbm, ⟨39, _⟩ => ⟨S1024x3584, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel6.lean ====
abbrev S4x2048x1024 : Shape := ⟨3, ![4, 2048, 1024]⟩
abbrev S4x6144 : Shape := ⟨2, ![4, 6144]⟩
abbrev S4x1x6144 : Shape := ⟨3, ![4, 1, 6144]⟩
abbrev S4x1x1024 : Shape := ⟨3, ![4, 1, 1024]⟩
abbrev S8192x1024 : Shape := ⟨2, ![8192, 1024]⟩
abbrev S1024x1024 : Shape := ⟨2, ![1024, 1024]⟩
abbrev S4096x1024 : Shape := ⟨2, ![4096, 1024]⟩

abbrev nBuf : Space → Nat
  | .hbm => 17
  | .vmem => 5
  | .smem => 0
  | _ => 0

abbrev bufTy : (tb : Table) → Fin (tcTables nBuf tb) → BufTy
  | .hbm, ⟨0, _⟩ => ⟨S4x2048x1024, .f32⟩
  | .hbm, ⟨1, _⟩ => ⟨S4x6144, .f32⟩
  | .hbm, ⟨2, _⟩ => ⟨S4x2048x1024, .f32⟩
  | .hbm, ⟨3, _⟩ => ⟨S4x1x6144, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x2048x1024, .f32⟩
  | .hbm, ⟨11, _⟩ => ⟨S4x2048x1024, .f32⟩
  | .hbm, ⟨12, _⟩ => ⟨S4x2048x1024, .bf16⟩
  | .hbm, ⟨13, _⟩ => ⟨S4x2048x1024, .bf16⟩
  | .hbm, ⟨14, _⟩ => ⟨S8192x1024, .bf16⟩
  | .hbm, ⟨15, _⟩ => ⟨S8192x1024, .bf16⟩
  | .hbm, ⟨16, _⟩ => ⟨S1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32 : BitVec 32 := 0#32
  let v5 : BitVec 1 := Scalar.cmpi .eq arg2 c0_i32
  let v_true : BitVec 1 := 1#1
  let v8 : BitVec 1 := Scalar.xori v5 v_true
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S4x2048x1024 : Shape := ⟨3, ![4, 2048, 1024]⟩
abbrev S4x6144 : Shape := ⟨2, ![4, 6144]⟩
abbrev S4x1x6144 : Shape := ⟨3, ![4, 1, 6144]⟩
abbrev S4x1x1024 : Shape := ⟨3, ![4, 1, 1024]⟩
abbrev S_ : Shape := ⟨0, ![]⟩
abbrev S1024x1024 : Shape := ⟨2, ![1024, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x6144, .f32⟩
  | .hbm, ⟨2, _⟩ => ⟨S4x2048x1024, .f32⟩
  | .hbm, ⟨3, _⟩ => ⟨S4x1x6144, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S_, .f32⟩
  | .hbm, ⟨11, _⟩ => ⟨S1024x1024, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S1024x1024, .f32⟩
  | .hbm, ⟨18, _⟩ => ⟨S1024x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel7.lean ====
abbrev S4x2048x1024 : Shape := ⟨3, ![4, 2048, 1024]⟩
abbrev S4x6144 : Shape := ⟨2, ![4, 6144]⟩
abbrev S1x1024 : Shape := ⟨2, ![1, 1024]⟩
abbrev S1x1024x3488 : Shape := ⟨3, ![1, 1024, 3488]⟩
abbrev S8192x1024 : Shape := ⟨2, ![8192, 1024]⟩
abbrev S4x6x1024 : Shape := ⟨3, ![4, 6, 1024]⟩
abbrev S1x1024x2048 : Shape := ⟨3, ![1, 1024, 2048]⟩
abbrev S1024x2048 : Shape := ⟨2, ![1024, 2048]⟩
abbrev S1x1024x1024 : Shape := ⟨3, ![1, 1024, 1024]⟩
abbrev S1024x1024 : Shape := ⟨2, ![1024, 1024]⟩
abbrev S1x1024x384 : Shape := ⟨3, ![1, 1024, 384]⟩
abbrev S1024x384 : Shape := ⟨2, ![1024, 384]⟩
abbrev S_ : Shape := ⟨0, ![]⟩
abbrev S1024x64 : Shape := ⟨2, ![1024, 64]⟩
abbrev S1x1024x32 : Shape := ⟨3, ![1, 1024, 32]⟩
abbrev S1024x32 : Shape := ⟨2, ![1024, 32]⟩
abbrev S1024x3584 : Shape := ⟨2, ![1024, 3584]⟩
abbrev S8192x512 : Shape := ⟨2, ![8192, 512]⟩
abbrev S8192x2048 : Shape := ⟨2, ![8192, 2048]⟩
abbrev S512x1024 : Shape := ⟨2, ![512, 1024]⟩
abbrev S1x6x1024 : Shape := ⟨3, ![1, 6, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S1x1x1024 : Shape := ⟨3, ![1, 1, 1024]⟩
abbrev S512x3584 : Shape := ⟨2, ![512, 3584]⟩

abbrev nBuf : Space → Nat
  | .hbm => 25
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S4x6144, .f32⟩
  | .hbm, ⟨2, _⟩ => ⟨S1x1024, .f32⟩
  | .hbm, ⟨3, _⟩ => ⟨S1x1024x3488, .f32⟩
  | .hbm, ⟨4, _⟩ => ⟨S8192x1024, .f32⟩
  | .hbm, ⟨5, _⟩ => ⟨S4x6x1024, .f32⟩
  | .hbm, ⟨6, _⟩ => ⟨S1x1024x3488, .bf16⟩
  | .hbm, ⟨7, _⟩ => ⟨S1x1024x2048, .bf16⟩
  | .hbm, ⟨8, _⟩ => ⟨S1024x2048, .bf16⟩
  | .hbm, ⟨9, _⟩ => ⟨S1x1024x1024, .bf16⟩
  | .hbm, ⟨10, _⟩ => ⟨S1024x1024, .bf16⟩
  | .hbm, ⟨11, _⟩ => ⟨S1x1024x384, .bf16⟩
  | .hbm, ⟨12, _⟩ => ⟨S1024x384, .bf16⟩
  | .hbm, ⟨13, _⟩ => ⟨S_, .bf16⟩
  | .hbm, ⟨14, _⟩ => ⟨S1024x64, .bf16⟩
  | .hbm, ⟨15, _⟩ => ⟨S1x1024x32, .bf16⟩
  | .hbm, ⟨16, _⟩ => ⟨S1024x32, .bf16⟩
  | .hbm, ⟨17, _⟩ => ⟨S_, .bf16⟩
  | .hbm, ⟨18, _⟩ => ⟨S1024x32, .bf16⟩
  | .hbm, ⟨19, _⟩ => ⟨S1024x3584, .bf16⟩
  | .hbm, ⟨20, _⟩ => ⟨S8192x1024, .bf16⟩
  | .hbm, ⟨21, _⟩ => ⟨S8192x512, .f32⟩
  | .hbm, ⟨22, _⟩ => ⟨S8192x1024, .f32⟩
  | .hbm, ⟨23, _⟩ => ⟨S8192x2048, .f32⟩
  | .hbm, ⟨24, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S512x1024, .bf16⟩
  | .local _ .vmem, ⟨6, _⟩ => ⟨S512x1024, .bf16⟩
  | .local _ .vmem, ⟨7, _⟩ => ⟨S512x512, .f32⟩
  | .local _ .vmem, ⟨8, _⟩ => ⟨S512x512, .f32⟩
  | .local _ .vmem, ⟨9, _⟩ => ⟨S512x1024, .f32⟩
  | .local _ .vmem, ⟨10, _⟩ => ⟨S512x1024, .f32⟩
  | .local _ .vmem, ⟨11, _⟩ => ⟨S512x2048, .f32⟩
  | .local _ .vmem, ⟨12, _⟩ => ⟨S512x2048, .f32⟩
  | .local _ .vmem, ⟨13, _⟩ => ⟨S512x512, .f32⟩
  | .local _ .vmem, ⟨14, _⟩ => ⟨S512x512, .f32⟩
  | .local _ .vmem, ⟨15, _⟩ => ⟨S1024x3584, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev main_v14_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S4x2048x1024 : Shape := ⟨3, ![4, 2048, 1024]⟩
abbrev S4x6144 : Shape := ⟨2, ![4, 6144]⟩
abbrev S1x1024 : Shape := ⟨2, ![1, 1024]⟩
abbrev S1x1024x3488 : Shape := ⟨3, ![1, 1024, 3488]⟩
abbrev S4x1x6144 : Shape := ⟨3, ![4, 1, 6144]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S1024 : Shape := ⟨1, ![1024]⟩
abbrev S1x1x1024 : Shape := ⟨3, ![1, 1, 1024]⟩
abbrev S1024x3488 : Shape := ⟨2, ![1024, 3488]⟩
abbrev S4x2048x3488 : Shape := ⟨3, ![4, 2048, 3488]⟩
abbrev S4x2048x384 : Shape := ⟨3, ![4, 2048, 384]⟩
abbrev S4x2048x64 : Shape := ⟨3, ![4, 2048, 64]⟩
abbrev S4x2048x32 : Shape := ⟨3, ![4, 2048, 32]⟩
abbrev S4x2048x512 : Shape := ⟨3, ![4, 2048, 512]⟩
abbrev S4x2048x2048 : Shape := ⟨3, ![4, 2048, 2048]⟩
abbrev S8192x1024 : Shape := ⟨2, ![8192, 1024]⟩
abbrev S8192x512 : Shape := ⟨2, ![8192, 512]⟩
abbrev S8192x2048 : Shape := ⟨2, ![8192, 2048]⟩

abbrev nBuf : Space → Nat
  | .hbm => 63
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x6144, .f32⟩
  | .hbm, ⟨2, _⟩ => ⟨S1x1024, .f32⟩
  | .hbm, ⟨3, _⟩ => ⟨S1x1024x3488, .f32⟩
  | .hbm, ⟨4, _⟩ => ⟨S4x1x6144, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x2048x1024, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S4x2048x1024, .f32⟩
  | .hbm, ⟨23, _⟩ => ⟨S4x2048x1024, .f32⟩
  | .hbm, ⟨24, _⟩ => ⟨S1024, .f32⟩
  | .hbm, ⟨25, _⟩ => ⟨S1x1x1024, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S1024x3488, .f32⟩
  | .hbm, ⟨36, _⟩ => ⟨S4x2048x3488, .f32⟩
  | .hbm, ⟨37, _⟩ => ⟨S4x2048x384, .f32⟩
  | .hbm, ⟨38, _⟩ => ⟨S_, .f32⟩
  | .hbm, ⟨39, _⟩ => ⟨S4x2048x64, .f32⟩
  | .hbm, ⟨40, _⟩ => ⟨S4x2048x32, .f32⟩
  | .hbm, ⟨41, _⟩ => ⟨S_, .f32⟩
  | .hbm, ⟨42, _⟩ => ⟨S4x2048x32, .f32⟩
  | .hbm, ⟨43, _⟩ => ⟨S4x2048x512, .f32⟩
  | .hbm, ⟨44, _⟩ => ⟨S4x2048x1024, .f32⟩
  | .hbm, ⟨45, _⟩ => ⟨S4x2048x2048, .f32⟩
  | .hbm, ⟨46, _⟩ => ⟨S4x2048x512, .f32⟩
  | .hbm, ⟨47, _⟩ => ⟨S4x2048x512, .f32⟩
  | .hbm, ⟨48, _⟩ => ⟨S8192x1024, .f32⟩
  | .hbm, ⟨49, _⟩ => ⟨S8192x1024, .bf16⟩
  | .hbm, ⟨50, _⟩ => ⟨S8192x512, .f32⟩
  | .hbm, ⟨51, _⟩ => ⟨S8192x1024, .f32⟩
  | .hbm, ⟨52, _⟩ => ⟨S8192x2048, .f32⟩
  | .hbm, ⟨53, _⟩ => ⟨S4x2048x512, .f32⟩
  | .hbm, ⟨54, _⟩ => ⟨S4x2048x512, .f32⟩
  | .hbm, ⟨55, _⟩ => ⟨S_, .f32⟩
  | .hbm, ⟨56, _⟩ => ⟨S4x2048x512, .f32⟩
  | .hbm, ⟨57, _⟩ => ⟨S4x2048x512, .f32⟩
  | .hbm, ⟨58, _⟩ => ⟨S_, .f32⟩
  | .hbm, ⟨59, _⟩ => ⟨S4x2048x512, .f32⟩
  | .hbm, ⟨60, _⟩ => ⟨S4x2048x512, .f32⟩
  | .hbm, ⟨61, _⟩ => ⟨S4x2048x512, .f32⟩
  | .hbm, ⟨62, _⟩ => ⟨S8192x512, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩

abbrev nD : Nat := 1
abbrev τ : Topo := Topo.v7x

variable {F : FTy → Type} [FloatOps F]
-- ==== Kernel8.lean ====
abbrev S4x2048x1024 : Shape := ⟨3, ![4, 2048, 1024]⟩
abbrev S4x2048x2048 : Shape := ⟨3, ![4, 2048, 2048]⟩
abbrev S_ : Shape := ⟨0, ![]⟩
abbrev S8192x1024 : Shape := ⟨2, ![8192, 1024]⟩
abbrev S1024x1024 : Shape := ⟨2, ![1024, 1024]⟩
abbrev S4096x1024 : Shape := ⟨2, ![4096, 1024]⟩

abbrev nBuf : Space → Nat
  | .hbm => 18
  | .vmem => 5
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2048, .f32⟩
  | .hbm, ⟨2, _⟩ => ⟨S4x2048x1024, .f32⟩
  | .hbm, ⟨3, _⟩ => ⟨S4x2048x1024, .f32⟩
  | .hbm, ⟨4, _⟩ => ⟨S4x2048x1024, .f32⟩
  | .hbm, ⟨5, _⟩ => ⟨S4x2048x1024, .f32⟩
  | .hbm, ⟨6, _⟩ => ⟨S_, .f32⟩
  | .hbm, ⟨7, _⟩ => ⟨S4x2048x1024, .f32⟩
  | .hbm, ⟨8, _⟩ => ⟨S4x2048x1024, .f32⟩
  | .hbm, ⟨9, _⟩ => ⟨S_, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S4x2048x1024, .bf16⟩
  | .hbm, ⟨14, _⟩ => ⟨S4x2048x1024, .bf16⟩
  | .hbm, ⟨15, _⟩ => ⟨S8192x1024, .bf16⟩
  | .hbm, ⟨16, _⟩ => ⟨S8192x1024, .bf16⟩
  | .hbm, ⟨17, _⟩ => ⟨S1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32 : BitVec 32 := 0#32
  let v5 : BitVec 1 := Scalar.cmpi .eq arg2 c0_i32
  let v_true : BitVec 1 := 1#1
  let v8 : BitVec 1 := Scalar.xori v5 v_true
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S4x2048x1024 : Shape := ⟨3, ![4, 2048, 1024]⟩
abbrev S4x2048x2048 : Shape := ⟨3, ![4, 2048, 2048]⟩
abbrev S_ : Shape := ⟨0, ![]⟩
abbrev S1024x1024 : Shape := ⟨2, ![1024, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2048, .f32⟩
  | .hbm, ⟨2, _⟩ => ⟨S4x2048x1024, .f32⟩
  | .hbm, ⟨3, _⟩ => ⟨S4x2048x2048, .f32⟩
  | .hbm, ⟨4, _⟩ => ⟨S4x2048x2048, .f32⟩
  | .hbm, ⟨5, _⟩ => ⟨S_, .f32⟩
  | .hbm, ⟨6, _⟩ => ⟨S4x2048x2048, .f32⟩
  | .hbm, ⟨7, _⟩ => ⟨S4x2048x2048, .f32⟩
  | .hbm, ⟨8, _⟩ => ⟨S_, .f32⟩
  | .hbm, ⟨9, _⟩ => ⟨S4x2048x2048, .f32⟩
  | .hbm, ⟨10, _⟩ => ⟨S4x2048x2048, .f32⟩
  | .hbm, ⟨11, _⟩ => ⟨S4x2048x1024, .f32⟩
  | .hbm, ⟨12, _⟩ => ⟨S4x2048x1024, .f32⟩
  | .hbm, ⟨13, _⟩ => ⟨S_, .f32⟩
  | .hbm, ⟨14, _⟩ => ⟨S1024x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S1024x1024, .f32⟩
  | .hbm, ⟨19, _⟩ => ⟨S1024x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel9.lean ====
abbrev S4x2048x512 : Shape := ⟨3, ![4, 2048, 512]⟩
abbrev S4x2048x2048 : Shape := ⟨3, ![4, 2048, 2048]⟩
abbrev S4x2048x1024 : Shape := ⟨3, ![4, 2048, 1024]⟩
abbrev S_ : Shape := ⟨0, ![]⟩
abbrev S8192x512 : Shape := ⟨2, ![8192, 512]⟩
abbrev S8192x1024 : Shape := ⟨2, ![8192, 1024]⟩
abbrev S4x512x256 : Shape := ⟨3, ![4, 512, 256]⟩
abbrev S4096x512 : Shape := ⟨2, ![4096, 512]⟩
abbrev S4096x256 : Shape := ⟨2, ![4096, 256]⟩
abbrev S1x512x256 : Shape := ⟨3, ![1, 512, 256]⟩
abbrev S512x256 : Shape := ⟨2, ![512, 256]⟩

abbrev nBuf : Space → Nat
  | .hbm => 18
  | .vmem => 6
  | .smem => 0
  | _ => 0

abbrev bufTy : (tb : Table) → Fin (tcTables nBuf tb) → BufTy
  | .hbm, ⟨0, _⟩ => ⟨S4x2048x512, .f32⟩
  | .hbm, ⟨1, _⟩ => ⟨S4x2048x2048, .f32⟩
  | .hbm, ⟨2, _⟩ => ⟨S4x2048x1024, .f32⟩
  | .hbm, ⟨3, _⟩ => ⟨S4x2048x1024, .f32⟩
  | .hbm, ⟨4, _⟩ => ⟨S4x2048x1024, .f32⟩
  | .hbm, ⟨5, _⟩ => ⟨S4x2048x1024, .f32⟩
  | .hbm, ⟨6, _⟩ => ⟨S_, .f32⟩
  | .hbm, ⟨7, _⟩ => ⟨S4x2048x1024, .f32⟩
  | .hbm, ⟨8, _⟩ => ⟨S4x2048x1024, .f32⟩
  | .hbm, ⟨9, _⟩ => ⟨S_, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S4x2048x1024, .bf16⟩
  | .hbm, ⟨14, _⟩ => ⟨S4x2048x512, .bf16⟩
  | .hbm, ⟨15, _⟩ => ⟨S8192x512, .bf16⟩
  | .hbm, ⟨16, _⟩ => ⟨S8192x1024, .bf16⟩
  | .hbm, ⟨17, _⟩ => ⟨S4x512x256, .f32⟩
  | .local _ .vmem, ⟨0, _⟩ => ⟨S4096x512, .bf16⟩
  | .local _ .vmem, ⟨1, _⟩ => ⟨S4096x512, .bf16⟩
  | .local _ .vmem, ⟨2, _⟩ => ⟨S4096x256, .bf16⟩
  | .local _ .vmem, ⟨3, _⟩ => ⟨S4096x256, .bf16⟩
  | .local _ .vmem, ⟨4, _⟩ => ⟨S1x512x256, .f32⟩
  | .local _ .vmem, ⟨5, _⟩ => ⟨S1x512x256, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32 : BitVec 32 := 0#32
  let v5 : BitVec 1 := Scalar.cmpi .eq arg2 c0_i32
  let v_true : BitVec 1 := 1#1
  let v8 : BitVec 1 := Scalar.xori v5 v_true
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4x2048x512 : Shape := ⟨3, ![4, 2048, 512]⟩
abbrev S4x2048x2048 : Shape := ⟨3, ![4, 2048, 2048]⟩
abbrev S4x2048x1024 : Shape := ⟨3, ![4, 2048, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x2048, .f32⟩
  | .hbm, ⟨2, _⟩ => ⟨S4x2048x1024, .f32⟩
  | .hbm, ⟨3, _⟩ => ⟨S4x2048x2048, .f32⟩
  | .hbm, ⟨4, _⟩ => ⟨S4x2048x2048, .f32⟩
  | .hbm, ⟨5, _⟩ => ⟨S_, .f32⟩
  | .hbm, ⟨6, _⟩ => ⟨S4x2048x2048, .f32⟩
  | .hbm, ⟨7, _⟩ => ⟨S4x2048x2048, .f32⟩
  | .hbm, ⟨8, _⟩ => ⟨S_, .f32⟩
  | .hbm, ⟨9, _⟩ => ⟨S4x2048x2048, .f32⟩
  | .hbm, ⟨10, _⟩ => ⟨S4x2048x2048, .f32⟩
  | .hbm, ⟨11, _⟩ => ⟨S4x2048x1024, .f32⟩
  | .hbm, ⟨12, _⟩ => ⟨S4x2048x1024, .f32⟩
  | .hbm, ⟨13, _⟩ => ⟨S_, .f32⟩
  | .hbm, ⟨14, _⟩ => ⟨S512x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S1024x512, .f32⟩
  | .hbm, ⟨19, _⟩ => ⟨S512x1024, .f32⟩
  | .hbm, ⟨20, _⟩ => ⟨S512x4x256, .f32⟩
  | .hbm, ⟨21, _⟩ => ⟨S4x512x256, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel10.lean ====
abbrev S1024x1024 : Shape := ⟨2, ![1024, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S32x1024 : Shape := ⟨2, ![32, 1024]⟩
abbrev S1024x1536 : Shape := ⟨2, ![1024, 1536]⟩
abbrev S1x1536 : Shape := ⟨2, ![1, 1536]⟩
abbrev S32x1536 : Shape := ⟨2, ![32, 1536]⟩

abbrev nBuf : Space → Nat
  | .hbm => 4
  | .vmem => 4
  | .smem => 0
  | _ => 0

abbrev bufTy : (tb : Table) → Fin (tcTables nBuf tb) → BufTy
  | .hbm, ⟨0, _⟩ => ⟨S32x1024, .f32⟩
  | .hbm, ⟨1, _⟩ => ⟨S1024x1536, .f32⟩
  | .hbm, ⟨2, _⟩ => ⟨S1x1536, .f32⟩
  | .hbm, ⟨3, _⟩ => ⟨S32x1536, .f32⟩
  | .local _ .vmem, ⟨0, _⟩ => ⟨S32x1024, .f32⟩
  | .local _ .vmem, ⟨1, _⟩ => ⟨S1024x1536, .f32⟩
  | .local _ .vmem, ⟨2, _⟩ => ⟨S1x1536, .f32⟩
  | .local _ .vmem, ⟨3, _⟩ => ⟨S32x1536, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference11Ideal.lean ====
abbrev S32x1024 : Shape := ⟨2, ![32, 1024]⟩
abbrev S1024x1536 : Shape := ⟨2, ![1024, 1536]⟩
abbrev S1x1536 : Shape := ⟨2, ![1, 1536]⟩
abbrev S_ : Shape := ⟨0, ![]⟩
abbrev S32x1536 : Shape := ⟨2, ![32, 1536]⟩

abbrev nBuf : Space → Nat
  | .hbm => 15
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024x1536, .f32⟩
  | .hbm, ⟨2, _⟩ => ⟨S1x1536, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x1536, .f32⟩
  | .hbm, ⟨13, _⟩ => ⟨S32x1536, .f32⟩
  | .hbm, ⟨14, _⟩ => ⟨S32x1536, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Kernel12.lean ====
abbrev S1024x1024 : Shape := ⟨2, ![1024, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S1024x1536 : Shape := ⟨2, ![1024, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S872x1024 : Shape := ⟨2, ![872, 1024]⟩
abbrev S872x512 : Shape := ⟨2, ![872, 512]⟩

abbrev nBuf : Space → Nat
  | .hbm => 7
  | .vmem => 14
  | .smem => 0
  | _ => 0

abbrev bufTy : (tb : Table) → Fin (tcTables nBuf tb) → BufTy
  | .hbm, ⟨0, _⟩ => ⟨S872x1024, .f32⟩
  | .hbm, ⟨1, _⟩ => ⟨S872x1024, .f32⟩
  | .hbm, ⟨2, _⟩ => ⟨S872x1024, .f32⟩
  | .hbm, ⟨3, _⟩ => ⟨S872x1024, .f32⟩
  | .hbm, ⟨4, _⟩ => ⟨S872x1024, .f32⟩
  | .hbm, ⟨5, _⟩ => ⟨S872x1024, .f32⟩
  | .hbm, ⟨6, _⟩ => ⟨S872x1024, .f32⟩
  | .local _ .vmem, ⟨0, _⟩ => ⟨S872x512, .f32⟩
  | .local _ .vmem, ⟨1, _⟩ => ⟨S872x512, .f32⟩
  | .local _ .vmem, ⟨2, _⟩ => ⟨S872x512, .f32⟩
  | .local _ .vmem, ⟨3, _⟩ => ⟨S872x512, .f32⟩
  | .local _ .vmem, ⟨4, _⟩ => ⟨S872x512, .f32⟩
  | .local _ .vmem, ⟨5, _⟩ => ⟨S872x512, .f32⟩
  | .local _ .vmem, ⟨6, _⟩ => ⟨S872x512, .f32⟩
  | .local _ .vmem, ⟨7, _⟩ => ⟨S872x512, .f32⟩
  | .local _ .vmem, ⟨8, _⟩ => ⟨S872x512, .f32⟩
  | .local _ .vmem, ⟨9, _⟩ => ⟨S872x512, .f32⟩
  | .local _ .vmem, ⟨10, _⟩ => ⟨S872x512, .f32⟩
  | .local _ .vmem, ⟨11, _⟩ => ⟨S872x512, .f32⟩
  | .local _ .vmem, ⟨12, _⟩ => ⟨S872x512, .f32⟩
  | .local _ .vmem, ⟨13, _⟩ => ⟨S872x512, .f32⟩
  | _, _ => ⟨S872x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S872x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S872x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S872x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S872x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S872x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S872x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S872x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S872x1024 : Shape := ⟨2, ![872, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S872x1024, .f32⟩
  | .hbm, ⟨1, _⟩ => ⟨S872x1024, .f32⟩
  | .hbm, ⟨2, _⟩ => ⟨S872x1024, .f32⟩
  | .hbm, ⟨3, _⟩ => ⟨S872x1024, .f32⟩
  | .hbm, ⟨4, _⟩ => ⟨S_, .f32⟩
  | .hbm, ⟨5, _⟩ => ⟨S872x1024, .f32⟩
  | .hbm, ⟨6, _⟩ => ⟨S872x1024, .f32⟩
  | .hbm, ⟨7, _⟩ => ⟨S_, .f32⟩
  | .hbm, ⟨8, _⟩ => ⟨S872x1024, .f32⟩
  | .hbm, ⟨9, _⟩ => ⟨S872x1024, .f32⟩
  | .hbm, ⟨10, _⟩ => ⟨S872x1024, .f32⟩
  | .hbm, ⟨11, _⟩ => ⟨S_, .f32⟩
  | .hbm, ⟨12, _⟩ => ⟨S872x1024, .f32⟩
  | .hbm, ⟨13, _⟩ => ⟨S872x1024, .f32⟩
  | .hbm, ⟨14, _⟩ => ⟨S872x1024, .f32⟩
  | .hbm, ⟨15, _⟩ => ⟨S_, .f32⟩
  | .hbm, ⟨16, _⟩ => ⟨S872x1024, .f32⟩
  | .hbm, ⟨17, _⟩ => ⟨S872x1024, .f32⟩
  | .hbm, ⟨18, _⟩ => ⟨S872x1024, .f32⟩
  | .hbm, ⟨19, _⟩ => ⟨S_, .f32⟩
  | .hbm, ⟨20, _⟩ => ⟨S872x1024, .f32⟩
  | .hbm, ⟨21, _⟩ => ⟨S872x1024, .f32⟩
  | .hbm, ⟨22, _⟩ => ⟨S_, .f32⟩
  | .hbm, ⟨23, _⟩ => ⟨S872x1024, .f32⟩
  | .hbm, ⟨24, _⟩ => ⟨S872x1024, .f32⟩
  | .hbm, ⟨25, _⟩ => ⟨S872x1024, .f32⟩
  | .hbm, ⟨26, _⟩ => ⟨S_, .f32⟩
  | .hbm, ⟨27, _⟩ => ⟨S872x1024, .f32⟩
  | .hbm, ⟨28, _⟩ => ⟨S872x1024, .f32⟩
  | .hbm, ⟨29, _⟩ => ⟨S872x1024, .f32⟩
  | .hbm, ⟨30, _⟩ => ⟨S_, .f32⟩
  | .hbm, ⟨31, _⟩ => ⟨S872x1024, .f32⟩
  | .hbm, ⟨32, _⟩ => ⟨S872x1024, .f32⟩
  | .hbm, ⟨33, _⟩ => ⟨S872x1024, .f32⟩
  | .hbm, ⟨34, _⟩ => ⟨S_, .f32⟩
  | .hbm, ⟨35, _⟩ => ⟨S872x1024, .f32⟩
  | .hbm, ⟨36, _⟩ => ⟨S872x1024, .f32⟩
  | _, _ => ⟨S872x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S32x1024 : Shape := ⟨2, ![32, 1024]⟩
abbrev S32x6144 : Shape := ⟨2, ![32, 6144]⟩
abbrev S32x1536 : Shape := ⟨2, ![32, 1536]⟩
abbrev S8x32x512 : Shape := ⟨3, ![8, 32, 512]⟩
abbrev S8x8x128 : Shape := ⟨3, ![8, 8, 128]⟩
abbrev S8x1x1024 : Shape := ⟨3, ![8, 1, 1024]⟩
abbrev S8x1x256 : Shape := ⟨3, ![8, 1, 256]⟩
abbrev S8x1x128 : Shape := ⟨3, ![8, 1, 128]⟩
abbrev S8x1x96 : Shape := ⟨3, ![8, 1, 96]⟩
abbrev S8x1x512 : Shape := ⟨3, ![8, 1, 512]⟩
abbrev S1024x1536 : Shape := ⟨2, ![1024, 1536]⟩
abbrev S1x6144 : Shape := ⟨2, ![1, 6144]⟩
abbrev S32x512 : Shape := ⟨2, ![32, 512]⟩
abbrev S8x128 : Shape := ⟨2, ![8, 128]⟩
abbrev S1x1024 : Shape := ⟨2, ![1, 1024]⟩
abbrev S1x256 : Shape := ⟨2, ![1, 256]⟩
abbrev S1x128 : Shape := ⟨2, ![1, 128]⟩
abbrev S1x96 : Shape := ⟨2, ![1, 96]⟩
abbrev S1x512 : Shape := ⟨2, ![1, 512]⟩
abbrev S6144 : Shape := ⟨1, ![6144]⟩
abbrev S1x32x512 : Shape := ⟨3, ![1, 32, 512]⟩
abbrev S1x8x128 : Shape := ⟨3, ![1, 8, 128]⟩
abbrev S1x1x1024 : Shape := ⟨3, ![1, 1, 1024]⟩
abbrev S1x1x256 : Shape := ⟨3, ![1, 1, 256]⟩
abbrev S1x1x128 : Shape := ⟨3, ![1, 1, 128]⟩
abbrev S1x1x96 : Shape := ⟨3, ![1, 1, 96]⟩
abbrev S1x1x512 : Shape := ⟨3, ![1, 1, 512]⟩

abbrev nBuf : Space → Nat
  | .hbm => 27
  | .vmem => 27
  | .smem => 0
  | _ => 0

abbrev bufTy : (tb : Table) → Fin (tcTables nBuf tb) → BufTy
  | .hbm, ⟨0, _⟩ => ⟨S32x1024, .f32⟩
  | .hbm, ⟨1, _⟩ => ⟨S32x6144, .f32⟩
  | .hbm, ⟨2, _⟩ => ⟨S32x1536, .f32⟩
  | .hbm, ⟨3, _⟩ => ⟨S8x32x512, .f32⟩
  | .hbm, ⟨4, _⟩ => ⟨S8x8x128, .f32⟩
  | .hbm, ⟨5, _⟩ => ⟨S8x1x1024, .f32⟩
  | .hbm, ⟨6, _⟩ => ⟨S8x1x256, .f32⟩
  | .hbm, ⟨7, _⟩ => ⟨S8x1x128, .f32⟩
  | .hbm, ⟨8, _⟩ => ⟨S8x1x96, .f32⟩
  | .hbm, ⟨9, _⟩ => ⟨S8x1x96, .f32⟩
  | .hbm, ⟨10, _⟩ => ⟨S8x1x512, .f32⟩
  | .hbm, ⟨11, _⟩ => ⟨S8x1x512, .f32⟩
  | .hbm, ⟨12, _⟩ => ⟨S8x1x512, .f32⟩
  | .hbm, ⟨13, _⟩ => ⟨S8x1x1024, .f32⟩
  | .hbm, ⟨14, _⟩ => ⟨S1024x1536, .f32⟩
  | .hbm, ⟨15, _⟩ => ⟨S1x6144, .f32⟩
  | .hbm, ⟨16, _⟩ => ⟨S32x512, .f32⟩
  | .hbm, ⟨17, _⟩ => ⟨S8x128, .f32⟩
  | .hbm, ⟨18, _⟩ => ⟨S1x1024, .f32⟩
  | .hbm, ⟨19, _⟩ => ⟨S1x256, .f32⟩
  | .hbm, ⟨20, _⟩ => ⟨S1x128, .f32⟩
  | .hbm, ⟨21, _⟩ => ⟨S1x96, .f32⟩
  | .hbm, ⟨22, _⟩ => ⟨S1x96, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S1x1024, .f32⟩
  | .local _ .vmem, ⟨0, _⟩ => ⟨S32x1024, .f32⟩
  | .local _ .vmem, ⟨1, _⟩ => ⟨S32x6144, .f32⟩
  | .local _ .vmem, ⟨2, _⟩ => ⟨S32x1536, .f32⟩
  | .local _ .vmem, ⟨3, _⟩ => ⟨S8x32x512, .f32⟩
  | .local _ .vmem, ⟨4, _⟩ => ⟨S8x8x128, .f32⟩
  | .local _ .vmem, ⟨5, _⟩ => ⟨S8x1x1024, .f32⟩
  | .local _ .vmem, ⟨6, _⟩ => ⟨S8x1x256, .f32⟩
  | .local _ .vmem, ⟨7, _⟩ => ⟨S8x1x128, .f32⟩
  | .local _ .vmem, ⟨8, _⟩ => ⟨S8x1x96, .f32⟩
  | .local _ .vmem, ⟨9, _⟩ => ⟨S8x1x96, .f32⟩
  | .local _ .vmem, ⟨10, _⟩ => ⟨S8x1x512, .f32⟩
  | .local _ .vmem, ⟨11, _⟩ => ⟨S8x1x512, .f32⟩
  | .local _ .vmem, ⟨12, _⟩ => ⟨S8x1x512, .f32⟩
  | .local _ .vmem, ⟨13, _⟩ => ⟨S8x1x1024, .f32⟩
  | .local _ .vmem, ⟨14, _⟩ => ⟨S1024x1536, .f32⟩
  | .local _ .vmem, ⟨15, _⟩ => ⟨S1x6144, .f32⟩
  | .local _ .vmem, ⟨16, _⟩ => ⟨S32x512, .f32⟩
  | .local _ .vmem, ⟨17, _⟩ => ⟨S8x128, .f32⟩
  | .local _ .vmem, ⟨18, _⟩ => ⟨S1x1024, .f32⟩
  | .local _ .vmem, ⟨19, _⟩ => ⟨S1x256, .f32⟩
  | .local _ .vmem, ⟨20, _⟩ => ⟨S1x128, .f32⟩
  | .local _ .vmem, ⟨21, _⟩ => ⟨S1x96, .f32⟩
  | .local _ .vmem, ⟨22, _⟩ => ⟨S1x96, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S1x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev main_v0_7 : Ref sig .tc := ⟨.hbm, 21, rfl⟩
abbrev main_v0_8 : Ref sig .tc := ⟨.hbm, 22, rfl⟩
abbrev main_v0_9 : Ref sig .tc := ⟨.hbm, 23, rfl⟩
abbrev main_v0_10 : Ref sig .tc := ⟨.hbm, 24, rfl⟩
abbrev main_v0_11 : Ref sig .tc := ⟨.hbm, 25, rfl⟩
abbrev main_v0_12 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x1x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x1x96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1024x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x6144 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S32x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x96 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x96 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
-- ==== Reference15Ideal.lean ====
abbrev S32x1024 : Shape := ⟨2, ![32, 1024]⟩
abbrev S32x6144 : Shape := ⟨2, ![32, 6144]⟩
abbrev S32x1536 : Shape := ⟨2, ![32, 1536]⟩
abbrev S8x32x512 : Shape := ⟨3, ![8, 32, 512]⟩
abbrev S8x8x128 : Shape := ⟨3, ![8, 8, 128]⟩
abbrev S8x1x1024 : Shape := ⟨3, ![8, 1, 1024]⟩
abbrev S8x1x256 : Shape := ⟨3, ![8, 1, 256]⟩
abbrev S8x1x128 : Shape := ⟨3, ![8, 1, 128]⟩
abbrev S8x1x96 : Shape := ⟨3, ![8, 1, 96]⟩
abbrev S8x1x512 : Shape := ⟨3, ![8, 1, 512]⟩
abbrev S_ : Shape := ⟨0, ![]⟩
abbrev S1024x1536 : Shape := ⟨2, ![1024, 1536]⟩
abbrev S1536x1024 : Shape := ⟨2, ![1536, 1024]⟩
abbrev S6144 : Shape := ⟨1, ![6144]⟩
abbrev S1x6144 : Shape := ⟨2, ![1, 6144]⟩
abbrev S32x512 : Shape := ⟨2, ![32, 512]⟩
abbrev S8x128 : Shape := ⟨2, ![8, 128]⟩
abbrev S1x1024 : Shape := ⟨2, ![1, 1024]⟩
abbrev S1x256 : Shape := ⟨2, ![1, 256]⟩
abbrev S1x128 : Shape := ⟨2, ![1, 128]⟩
abbrev S1x96 : Shape := ⟨2, ![1, 96]⟩
abbrev S1x512 : Shape := ⟨2, ![1, 512]⟩

abbrev nBuf : Space → Nat
  | .hbm => 53
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x6144, .f32⟩
  | .hbm, ⟨2, _⟩ => ⟨S32x1536, .f32⟩
  | .hbm, ⟨3, _⟩ => ⟨S8x32x512, .f32⟩
  | .hbm, ⟨4, _⟩ => ⟨S8x8x128, .f32⟩
  | .hbm, ⟨5, _⟩ => ⟨S8x1x1024, .f32⟩
  | .hbm, ⟨6, _⟩ => ⟨S8x1x256, .f32⟩
  | .hbm, ⟨7, _⟩ => ⟨S8x1x128, .f32⟩
  | .hbm, ⟨8, _⟩ => ⟨S8x1x96, .f32⟩
  | .hbm, ⟨9, _⟩ => ⟨S8x1x96, .f32⟩
  | .hbm, ⟨10, _⟩ => ⟨S8x1x512, .f32⟩
  | .hbm, ⟨11, _⟩ => ⟨S8x1x512, .f32⟩
  | .hbm, ⟨12, _⟩ => ⟨S8x1x512, .f32⟩
  | .hbm, ⟨13, _⟩ => ⟨S8x1x1024, .f32⟩
  | .hbm, ⟨14, _⟩ => ⟨S_, .f32⟩
  | .hbm, ⟨15, _⟩ => ⟨S1024x1536, .f32⟩
  | .hbm, ⟨16, _⟩ => ⟨S32x1024, .f32⟩
  | .hbm, ⟨17, _⟩ => ⟨S32x1024, .f32⟩
  | .hbm, ⟨18, _⟩ => ⟨S_, .f32⟩
  | .hbm, ⟨19, _⟩ => ⟨S32x1024, .f32⟩
  | .hbm, ⟨20, _⟩ => ⟨S32x1024, .f32⟩
  | .hbm, ⟨21, _⟩ => ⟨S_, .f32⟩
  | .hbm, ⟨22, _⟩ => ⟨S32x1024, .f32⟩
  | .hbm, ⟨23, _⟩ => ⟨S32x1024, .f32⟩
  | .hbm, ⟨24, _⟩ => ⟨S32x1024, .f32⟩
  | .hbm, ⟨25, _⟩ => ⟨S32x1536, .f32⟩
  | .hbm, ⟨26, _⟩ => ⟨S1536x1024, .f32⟩
  | .hbm, ⟨27, _⟩ => ⟨S1024x1536, .f32⟩
  | .hbm, ⟨28, _⟩ => ⟨S_, .f32⟩
  | .hbm, ⟨29, _⟩ => ⟨S6144, .f32⟩
  | .hbm, ⟨30, _⟩ => ⟨S1x6144, .f32⟩
  | .hbm, ⟨31, _⟩ => ⟨S_, .f32⟩
  | .hbm, ⟨32, _⟩ => ⟨S32x512, .f32⟩
  | .hbm, ⟨33, _⟩ => ⟨S_, .f32⟩
  | .hbm, ⟨34, _⟩ => ⟨S8x128, .f32⟩
  | .hbm, ⟨35, _⟩ => ⟨S_, .f32⟩
  | .hbm, ⟨36, _⟩ => ⟨S1x1024, .f32⟩
  | .hbm, ⟨37, _⟩ => ⟨S_, .f32⟩
  | .hbm, ⟨38, _⟩ => ⟨S1x256, .f32⟩
  | .hbm, ⟨39, _⟩ => ⟨S_, .f32⟩
  | .hbm, ⟨40, _⟩ => ⟨S1x128, .f32⟩
  | .hbm, ⟨41, _⟩ => ⟨S_, .f32⟩
  | .hbm, ⟨42, _⟩ => ⟨S1x96, .f32⟩
  | .hbm, ⟨43, _⟩ => ⟨S_, .f32⟩
  | .hbm, ⟨44, _⟩ => ⟨S1x96, .f32⟩
  | .hbm, ⟨45, _⟩ => ⟨S_, .f32⟩
  | .hbm, ⟨46, _⟩ => ⟨S1x512, .f32⟩
  | .hbm, ⟨47, _⟩ => ⟨S_, .f32⟩
  | .hbm, ⟨48, _⟩ => ⟨S1x512, .f32⟩
  | .hbm, ⟨49, _⟩ => ⟨S_, .f32⟩
  | .hbm, ⟨50, _⟩ => ⟨S1x512, .f32⟩
  | .hbm, ⟨51, _⟩ => ⟨S_, .f32⟩
  | .hbm, ⟨52, _⟩ => ⟨S1x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_cst_1 : Ref sig .tc := ⟨.hbm, 31, rfl⟩
abbrev main_v7 : Ref sig .tc := ⟨.hbm, 32, rfl⟩
abbrev main_cst_2 : Ref sig .tc := ⟨.hbm, 33, rfl⟩
abbrev main_v8 : Ref sig .tc := ⟨.hbm, 34, rfl⟩
abbrev main_cst_3 : Ref sig .tc := ⟨.hbm, 35, rfl⟩
abbrev main_v9 : Ref sig .tc := ⟨.hbm, 36, rfl⟩
abbrev main_cst_4 : Ref sig .tc := ⟨.hbm, 37, rfl⟩
abbrev main_v10 : Ref sig .tc := ⟨.hbm, 38, rfl⟩
abbrev main_cst_5 : Ref sig .tc := ⟨.hbm, 39, rfl⟩
abbrev main_v11 : Ref sig .tc := ⟨.hbm, 40, rfl⟩
abbrev main_cst_6 : Ref sig .tc := ⟨.hbm, 41, rfl⟩
abbrev main_v12 : Ref sig .tc := ⟨.hbm, 42, rfl⟩
abbrev main_cst_7 : Ref sig .tc := ⟨.hbm, 43, rfl⟩
abbrev main_v13 : Ref sig .tc := ⟨.hbm, 44, rfl⟩
abbrev main_cst_8 : Ref sig .tc := ⟨.hbm, 45, rfl⟩
abbrev main_v14 : Ref sig .tc := ⟨.hbm, 46, rfl⟩
abbrev main_cst_9 : Ref sig .tc := ⟨.hbm, 47, rfl⟩
abbrev main_v15 : Ref sig .tc := ⟨.hbm, 48, rfl⟩
abbrev main_cst_10 : Ref sig .tc := ⟨.hbm, 49, rfl⟩
abbrev main_v16 : Ref sig .tc := ⟨.hbm, 50, rfl⟩
abbrev main_cst_11 : Ref sig .tc := ⟨.hbm, 51, rfl⟩
abbrev main_v17 : Ref sig .tc := ⟨.hbm, 52, rfl⟩

abbrev nD : Nat := 1
abbrev τ : Topo := Topo.v7x

variable {F : FTy → Type} [FloatOps F]
-- ==== Proof.FwdFfn.Point.lean ====
/-
  One grid point's run, case by case: the first point (which also brings the two weight matrices into the scratch), the
  first point of a later sequence, and any other point; and the values a point leaves as functions of its blocks.
-/
module

public import proofs.«01_k».proof.Proof.Gen.Kernel4Ideal.Frame.RunA
public import proofs.«01_k».proof.Proof.Gen.Kernel4Ideal.Frame.RunB
public import proofs.«01_k».proof.Proof.Gen.Kernel4Ideal.Frame.RunC
public import Idealize.ShloMosaic.Lib.Pipeline.Value
public import Idealize.ShloMosaic.Lib.Pointwise
public import Idealize.ShloMosaic.Lib.ValueLayout

@[expose] public section

set_option maxRecDepth 16384

noncomputable section

namespace Cert.FwdFfn

open Idealize.ShloMosaic Idealize.ShloMosaic.TcCoe Idealize.ShloMosaic.Tactic
open Cert.Kernel4Ideal Cert.Kernel4Ideal.Gen

variable {F : FTy → Type} [FloatOps F]

variable (m : (ℓ : Loc nD τ sig) → Buf (Elt F) ℓ)

/-- A column number of the first layer's matrix. -/
theorem col_lt (y : S1024x4096.Idx) : (y 1).val < 4096 := (y 1).isLt

/-! ## The values a point leaves -/

/-- The scale row of a block of the modulation. -/
def scaleRow (x3 : Vec F S1x6x1024 .f32) : Vec F S1x1x1024 .f32 :=
  View.ld x3 (Rect.unit ![0, 4, 0] ![1, 1, 1024] inb_S1x6x1024_S1x1x1024_0_4_0)
/-- The shift row of a block of the modulation. -/
def shiftRow (x3 : Vec F S1x6x1024 .f32) : Vec F S1x1x1024 .f32 :=
  View.ld x3 (Rect.unit ![0, 3, 0] ![1, 1, 1024] inb_S1x6x1024_S1x1x1024_0_3_0)
/-- The gate row of a block of the modulation. -/
def gateRow (x3 : Vec F S1x6x1024 .f32) : Vec F S1x1x1024 .f32 :=
  View.ld x3 (Rect.unit ![0, 5, 0] ![1, 1, 1024] inb_S1x6x1024_S1x1x1024_0_5_0)

section
variable (x0 x1 : Vec F S256x1024 .f32) (x2 : Vec F S1x1024 .f32) (x3 : Vec F S1x6x1024 .f32)
  (w1 : Vec F S1024x4096 .bf16) (w2 : Vec F S4096x1024 .bf16)

/-- The modulated rows. -/
def tileH2 : Vec F S256x1024 .bf16 := k0_pay8 x0 x2 (scaleRow x3) (shiftRow x3)
/-- The pre-activation. -/
def tilePre : Vec F S256x4096 .f32 := k0_pay9 (tileH2 x0 x2 x3) w1
/-- The squared positive part. -/
def tileSq : Vec F S256x4096 .bf16 := k0_pay10 (tileH2 x0 x2 x3) w1
/-- The second layer's output. -/
def tileF : Vec F S256x1024 .f32 := k0_pay11 (tileH2 x0 x2 x3) w1 w2
/-- The output less the target. -/
def tileErr : Vec F S256x1024 .f32 := k0_pay12 (k0_pay6 x0) (k0_pay7 (gateRow x3)) (tileH2 x0 x2 x3) w1 w2 x1
/-- The output's cotangent. -/
def tileDy : Vec F S256x1024 .f32 := k0_pay1 (tileErr x0 x1 x2 x3 w1 w2) k0_pay15
/-- The second layer's output's cotangent. -/
def tileDf : Vec F S256x1024 .bf16 := k0_pay2 (k0_pay7 (gateRow x3)) (tileErr x0 x1 x2 x3 w1 w2) k0_pay15
/-- The gate's sum, started and carried on. -/
def gateFirst : Vec F S1x1x1024 .f32 := k0_pay4 (tileF x0 x2 x3 w1 w2) (tileErr x0 x1 x2 x3 w1 w2) k0_pay15
def gateNext (p : Vec F S1x1x1024 .f32) : Vec F S1x1x1024 .f32 :=
  k0_pay5 (tileF x0 x2 x3 w1 w2) (tileErr x0 x1 x2 x3 w1 w2) k0_pay15 p
/-- The loss's sum, started and carried on. -/
def lossFirst : Vec F S8x128 .f32 := k0_pay13 (k0_pay6 x0) (k0_pay7 (gateRow x3)) (tileH2 x0 x2 x3) w1 w2 x1
def lossNext (p : Vec F S8x128 .f32) : Vec F S8x128 .f32 :=
  k0_pay14 (k0_pay6 x0) (k0_pay7 (gateRow x3)) (tileH2 x0 x2 x3) w1 w2 x1 p
end

/-! ## The weights the first point brings in -/

/-- The first layer's matrix, put together from its four column strips. -/
def W1 (c : Dev nD) : Vec F S1024x4096 .bf16 := fun y =>
  (V m c main_v3 : Vec F S4x1024x1024 .bf16)
    (Idealize.ShloMosaic.ix3 ⟨(y 1).val / 1024, by have := col_lt y; omega⟩ (y 0) ⟨(y 1).val % 1024, Nat.mod_lt _ (by omega)⟩)
/-- The second layer's matrix. -/
def W2 (c : Dev nD) : Vec F S4096x1024 .bf16 := V m c main_v5

/-! ## The runs -/

/-- The first point. -/
theorem caseA {t : Fin cfg0.N} (h : t.val = 0) : conds0_A (grid0.coords t) := by
  refine ⟨(hcond0_0 t).mpr ?_, (hcond0_1 t).mpr ?_, fun k => absurd ((hcond0_2 t).mp k) ?_, (hcond0_3 t).mpr ?_,
    fun k => (hcond0_4 t).mp k ?_⟩ <;> omega

/-- A point inside a sequence. -/
theorem caseB {t : Fin cfg0.N} (h : t.val % 8 ≠ 0) : conds0_B (grid0.coords t) := by
  refine ⟨fun k => absurd ((hcond0_0 t).mp k) ?_, fun k => absurd ((hcond0_1 t).mp k) ?_, (hcond0_2 t).mpr ?_,
    fun k => absurd ((hcond0_3 t).mp k) ?_, (hcond0_4 t).mpr ?_⟩ <;> omega

/-- The first point of a later sequence. -/
theorem caseC {t : Fin cfg0.N} (h : t.val % 8 = 0) (h0 : t.val ≠ 0) : conds0_C (grid0.coords t) := by
  have hN : t.val < 32 := lt_of_lt_of_eq t.isLt (show cfg0.N = 32 from N_0)
  refine ⟨fun k => absurd ((hcond0_0 t).mp k) ?_, fun k => absurd ((hcond0_1 t).mp k) ?_, (hcond0_2 t).mpr ?_,
    (hcond0_3 t).mpr ?_, fun k => (hcond0_4 t).mp k ?_⟩ <;> omega

variable (c : Dev nD) (t : Fin cfg0.N)

/-- The run of the first point. -/
abbrev runA (h : conds0_A (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) h.1 h.2.1 h.2.2.1 h.2.2.2.1 h.2.2.2.2 (iblk m c 0 t) (iblk m c 1 t) (iblk m c 2 t) (iblk m c 3 t) (V m c main_v3) (V m c main_v5)

/-- The run of a point inside a sequence, over what the point before left. -/
abbrev runB (h : conds0_B (grid0.coords t)) (p9 : Vec F S1x1x1024 .f32) (p10 : Vec F S8x128 .f32)
    (s0 : Vec F S1024x4096 .bf16) (s1 : Vec F S4096x1024 .bf16) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) h.1 h.2.1 h.2.2.1 h.2.2.2.1 h.2.2.2.2 (iblk m c 0 t) (iblk m c 1 t) (iblk m c 2 t) (iblk m c 3 t) p9 p10 s0 s1 (V m c main_v3) (V m c main_v5)

/-- The run of the first point of a later sequence, over what the point before left. -/
abbrev runC (h : conds0_C (grid0.coords t)) (p10 : Vec F S8x128 .f32)
    (s0 : Vec F S1024x4096 .bf16) (s1 : Vec F S4096x1024 .bf16) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) h.1 h.2.1 h.2.2.1 h.2.2.2.1 h.2.2.2.2 (iblk m c 0 t) (iblk m c 1 t) (iblk m c 2 t) (iblk m c 3 t) p10 s0 s1 (V m c main_v3) (V m c main_v5)

theorem z2 : (![0, 0] : Fin 2 → Nat) = fun _ => 0 := funext fun a => by fin_cases a <;> rfl
theorem z3 : (![0, 0, 0] : Fin 3 → Nat) = fun _ => 0 := funext fun a => by fin_cases a <;> rfl

variable {m} {c} {t}

/-- What a whole scratch buffer reads as. -/
theorem read_scratch0 (s : Vec F S1024x4096 .bf16) :
    (View.whole cc0_scratch0).read (Elt F) ((Memref.isWhole_whole cc0_scratch0).unread s) = s :=
  (Memref.isWhole_whole cc0_scratch0).read_unread s
theorem read_scratch1 (s : Vec F S4096x1024 .bf16) :
    (View.whole cc0_scratch1).read (Elt F) ((Memref.isWhole_whole cc0_scratch1).unread s) = s :=
  (Memref.isWhole_whole cc0_scratch1).read_unread s

end Cert.FwdFfn

end
-- ==== Proof.FwdFfn.PointA.lean ====
/-
  What the run of the first point leaves in the scratch and in each output's buffer.
-/
module

public import proofs.«01_k».proof.Proof.FwdFfn.Point

@[expose] public section

set_option maxRecDepth 16384

noncomputable section

namespace Cert.FwdFfn

open Idealize.ShloMosaic Idealize.ShloMosaic.TcCoe Idealize.ShloMosaic.Tactic
open Cert.Kernel4Ideal Cert.Kernel4Ideal.Gen

variable {F : FTy → Type} [FloatOps F]

variable (m : (ℓ : Loc nD τ sig) → Buf (Elt F) ℓ)

variable {m} {c : Dev nD} {t : Fin cfg0.N}

/-- Four column strips put side by side. -/
def besides (v : Vec F S4x1024x1024 .bf16) : Vec F S1024x4096 .bf16 := fun y =>
  v (Idealize.ShloMosaic.ix3 ⟨(y 1).val / 1024, by have := col_lt y; omega⟩ (y 0) ⟨(y 1).val % 1024, Nat.mod_lt _ (by omega)⟩)

/-- One strip of the first layer's matrix, read where it lands in the scratch. -/
theorem strip (v : Vec F S4x1024x1024 .bf16) (k o : ℕ) (ho : o = 1024 * k)
    (inb : ∀ a, (![k, 0, 0] : Fin 3 → ℕ) a + (![1, 1024, 1024] : Fin 3 → ℕ) a ≤ S4x1024x1024.size a)
    (inb' : ∀ a, (![0, o] : Fin 2 → ℕ) a + (![1024, 1024] : Fin 2 → ℕ) a ≤ S1024x4096.size a)
    (e : S1024x1024.numel = (Rect.unit (s := S4x1024x1024) ![k, 0, 0] ![1, 1024, 1024] inb).shape.numel)
    (x : S1024x1024.Idx) :
    (((View.whole main_v3).slice (Rect.unit ![k, 0, 0] ![1, 1024, 1024] inb)).reshape S1024x1024 e).read (Elt F) v x
      = besides v ((Rect.unit (s := S1024x4096) ![0, o] ![1024, 1024] inb').emb x) := by
  obtain ⟨i, j, rfl⟩ : ∃ (i j : Fin 1024), x = Idealize.ShloMosaic.ix2 i j := ⟨x 0, x 1, by funext a; fin_cases a <;> rfl⟩
  show v ((Rect.unit (s := S4x1024x1024) ![k, 0, 0] ![1, 1024, 1024] inb).emb (Shape.reshapeEquiv e (Idealize.ShloMosaic.ix2 i j))) = _
  rw [show Shape.reshapeEquiv e (Idealize.ShloMosaic.ix2 i j) = Idealize.ShloMosaic.ix3 0 i j from ValueIdx.reshapeEquiv_ix2_1ab e i j]
  unfold besides
  refine congrArg v ?_
  have hi := i.isLt
  have hj := j.isLt
  funext a
  apply Fin.ext
  fin_cases a
  · show k + 1 * 0 = (o + 1 * j.val) / 1024
    omega
  · show 0 + 1 * i.val = 0 + 1 * i.val
    rfl
  · show 0 + 1 * j.val = (o + 1 * j.val) % 1024
    omega

section strips
variable (v : Vec F S4x1024x1024 .bf16)
    (a3 : ∀ a, (![3, 0, 0] : Fin 3 → ℕ) a + (![1, 1024, 1024] : Fin 3 → ℕ) a ≤ S4x1024x1024.size a)
    (b3 : ∀ a, (![0, 3072] : Fin 2 → ℕ) a + (![1024, 1024] : Fin 2 → ℕ) a ≤ S1024x4096.size a)
    (e3 : S1024x1024.numel = (Rect.unit (s := S4x1024x1024) ![3, 0, 0] ![1, 1024, 1024] a3).shape.numel)
    (a2 : ∀ a, (![2, 0, 0] : Fin 3 → ℕ) a + (![1, 1024, 1024] : Fin 3 → ℕ) a ≤ S4x1024x1024.size a)
    (b2 : ∀ a, (![0, 2048] : Fin 2 → ℕ) a + (![1024, 1024] : Fin 2 → ℕ) a ≤ S1024x4096.size a)
    (e2 : S1024x1024.numel = (Rect.unit (s := S4x1024x1024) ![2, 0, 0] ![1, 1024, 1024] a2).shape.numel)
    (a1 : ∀ a, (![1, 0, 0] : Fin 3 → ℕ) a + (![1, 1024, 1024] : Fin 3 → ℕ) a ≤ S4x1024x1024.size a)
    (b1 : ∀ a, (![0, 1024] : Fin 2 → ℕ) a + (![1024, 1024] : Fin 2 → ℕ) a ≤ S1024x4096.size a)
    (e1 : S1024x1024.numel = (Rect.unit (s := S4x1024x1024) ![1, 0, 0] ![1, 1024, 1024] a1).shape.numel)
    (a0 : ∀ a, (![0, 0, 0] : Fin 3 → ℕ) a + (![1, 1024, 1024] : Fin 3 → ℕ) a ≤ S4x1024x1024.size a)
    (b0 : ∀ a, (![0, 0] : Fin 2 → ℕ) a + (![1024, 1024] : Fin 2 → ℕ) a ≤ S1024x4096.size a)
    (e0 : S1024x1024.numel = (Rect.unit (s := S4x1024x1024) ![0, 0, 0] ![1, 1024, 1024] a0).shape.numel)

/-- The four strips as the pieces of the scratch's contents, the last copied first. -/
abbrev strips : List (View.Piece (Elt F) S1024x4096 .bf16) :=
  [⟨Rect.unit ![0, 3072] ![1024, 1024] b3, ReadAs.same.apply ((((View.whole main_v3).slice (Rect.unit ![3, 0, 0] ![1, 1024, 1024] a3)).reshape S1024x1024 e3).read (Elt F) v)⟩,
    ⟨Rect.unit ![0, 2048] ![1024, 1024] b2, ReadAs.same.apply ((((View.whole main_v3).slice (Rect.unit ![2, 0, 0] ![1, 1024, 1024] a2)).reshape S1024x1024 e2).read (Elt F) v)⟩,
    ⟨Rect.unit ![0, 1024] ![1024, 1024] b1, ReadAs.same.apply ((((View.whole main_v3).slice (Rect.unit ![1, 0, 0] ![1, 1024, 1024] a1)).reshape S1024x1024 e1).read (Elt F) v)⟩,
    ⟨Rect.unit ![0, 0] ![1024, 1024] b0, ReadAs.same.apply ((((View.whole main_v3).slice (Rect.unit ![0, 0, 0] ![1, 1024, 1024] a0)).reshape S1024x1024 e0).read (Elt F) v)⟩]

theorem strips_all (q : View.Piece (Elt F) S1024x4096 .bf16) (hq : q ∈ strips v a3 b3 e3 a2 b2 e2 a1 b1 e1 a0 b0 e0) (x : q.1.shape.Idx) :
    q.2 x = besides v (q.1.emb x) := by
  simp only [strips, List.mem_cons, List.not_mem_nil, or_false] at hq
  rcases hq with rfl | rfl | rfl | rfl
  · exact strip v 3 3072 rfl a3 b3 e3 x
  · exact strip v 2 2048 rfl a2 b2 e2 x
  · exact strip v 1 1024 rfl a1 b1 e1 x
  · exact strip v 0 0 rfl a0 b0 e0 x

/-- The four strips put together. -/
theorem canon_strips : View.canon (strips v a3 b3 e3 a2 b2 e2 a1 b1 e1 a0 b0 e0) = besides v := by
  funext y
  exact View.canon_apply_of_pieces (besides v) _ (strips_all v a3 b3 e3 a2 b2 e2 a1 b1 e1 a0 b0 e0) y
    (View.cover_of_tiledL (strips v a3 b3 e3 a2 b2 e2 a1 b1 e1 a0 b0 e0) S1024x1024.size (by sl_kernel_rfl) y)

/-- A load of the whole scratch over the four strips. -/
theorem load_strips (inb : ∀ a, (![0, 0] : Fin 2 → ℕ) a + (![1024, 4096] : Fin 2 → ℕ) a ≤ S1024x4096.size a) :
    (View.whole cc0_scratch0).readCov (strips v a3 b3 e3 a2 b2 e2 a1 b1 e1 a0 b0 e0) (Rect.unit (s := S1024x4096) ![0, 0] ![1024, 4096] inb).toLoadRect = besides v := by
  rw [View.readCov_eq_canon', canon_strips]
  exact View.ld_unit_zero (S := S1024x4096) z2 inb _
end strips

/-- The second layer's matrix copied whole. -/
theorem canon_whole (u : Vec F S4096x1024 .bf16) :
    View.canon ([⟨Rect.whole S4096x1024, ReadAs.same.apply ((View.whole main_v5).read (Elt F) u)⟩] : List (View.Piece (Elt F) S4096x1024 .bf16)) = u := by
  funext y
  refine View.canon_apply_of_pieces u _ ?_ y ⟨_, List.mem_singleton.mpr rfl, ?_⟩
  · intro p hp x
    rw [List.mem_singleton] at hp
    subst hp
    exact congrArg u (Rect.emb_whole_apply _ x).symm
  · rw [Rect.set_whole]; exact Finset.mem_univ _

theorem load_whole (u : Vec F S4096x1024 .bf16) (inb : ∀ a, (![0, 0] : Fin 2 → ℕ) a + (![4096, 1024] : Fin 2 → ℕ) a ≤ S4096x1024.size a) :
    (View.whole cc0_scratch1).readCov ([⟨Rect.whole S4096x1024, ReadAs.same.apply ((View.whole main_v5).read (Elt F) u)⟩] : List (View.Piece (Elt F) S4096x1024 .bf16)) (Rect.unit (s := S4096x1024) ![0, 0] ![4096, 1024] inb).toLoadRect = u := by
  rw [View.readCov_eq_canon', canon_whole]
  exact View.ld_unit_zero (S := S4096x1024) z2 inb _

section
variable (h : conds0_A (grid0.coords t))

/-- The first scratch is filled with the first layer's matrix. -/
theorem runA_s0 (f) : scM0_0.view.read (Elt F) (scM0_0.view.writes (Elt F) f (runA m c t h).2.2.2.2.2.2.2.1) = W1 m c := by
  rw [View.read_writes_eq_canon _ _ _ (View.cover_of_tiledL (runA m c t h).2.2.2.2.2.2.2.1 S1024x1024.size (by sl_kernel_rfl))]
  unfold runA kernelRun0_A
  dsimp only
  sl_unfold_words
  exact canon_strips _ _ _ _ _ _ _ _ _ _ _ _ _

/-- The second scratch is filled with the second layer's matrix. -/
theorem runA_s1 (f) : scM0_1.view.read (Elt F) (scM0_1.view.writes (Elt F) f (runA m c t h).2.2.2.2.2.2.2.2.1) = W2 m c := by
  rw [View.read_writes_eq_canon _ _ _ (View.cover_of_tiledL (runA m c t h).2.2.2.2.2.2.2.2.1 S4096x1024.size (by sl_kernel_rfl))]
  unfold runA kernelRun0_A
  dsimp only
  sl_unfold_words
  exact canon_whole _

/-- At the first point: the modulated rows. -/
theorem runA_4 (f) : (ms0_4 t).view.read (Elt F) ((ms0_4 t).view.writes (Elt F) f (runA m c t h).1) =
    tileH2 (iblk m c 0 t) (iblk m c 2 t) (iblk m c 3 t) := by
  rw [View.read_writes_eq_canon _ _ _ (View.cover_of_tiledL (runA m c t h).1 S256x1024.size (by sl_kernel_rfl))]
  unfold runA kernelRun0_A
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, View.ld_unit_zero (S := S8x128) z2, shapeCast_self]
  rfl

/-- At the first point: the pre-activation. -/
theorem runA_5 (f) : (ms0_5 t).view.read (Elt F) ((ms0_5 t).view.writes (Elt F) f (runA m c t h).2.1) =
    tilePre (iblk m c 0 t) (iblk m c 2 t) (iblk m c 3 t) (W1 m c) := by
  rw [View.read_writes_eq_canon _ _ _ (View.cover_of_tiledL (runA m c t h).2.1 S256x4096.size (by sl_kernel_rfl))]
  unfold runA kernelRun0_A
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, View.ld_unit_zero (S := S8x128) z2, shapeCast_self]
  rw [load_strips]
  rfl

/-- At the first point: the squared positive part. -/
theorem runA_6 (f) : (ms0_6 t).view.read (Elt F) ((ms0_6 t).view.writes (Elt F) f (runA m c t h).2.2.1) =
    tileSq (iblk m c 0 t) (iblk m c 2 t) (iblk m c 3 t) (W1 m c) := by
  rw [View.read_writes_eq_canon _ _ _ (View.cover_of_tiledL (runA m c t h).2.2.1 S256x4096.size (by sl_kernel_rfl))]
  unfold runA kernelRun0_A
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, View.ld_unit_zero (S := S8x128) z2, shapeCast_self]
  rw [load_strips]
  rfl

/-- At the first point: the output's cotangent. -/
theorem runA_7 (f) : (ms0_7 t).view.read (Elt F) ((ms0_7 t).view.writes (Elt F) f (runA m c t h).2.2.2.1) =
    tileDy (iblk m c 0 t) (iblk m c 1 t) (iblk m c 2 t) (iblk m c 3 t) (W1 m c) (W2 m c) := by
  rw [View.read_writes_eq_canon _ _ _ (View.cover_of_tiledL (runA m c t h).2.2.2.1 S256x1024.size (by sl_kernel_rfl))]
  unfold runA kernelRun0_A
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, View.ld_unit_zero (S := S8x128) z2, shapeCast_self]
  rw [load_strips, load_whole]
  rfl

/-- At the first point: the second layer's output's cotangent. -/
theorem runA_8 (f) : (ms0_8 t).view.read (Elt F) ((ms0_8 t).view.writes (Elt F) f (runA m c t h).2.2.2.2.1) =
    tileDf (iblk m c 0 t) (iblk m c 1 t) (iblk m c 2 t) (iblk m c 3 t) (W1 m c) (W2 m c) := by
  rw [View.read_writes_eq_canon _ _ _ (View.cover_of_tiledL (runA m c t h).2.2.2.2.1 S256x1024.size (by sl_kernel_rfl))]
  unfold runA kernelRun0_A
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, View.ld_unit_zero (S := S8x128) z2, shapeCast_self]
  rw [load_strips, load_whole]
  rfl

/-- At the first point: the gate's sum. -/
theorem runA_9 (f) : (ms0_9 t).view.read (Elt F) ((ms0_9 t).view.writes (Elt F) f (runA m c t h).2.2.2.2.2.1) =
    gateFirst (iblk m c 0 t) (iblk m c 1 t) (iblk m c 2 t) (iblk m c 3 t) (W1 m c) (W2 m c) := by
  rw [View.read_writes_eq_canon _ _ _ (View.cover_of_tiledL (runA m c t h).2.2.2.2.2.1 S1x1x1024.size (by sl_kernel_rfl))]
  unfold runA kernelRun0_A
  dsimp only
  sl_unfold_words
  rw [View.canon_unit_zero z3]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, View.ld_unit_zero (S := S8x128) z2, shapeCast_self]
  rw [load_strips, load_whole]
  rfl

/-- At the first point: the loss's sum. -/
theorem runA_10 (f) : (ms0_10 t).view.read (Elt F) ((ms0_10 t).view.writes (Elt F) f (runA m c t h).2.2.2.2.2.2.1) =
    lossFirst (iblk m c 0 t) (iblk m c 1 t) (iblk m c 2 t) (iblk m c 3 t) (W1 m c) (W2 m c) := by
  rw [View.read_writes_eq_canon _ _ _ (View.cover_of_tiledL (runA m c t h).2.2.2.2.2.2.1 S8x128.size (by sl_kernel_rfl))]
  unfold runA kernelRun0_A
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, View.ld_unit_zero (S := S8x128) z2, shapeCast_self]
  rw [load_strips, load_whole]
  rfl

end

end Cert.FwdFfn

end
-- ==== Proof.FwdFfn.PointBC.lean ====
/-
  What the runs of a point inside a sequence and of a later sequence's first point leave in each output's buffer.
-/
module

public import proofs.«01_k».proof.Proof.FwdFfn.Point

@[expose] public section

set_option maxRecDepth 16384

noncomputable section

namespace Cert.FwdFfn

open Idealize.ShloMosaic Idealize.ShloMosaic.TcCoe Idealize.ShloMosaic.Tactic
open Cert.Kernel4Ideal Cert.Kernel4Ideal.Gen

variable {F : FTy → Type} [FloatOps F]

variable (m : (ℓ : Loc nD τ sig) → Buf (Elt F) ℓ)

variable {m} {c : Dev nD} {t : Fin cfg0.N}

section
variable (h : conds0_B (grid0.coords t)) (p9 : Vec F S1x1x1024 .f32) (p10 : Vec F S8x128 .f32)
    (s0 : Vec F S1024x4096 .bf16) (s1 : Vec F S4096x1024 .bf16)

/-- At a point inside a sequence: the modulated rows. -/
theorem runB_4 (f) : (ms0_4 t).view.read (Elt F) ((ms0_4 t).view.writes (Elt F) f (runB m c t h p9 p10 s0 s1).1) =
    tileH2 (iblk m c 0 t) (iblk m c 2 t) (iblk m c 3 t) := by
  rw [View.read_writes_eq_canon _ _ _ (View.cover_of_tiledL (runB m c t h p9 p10 s0 s1).1 S256x1024.size (by sl_kernel_rfl))]
  unfold runB kernelRun0_B
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, View.ld_unit_zero (S := S8x128) z2, shapeCast_self, read_scratch0, read_scratch1]
  rfl

/-- At a point inside a sequence: the pre-activation. -/
theorem runB_5 (f) : (ms0_5 t).view.read (Elt F) ((ms0_5 t).view.writes (Elt F) f (runB m c t h p9 p10 s0 s1).2.1) =
    tilePre (iblk m c 0 t) (iblk m c 2 t) (iblk m c 3 t) s0 := by
  rw [View.read_writes_eq_canon _ _ _ (View.cover_of_tiledL (runB m c t h p9 p10 s0 s1).2.1 S256x4096.size (by sl_kernel_rfl))]
  unfold runB kernelRun0_B
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, View.ld_unit_zero (S := S8x128) z2, shapeCast_self, read_scratch0, read_scratch1]
  rfl

/-- At a point inside a sequence: the squared positive part. -/
theorem runB_6 (f) : (ms0_6 t).view.read (Elt F) ((ms0_6 t).view.writes (Elt F) f (runB m c t h p9 p10 s0 s1).2.2.1) =
    tileSq (iblk m c 0 t) (iblk m c 2 t) (iblk m c 3 t) s0 := by
  rw [View.read_writes_eq_canon _ _ _ (View.cover_of_tiledL (runB m c t h p9 p10 s0 s1).2.2.1 S256x4096.size (by sl_kernel_rfl))]
  unfold runB kernelRun0_B
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, View.ld_unit_zero (S := S8x128) z2, shapeCast_self, read_scratch0, read_scratch1]
  rfl

/-- At a point inside a sequence: the output's cotangent. -/
theorem runB_7 (f) : (ms0_7 t).view.read (Elt F) ((ms0_7 t).view.writes (Elt F) f (runB m c t h p9 p10 s0 s1).2.2.2.1) =
    tileDy (iblk m c 0 t) (iblk m c 1 t) (iblk m c 2 t) (iblk m c 3 t) s0 s1 := by
  rw [View.read_writes_eq_canon _ _ _ (View.cover_of_tiledL (runB m c t h p9 p10 s0 s1).2.2.2.1 S256x1024.size (by sl_kernel_rfl))]
  unfold runB kernelRun0_B
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, View.ld_unit_zero (S := S8x128) z2, shapeCast_self, read_scratch0, read_scratch1]
  rfl

/-- At a point inside a sequence: the second layer's output's cotangent. -/
theorem runB_8 (f) : (ms0_8 t).view.read (Elt F) ((ms0_8 t).view.writes (Elt F) f (runB m c t h p9 p10 s0 s1).2.2.2.2.1) =
    tileDf (iblk m c 0 t) (iblk m c 1 t) (iblk m c 2 t) (iblk m c 3 t) s0 s1 := by
  rw [View.read_writes_eq_canon _ _ _ (View.cover_of_tiledL (runB m c t h p9 p10 s0 s1).2.2.2.2.1 S256x1024.size (by sl_kernel_rfl))]
  unfold runB kernelRun0_B
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, View.ld_unit_zero (S := S8x128) z2, shapeCast_self, read_scratch0, read_scratch1]
  rfl

/-- At a point inside a sequence: the gate's sum. -/
theorem runB_9 (f) : (ms0_9 t).view.read (Elt F) ((ms0_9 t).view.writes (Elt F) f (runB m c t h p9 p10 s0 s1).2.2.2.2.2.1) =
    gateNext (iblk m c 0 t) (iblk m c 1 t) (iblk m c 2 t) (iblk m c 3 t) s0 s1 p9 := by
  rw [View.read_writes_eq_canon _ _ _ (View.cover_of_tiledL (runB m c t h p9 p10 s0 s1).2.2.2.2.2.1 S1x1x1024.size (by sl_kernel_rfl))]
  unfold runB kernelRun0_B
  dsimp only
  sl_unfold_words
  rw [View.canon_unit_zero z3]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, View.ld_unit_zero (S := S8x128) z2, shapeCast_self, read_scratch0, read_scratch1]
  rfl

/-- At a point inside a sequence: the loss's sum. -/
theorem runB_10 (f) : (ms0_10 t).view.read (Elt F) ((ms0_10 t).view.writes (Elt F) f (runB m c t h p9 p10 s0 s1).2.2.2.2.2.2.1) =
    lossNext (iblk m c 0 t) (iblk m c 1 t) (iblk m c 2 t) (iblk m c 3 t) s0 s1 p10 := by
  rw [View.read_writes_eq_canon _ _ _ (View.cover_of_tiledL (runB m c t h p9 p10 s0 s1).2.2.2.2.2.2.1 S8x128.size (by sl_kernel_rfl))]
  unfold runB kernelRun0_B
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, View.ld_unit_zero (S := S8x128) z2, shapeCast_self, read_scratch0, read_scratch1]
  rfl

end

section
variable (h : conds0_C (grid0.coords t)) (p10 : Vec F S8x128 .f32)
    (s0 : Vec F S1024x4096 .bf16) (s1 : Vec F S4096x1024 .bf16)

/-- At the first point of a later sequence: the modulated rows. -/
theorem runC_4 (f) : (ms0_4 t).view.read (Elt F) ((ms0_4 t).view.writes (Elt F) f (runC m c t h p10 s0 s1).1) =
    tileH2 (iblk m c 0 t) (iblk m c 2 t) (iblk m c 3 t) := by
  rw [View.read_writes_eq_canon _ _ _ (View.cover_of_tiledL (runC m c t h p10 s0 s1).1 S256x1024.size (by sl_kernel_rfl))]
  unfold runC kernelRun0_C
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, View.ld_unit_zero (S := S8x128) z2, shapeCast_self, read_scratch0, read_scratch1]
  rfl

/-- At the first point of a later sequence: the pre-activation. -/
theorem runC_5 (f) : (ms0_5 t).view.read (Elt F) ((ms0_5 t).view.writes (Elt F) f (runC m c t h p10 s0 s1).2.1) =
    tilePre (iblk m c 0 t) (iblk m c 2 t) (iblk m c 3 t) s0 := by
  rw [View.read_writes_eq_canon _ _ _ (View.cover_of_tiledL (runC m c t h p10 s0 s1).2.1 S256x4096.size (by sl_kernel_rfl))]
  unfold runC kernelRun0_C
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, View.ld_unit_zero (S := S8x128) z2, shapeCast_self, read_scratch0, read_scratch1]
  rfl

/-- At the first point of a later sequence: the squared positive part. -/
theorem runC_6 (f) : (ms0_6 t).view.read (Elt F) ((ms0_6 t).view.writes (Elt F) f (runC m c t h p10 s0 s1).2.2.1) =
    tileSq (iblk m c 0 t) (iblk m c 2 t) (iblk m c 3 t) s0 := by
  rw [View.read_writes_eq_canon _ _ _ (View.cover_of_tiledL (runC m c t h p10 s0 s1).2.2.1 S256x4096.size (by sl_kernel_rfl))]
  unfold runC kernelRun0_C
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, View.ld_unit_zero (S := S8x128) z2, shapeCast_self, read_scratch0, read_scratch1]
  rfl

/-- At the first point of a later sequence: the output's cotangent. -/
theorem runC_7 (f) : (ms0_7 t).view.read (Elt F) ((ms0_7 t).view.writes (Elt F) f (runC m c t h p10 s0 s1).2.2.2.1) =
    tileDy (iblk m c 0 t) (iblk m c 1 t) (iblk m c 2 t) (iblk m c 3 t) s0 s1 := by
  rw [View.read_writes_eq_canon _ _ _ (View.cover_of_tiledL (runC m c t h p10 s0 s1).2.2.2.1 S256x1024.size (by sl_kernel_rfl))]
  unfold runC kernelRun0_C
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, View.ld_unit_zero (S := S8x128) z2, shapeCast_self, read_scratch0, read_scratch1]
  rfl

/-- At the first point of a later sequence: the second layer's output's cotangent. -/
theorem runC_8 (f) : (ms0_8 t).view.read (Elt F) ((ms0_8 t).view.writes (Elt F) f (runC m c t h p10 s0 s1).2.2.2.2.1) =
    tileDf (iblk m c 0 t) (iblk m c 1 t) (iblk m c 2 t) (iblk m c 3 t) s0 s1 := by
  rw [View.read_writes_eq_canon _ _ _ (View.cover_of_tiledL (runC m c t h p10 s0 s1).2.2.2.2.1 S256x1024.size (by sl_kernel_rfl))]
  unfold runC kernelRun0_C
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, View.ld_unit_zero (S := S8x128) z2, shapeCast_self, read_scratch0, read_scratch1]
  rfl

/-- At the first point of a later sequence: the gate's sum. -/
theorem runC_9 (f) : (ms0_9 t).view.read (Elt F) ((ms0_9 t).view.writes (Elt F) f (runC m c t h p10 s0 s1).2.2.2.2.2.1) =
    gateFirst (iblk m c 0 t) (iblk m c 1 t) (iblk m c 2 t) (iblk m c 3 t) s0 s1 := by
  rw [View.read_writes_eq_canon _ _ _ (View.cover_of_tiledL (runC m c t h p10 s0 s1).2.2.2.2.2.1 S1x1x1024.size (by sl_kernel_rfl))]
  unfold runC kernelRun0_C
  dsimp only
  sl_unfold_words
  rw [View.canon_unit_zero z3]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, View.ld_unit_zero (S := S8x128) z2, shapeCast_self, read_scratch0, read_scratch1]
  rfl

/-- At the first point of a later sequence: the loss's sum. -/
theorem runC_10 (f) : (ms0_10 t).view.read (Elt F) ((ms0_10 t).view.writes (Elt F) f (runC m c t h p10 s0 s1).2.2.2.2.2.2.1) =
    lossNext (iblk m c 0 t) (iblk m c 1 t) (iblk m c 2 t) (iblk m c 3 t) s0 s1 p10 := by
  rw [View.read_writes_eq_canon _ _ _ (View.cover_of_tiledL (runC m c t h p10 s0 s1).2.2.2.2.2.2.1 S8x128.size (by sl_kernel_rfl))]
  unfold runC kernelRun0_C
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, View.ld_unit_zero (S := S8x128) z2, shapeCast_self, read_scratch0, read_scratch1]
  rfl

end

end Cert.FwdFfn

end
-- ==== Proof.FwdFfn.State.lean ====
/-
  What the buffers hold point by point: each tile's own outputs, the running sums of a sequence and of the whole batch,
  and the two weight matrices in the scratch.
-/
module

public import proofs.«01_k».proof.Proof.FwdFfn.PointA
public import proofs.«01_k».proof.Proof.FwdFfn.PointBC
public import Idealize.ShloMosaic.Lib.Claim

@[expose] public section

set_option maxRecDepth 16384

noncomputable section

namespace Cert.FwdFfn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (Pipeline.UD sig nD τ) ℕ

variable (m : (ℓ : Loc nD τ sig) → Buf (Elt F) ℓ)

/-- The grid point numbered `n`. -/
def pt (n : ℕ) : Fin cfg0.N := ⟨n % 32, lt_of_lt_of_eq (Nat.mod_lt _ (by decide)) N_0.symm⟩

theorem pt_val (t : Fin cfg0.N) : pt t.val = t :=
  Fin.ext (Nat.mod_eq_of_lt (lt_of_lt_of_eq t.isLt (show cfg0.N = 32 from N_0)))

/-- The running sum for the gate after point `n`: started afresh at a sequence's first point. -/
def sum9 (c : Dev nD) : ℕ → Vec F S1x1x1024 .f32
  | 0 => gateFirst (iblk m c 0 (pt 0)) (iblk m c 1 (pt 0)) (iblk m c 2 (pt 0)) (iblk m c 3 (pt 0)) (W1 m c) (W2 m c)
  | n + 1 => if (n + 1) % 8 = 0 then gateFirst (iblk m c 0 (pt (n + 1))) (iblk m c 1 (pt (n + 1))) (iblk m c 2 (pt (n + 1))) (iblk m c 3 (pt (n + 1))) (W1 m c) (W2 m c)
      else gateNext (iblk m c 0 (pt (n + 1))) (iblk m c 1 (pt (n + 1))) (iblk m c 2 (pt (n + 1))) (iblk m c 3 (pt (n + 1))) (W1 m c) (W2 m c) (sum9 c n)

theorem sum9_first (c : Dev nD) (n : ℕ) (h : n % 8 = 0) : sum9 m c n = gateFirst (iblk m c 0 (pt n)) (iblk m c 1 (pt n)) (iblk m c 2 (pt n)) (iblk m c 3 (pt n)) (W1 m c) (W2 m c) := by
  cases n with
  | zero => rfl
  | succ n => exact if_pos h

theorem sum9_next (c : Dev nD) (n : ℕ) (h : n % 8 ≠ 0) : sum9 m c n = gateNext (iblk m c 0 (pt n)) (iblk m c 1 (pt n)) (iblk m c 2 (pt n)) (iblk m c 3 (pt n)) (W1 m c) (W2 m c) (sum9 m c (n - 1)) := by
  cases n with
  | zero => exact absurd rfl h
  | succ n => exact if_neg h

/-- The running sum for the loss after point `n`. -/
def sum10 (c : Dev nD) : ℕ → Vec F S8x128 .f32
  | 0 => lossFirst (iblk m c 0 (pt 0)) (iblk m c 1 (pt 0)) (iblk m c 2 (pt 0)) (iblk m c 3 (pt 0)) (W1 m c) (W2 m c)
  | n + 1 => lossNext (iblk m c 0 (pt (n + 1))) (iblk m c 1 (pt (n + 1))) (iblk m c 2 (pt (n + 1))) (iblk m c 3 (pt (n + 1))) (W1 m c) (W2 m c) (sum10 c n)

theorem sum10_next (c : Dev nD) (n : ℕ) (h : n ≠ 0) : sum10 m c n = lossNext (iblk m c 0 (pt n)) (iblk m c 1 (pt n)) (iblk m c 2 (pt n)) (iblk m c 3 (pt n)) (W1 m c) (W2 m c) (sum10 m c (n - 1)) := by
  cases n with
  | zero => exact absurd rfl h
  | succ n => rfl

/-- The scratch, the register, the copies' counters and the two matrices in main memory, before point `n`. -/
def Inv (c : Dev nD) : (n : ℕ) → sProp 𝕄
  | 0 => Pipeline.ΦD osem0 spec0 H0 (V m) c
  | _ + 1 => iprop(iprop(owns (c : Thread nD τ) scM0_0 fullShare (W1 m c) ∗ owns (c : Thread nD τ) scM0_1 fullShare (W2 m c)) ∗ (∃ r, prngReg c r) ∗ iprop(semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0) ∗ iprop(hbPt0 c hbM0_0 (V m c main_v3) ∗ hbPt0 c hbM0_1 (V m c main_v5)))

theorem Inv_zero (c : Dev nD) (n : ℕ) (hz : n = 0) : Inv m c n = Pipeline.ΦD osem0 spec0 H0 (V m) c := by
  subst hz; rfl

theorem Inv_pos (c : Dev nD) (n : ℕ) (hz : n ≠ 0) :
    Inv m c n = iprop(iprop(owns (c : Thread nD τ) scM0_0 fullShare (W1 m c) ∗ owns (c : Thread nD τ) scM0_1 fullShare (W2 m c)) ∗ (∃ r, prngReg c r) ∗ iprop(semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0) ∗ iprop(hbPt0 c hbM0_0 (V m c main_v3) ∗ hbPt0 c hbM0_1 (V m c main_v5))) := by
  cases n with
  | zero => exact absurd rfl hz
  | succ n => rfl

/-- What each window's buffer holds after each point, and what is carried between points. -/
def dat (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tileH2 (iblk m c 0 t) (iblk m c 2 t) (iblk m c 3 t)
    | ⟨5, _⟩ => tilePre (iblk m c 0 t) (iblk m c 2 t) (iblk m c 3 t) (W1 m c)
    | ⟨6, _⟩ => tileSq (iblk m c 0 t) (iblk m c 2 t) (iblk m c 3 t) (W1 m c)
    | ⟨7, _⟩ => tileDy (iblk m c 0 t) (iblk m c 1 t) (iblk m c 2 t) (iblk m c 3 t) (W1 m c) (W2 m c)
    | ⟨8, _⟩ => tileDf (iblk m c 0 t) (iblk m c 1 t) (iblk m c 2 t) (iblk m c 3 t) (W1 m c) (W2 m c)
    | ⟨9, _⟩ => sum9 m c t.val
    | ⟨10, _⟩ => sum10 m c t.val
  Φ t := Inv m c t.val
  q _ := fullShare
  owed _ := 0

theorem dat_A (c : Dev nD) (w : Fin cfg0.W) : (dat m 0 c).A w = V m c (Pipeline.arrRef spec0 w) := by
  dsimp only [dat]

theorem after_0 (c : Dev nD) (t : Fin cfg0.N) : (dat m 0 c).after 0 t = iblk m c 0 t := by dsimp only [dat]
theorem after_1 (c : Dev nD) (t : Fin cfg0.N) : (dat m 0 c).after 1 t = iblk m c 1 t := by dsimp only [dat]
theorem after_2 (c : Dev nD) (t : Fin cfg0.N) : (dat m 0 c).after 2 t = iblk m c 2 t := by dsimp only [dat]
theorem after_3 (c : Dev nD) (t : Fin cfg0.N) : (dat m 0 c).after 3 t = iblk m c 3 t := by dsimp only [dat]
theorem after_4 (c : Dev nD) (t : Fin cfg0.N) : (dat m 0 c).after 4 t = tileH2 (iblk m c 0 t) (iblk m c 2 t) (iblk m c 3 t) := by dsimp only [dat]
theorem after_5 (c : Dev nD) (t : Fin cfg0.N) : (dat m 0 c).after 5 t = tilePre (iblk m c 0 t) (iblk m c 2 t) (iblk m c 3 t) (W1 m c) := by dsimp only [dat]
theorem after_6 (c : Dev nD) (t : Fin cfg0.N) : (dat m 0 c).after 6 t = tileSq (iblk m c 0 t) (iblk m c 2 t) (iblk m c 3 t) (W1 m c) := by dsimp only [dat]
theorem after_7 (c : Dev nD) (t : Fin cfg0.N) : (dat m 0 c).after 7 t = tileDy (iblk m c 0 t) (iblk m c 1 t) (iblk m c 2 t) (iblk m c 3 t) (W1 m c) (W2 m c) := by dsimp only [dat]
theorem after_8 (c : Dev nD) (t : Fin cfg0.N) : (dat m 0 c).after 8 t = tileDf (iblk m c 0 t) (iblk m c 1 t) (iblk m c 2 t) (iblk m c 3 t) (W1 m c) (W2 m c) := by dsimp only [dat]
theorem after_9 (c : Dev nD) (t : Fin cfg0.N) : (dat m 0 c).after 9 t = sum9 m c t.val := by dsimp only [dat]
theorem after_10 (c : Dev nD) (t : Fin cfg0.N) : (dat m 0 c).after 10 t = sum10 m c t.val := by dsimp only [dat]

theorem before_0 (c : Dev nD) (t : Fin cfg0.N) (d) : (dat m 0 c).before 0 t d = iblk m c 0 t :=
  before0_0_of m (dat m 0 c) (dat_A m c 0) (after_0 m c) t d
theorem before_1 (c : Dev nD) (t : Fin cfg0.N) (d) : (dat m 0 c).before 1 t d = iblk m c 1 t :=
  before0_1_of m (dat m 0 c) (dat_A m c 1) (after_1 m c) t d
theorem before_2 (c : Dev nD) (t : Fin cfg0.N) (d) : (dat m 0 c).before 2 t d = iblk m c 2 t :=
  before0_2_of m (dat m 0 c) (dat_A m c 2) (after_2 m c) t d
theorem before_3 (c : Dev nD) (t : Fin cfg0.N) (d) : (dat m 0 c).before 3 t d = iblk m c 3 t :=
  before0_3_of m (dat m 0 c) (dat_A m c 3) (after_3 m c) t d

/-- Every point stores window 9. -/
theorem live_9 (t : Fin cfg0.N) : cfg0.idle 9 (grid0.coords t) = false := by
  by_cases h8 : t.val % 8 = 0
  · by_cases h0 : t.val = 0
    · have h := caseA h0
      exact liveAt0_9_A t h.1 h.2.1 h.2.2.1 h.2.2.2.1 h.2.2.2.2
    · have h := caseC h8 h0
      exact liveAt0_9_C t h.1 h.2.1 h.2.2.1 h.2.2.2.1 h.2.2.2.2
  · have h := caseB h8
    exact liveAt0_9_B t h.1 h.2.1 h.2.2.1 h.2.2.2.1 h.2.2.2.2

theorem carry_9 (c : Dev nD) : ∀ (t : Fin cfg0.N) (_ : t.val ≠ 0), cfg0.idle 9 (grid0.coords t) = true → cfg0.fresh 9 t.val = false →
    (dat m 0 c).after 9 t = (dat m 0 c).after 9 ⟨t.val - 1, by omega⟩ := by
  intro t _ hi _
  rw [live_9 t] at hi
  exact absurd hi Bool.false_ne_true

/-- Before a point of a run of points, window 9's buffer holds the running sum so far. -/
theorem before_9_B (c : Dev nD) (t : Fin cfg0.N) (h : conds0_B (grid0.coords t)) (d) :
    (dat m 0 c).before 9 t d = sum9 m c (t.val - 1) := by
  rw [Dat.before_out_traj _ 9 rfl (fun _ _ => rfl) (carry_9 m c) t.val t rfl d,
    if_neg (by rw [notFresh0_9_B t h.1 h.2.1 h.2.2.1 h.2.2.2.1 h.2.2.2.2]; exact Bool.false_ne_true)]
  dsimp only [dat]

/-- Every point stores window 10. -/
theorem live_10 (t : Fin cfg0.N) : cfg0.idle 10 (grid0.coords t) = false := by
  by_cases h8 : t.val % 8 = 0
  · by_cases h0 : t.val = 0
    · have h := caseA h0
      exact liveAt0_10_A t h.1 h.2.1 h.2.2.1 h.2.2.2.1 h.2.2.2.2
    · have h := caseC h8 h0
      exact liveAt0_10_C t h.1 h.2.1 h.2.2.1 h.2.2.2.1 h.2.2.2.2
  · have h := caseB h8
    exact liveAt0_10_B t h.1 h.2.1 h.2.2.1 h.2.2.2.1 h.2.2.2.2

theorem carry_10 (c : Dev nD) : ∀ (t : Fin cfg0.N) (_ : t.val ≠ 0), cfg0.idle 10 (grid0.coords t) = true → cfg0.fresh 10 t.val = false →
    (dat m 0 c).after 10 t = (dat m 0 c).after 10 ⟨t.val - 1, by omega⟩ := by
  intro t _ hi _
  rw [live_10 t] at hi
  exact absurd hi Bool.false_ne_true

/-- Before a point of a run of points, window 10's buffer holds the running sum so far. -/
theorem before_10_B (c : Dev nD) (t : Fin cfg0.N) (h : conds0_B (grid0.coords t)) (d) :
    (dat m 0 c).before 10 t d = sum10 m c (t.val - 1) := by
  rw [Dat.before_out_traj _ 10 rfl (fun _ _ => rfl) (carry_10 m c) t.val t rfl d,
    if_neg (by rw [notFresh0_10_B t h.1 h.2.1 h.2.2.1 h.2.2.2.1 h.2.2.2.2]; exact Bool.false_ne_true)]
  dsimp only [dat]

/-- Before a point of a run of points, window 10's buffer holds the running sum so far. -/
theorem before_10_C (c : Dev nD) (t : Fin cfg0.N) (h : conds0_C (grid0.coords t)) (d) :
    (dat m 0 c).before 10 t d = sum10 m c (t.val - 1) := by
  rw [Dat.before_out_traj _ 10 rfl (fun _ _ => rfl) (carry_10 m c) t.val t rfl d,
    if_neg (by rw [notFresh0_10_C t h.1 h.2.1 h.2.2.1 h.2.2.2.1 h.2.2.2.2]; exact Bool.false_ne_true)]
  dsimp only [dat]

/-- What the body is called with at point `t`, -/
def callPre (c : Dev nD) (t : Fin cfg0.N) : sProp 𝕄 :=
  iprop((dat m 0 c).Φ t.castSucc ∗ (dat m 0 c).owesAt () t.castSucc
    ∗ (∃ d, owns (c : Thread nD τ) (ms0_0 t) fullShare ((dat m 0 c).before 0 t d))
    ∗ (∃ d, owns (c : Thread nD τ) (ms0_1 t) fullShare ((dat m 0 c).before 1 t d))
    ∗ (∃ d, owns (c : Thread nD τ) (ms0_2 t) fullShare ((dat m 0 c).before 2 t d))
    ∗ (∃ d, owns (c : Thread nD τ) (ms0_3 t) fullShare ((dat m 0 c).before 3 t d))
    ∗ (∃ d, owns (c : Thread nD τ) (ms0_4 t) fullShare ((dat m 0 c).before 4 t d))
    ∗ (∃ d, owns (c : Thread nD τ) (ms0_5 t) fullShare ((dat m 0 c).before 5 t d))
    ∗ (∃ d, owns (c : Thread nD τ) (ms0_6 t) fullShare ((dat m 0 c).before 6 t d))
    ∗ (∃ d, owns (c : Thread nD τ) (ms0_7 t) fullShare ((dat m 0 c).before 7 t d))
    ∗ (∃ d, owns (c : Thread nD τ) (ms0_8 t) fullShare ((dat m 0 c).before 8 t d))
    ∗ (∃ d, owns (c : Thread nD τ) (ms0_9 t) fullShare ((dat m 0 c).before 9 t d))
    ∗ (∃ d, owns (c : Thread nD τ) (ms0_10 t) fullShare ((dat m 0 c).before 10 t d)))

/-- and what it returns. -/
def callPost (c : Dev nD) (t : Fin cfg0.N) : sProp 𝕄 :=
  iprop((dat m 0 c).Φ t.succ ∗ (dat m 0 c).owesAt () t.succ
    ∗ (dat m 0 c).leavesExact 0 t
    ∗ (dat m 0 c).leavesExact 1 t
    ∗ (dat m 0 c).leavesExact 2 t
    ∗ (dat m 0 c).leavesExact 3 t
    ∗ (dat m 0 c).leavesExact 4 t
    ∗ (dat m 0 c).leavesExact 5 t
    ∗ (dat m 0 c).leavesExact 6 t
    ∗ (dat m 0 c).leavesExact 7 t
    ∗ (dat m 0 c).leavesExact 8 t
    ∗ (dat m 0 c).leavesExact 9 t
    ∗ (dat m 0 c).leavesExact 10 t)

theorem leaves_0 (c : Dev nD) (t : Fin cfg0.N) : (dat m 0 c).leavesExact 0 t = owns (c : Thread nD τ) (ms0_0 t) fullShare (iblk m c 0 t) := by
  unfold Dat.leavesExact; rw [liveAt0_0 t, after_0]
theorem leaves_1 (c : Dev nD) (t : Fin cfg0.N) : (dat m 0 c).leavesExact 1 t = owns (c : Thread nD τ) (ms0_1 t) fullShare (iblk m c 1 t) := by
  unfold Dat.leavesExact; rw [liveAt0_1 t, after_1]
theorem leaves_2 (c : Dev nD) (t : Fin cfg0.N) : (dat m 0 c).leavesExact 2 t = owns (c : Thread nD τ) (ms0_2 t) fullShare (iblk m c 2 t) := by
  unfold Dat.leavesExact; rw [liveAt0_2 t, after_2]
theorem leaves_3 (c : Dev nD) (t : Fin cfg0.N) : (dat m 0 c).leavesExact 3 t = owns (c : Thread nD τ) (ms0_3 t) fullShare (iblk m c 3 t) := by
  unfold Dat.leavesExact; rw [liveAt0_3 t, after_3]
theorem leaves_4 (c : Dev nD) (t : Fin cfg0.N) : (dat m 0 c).leavesExact 4 t = owns (c : Thread nD τ) (ms0_4 t) fullShare (tileH2 (iblk m c 0 t) (iblk m c 2 t) (iblk m c 3 t)) := by
  unfold Dat.leavesExact; rw [liveAt0_4 t, after_4]
theorem leaves_5 (c : Dev nD) (t : Fin cfg0.N) : (dat m 0 c).leavesExact 5 t = owns (c : Thread nD τ) (ms0_5 t) fullShare (tilePre (iblk m c 0 t) (iblk m c 2 t) (iblk m c 3 t) (W1 m c)) := by
  unfold Dat.leavesExact; rw [liveAt0_5 t, after_5]
theorem leaves_6 (c : Dev nD) (t : Fin cfg0.N) : (dat m 0 c).leavesExact 6 t = owns (c : Thread nD τ) (ms0_6 t) fullShare (tileSq (iblk m c 0 t) (iblk m c 2 t) (iblk m c 3 t) (W1 m c)) := by
  unfold Dat.leavesExact; rw [liveAt0_6 t, after_6]
theorem leaves_7 (c : Dev nD) (t : Fin cfg0.N) : (dat m 0 c).leavesExact 7 t = owns (c : Thread nD τ) (ms0_7 t) fullShare (tileDy (iblk m c 0 t) (iblk m c 1 t) (iblk m c 2 t) (iblk m c 3 t) (W1 m c) (W2 m c)) := by
  unfold Dat.leavesExact; rw [liveAt0_7 t, after_7]
theorem leaves_8 (c : Dev nD) (t : Fin cfg0.N) : (dat m 0 c).leavesExact 8 t = owns (c : Thread nD τ) (ms0_8 t) fullShare (tileDf (iblk m c 0 t) (iblk m c 1 t) (iblk m c 2 t) (iblk m c 3 t) (W1 m c) (W2 m c)) := by
  unfold Dat.leavesExact; rw [liveAt0_8 t, after_8]
theorem leaves_9 (c : Dev nD) (t : Fin cfg0.N) : (dat m 0 c).leavesExact 9 t = owns (c : Thread nD τ) (ms0_9 t) fullShare (sum9 m c t.val) := by
  unfold Dat.leavesExact; rw [live_9 t, after_9]
theorem leaves_10 (c : Dev nD) (t : Fin cfg0.N) : (dat m 0 c).leavesExact 10 t = owns (c : Thread nD τ) (ms0_10 t) fullShare (sum10 m c t.val) := by
  unfold Dat.leavesExact; rw [live_10 t, after_10]

end Cert.FwdFfn

end
-- ==== Proof.FwdFfn.BodyA.lean ====
/-
  The body at the first point.
-/
module

public import proofs.«01_k».proof.Proof.FwdFfn.State

@[expose] public section

set_option maxRecDepth 16384

noncomputable section

namespace Cert.FwdFfn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 6000000 in
/-- The body at the first point: from what the point before left it leaves what the state says. -/
theorem sound_A (c : Dev nD) (t : Fin cfg0.N) (h0 : t.val = 0) :
    callPre m c t ⊢ wp frame (wpE (defs₀ (F := F)) Variants.none c none) Set.univ (bodyAt0 t) (fun _ => callPost m c t) := by
  have h := caseA h0
  unfold callPre callPost bodyAt0
  simp only [before_0, before_1, before_2, before_3]
  rw [show (dat m 0 c).Φ t.succ = Inv m c (t.val + 1) from rfl, Inv_pos m c _ (Nat.succ_ne_zero _),
    show (dat m 0 c).Φ t.castSucc = Inv m c t.val from rfl]
  unfold Dat.owesAt Pipeline.owesWithin
  rw [show (dat m 0 c).owed t.castSucc = 0 from rfl, show (dat m 0 c).owed t.succ = 0 from rfl]
  rw [leaves_0, leaves_1, leaves_2, leaves_3, leaves_4, leaves_5, leaves_6, leaves_7, leaves_8, leaves_9, leaves_10]
  rw [Inv_zero m c _ h0, PhiD0_eq]
  rw [sum9_first m c _ (by omega), show sum10 m c t.val = sum10 m c 0 from by rw [h0]]
  unfold sum10
  rw [show pt 0 = t from by rw [← h0]; exact pt_val t, pt_val]
  iintro ⟨⟨⟨HS0, HS1⟩, Hg, ⟨Hq0, Hq1, Hq2, Hq3, Hq4⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runA m c t h).2.2.2.2.2.2.2.2.2 W _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [Hq0]; · iexact Hq0
  isplitl [Hq1]; · iexact Hq1
  isplitl [Hq2]; · iexact Hq2
  isplitl [Hq3]; · iexact Hq3
  isplitl [Hq4]; · iexact Hq4
  isplitl [Hh0]; · iexact Hh0
  isplitl [Hh1]; · iexact Hh1
  isplitl [HW]; · iexact HW
  iintro ⟨H0, H1, H2, H3, ⟨%e4, H4⟩, ⟨%e5, H5⟩, ⟨%e6, H6⟩, ⟨%e7, H7⟩, ⟨%e8, H8⟩, ⟨%e9, H9⟩, ⟨%e10, H10⟩, ⟨%es0, HS0⟩, ⟨%es1, HS1⟩, Hq0, Hq1, Hq2, Hq3, Hq4, Hh0, Hh1, ⟨%W', HW'⟩⟩
  isplitl [HS0 HS1 Hg Hq0 Hq1 Hq2 Hq3 Hq4 Hh0 Hh1]
  · isplitl [HS0 HS1]
    · isplitl [HS0]
      · unfold owns; iexists _; isplitr
        swap; · iexact HS0
        ipureintro; exact runA_s0 h _
      unfold owns; iexists _; isplitr
      swap; · iexact HS1
      ipureintro; exact runA_s1 h _
    isplitl [Hg]; · iexact Hg
    isplitl [Hq0 Hq1 Hq2 Hq3 Hq4]
    · isplitl [Hq0]; · iexact Hq0
      isplitl [Hq1]; · iexact Hq1
      isplitl [Hq2]; · iexact Hq2
      isplitl [Hq3]; · iexact Hq3
      iexact Hq4
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]
  · unfold owns; iexists _; isplitr
    swap; · iexact H4
    ipureintro; exact runA_4 h _
  isplitl [H5]
  · unfold owns; iexists _; isplitr
    swap; · iexact H5
    ipureintro; exact runA_5 h _
  isplitl [H6]
  · unfold owns; iexists _; isplitr
    swap; · iexact H6
    ipureintro; exact runA_6 h _
  isplitl [H7]
  · unfold owns; iexists _; isplitr
    swap; · iexact H7
    ipureintro; exact runA_7 h _
  isplitl [H8]
  · unfold owns; iexists _; isplitr
    swap; · iexact H8
    ipureintro; exact runA_8 h _
  isplitl [H9]
  · unfold owns; iexists _; isplitr
    swap; · iexact H9
    ipureintro; exact runA_9 h _
  unfold owns; iexists _; isplitr
  swap; · iexact H10
  ipureintro; exact runA_10 h _

end Cert.FwdFfn

end
-- ==== Proof.FwdFfn.BodyB.lean ====
/-
  The body at a point inside a sequence.
-/
module

public import proofs.«01_k».proof.Proof.FwdFfn.State

@[expose] public section

set_option maxRecDepth 16384

noncomputable section

namespace Cert.FwdFfn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 6000000 in
/-- The body at a point inside a sequence: from what the point before left it leaves what the state says. -/
theorem sound_B (c : Dev nD) (t : Fin cfg0.N) (h8 : t.val % 8 ≠ 0) :
    callPre m c t ⊢ wp frame (wpE (defs₀ (F := F)) Variants.none c none) Set.univ (bodyAt0 t) (fun _ => callPost m c t) := by
  have h := caseB h8
  unfold callPre callPost bodyAt0
  simp only [before_0, before_1, before_2, before_3]
  rw [show (dat m 0 c).Φ t.succ = Inv m c (t.val + 1) from rfl, Inv_pos m c _ (Nat.succ_ne_zero _),
    show (dat m 0 c).Φ t.castSucc = Inv m c t.val from rfl]
  unfold Dat.owesAt Pipeline.owesWithin
  rw [show (dat m 0 c).owed t.castSucc = 0 from rfl, show (dat m 0 c).owed t.succ = 0 from rfl]
  rw [leaves_0, leaves_1, leaves_2, leaves_3, leaves_4, leaves_5, leaves_6, leaves_7, leaves_8, leaves_9, leaves_10]
  rw [Inv_pos m c _ (by omega)]
  simp only [before_9_B m c t h, before_10_B m c t h]
  rw [sum9_next m c _ h8, sum10_next m c t.val (by omega), pt_val]
  iintro ⟨⟨⟨HS0, HS1⟩, Hg, ⟨Hq0, Hq1, Hq2, Hq3, Hq4⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runB m c t h (sum9 m c (t.val - 1)) (sum10 m c (t.val - 1)) (W1 m c) (W2 m c)).2.2.2.2.2.2.2.2.2 W _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexact H9
  isplitl [H10]; · iexact H10
  isplitl [HS0]; · iexact HS0
  isplitl [HS1]; · iexact HS1
  isplitl [Hq0]; · iexact Hq0
  isplitl [Hq1]; · iexact Hq1
  isplitl [Hq2]; · iexact Hq2
  isplitl [Hq3]; · iexact Hq3
  isplitl [Hq4]; · iexact Hq4
  isplitl [Hh0]; · iexact Hh0
  isplitl [Hh1]; · iexact Hh1
  isplitl [HW]; · iexact HW
  iintro ⟨H0, H1, H2, H3, ⟨%e4, H4⟩, ⟨%e5, H5⟩, ⟨%e6, H6⟩, ⟨%e7, H7⟩, ⟨%e8, H8⟩, ⟨%e9, H9⟩, ⟨%e10, H10⟩, HS0, HS1, Hq0, Hq1, Hq2, Hq3, Hq4, Hh0, Hh1, ⟨%W', HW'⟩⟩
  isplitl [HS0 HS1 Hg Hq0 Hq1 Hq2 Hq3 Hq4 Hh0 Hh1]
  · isplitl [HS0 HS1]
    · isplitl [HS0]
      · iexact HS0
      iexact HS1
    isplitl [Hg]; · iexact Hg
    isplitl [Hq0 Hq1 Hq2 Hq3 Hq4]
    · isplitl [Hq0]; · iexact Hq0
      isplitl [Hq1]; · iexact Hq1
      isplitl [Hq2]; · iexact Hq2
      isplitl [Hq3]; · iexact Hq3
      iexact Hq4
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]
  · unfold owns; iexists _; isplitr
    swap; · iexact H4
    ipureintro; exact runB_4 h _ _ _ _ _
  isplitl [H5]
  · unfold owns; iexists _; isplitr
    swap; · iexact H5
    ipureintro; exact runB_5 h _ _ _ _ _
  isplitl [H6]
  · unfold owns; iexists _; isplitr
    swap; · iexact H6
    ipureintro; exact runB_6 h _ _ _ _ _
  isplitl [H7]
  · unfold owns; iexists _; isplitr
    swap; · iexact H7
    ipureintro; exact runB_7 h _ _ _ _ _
  isplitl [H8]
  · unfold owns; iexists _; isplitr
    swap; · iexact H8
    ipureintro; exact runB_8 h _ _ _ _ _
  isplitl [H9]
  · unfold owns; iexists _; isplitr
    swap; · iexact H9
    ipureintro; exact runB_9 h _ _ _ _ _
  unfold owns; iexists _; isplitr
  swap; · iexact H10
  ipureintro; exact runB_10 h _ _ _ _ _

end Cert.FwdFfn

end
-- ==== Proof.FwdFfn.BodyC.lean ====
/-
  The body at the first point of a later sequence.
-/
module

public import proofs.«01_k».proof.Proof.FwdFfn.State

@[expose] public section

set_option maxRecDepth 16384

noncomputable section

namespace Cert.FwdFfn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 6000000 in
/-- The body at the first point of a later sequence: from what the point before left it leaves what the state says. -/
theorem sound_C (c : Dev nD) (t : Fin cfg0.N) (h8 : t.val % 8 = 0) (h0 : t.val ≠ 0) :
    callPre m c t ⊢ wp frame (wpE (defs₀ (F := F)) Variants.none c none) Set.univ (bodyAt0 t) (fun _ => callPost m c t) := by
  have h := caseC h8 h0
  unfold callPre callPost bodyAt0
  simp only [before_0, before_1, before_2, before_3]
  rw [show (dat m 0 c).Φ t.succ = Inv m c (t.val + 1) from rfl, Inv_pos m c _ (Nat.succ_ne_zero _),
    show (dat m 0 c).Φ t.castSucc = Inv m c t.val from rfl]
  unfold Dat.owesAt Pipeline.owesWithin
  rw [show (dat m 0 c).owed t.castSucc = 0 from rfl, show (dat m 0 c).owed t.succ = 0 from rfl]
  rw [leaves_0, leaves_1, leaves_2, leaves_3, leaves_4, leaves_5, leaves_6, leaves_7, leaves_8, leaves_9, leaves_10]
  rw [Inv_pos m c _ h0]
  simp only [before_10_C m c t h]
  rw [sum9_first m c _ h8, sum10_next m c t.val h0, pt_val]
  iintro ⟨⟨⟨HS0, HS1⟩, Hg, ⟨Hq0, Hq1, Hq2, Hq3, Hq4⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runC m c t h (sum10 m c (t.val - 1)) (W1 m c) (W2 m c)).2.2.2.2.2.2.2.2.2 W _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexact H10
  isplitl [HS0]; · iexact HS0
  isplitl [HS1]; · iexact HS1
  isplitl [Hq0]; · iexact Hq0
  isplitl [Hq1]; · iexact Hq1
  isplitl [Hq2]; · iexact Hq2
  isplitl [Hq3]; · iexact Hq3
  isplitl [Hq4]; · iexact Hq4
  isplitl [Hh0]; · iexact Hh0
  isplitl [Hh1]; · iexact Hh1
  isplitl [HW]; · iexact HW
  iintro ⟨H0, H1, H2, H3, ⟨%e4, H4⟩, ⟨%e5, H5⟩, ⟨%e6, H6⟩, ⟨%e7, H7⟩, ⟨%e8, H8⟩, ⟨%e9, H9⟩, ⟨%e10, H10⟩, HS0, HS1, Hq0, Hq1, Hq2, Hq3, Hq4, Hh0, Hh1, ⟨%W', HW'⟩⟩
  isplitl [HS0 HS1 Hg Hq0 Hq1 Hq2 Hq3 Hq4 Hh0 Hh1]
  · isplitl [HS0 HS1]
    · isplitl [HS0]
      · iexact HS0
      iexact HS1
    isplitl [Hg]; · iexact Hg
    isplitl [Hq0 Hq1 Hq2 Hq3 Hq4]
    · isplitl [Hq0]; · iexact Hq0
      isplitl [Hq1]; · iexact Hq1
      isplitl [Hq2]; · iexact Hq2
      isplitl [Hq3]; · iexact Hq3
      iexact Hq4
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]
  · unfold owns; iexists _; isplitr
    swap; · iexact H4
    ipureintro; exact runC_4 h _ _ _ _
  isplitl [H5]
  · unfold owns; iexists _; isplitr
    swap; · iexact H5
    ipureintro; exact runC_5 h _ _ _ _
  isplitl [H6]
  · unfold owns; iexists _; isplitr
    swap; · iexact H6
    ipureintro; exact runC_6 h _ _ _ _
  isplitl [H7]
  · unfold owns; iexists _; isplitr
    swap; · iexact H7
    ipureintro; exact runC_7 h _ _ _ _
  isplitl [H8]
  · unfold owns; iexists _; isplitr
    swap; · iexact H8
    ipureintro; exact runC_8 h _ _ _ _
  isplitl [H9]
  · unfold owns; iexists _; isplitr
    swap; · iexact H9
    ipureintro; exact runC_9 h _ _ _ _
  unfold owns; iexists _; isplitr
  swap; · iexact H10
  ipureintro; exact runC_10 h _ _ _ _

end Cert.FwdFfn

end
-- ==== Proof.FwdFfn.Run.lean ====
/-
  The launch: the body's obligation at every point, the run and the frame.
-/
module

public import proofs.«01_k».proof.Proof.FwdFfn.BodyA
public import proofs.«01_k».proof.Proof.FwdFfn.BodyB
public import proofs.«01_k».proof.Proof.FwdFfn.BodyC

@[expose] public section

set_option maxRecDepth 16384

noncomputable section

namespace Cert.FwdFfn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (Pipeline.UD sig nD τ) ℕ

variable (m : (ℓ : Loc nD τ sig) → Buf (Elt F) ℓ)

variable (ρ : Dev nD → PrngReg)

/-- The body at any point. -/
theorem sound (c : Dev nD) (t : Fin cfg0.N) :
    callPre m c t ⊢ wp frame (wpE (defs₀ (F := F)) Variants.none c none) Set.univ (bodyAt0 t) (fun _ => callPost m c t) := by
  by_cases h8 : t.val % 8 = 0
  · by_cases h0 : t.val = 0
    · exact sound_A m c t h0
    · exact sound_C m c t h8 h0
  · exact sound_B m c t h8

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dat (F := F) m 0 c) (defs₀ (F := F)) Variants.none () Set.univ := fun t => by
  rw [bigSep_W0, bigSep_W0, body_row]
  exact triple_restated (sound m c t) rfl .rfl fun _ => .rfl

/-- What the launch hands over is what is held before the first point. -/
theorem enter (c : Dev nD) : Pipeline.ΦD osem0 spec0 H0 (V m) c ⊢ (dat m 0 c).Φ 0 := by
  rw [show (dat m 0 c).Φ 0 = Inv m c 0 from rfl, Inv_zero m c 0 rfl]

/-- After the last point the scratch's contents are forgotten. -/
theorem leave (c : Dev nD) : (dat m 0 c).Φ (Fin.last cfg0.N) ⊢ Pipeline.ΦD osem0 spec0 H0 (V m) c := by
  rw [show (dat m 0 c).Φ (Fin.last cfg0.N) = Inv m c cfg0.N from rfl,
    Inv_pos m c _ (by have : cfg0.N = 32 := N_0; omega), PhiD0_eq]
  iintro ⟨⟨HS0, HS1⟩, Hg, ⟨Hq0, Hq1, Hq2, Hq3, Hq4⟩, ⟨Hh0, Hh1⟩⟩
  isplitl [HS0 HS1]
  · isplitl [HS0]
    · iexists _; iexact HS0
    iexists _; iexact HS1
  isplitl [Hg]; · iexact Hg
  isplitl [Hq0 Hq1 Hq2 Hq3 Hq4]
  · isplitl [Hq0]; · iexact Hq0
    isplitl [Hq1]; · iexact Hq1
    isplitl [Hq2]; · iexact Hq2
    isplitl [Hq3]; · iexact Hq3
    iexact Hq4
  isplitl [Hh0]; · iexact Hh0
  iexact Hh1

set_option backward.isDefEq.respectTransparency.types false in
/-- The launch ends with every array at what the points wrote back and every counter at zero. -/
theorem run_quiet : θ_run defs (onTc (τ := τ) (main (F := F))) (s₀ m ρ) (fun r => (Pipeline.FramePost cfgs (dat m) 0 (V m)) r ∧ r.2.sem = fun _ => 0) :=
  Pipeline.θ_run_frame_dma (Q' := _) cfgs (dat m) (0 : Fin 1) launch0 osem0 defs₀ Variants.none ownSemFacts0 H0 H0_sub m ρ main
    (hbody := fun c => (obligation m c).loose) (hshare := fun c => (dat m 0 c).share_full fun _ => rfl)
    (howed := fun _ _ => rfl) (V := V m) (hmain := hmain m Variants.none) (hA := dat_A m)
    (hin := enter m) (hout := leave m)

/-- The launch ends with every array at what the points wrote back. -/
theorem run_post : θ_run defs (onTc (τ := τ) (main (F := F))) (s₀ m ρ) (Pipeline.FramePost cfgs (dat m) 0 (V m)) :=
  (θ_run defs _ _).mono (fun _ h => h.1) (run_quiet m ρ)

/-- The arguments end unchanged and every counter at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dat m) (dat_A m) (run_post m ρ)) ((θ_run defs _ _).mono (fun _ h => h.2) (run_quiet m ρ))

end Cert.FwdFfn

end
-- ==== Proof.BwdFfn.Algebra.lean ====
/-
  The extended-real algebra of the sub-layer's backward pass: what the sums over one row of the residual stream are
  worth when the row is finite and when it is not, and the two forms of the gradient through the RMS normalisation.
-/
module

public import Idealize.ShloMosaic.PureOps.Ideal
public import Idealize.ShloMosaic.PureOps.Ideal.Laws
public import Mathlib.Data.EReal.Operations
public import Mathlib.Data.EReal.Inv

@[expose] public section

noncomputable section

namespace Cert.RowAlgebra

open Idealize.ShloMosaic

/-- A nonnegative real times a sum of extended reals is the sum of the products. -/
theorem coe_mul_add {c : ℝ} (hc : 0 ≤ c) (x y : EReal) : (c : EReal) * (x + y) = c * x + c * y :=
  EReal.left_distrib_of_nonneg_of_ne_top (by exact_mod_cast hc) (EReal.coe_ne_top c) x y

/-- A nonnegative real factor leaves a finite sum of extended reals. -/
theorem sum_mul_coe {ι : Type*} (s : Finset ι) (f : ι → EReal) {c : ℝ} (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih, mul_comm (f a + _), coe_mul_add hc, mul_comm (f a),
      mul_comm (c : EReal) (∑ i ∈ s, f i)]

/-- A finite sum of nonnegative extended reals one of which is `⊤` is `⊤`. -/
theorem sum_eq_top {ι : Type*} (s : Finset ι) (f : ι → EReal) (h0 : ∀ i, 0 ≤ f i) {a : ι} (ha : a ∈ s) (hf : f a = ⊤) :
    ∑ i ∈ s, f i = ⊤ := by
  classical
  rw [← Finset.add_sum_erase s f ha, hf]
  apply EReal.top_add_of_ne_bot
  exact ne_of_gt (lt_of_lt_of_le EReal.bot_lt_zero (Finset.sum_nonneg fun i _ => h0 i))

theorem mul_self_nonneg' (x : EReal) : 0 ≤ x * x := by
  induction x with
  | bot => simp
  | top => simp
  | coe r => exact_mod_cast mul_self_nonneg r

/-- The row's `rsqrt` factor: it is `0` with an infinite mean square, or every entry of the row is real and the factor
    is `1/√s` of the (positive, real) shifted mean square `s`. -/
theorem row_cases {n : ℕ} (x : Fin n → EReal) {k ε : ℝ} (hk : 0 < k) (hε : 0 < ε) :
    (Ideal.div (∑ j, x j * x j) (k : EReal) + (ε : EReal) = ⊤) ∨
      ∃ (y : Fin n → ℝ) (s : ℝ), 0 < s ∧ (∀ j, x j = (y j : EReal)) ∧
        Ideal.div (∑ j, x j * x j) (k : EReal) + (ε : EReal) = (s : EReal) := by
  by_cases h : ∃ a, x a = ⊤ ∨ x a = ⊥
  · left
    obtain ⟨a, ha⟩ := h
    have haa : x a * x a = ⊤ := by rcases ha with ha | ha <;> simp [ha]
    rw [sum_eq_top Finset.univ (fun j => x j * x j) (fun j => mul_self_nonneg' _) (Finset.mem_univ a) haa,
      Ideal.div_coe hk.ne', EReal.top_mul_coe_of_pos (by positivity)]
    exact EReal.top_add_of_ne_bot (EReal.coe_ne_bot _)
  · right
    have hx : ∀ j, ∃ r : ℝ, x j = (r : EReal) := by
      intro j
      have hj := not_exists.mp h j
      exact ⟨(x j).toReal, (EReal.coe_toReal (fun e => hj (Or.inl e)) (fun e => hj (Or.inr e))).symm⟩
    choose y hy using hx
    refine ⟨y, (∑ j, y j * y j) * (1 / k) + ε, ?_, hy, ?_⟩
    · have : 0 ≤ (∑ j, y j * y j) * (1 / k) := mul_nonneg (Finset.sum_nonneg fun j _ => mul_self_nonneg _) (by positivity)
      linarith
    · rw [Ideal.div_coe hk.ne', EReal.coe_add, EReal.coe_mul]
      congr 2
      simp only [hy, ← EReal.coe_mul]
      induction (Finset.univ : Finset (Fin n)) using Finset.induction_on with
      | empty => simp
      | insert a s ha ih => rw [Finset.sum_insert ha, Finset.sum_insert ha, ih, EReal.coe_add]

/-- The gradient through the normalisation of one row, in the kernel's form and in the form differentiation gives: with
    `r` the row's `rsqrt` factor, `v` the cotangent of the normalised row and `dy` the residual's own cotangent. -/
theorem rms_grad {n : ℕ} (x v : Fin n → EReal) (dy : EReal) (d : Fin n) {k ε : ℝ} (hk : 0 < k) (hε : 0 < ε)
    (q r : EReal) (hq : q = Ideal.div (∑ j, x j * x j) (k : EReal) + (ε : EReal)) (hr : r = Ideal.rsqrt q)
    {two mhalf : EReal} (h2 : two = ((2 : ℝ) : EReal)) (hm : mhalf = ((-(1/2) : ℝ) : EReal)) :
    dy + r * (v d - x d * r * Ideal.div (∑ j, v j * (x j * r)) (k : EReal))
      = dy + v d * r + Ideal.div ((∑ j, x j * v j) * (mhalf * Ideal.div r q)) (k : EReal) * (two * x d) := by
  rcases row_cases x hk hε with h | ⟨y, s, hs, hy, h⟩
  · have hr0 : r = 0 := by rw [hr, hq, h]; rfl
    have hd : Ideal.div (0 : EReal) q = 0 := by rw [hq, h]; simp [Ideal.div]
    rw [hr0, hd]
    simp [Ideal.div_coe hk.ne']
  · have hrr : r = (((Real.sqrt s)⁻¹ : ℝ) : EReal) := by
      rw [hr, hq, h, Ideal.rsqrt_coe, if_neg (not_lt.mpr hs.le), if_neg hs.ne']
    have hqs : q = (s : EReal) := hq.trans h
    have hsq : 0 < Real.sqrt s := Real.sqrt_pos.mpr hs
    generalize hρ : (Real.sqrt s)⁻¹ = ρ at hrr
    have hρ0 : 0 ≤ ρ := by rw [← hρ]; positivity
    have hρ2 : ρ * ρ = 1 / s := by
      rw [← hρ, ← mul_inv, Real.mul_self_sqrt hs.le, one_div]
    have e1 : ∑ j, v j * (x j * r) = (∑ j, x j * v j) * (ρ : EReal) := by
      rw [← sum_mul_coe _ _ hρ0]
      exact Finset.sum_congr rfl fun j _ => by rw [hrr, ← mul_assoc, mul_comm (v j)]
    rw [e1]
    generalize (∑ j, x j * v j) = T
    rw [hy d, hrr, hqs, h2, hm]
    rw [Ideal.div_coe hk.ne', Ideal.div_coe hk.ne', Ideal.div_coe hs.ne']
    rw [sub_eq_add_neg, coe_mul_add hρ0, ← add_assoc, mul_comm (ρ : EReal) (v d)]
    congr 1
    have a1 : (ρ : EReal) * -(((y d : ℝ) : EReal) * (ρ : EReal) * (T * (ρ : EReal) * ((1 / k : ℝ) : EReal)))
        = T * ((-(y d * ρ * ρ * ρ * (1 / k)) : ℝ) : EReal) := by
      rw [mul_neg, EReal.coe_neg, mul_neg]
      congr 1
      push_cast
      ac_rfl
    have a2 : T * (((-(1 / 2) : ℝ) : EReal) * ((ρ : EReal) * ((1 / s : ℝ) : EReal))) * ((1 / k : ℝ) : EReal)
          * (((2 : ℝ) : EReal) * ((y d : ℝ) : EReal))
        = T * ((-(y d * ρ * ρ * ρ * (1 / k)) : ℝ) : EReal) := by
      have : (-(y d * ρ * ρ * ρ * (1 / k)) : ℝ) = (-(1/2)) * (ρ * (1 / s)) * (1 / k) * (2 * y d) := by
        rw [← hρ2]; ring
      rw [this]
      simp only [EReal.coe_mul]
      ac_rfl
    rw [a1, a2]

end Cert.RowAlgebra

end
-- ==== Proof.FwdFfn.Tile.lean ====
/-
  What the feed-forward sub-layer computes for one block of 256 rows of one sequence, against the reference's own
  intermediate arrays at those rows: the modulated row, the pre-activation, the activation, the sub-layer's output, the
  error, its cotangents, and the block's part of the gate's cotangent and of the loss.
-/
module

public import proofs.«01_k».proof.Proof.Gen.Kernel4Ideal.Skeleton
public import proofs.«01_k».proof.Proof.Gen.Reference4Ideal.Read
public import proofs.«01_k».proof.Proof.BwdFfn.Algebra
public import Idealize.ShloMosaic.Lib.Pointwise
public import Idealize.ShloMosaic.Lib.ValueIdx

@[expose] public section

noncomputable section

namespace Cert.FwdFfn

open Idealize.ShloMosaic Cert.Kernel4Ideal Cert.Kernel4Ideal.Gen
open Cert.Reference4Ideal.Read

/-- The six arguments, as arrays of extended reals. -/
structure Args where
  x : (⟨S4x2048x1024, .f32⟩ : BufTy).Contents (Elt Ideal)
  tg : (⟨S4x2048x1024, .f32⟩ : BufTy).Contents (Elt Ideal)
  mod : (⟨S4x6144, .f32⟩ : BufTy).Contents (Elt Ideal)
  g : (⟨S1x1024, .f32⟩ : BufTy).Contents (Elt Ideal)
  w1 : (⟨S1x1024x4096, .f32⟩ : BufTy).Contents (Elt Ideal)
  w2 : (⟨S1x4096x1024, .f32⟩ : BufTy).Contents (Elt Ideal)

namespace Args

variable (A : Args)

/-- The modulated, normed row. -/
abbrev h2 := val_main_v26 (F := Ideal) A.x A.mod A.g
/-- The pre-activation. -/
abbrev a := val_main_v28 (F := Ideal) A.x A.mod A.g A.w1
/-- The squared positive part. -/
abbrev r := val_main_v30 (F := Ideal) A.x A.mod A.g A.w1
/-- The second layer's output. -/
abbrev f := val_main_v32 (F := Ideal) A.x A.mod A.g A.w1 A.w2
/-- The sub-layer's output less the target. -/
abbrev e := val_main_v36 (F := Ideal) A.x A.tg A.mod A.g A.w1 A.w2
/-- The output's cotangent. -/
abbrev dy := val_main_v50 (F := Ideal) A.x A.tg A.mod A.g A.w1 A.w2
/-- The second layer's output's cotangent. -/
abbrev df := val_main_v52 (F := Ideal) A.x A.tg A.mod A.g A.w1 A.w2
/-- The gate's cotangent before the sum over the sequence. -/
abbrev dgate := val_main_v53 (F := Ideal) A.x A.tg A.mod A.g A.w1 A.w2
/-- The mean squared error of a row. -/
abbrev ms := val_main_v42 (F := Ideal) A.x A.tg A.mod A.g A.w1 A.w2
/-- The gate of a sequence. -/
abbrev gate := val_main_v6 (F := Ideal) A.mod
/-- The two weights. -/
abbrev m1 := val_main_v27 (F := Ideal) A.w1
abbrev m2 := val_main_v31 (F := Ideal) A.w2

theorem h2_apply (b : Fin 4) (s : Fin 2048) (d : Fin 1024) : A.h2 (ix3 b s d)
    = A.x (ix3 b s d) * Ideal.rsqrt (Ideal.div (∑ k, A.x (ix3 b s k) * A.x (ix3 b s k)) (Ideal.ofBits FTy.f32 0x44800000#32) + Ideal.ofBits FTy.f32 0x358637BD#32)
        * A.g (ix2 0 d) * (Ideal.ofBits FTy.f32 0x3F800000#32 + val_main_v5 (F := Ideal) A.mod (ix3 b 0 d)) + val_main_v4 (F := Ideal) A.mod (ix3 b 0 d) := by
  unfold h2
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_cst, val_main_cst_0, val_main_cst_1, val_main_cst_2]

theorem a_apply (b : Fin 4) (s : Fin 2048) (f : Fin 4096) : A.a (ix3 b s f) = ∑ k, A.h2 (ix3 b s k) * A.m1 (ix2 k f) := by
  unfold a
  pointwise [Reference4Ideal.dot_S4x2048x1024_S1024x4096_S4x2048x4096_2_0_01_1_n_n, val_main_v28]

theorem r_apply (b : Fin 4) (s : Fin 2048) (f : Fin 4096) : A.r (ix3 b s f) = max (A.a (ix3 b s f)) 0 * max (A.a (ix3 b s f)) 0 := by
  unfold r
  pointwise [val_main_v30, val_main_v29, val_main_call0_v0, val_main_call0_cst]

theorem f_apply (b : Fin 4) (s : Fin 2048) (d : Fin 1024) : A.f (ix3 b s d) = ∑ k, A.r (ix3 b s k) * A.m2 (ix2 k d) := by
  unfold f
  pointwise [Reference4Ideal.dot_S4x2048x4096_S4096x1024_S4x2048x1024_2_0_01_1_n_n, val_main_v32]

theorem e_apply (b : Fin 4) (s : Fin 2048) (d : Fin 1024) : A.e (ix3 b s d)
    = A.x (ix3 b s d) + A.gate (ix3 b 0 d) * A.f (ix3 b s d) - A.tg (ix3 b s d) := by
  unfold e
  pointwise [val_main_v36, val_main_v35, val_main_v34, val_main_v33]

/-- The cotangent of the mean: half of two is one. -/
theorem dy_apply (b : Fin 4) (s : Fin 2048) (d : Fin 1024) : A.dy (ix3 b s d) = A.e (ix3 b s d) * Ideal.ofBits FTy.f32 0x3A800000#32 := by
  have hk : Ideal.ofBits FTy.f32 0x44800000#32 = ((1024 : ℝ) : EReal) := by
    simp [Ideal.ofBits, Ideal.ieee]; rw [← EReal.coe_mul]; norm_num
  have h2 : Ideal.ofBits FTy.f32 0x40000000#32 = ((2 : ℝ) : EReal) := by
    simp [Ideal.ofBits, Ideal.ieee]; rw [← EReal.coe_mul]; norm_num
  have hh : Ideal.ofBits FTy.f32 0x3F000000#32 = ((1 / 2 : ℝ) : EReal) := by
    simp [Ideal.ofBits, Ideal.ieee]; rw [← EReal.coe_mul]; norm_num
  have h1 : Ideal.ofBits FTy.f32 0x3F800000#32 = ((1 : ℝ) : EReal) := by
    simp [Ideal.ofBits, Ideal.ieee]; rw [← EReal.coe_mul]; norm_num
  have hi : Ideal.ofBits FTy.f32 0x3A800000#32 = ((1 / 1024 : ℝ) : EReal) := by
    simp [Ideal.ofBits, Ideal.ieee]; rw [← EReal.coe_mul]; norm_num
  have hd : Ideal.div (((1 / 2 : ℝ) : EReal) * ((1 : ℝ) : EReal)) ((1024 : ℝ) : EReal) * ((2 : ℝ) : EReal) = ((1 / 1024 : ℝ) : EReal) := by
    rw [← EReal.coe_mul, Ideal.div_coe (by norm_num), ← EReal.coe_mul, ← EReal.coe_mul]
    norm_num
  have h : A.dy (ix3 b s d) = Ideal.div (Ideal.ofBits FTy.f32 0x3F000000#32 * Ideal.ofBits FTy.f32 0x3F800000#32) (Ideal.ofBits FTy.f32 0x44800000#32)
      * (Ideal.ofBits FTy.f32 0x40000000#32 * A.e (ix3 b s d)) := by
    unfold dy e
    pointwise [val_main_v50, val_main_v49, val_main_v48, val_main_v47, val_main_v46, val_main_v45, val_main_v39, val_main_v38, val_main_cst_3, val_main_cst_8, val_main_cst_9, val_main_cst_10]
  rw [h, hk, h2, hh, h1, hi, ← mul_assoc, hd]
  exact mul_comm (G := EReal) _ _

theorem df_apply (b : Fin 4) (s : Fin 2048) (d : Fin 1024) : A.df (ix3 b s d) = A.gate (ix3 b 0 d) * A.dy (ix3 b s d) := by
  unfold df
  pointwise [val_main_v52, val_main_v51]

theorem dgate_apply (b : Fin 4) (s : Fin 2048) (d : Fin 1024) : A.dgate (ix3 b s d) = A.dy (ix3 b s d) * A.f (ix3 b s d) := by
  unfold dgate
  pointwise [val_main_v53]

theorem ms_apply (b : Fin 4) (s : Fin 2048) : A.ms (ix2 b s)
    = Ideal.div (∑ k, A.e (ix3 b s k) * A.e (ix3 b s k)) (Ideal.ofBits FTy.f32 0x44800000#32) := by
  unfold ms e
  pointwise [val_main_v42, val_main_v41, val_main_v40, val_main_v37, val_main_cst_4, val_main_cst_5]

end Args

/-- One block of 256 rows of sequence `b` as the kernel holds it: the residual row, the target, the norm's weight, the
    scale, shift and gate rows, and the two weights. -/
structure TileAt (A : Args) (b : Fin 4) (ρ : Fin 256 → Fin 2048)
    (x tg : Vec Ideal S256x1024 .f32) (g : Vec Ideal S1x1024 .f32) (sc sh gt : Vec Ideal S1x1x1024 .f32)
    (w1 : Vec Ideal S1024x4096 .bf16) (w2 : Vec Ideal S4096x1024 .bf16) : Prop where
  x : ∀ p d, x (ix2 p d) = A.x (ix3 b (ρ p) d)
  tg : ∀ p d, tg (ix2 p d) = A.tg (ix3 b (ρ p) d)
  g : ∀ d, g (ix2 0 d) = A.g (ix2 0 d)
  sc : ∀ d, sc (ix3 0 0 d) = val_main_v5 (F := Ideal) A.mod (ix3 b 0 d)
  sh : ∀ d, sh (ix3 0 0 d) = val_main_v4 (F := Ideal) A.mod (ix3 b 0 d)
  gt : ∀ d, gt (ix3 0 0 d) = A.gate (ix3 b 0 d)
  w1 : ∀ d f, w1 (ix2 d f) = A.m1 (ix2 d f)
  w2 : ∀ f d, w2 (ix2 f d) = A.m2 (ix2 f d)

/-- A block's error. -/
abbrev err (x tg : Vec Ideal S256x1024 .f32) (g : Vec Ideal S1x1024 .f32) (sc sh gt : Vec Ideal S1x1x1024 .f32)
    (w1 : Vec Ideal S1024x4096 .bf16) (w2 : Vec Ideal S4096x1024 .bf16) : FVec Ideal S256x1024 .f32 :=
  k0_pay12 (k0_pay6 x) (k0_pay7 gt) (k0_pay8 x g sc sh) w1 w2 tg

namespace TileAt

variable {A : Args} {b : Fin 4} {ρ : Fin 256 → Fin 2048}
  {x tg : Vec Ideal S256x1024 .f32} {g : Vec Ideal S1x1024 .f32} {sc sh gt : Vec Ideal S1x1x1024 .f32}
  {w1 : Vec Ideal S1024x4096 .bf16} {w2 : Vec Ideal S4096x1024 .bf16}
  (T : TileAt A b ρ x tg g sc sh gt w1 w2)

include T

theorem h2 (p : Fin 256) (d : Fin 1024) : k0_pay8 x g sc sh (ix2 p d) = A.h2 (ix3 b (ρ p) d) := by
  rw [Args.h2_apply]
  pointwise [k0_pay8, k0_pay6, shapeCast_self, T.x, T.g, T.sc, T.sh]

theorem a (p : Fin 256) (f : Fin 4096) : k0_pay9 (k0_pay8 x g sc sh) w1 (ix2 p f) = A.a (ix3 b (ρ p) f) := by
  rw [Args.a_apply]
  pointwise [k0_pay9, dot_S256x1024_S1024x4096_S256x4096_1_0_0_1_n_n, T.h2, T.w1]

theorem r (p : Fin 256) (f : Fin 4096) : k0_pay10 (k0_pay8 x g sc sh) w1 (ix2 p f) = A.r (ix3 b (ρ p) f) := by
  rw [Args.r_apply]
  pointwise [k0_pay10, T.a]

theorem f (p : Fin 256) (d : Fin 1024) : k0_pay11 (k0_pay8 x g sc sh) w1 w2 (ix2 p d) = A.f (ix3 b (ρ p) d) := by
  rw [Args.f_apply]
  pointwise [k0_pay11, dot_S256x4096_S4096x1024_S256x1024_1_0_0_1_n_n, T.r, T.w2]

theorem e (p : Fin 256) (d : Fin 1024) : err x tg g sc sh gt w1 w2 (ix2 p d) = A.e (ix3 b (ρ p) d) := by
  rw [Args.e_apply]
  unfold err
  pointwise [k0_pay12, k0_pay6, k0_pay7, shapeCast_self, T.x, T.gt, T.f, T.tg]

theorem dy (p : Fin 256) (d : Fin 1024) : k0_pay1 (err x tg g sc sh gt w1 w2) k0_pay15 (ix2 p d) = A.dy (ix3 b (ρ p) d) := by
  rw [Args.dy_apply, ← T.e]
  pointwise [k0_pay1, k0_pay15]

theorem df (p : Fin 256) (d : Fin 1024) : k0_pay2 (k0_pay7 gt) (err x tg g sc sh gt w1 w2) k0_pay15 (ix2 p d) = A.df (ix3 b (ρ p) d) := by
  rw [Args.df_apply, mul_comm]
  pointwise [k0_pay2, k0_pay7, T.dy, T.gt]

theorem dgate (d : Fin 1024) : k0_pay3 (k0_pay11 (k0_pay8 x g sc sh) w1 w2) (err x tg g sc sh gt w1 w2) k0_pay15 (ix2 0 d)
    = ∑ p, A.dgate (ix3 b (ρ p) d) := by
  simp only [Args.dgate_apply]
  pointwise [k0_pay3, T.dy, T.f]

theorem loss (i : Fin 8) (j : Fin 128) : k0_pay13 (k0_pay6 x) (k0_pay7 gt) (k0_pay8 x g sc sh) w1 w2 tg (ix2 i j)
    = Ideal.ofBits FTy.f32 0x3F000000#32 * ∑ p, A.ms (ix2 b (ρ p)) := by
  simp only [Args.ms_apply]
  have he := T.e
  unfold err at he
  pointwise [k0_pay13, shapeCast_self, he]

end TileAt

end Cert.FwdFfn

end
-- ==== Proof.FwdFfn.Host.lean ====
/-
  What the kernel's operands hold when the launch starts: the residual rows, the target's rows, the modulation and the two
  weight matrices, each as an argument laid out in rows.
-/
module

public import proofs.«01_k».proof.Proof.FwdFfn.Run
public import proofs.«01_k».proof.Proof.FwdFfn.Tile

@[expose] public section

set_option maxRecDepth 16384

noncomputable section

namespace Cert.FwdFfn

open Idealize.ShloMosaic Idealize.ShloMosaic.TcCoe Idealize.ShloMosaic.Tactic Cert.Kernel4Ideal Cert.Kernel4Ideal.Gen
open Cert.Reference4Ideal.Read

variable (m : (ℓ : Loc nD τ sig) → Buf (Elt Ideal) ℓ) (c : Dev nD)

/-- The six arguments as the launch finds them. -/
def args : Args where
  x := m ((c : Thread nD τ).loc main_arg0)
  tg := m ((c : Thread nD τ).loc main_arg1)
  mod := m ((c : Thread nD τ).loc main_arg2)
  g := m ((c : Thread nD τ).loc main_arg3)
  w1 := m ((c : Thread nD τ).loc main_arg4)
  w2 := m ((c : Thread nD τ).loc main_arg5)

theorem entry_g : (V m c main_arg3 : Vec Ideal S1x1024 .f32) = (args m c).g := V_main_arg3 m c

theorem entry_x : (V m c main_v6 : Vec Ideal S8192x1024 .f32)
    = shapeCast S8192x1024 (args m c).x shapeCasts_S4x2048x1024_S8192x1024 := by
  entry_read
  rfl

theorem entry_tg : (V m c main_v7 : Vec Ideal S8192x1024 .f32)
    = shapeCast S8192x1024 (args m c).tg shapeCasts_S4x2048x1024_S8192x1024 := by
  entry_read
  rfl

theorem entry_mod : (V m c main_v8 : Vec Ideal S4x6x1024 .f32)
    = shapeCast S4x6x1024 (args m c).mod shapeCasts_S4x6144_S4x6x1024 := by
  entry_read
  rfl

theorem entry_w2 : (V m c main_v5 : Vec Ideal S4096x1024 .bf16)
    = truncf (F := Ideal) .bf16 (val_main_v31 (F := Ideal) (args m c).w2) bitsLt_bf16_f32 := by
  entry_read
  rfl

theorem entry_w1 : (V m c main_v3 : Vec Ideal S4x1024x1024 .bf16)
    = transpose S4x1024x1024 [1, 0, 2] (shapeCast S1024x4x1024 (truncf (F := Ideal) .bf16 (val_main_v27 (F := Ideal) (args m c).w1) bitsLt_bf16_f32)
        shapeCasts_S1024x4096_S1024x4x1024) transposes_S1024x4x1024_S4x1024x1024_1_0_2 := by
  entry_read
  rfl

end Cert.FwdFfn

end
-- ==== Proof.FwdFfn.Blocks.lean ====
/-
  Each grid point's blocks as the reference's own intermediate arrays: point `t` works on sequence `t / 8`, rows
  `256 * (t % 8)` and up.
-/
module

public import proofs.«01_k».proof.Proof.FwdFfn.Host

@[expose] public section

set_option maxRecDepth 16384

noncomputable section

namespace Cert.FwdFfn

open Idealize.ShloMosaic Idealize.ShloMosaic.TcCoe Idealize.ShloMosaic.Tactic Cert.Kernel4Ideal Cert.Kernel4Ideal.Gen
open Cert.Reference4Ideal.Read

variable (m : (ℓ : Loc nD τ sig) → Buf (Elt Ideal) ℓ) (c : Dev nD) (t : Fin cfg0.N)

theorem pt_lt (t : Fin cfg0.N) : t.val < 32 := lt_of_lt_of_eq t.isLt (show cfg0.N = 32 from N_0)

/-- The sequence a point works on. -/
def seqOf : Fin 4 := ⟨t.val / 8, by have := pt_lt t; omega⟩
/-- The row of its sequence a point's `p`th row is. -/
def rowOf (p : Fin 256) : Fin 2048 := ⟨(t.val % 8) * 256 + p.val, by have := p.isLt; omega⟩
/-- The row among all rows. -/
def flatOf (p : Fin 256) : Fin 8192 := ⟨t.val * 256 + p.val, by have := p.isLt; have := pt_lt t; omega⟩

theorem seq_flat (p : Fin 256) (h) : (⟨(flatOf t p).val / 2048, h⟩ : Fin 4) = seqOf t :=
  Fin.ext (by show (t.val * 256 + p.val) / 2048 = t.val / 8; have := p.isLt; omega)
theorem row_flat (p : Fin 256) (h) : (⟨(flatOf t p).val % 2048, h⟩ : Fin 2048) = rowOf t p :=
  Fin.ext (by show (t.val * 256 + p.val) % 2048 = (t.val % 8) * 256 + p.val; have := p.isLt; omega)

/-- Rows of an array flattened over its sequences. -/
theorem rows_apply {n : ℕ} {α : Type} (f : (⟨3, ![4, 2048, n]⟩ : Shape).Idx → α) (h : (⟨3, ![4, 2048, n]⟩ : Shape).ShapeCasts ⟨2, ![8192, n]⟩)
    (p : Fin 256) (d : Fin n) : shapeCast ⟨2, ![8192, n]⟩ f h (Idealize.ShloMosaic.ix2 (flatOf t p) d) = f (Idealize.ShloMosaic.ix3 (seqOf t) (rowOf t p) d) := by
  refine shapeCast_apply f h _ _ ?_
  rw [Shape.rowMajor_val_three, Shape.rowMajor_val_two]
  show (t.val / 8 * 2048 + (t.val % 8 * 256 + p.val)) * n + d.val = (t.val * 256 + p.val) * n + d.val
  congr 2
  omega

theorem blk_0 (p : Fin 256) (d : Fin 1024) : iblk m c 0 t (Idealize.ShloMosaic.ix2 p d)
    = (V m c main_v6 : Vec Ideal S8192x1024 .f32) (Idealize.ShloMosaic.ix2 (flatOf t p) d) := by
  have hi : win0_0.index t 0 = t.val ∧ win0_0.index t 1 = 0 :=
    (by decide +kernel : ∀ t : Fin grid0.N, win0_0.index t 0 = t.val ∧ win0_0.index t 1 = 0) t
  unfold iblk
  rw [View.read_apply]
  show V m c main_v6 _ = V m c main_v6 _
  congr 1
  funext a
  apply Fin.ext
  match a with
  | ⟨0, _⟩ =>
    show win0_0.index t 0 * 256 + 1 * p.val = t.val * 256 + p.val
    rw [hi.1, Nat.one_mul]
  | ⟨1, _⟩ =>
    show win0_0.index t 1 * 1024 + 1 * d.val = d.val
    rw [hi.2]; omega

theorem blk_1 (p : Fin 256) (d : Fin 1024) : iblk m c 1 t (Idealize.ShloMosaic.ix2 p d)
    = (V m c main_v7 : Vec Ideal S8192x1024 .f32) (Idealize.ShloMosaic.ix2 (flatOf t p) d) := by
  have hi : win0_1.index t 0 = t.val ∧ win0_1.index t 1 = 0 :=
    (by decide +kernel : ∀ t : Fin grid0.N, win0_1.index t 0 = t.val ∧ win0_1.index t 1 = 0) t
  unfold iblk
  rw [View.read_apply]
  show V m c main_v7 _ = V m c main_v7 _
  congr 1
  funext a
  apply Fin.ext
  match a with
  | ⟨0, _⟩ =>
    show win0_1.index t 0 * 256 + 1 * p.val = t.val * 256 + p.val
    rw [hi.1, Nat.one_mul]
  | ⟨1, _⟩ =>
    show win0_1.index t 1 * 1024 + 1 * d.val = d.val
    rw [hi.2]; omega

theorem blk_2 (d : Fin 1024) : iblk m c 2 t (Idealize.ShloMosaic.ix2 0 d) = (args m c).g (Idealize.ShloMosaic.ix2 0 d) := by
  have hi : win0_2.index t 0 = 0 ∧ win0_2.index t 1 = 0 :=
    (by decide +kernel : ∀ t : Fin grid0.N, win0_2.index t 0 = 0 ∧ win0_2.index t 1 = 0) t
  rw [← entry_g]
  unfold iblk
  rw [View.read_apply]
  show V m c main_arg3 _ = V m c main_arg3 _
  congr 1
  funext a
  apply Fin.ext
  match a with
  | ⟨0, _⟩ =>
    show win0_2.index t 0 * 1 + 1 * 0 = 0
    rw [hi.1]
  | ⟨1, _⟩ =>
    show win0_2.index t 1 * 1024 + 1 * d.val = d.val
    rw [hi.2]; omega

theorem blk_3 (k : Fin 6) (d : Fin 1024) : iblk m c 3 t (Idealize.ShloMosaic.ix3 0 k d)
    = (V m c main_v8 : Vec Ideal S4x6x1024 .f32) (Idealize.ShloMosaic.ix3 (seqOf t) k d) := by
  have hi : win0_3.index t 0 = t.val / 8 ∧ win0_3.index t 1 = 0 ∧ win0_3.index t 2 = 0 :=
    (by decide +kernel : ∀ t : Fin grid0.N, win0_3.index t 0 = t.val / 8 ∧ win0_3.index t 1 = 0 ∧ win0_3.index t 2 = 0) t
  unfold iblk
  rw [View.read_apply]
  show V m c main_v8 _ = V m c main_v8 _
  congr 1
  funext a
  apply Fin.ext
  match a with
  | ⟨0, _⟩ =>
    show win0_3.index t 0 * 1 + 1 * 0 = t.val / 8
    rw [hi.1]; omega
  | ⟨1, _⟩ =>
    show win0_3.index t 1 * 6 + 1 * k.val = k.val
    rw [hi.2.1]; omega
  | ⟨2, _⟩ =>
    show win0_3.index t 2 * 1024 + 1 * d.val = d.val
    rw [hi.2.2]; omega

theorem scale_apply (d : Fin 1024) : scaleRow (iblk m c 3 t) (Idealize.ShloMosaic.ix3 0 0 d)
    = val_main_v5 (F := Ideal) (args m c).mod (Idealize.ShloMosaic.ix3 (seqOf t) 0 d) := by
  refine ((?_ : _ = iblk m c 3 t (Idealize.ShloMosaic.ix3 0 4 d)).trans (blk_3 m c t 4 d)).trans ?_
  · unfold scaleRow View.ld
    congr 1
    funext a
    apply Fin.ext
    match a with
    | ⟨0, _⟩ => rfl
    | ⟨1, _⟩ => rfl
    | ⟨2, _⟩ => show 0 + 1 * d.val = d.val; omega
  · rw [entry_mod]
    pointwise [val_main_v5, val_main_v0]

theorem shift_apply (d : Fin 1024) : shiftRow (iblk m c 3 t) (Idealize.ShloMosaic.ix3 0 0 d)
    = val_main_v4 (F := Ideal) (args m c).mod (Idealize.ShloMosaic.ix3 (seqOf t) 0 d) := by
  refine ((?_ : _ = iblk m c 3 t (Idealize.ShloMosaic.ix3 0 3 d)).trans (blk_3 m c t 3 d)).trans ?_
  · unfold shiftRow View.ld
    congr 1
    funext a
    apply Fin.ext
    match a with
    | ⟨0, _⟩ => rfl
    | ⟨1, _⟩ => rfl
    | ⟨2, _⟩ => show 0 + 1 * d.val = d.val; omega
  · rw [entry_mod]
    pointwise [val_main_v4, val_main_v0]

theorem gate_apply (d : Fin 1024) : gateRow (iblk m c 3 t) (Idealize.ShloMosaic.ix3 0 0 d)
    = val_main_v6 (F := Ideal) (args m c).mod (Idealize.ShloMosaic.ix3 (seqOf t) 0 d) := by
  refine ((?_ : _ = iblk m c 3 t (Idealize.ShloMosaic.ix3 0 5 d)).trans (blk_3 m c t 5 d)).trans ?_
  · unfold gateRow View.ld
    congr 1
    funext a
    apply Fin.ext
    match a with
    | ⟨0, _⟩ => rfl
    | ⟨1, _⟩ => rfl
    | ⟨2, _⟩ => show 0 + 1 * d.val = d.val; omega
  · rw [entry_mod]
    pointwise [val_main_v6, val_main_v0]

theorem w2_apply (f : Fin 4096) (d : Fin 1024) : W2 m c (Idealize.ShloMosaic.ix2 f d)
    = val_main_v31 (F := Ideal) (args m c).w2 (Idealize.ShloMosaic.ix2 f d) := by
  unfold W2
  rw [entry_w2]
  rfl

theorem w1_apply (d : Fin 1024) (f : Fin 4096) : W1 m c (Idealize.ShloMosaic.ix2 d f)
    = val_main_v27 (F := Ideal) (args m c).w1 (Idealize.ShloMosaic.ix2 d f) := by
  unfold W1
  rw [entry_w1]
  refine (transpose_apply _ _ _ _ (Idealize.ShloMosaic.ix3 d ⟨f.val / 1024, by have := f.isLt; omega⟩ ⟨f.val % 1024, by omega⟩) ?_).trans
    ((shapeCast_apply _ _ _ (Idealize.ShloMosaic.ix2 d f) ?_).trans rfl)
  · intro a
    match a with
    | ⟨0, _⟩ => rfl
    | ⟨1, _⟩ => rfl
    | ⟨2, _⟩ => rfl
  · rw [Shape.rowMajor_val_two, Shape.rowMajor_val_three]
    show d.val * 4096 + f.val = (d.val * 4 + f.val / 1024) * 1024 + f.val % 1024
    omega

/-- The blocks of a point are the reference's arrays at its rows. -/
theorem tileAt : TileAt (args m c) (seqOf t) (rowOf t) (iblk m c 0 t) (iblk m c 1 t) (iblk m c 2 t)
    (scaleRow (iblk m c 3 t)) (shiftRow (iblk m c 3 t)) (gateRow (iblk m c 3 t)) (W1 m c) (W2 m c) where
  x p d := ((blk_0 m c t p d).trans (congrFun (entry_x m c) _)).trans (rows_apply t _ _ p d)
  tg p d := ((blk_1 m c t p d).trans (congrFun (entry_tg m c) _)).trans (rows_apply t _ _ p d)
  g d := blk_2 m c t d
  sc d := scale_apply m c t d
  sh d := shift_apply m c t d
  gt d := gate_apply m c t d
  w1 d f := w1_apply m c d f
  w2 f d := w2_apply m c f d

end Cert.FwdFfn

end
-- ==== Proof.BwdFfn.Point.lean ====
/-
  One grid point's run, case by case: the first point (which also brings the two weight matrices into the scratch), the
  first point of a later sequence, and any other point. Each run is taken at the point's own staging buffers and input
  blocks, and what it stores is read back as a function of the blocks.
-/
module

public import proofs.«01_k».proof.Proof.Gen.KernelIdeal.Frame.RunA
public import proofs.«01_k».proof.Proof.Gen.KernelIdeal.Frame.RunB
public import proofs.«01_k».proof.Proof.Gen.KernelIdeal.Frame.RunC
public import Idealize.ShloMosaic.Lib.Pipeline.Value
public import Idealize.ShloMosaic.Lib.Pointwise
public import Idealize.ShloMosaic.Lib.ValueLayout

@[expose] public section

set_option maxRecDepth 16384

noncomputable section

namespace Cert.BwdFfn

open Idealize.ShloMosaic Idealize.ShloMosaic.TcCoe Idealize.ShloMosaic.Tactic
open Cert.KernelIdeal Cert.KernelIdeal.Gen

variable {F : FTy → Type} [FloatOps F]

variable (m : (ℓ : Loc nD τ sig) → Buf (Elt F) ℓ)

/-- A column number of the first layer's matrix. -/
theorem col_lt (y : S1024x4096.Idx) : (y 1).val < 4096 := (y 1).isLt

/-! ## The values a point leaves -/

/-- The scale row of a block of the modulation. -/
def scaleRow (x6 : Vec F S1x6x1024 .f32) : Vec F S1x1x1024 .f32 :=
  View.ld x6 (Rect.unit ![0, 4, 0] ![1, 1, 1024] inb_S1x6x1024_S1x1x1024_0_4_0)
/-- The mixer's gate row of a block of the modulation. -/
def gateRow (x6 : Vec F S1x6x1024 .f32) : Vec F S1x1x1024 .f32 :=
  View.ld x6 (Rect.unit ![0, 2, 0] ![1, 1, 1024] inb_S1x6x1024_S1x1x1024_0_2_0)

section
variable (x0 : Vec F S256x1024 .bf16) (x1 : Vec F S256x4096 .f32) (x2 x3 x4 : Vec F S256x1024 .f32)
  (x5 : Vec F S1x1024 .f32) (x6 : Vec F S1x6x1024 .f32) (w2 : Vec F S4096x1024 .bf16) (w1 : Vec F S1024x4096 .bf16)

/-- The modulated row's cotangent. -/
def tileDh : Vec F S256x1024 .f32 := k0_pay3 x0 w2 x1 w1
/-- The residual stream's cotangent. -/
def tileDx : Vec F S256x1024 .f32 :=
  k0_pay17 (tileDh x0 x1 w2 w1) (k0_pay5 x2) (k0_pay6 x2) x5 (k0_pay7 (scaleRow x6)) x3
/-- The mixer output's cotangent. -/
def tileDmixed : Vec F S256x1024 .bf16 := k0_pay1 (tileDx x0 x1 x2 x3 x5 x6 w2 w1) (gateRow x6)
/-- The rows whose column sum is the norm weight's gradient. -/
def tileDg : Vec F S256x1024 .f32 := k0_pay14 (tileDh x0 x1 w2 w1) x2 (scaleRow x6)
/-- The block's column sum for the gate, as a row. -/
def tileGate : Vec F S1x1024 .f32 :=
  k0_pay18 (tileDh x0 x1 w2 w1) (k0_pay5 x2) (k0_pay6 x2) x5 (k0_pay7 (scaleRow x6)) x3 x4
end

/-! ## The weights the first point brings in -/

/-- The second layer's matrix. -/
def W2 (c : Dev nD) : Vec F S4096x1024 .bf16 := V m c main_v40
/-- The first layer's matrix, put together from its four column strips. -/
def W1 (c : Dev nD) : Vec F S1024x4096 .bf16 := fun y =>
  (V m c main_v38 : Vec F S4x1024x1024 .bf16)
    (Idealize.ShloMosaic.ix3 ⟨(y 1).val / 1024, by have := col_lt y; omega⟩ (y 0) ⟨(y 1).val % 1024, Nat.mod_lt _ (by omega)⟩)

/-! ## The runs -/

/-- The first point. -/
theorem caseA {t : Fin cfg0.N} (h : t.val = 0) : conds0_A (grid0.coords t) := by
  refine ⟨(hcond0_0 t).mpr ?_, (hcond0_1 t).mpr ?_, fun k => (hcond0_2 t).mp k ?_, (hcond0_3 t).mpr ?_,
    fun k => (hcond0_4 t).mp k ?_, (hcond0_5 t).mpr ?_, fun k => absurd ((hcond0_6 t).mp k) ?_, (hcond0_7 t).mpr ?_,
    fun k => (hcond0_8 t).mp k ?_⟩ <;> omega

/-- A point inside a sequence. -/
theorem caseB {t : Fin cfg0.N} (h : t.val % 8 ≠ 0) : conds0_B (grid0.coords t) := by
  refine ⟨fun k => absurd ((hcond0_0 t).mp k) ?_, fun k => absurd ((hcond0_1 t).mp k) ?_, (hcond0_2 t).mpr ?_,
    fun k => absurd ((hcond0_3 t).mp k) ?_, (hcond0_4 t).mpr ?_, fun k => absurd ((hcond0_5 t).mp k) ?_,
    (hcond0_6 t).mpr ?_, fun k => absurd ((hcond0_7 t).mp k) ?_, (hcond0_8 t).mpr ?_⟩ <;> omega

/-- The first point of a later sequence. -/
theorem caseC {t : Fin cfg0.N} (h : t.val % 8 = 0) (h0 : t.val ≠ 0) : conds0_C (grid0.coords t) := by
  have hN : t.val < 32 := lt_of_lt_of_eq t.isLt (show cfg0.N = 32 from N_0)
  refine ⟨fun k => absurd ((hcond0_0 t).mp k) ?_, (hcond0_1 t).mpr ?_, fun k => (hcond0_2 t).mp k ?_,
    (hcond0_3 t).mpr ?_, fun k => (hcond0_4 t).mp k ?_, fun k => absurd ((hcond0_5 t).mp k) ?_,
    (hcond0_6 t).mpr ?_, (hcond0_7 t).mpr ?_, fun k => (hcond0_8 t).mp k ?_⟩ <;> omega

variable (c : Dev nD) (t : Fin cfg0.N)

/-- The run of the first point. -/
abbrev runA (h : conds0_A (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) h.1 h.2.1 h.2.2.1 h.2.2.2.1 h.2.2.2.2.1 h.2.2.2.2.2.1 h.2.2.2.2.2.2.1 h.2.2.2.2.2.2.2.1 h.2.2.2.2.2.2.2.2 (iblk m c 0 t) (iblk m c 1 t) (iblk m c 2 t) (iblk m c 3 t) (iblk m c 4 t) (iblk m c 5 t) (iblk m c 6 t) (V m c main_v40) (V m c main_v38)

/-- The run of a point inside a sequence, over what the point before left. -/
abbrev runB (h : conds0_B (grid0.coords t)) (p10 p11 p12 : Vec F S1x1x1024 .f32) (p13 : Vec F S1x1024 .f32)
    (s0 : Vec F S4096x1024 .bf16) (s1 : Vec F S1024x4096 .bf16) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) h.1 h.2.1 h.2.2.1 h.2.2.2.1 h.2.2.2.2.1 h.2.2.2.2.2.1 h.2.2.2.2.2.2.1 h.2.2.2.2.2.2.2.1 h.2.2.2.2.2.2.2.2 (iblk m c 0 t) (iblk m c 1 t) (iblk m c 2 t) (iblk m c 3 t) (iblk m c 4 t) (iblk m c 5 t) (iblk m c 6 t) p10 p11 p12 p13 s0 s1 (V m c main_v40) (V m c main_v38)

/-- The run of the first point of a later sequence, over what the point before left. -/
abbrev runC (h : conds0_C (grid0.coords t)) (p13 : Vec F S1x1024 .f32)
    (s0 : Vec F S4096x1024 .bf16) (s1 : Vec F S1024x4096 .bf16) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) h.1 h.2.1 h.2.2.1 h.2.2.2.1 h.2.2.2.2.1 h.2.2.2.2.2.1 h.2.2.2.2.2.2.1 h.2.2.2.2.2.2.2.1 h.2.2.2.2.2.2.2.2 (iblk m c 0 t) (iblk m c 1 t) (iblk m c 2 t) (iblk m c 3 t) (iblk m c 4 t) (iblk m c 5 t) (iblk m c 6 t) p13 s0 s1 (V m c main_v40) (V m c main_v38)

theorem z2 : (![0, 0] : Fin 2 → Nat) = fun _ => 0 := funext fun a => by fin_cases a <;> rfl
theorem z3 : (![0, 0, 0] : Fin 3 → Nat) = fun _ => 0 := funext fun a => by fin_cases a <;> rfl

variable {m} {c} {t}

/-- What a whole scratch buffer reads as. -/
theorem read_scratch0 (s : Vec F S4096x1024 .bf16) :
    (View.whole cc0_scratch0).read (Elt F) ((Memref.isWhole_whole cc0_scratch0).unread s) = s :=
  (Memref.isWhole_whole cc0_scratch0).read_unread s
theorem read_scratch1 (s : Vec F S1024x4096 .bf16) :
    (View.whole cc0_scratch1).read (Elt F) ((Memref.isWhole_whole cc0_scratch1).unread s) = s :=
  (Memref.isWhole_whole cc0_scratch1).read_unread s

end Cert.BwdFfn

end
-- ==== Proof.BwdFfn.PointA.lean ====
/-
  What the run of the first point leaves in the scratch and in each output's buffer.
-/
module

public import proofs.«01_k».proof.Proof.BwdFfn.Point

@[expose] public section

set_option maxRecDepth 16384

noncomputable section

namespace Cert.BwdFfn

open Idealize.ShloMosaic Idealize.ShloMosaic.TcCoe Idealize.ShloMosaic.Tactic
open Cert.KernelIdeal Cert.KernelIdeal.Gen

variable {F : FTy → Type} [FloatOps F]

variable (m : (ℓ : Loc nD τ sig) → Buf (Elt F) ℓ)

variable {m} {c : Dev nD} {t : Fin cfg0.N}

/-- Four column strips put side by side. -/
def besides (v : Vec F S4x1024x1024 .bf16) : Vec F S1024x4096 .bf16 := fun y =>
  v (Idealize.ShloMosaic.ix3 ⟨(y 1).val / 1024, by have := col_lt y; omega⟩ (y 0) ⟨(y 1).val % 1024, Nat.mod_lt _ (by omega)⟩)

/-- One strip of the first layer's matrix, read where it lands in the scratch. -/
theorem strip (v : Vec F S4x1024x1024 .bf16) (k o : ℕ) (ho : o = 1024 * k)
    (inb : ∀ a, (![k, 0, 0] : Fin 3 → ℕ) a + (![1, 1024, 1024] : Fin 3 → ℕ) a ≤ S4x1024x1024.size a)
    (inb' : ∀ a, (![0, o] : Fin 2 → ℕ) a + (![1024, 1024] : Fin 2 → ℕ) a ≤ S1024x4096.size a)
    (e : S1024x1024.numel = (Rect.unit (s := S4x1024x1024) ![k, 0, 0] ![1, 1024, 1024] inb).shape.numel)
    (x : S1024x1024.Idx) :
    (((View.whole main_v38).slice (Rect.unit ![k, 0, 0] ![1, 1024, 1024] inb)).reshape S1024x1024 e).read (Elt F) v x
      = besides v ((Rect.unit (s := S1024x4096) ![0, o] ![1024, 1024] inb').emb x) := by
  obtain ⟨i, j, rfl⟩ : ∃ (i j : Fin 1024), x = Idealize.ShloMosaic.ix2 i j := ⟨x 0, x 1, by funext a; fin_cases a <;> rfl⟩
  show v ((Rect.unit (s := S4x1024x1024) ![k, 0, 0] ![1, 1024, 1024] inb).emb (Shape.reshapeEquiv e (Idealize.ShloMosaic.ix2 i j))) = _
  rw [show Shape.reshapeEquiv e (Idealize.ShloMosaic.ix2 i j) = Idealize.ShloMosaic.ix3 0 i j from ValueIdx.reshapeEquiv_ix2_1ab e i j]
  unfold besides
  refine congrArg v ?_
  have hi := i.isLt
  have hj := j.isLt
  funext a
  apply Fin.ext
  fin_cases a
  · show k + 1 * 0 = (o + 1 * j.val) / 1024
    omega
  · show 0 + 1 * i.val = 0 + 1 * i.val
    rfl
  · show 0 + 1 * j.val = (o + 1 * j.val) % 1024
    omega

section strips
variable (v : Vec F S4x1024x1024 .bf16)
    (a3 : ∀ a, (![3, 0, 0] : Fin 3 → ℕ) a + (![1, 1024, 1024] : Fin 3 → ℕ) a ≤ S4x1024x1024.size a)
    (b3 : ∀ a, (![0, 3072] : Fin 2 → ℕ) a + (![1024, 1024] : Fin 2 → ℕ) a ≤ S1024x4096.size a)
    (e3 : S1024x1024.numel = (Rect.unit (s := S4x1024x1024) ![3, 0, 0] ![1, 1024, 1024] a3).shape.numel)
    (a2 : ∀ a, (![2, 0, 0] : Fin 3 → ℕ) a + (![1, 1024, 1024] : Fin 3 → ℕ) a ≤ S4x1024x1024.size a)
    (b2 : ∀ a, (![0, 2048] : Fin 2 → ℕ) a + (![1024, 1024] : Fin 2 → ℕ) a ≤ S1024x4096.size a)
    (e2 : S1024x1024.numel = (Rect.unit (s := S4x1024x1024) ![2, 0, 0] ![1, 1024, 1024] a2).shape.numel)
    (a1 : ∀ a, (![1, 0, 0] : Fin 3 → ℕ) a + (![1, 1024, 1024] : Fin 3 → ℕ) a ≤ S4x1024x1024.size a)
    (b1 : ∀ a, (![0, 1024] : Fin 2 → ℕ) a + (![1024, 1024] : Fin 2 → ℕ) a ≤ S1024x4096.size a)
    (e1 : S1024x1024.numel = (Rect.unit (s := S4x1024x1024) ![1, 0, 0] ![1, 1024, 1024] a1).shape.numel)
    (a0 : ∀ a, (![0, 0, 0] : Fin 3 → ℕ) a + (![1, 1024, 1024] : Fin 3 → ℕ) a ≤ S4x1024x1024.size a)
    (b0 : ∀ a, (![0, 0] : Fin 2 → ℕ) a + (![1024, 1024] : Fin 2 → ℕ) a ≤ S1024x4096.size a)
    (e0 : S1024x1024.numel = (Rect.unit (s := S4x1024x1024) ![0, 0, 0] ![1, 1024, 1024] a0).shape.numel)

/-- The four strips as the pieces of the scratch's contents, the last copied first. -/
abbrev strips : List (View.Piece (Elt F) S1024x4096 .bf16) :=
  [⟨Rect.unit ![0, 3072] ![1024, 1024] b3, ReadAs.same.apply ((((View.whole main_v38).slice (Rect.unit ![3, 0, 0] ![1, 1024, 1024] a3)).reshape S1024x1024 e3).read (Elt F) v)⟩,
    ⟨Rect.unit ![0, 2048] ![1024, 1024] b2, ReadAs.same.apply ((((View.whole main_v38).slice (Rect.unit ![2, 0, 0] ![1, 1024, 1024] a2)).reshape S1024x1024 e2).read (Elt F) v)⟩,
    ⟨Rect.unit ![0, 1024] ![1024, 1024] b1, ReadAs.same.apply ((((View.whole main_v38).slice (Rect.unit ![1, 0, 0] ![1, 1024, 1024] a1)).reshape S1024x1024 e1).read (Elt F) v)⟩,
    ⟨Rect.unit ![0, 0] ![1024, 1024] b0, ReadAs.same.apply ((((View.whole main_v38).slice (Rect.unit ![0, 0, 0] ![1, 1024, 1024] a0)).reshape S1024x1024 e0).read (Elt F) v)⟩]

theorem strips_all (q : View.Piece (Elt F) S1024x4096 .bf16) (hq : q ∈ strips v a3 b3 e3 a2 b2 e2 a1 b1 e1 a0 b0 e0) (x : q.1.shape.Idx) :
    q.2 x = besides v (q.1.emb x) := by
  simp only [strips, List.mem_cons, List.not_mem_nil, or_false] at hq
  rcases hq with rfl | rfl | rfl | rfl
  · exact strip v 3 3072 rfl a3 b3 e3 x
  · exact strip v 2 2048 rfl a2 b2 e2 x
  · exact strip v 1 1024 rfl a1 b1 e1 x
  · exact strip v 0 0 rfl a0 b0 e0 x

/-- The four strips put together. -/
theorem canon_strips : View.canon (strips v a3 b3 e3 a2 b2 e2 a1 b1 e1 a0 b0 e0) = besides v := by
  funext y
  exact View.canon_apply_of_pieces (besides v) _ (strips_all v a3 b3 e3 a2 b2 e2 a1 b1 e1 a0 b0 e0) y
    (View.cover_of_tiledL (strips v a3 b3 e3 a2 b2 e2 a1 b1 e1 a0 b0 e0) S1024x1024.size (by sl_kernel_rfl) y)

/-- A load of the whole scratch over the four strips. -/
theorem load_strips (inb : ∀ a, (![0, 0] : Fin 2 → ℕ) a + (![1024, 4096] : Fin 2 → ℕ) a ≤ S1024x4096.size a) :
    (View.whole cc0_scratch1).readCov (strips v a3 b3 e3 a2 b2 e2 a1 b1 e1 a0 b0 e0) (Rect.unit (s := S1024x4096) ![0, 0] ![1024, 4096] inb).toLoadRect = besides v := by
  rw [View.readCov_eq_canon', canon_strips]
  exact View.ld_unit_zero (S := S1024x4096) z2 inb _
end strips

/-- The second layer's matrix copied whole. -/
theorem canon_whole (u : Vec F S4096x1024 .bf16) :
    View.canon ([⟨Rect.whole S4096x1024, ReadAs.same.apply ((View.whole main_v40).read (Elt F) u)⟩] : List (View.Piece (Elt F) S4096x1024 .bf16)) = u := by
  funext y
  refine View.canon_apply_of_pieces u _ ?_ y ⟨_, List.mem_singleton.mpr rfl, ?_⟩
  · intro p hp x
    rw [List.mem_singleton] at hp
    subst hp
    exact congrArg u (Rect.emb_whole_apply _ x).symm
  · rw [Rect.set_whole]; exact Finset.mem_univ _

theorem load_whole (u : Vec F S4096x1024 .bf16) (inb : ∀ a, (![0, 0] : Fin 2 → ℕ) a + (![4096, 1024] : Fin 2 → ℕ) a ≤ S4096x1024.size a) :
    (View.whole cc0_scratch0).readCov ([⟨Rect.whole S4096x1024, ReadAs.same.apply ((View.whole main_v40).read (Elt F) u)⟩] : List (View.Piece (Elt F) S4096x1024 .bf16)) (Rect.unit (s := S4096x1024) ![0, 0] ![4096, 1024] inb).toLoadRect = u := by
  rw [View.readCov_eq_canon', canon_whole]
  exact View.ld_unit_zero (S := S4096x1024) z2 inb _

section
variable (h : conds0_A (grid0.coords t))

/-- The first scratch is filled with the second layer's matrix. -/
theorem runA_s0 (f) : scM0_0.view.read (Elt F) (scM0_0.view.writes (Elt F) f (runA m c t h).2.2.2.2.2.2.2.1) = W2 m c := by
  rw [View.read_writes_eq_canon _ _ _ (View.cover_of_tiledL (runA m c t h).2.2.2.2.2.2.2.1 S4096x1024.size (by sl_kernel_rfl))]
  unfold runA kernelRun0_A
  dsimp only
  sl_unfold_words
  exact canon_whole _

/-- The second scratch is filled with the first layer's matrix. -/
theorem runA_s1 (f) : scM0_1.view.read (Elt F) (scM0_1.view.writes (Elt F) f (runA m c t h).2.2.2.2.2.2.2.2.1) = W1 m c := by
  rw [View.read_writes_eq_canon _ _ _ (View.cover_of_tiledL (runA m c t h).2.2.2.2.2.2.2.2.1 S1024x1024.size (by sl_kernel_rfl))]
  unfold runA kernelRun0_A
  dsimp only
  sl_unfold_words
  exact canon_strips _ _ _ _ _ _ _ _ _ _ _ _ _

/-- At the first point: the pre-activation's cotangent. -/
theorem runA_7 (f) : (ms0_7 t).view.read (Elt F) ((ms0_7 t).view.writes (Elt F) f (runA m c t h).1) =
    k0_pay2 (iblk m c 0 t) (W2 m c) (iblk m c 1 t) := by
  rw [View.read_writes_eq_canon _ _ _ (View.cover_of_tiledL (runA m c t h).1 S256x4096.size (by sl_kernel_rfl))]
  unfold runA kernelRun0_A
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, shapeCast_self]
  rw [load_whole]
  rfl

/-- At the first point: the residual stream's cotangent. -/
theorem runA_8 (f) : (ms0_8 t).view.read (Elt F) ((ms0_8 t).view.writes (Elt F) f (runA m c t h).2.1) =
    tileDx (iblk m c 0 t) (iblk m c 1 t) (iblk m c 2 t) (iblk m c 3 t) (iblk m c 5 t) (iblk m c 6 t) (W2 m c) (W1 m c) := by
  rw [View.read_writes_eq_canon _ _ _ (View.cover_of_tiledL (runA m c t h).2.1 S256x1024.size (by sl_kernel_rfl))]
  unfold runA kernelRun0_A
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, shapeCast_self]
  rw [load_whole, load_strips]
  rfl

/-- At the first point: the mixer output's cotangent. -/
theorem runA_9 (f) : (ms0_9 t).view.read (Elt F) ((ms0_9 t).view.writes (Elt F) f (runA m c t h).2.2.1) =
    tileDmixed (iblk m c 0 t) (iblk m c 1 t) (iblk m c 2 t) (iblk m c 3 t) (iblk m c 5 t) (iblk m c 6 t) (W2 m c) (W1 m c) := by
  rw [View.read_writes_eq_canon _ _ _ (View.cover_of_tiledL (runA m c t h).2.2.1 S256x1024.size (by sl_kernel_rfl))]
  unfold runA kernelRun0_A
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, shapeCast_self]
  rw [load_whole, load_strips]
  rfl

/-- At the first point: the shift's sum. -/
theorem runA_10 (f) : (ms0_10 t).view.read (Elt F) ((ms0_10 t).view.writes (Elt F) f (runA m c t h).2.2.2.1) =
    k0_pay9 (tileDh (iblk m c 0 t) (iblk m c 1 t) (W2 m c) (W1 m c)) := by
  rw [View.read_writes_eq_canon _ _ _ (View.cover_of_tiledL (runA m c t h).2.2.2.1 S1x1x1024.size (by sl_kernel_rfl))]
  unfold runA kernelRun0_A
  dsimp only
  sl_unfold_words
  rw [View.canon_unit_zero z3]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, shapeCast_self]
  rw [load_whole, load_strips]
  rfl

/-- At the first point: the scale's sum. -/
theorem runA_11 (f) : (ms0_11 t).view.read (Elt F) ((ms0_11 t).view.writes (Elt F) f (runA m c t h).2.2.2.2.1) =
    k0_pay12 (tileDh (iblk m c 0 t) (iblk m c 1 t) (W2 m c) (W1 m c)) (iblk m c 2 t) (iblk m c 5 t) := by
  rw [View.read_writes_eq_canon _ _ _ (View.cover_of_tiledL (runA m c t h).2.2.2.2.1 S1x1x1024.size (by sl_kernel_rfl))]
  unfold runA kernelRun0_A
  dsimp only
  sl_unfold_words
  rw [View.canon_unit_zero z3]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, shapeCast_self]
  rw [load_whole, load_strips]
  rfl

/-- At the first point: the gate's sum. -/
theorem runA_12 (f) : (ms0_12 t).view.read (Elt F) ((ms0_12 t).view.writes (Elt F) f (runA m c t h).2.2.2.2.2.1) =
    k0_pay19 (tileDh (iblk m c 0 t) (iblk m c 1 t) (W2 m c) (W1 m c)) (k0_pay5 (iblk m c 2 t)) (k0_pay6 (iblk m c 2 t)) (iblk m c 5 t) (k0_pay7 (scaleRow (iblk m c 6 t))) (iblk m c 3 t) (iblk m c 4 t) := by
  rw [View.read_writes_eq_canon _ _ _ (View.cover_of_tiledL (runA m c t h).2.2.2.2.2.1 S1x1x1024.size (by sl_kernel_rfl))]
  unfold runA kernelRun0_A
  dsimp only
  sl_unfold_words
  rw [View.canon_unit_zero z3]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, shapeCast_self]
  rw [load_whole, load_strips]
  rfl

/-- At the first point: the norm weight's sum. -/
theorem runA_13 (f) : (ms0_13 t).view.read (Elt F) ((ms0_13 t).view.writes (Elt F) f (runA m c t h).2.2.2.2.2.2.1) =
    k0_pay15 (tileDg (iblk m c 0 t) (iblk m c 1 t) (iblk m c 2 t) (iblk m c 6 t) (W2 m c) (W1 m c)) := by
  rw [View.read_writes_eq_canon _ _ _ (View.cover_of_tiledL (runA m c t h).2.2.2.2.2.2.1 S1x1024.size (by sl_kernel_rfl))]
  unfold runA kernelRun0_A
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, shapeCast_self]
  rw [load_whole, load_strips]
  rfl

end

end Cert.BwdFfn

end
-- ==== Proof.BwdFfn.PointBC.lean ====
/-
  What the runs of a point inside a sequence and of a sequence's first point leave in each output's buffer.
-/
module

public import proofs.«01_k».proof.Proof.BwdFfn.Point

@[expose] public section

set_option maxRecDepth 16384

noncomputable section

namespace Cert.BwdFfn

open Idealize.ShloMosaic Idealize.ShloMosaic.TcCoe Idealize.ShloMosaic.Tactic
open Cert.KernelIdeal Cert.KernelIdeal.Gen

variable {F : FTy → Type} [FloatOps F]

variable (m : (ℓ : Loc nD τ sig) → Buf (Elt F) ℓ)

variable {m} {c : Dev nD} {t : Fin cfg0.N}

section
variable (h : conds0_B (grid0.coords t)) (p10 p11 p12 : Vec F S1x1x1024 .f32) (p13 : Vec F S1x1024 .f32)
    (s0 : Vec F S4096x1024 .bf16) (s1 : Vec F S1024x4096 .bf16)

/-- At a point inside a sequence: the pre-activation's cotangent. -/
theorem runB_7 (f) : (ms0_7 t).view.read (Elt F) ((ms0_7 t).view.writes (Elt F) f (runB m c t h p10 p11 p12 p13 s0 s1).1) =
    k0_pay2 (iblk m c 0 t) s0 (iblk m c 1 t) := by
  rw [View.read_writes_eq_canon _ _ _ (View.cover_of_tiledL (runB m c t h p10 p11 p12 p13 s0 s1).1 S256x4096.size (by sl_kernel_rfl))]
  unfold runB kernelRun0_B
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, shapeCast_self, read_scratch0, read_scratch1]

/-- At a point inside a sequence: the residual stream's cotangent. -/
theorem runB_8 (f) : (ms0_8 t).view.read (Elt F) ((ms0_8 t).view.writes (Elt F) f (runB m c t h p10 p11 p12 p13 s0 s1).2.1) =
    tileDx (iblk m c 0 t) (iblk m c 1 t) (iblk m c 2 t) (iblk m c 3 t) (iblk m c 5 t) (iblk m c 6 t) s0 s1 := by
  rw [View.read_writes_eq_canon _ _ _ (View.cover_of_tiledL (runB m c t h p10 p11 p12 p13 s0 s1).2.1 S256x1024.size (by sl_kernel_rfl))]
  unfold runB kernelRun0_B
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, shapeCast_self, read_scratch0, read_scratch1]
  rfl

/-- At a point inside a sequence: the mixer output's cotangent. -/
theorem runB_9 (f) : (ms0_9 t).view.read (Elt F) ((ms0_9 t).view.writes (Elt F) f (runB m c t h p10 p11 p12 p13 s0 s1).2.2.1) =
    tileDmixed (iblk m c 0 t) (iblk m c 1 t) (iblk m c 2 t) (iblk m c 3 t) (iblk m c 5 t) (iblk m c 6 t) s0 s1 := by
  rw [View.read_writes_eq_canon _ _ _ (View.cover_of_tiledL (runB m c t h p10 p11 p12 p13 s0 s1).2.2.1 S256x1024.size (by sl_kernel_rfl))]
  unfold runB kernelRun0_B
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, shapeCast_self, read_scratch0, read_scratch1]
  rfl

/-- At a point inside a sequence: the shift's sum. -/
theorem runB_10 (f) : (ms0_10 t).view.read (Elt F) ((ms0_10 t).view.writes (Elt F) f (runB m c t h p10 p11 p12 p13 s0 s1).2.2.2.1) =
    k0_pay10 (tileDh (iblk m c 0 t) (iblk m c 1 t) s0 s1) p10 := by
  rw [View.read_writes_eq_canon _ _ _ (View.cover_of_tiledL (runB m c t h p10 p11 p12 p13 s0 s1).2.2.2.1 S1x1x1024.size (by sl_kernel_rfl))]
  unfold runB kernelRun0_B
  dsimp only
  sl_unfold_words
  rw [View.canon_unit_zero z3]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, shapeCast_self, read_scratch0, read_scratch1]
  rfl

/-- At a point inside a sequence: the scale's sum. -/
theorem runB_11 (f) : (ms0_11 t).view.read (Elt F) ((ms0_11 t).view.writes (Elt F) f (runB m c t h p10 p11 p12 p13 s0 s1).2.2.2.2.1) =
    k0_pay13 (tileDh (iblk m c 0 t) (iblk m c 1 t) s0 s1) (iblk m c 2 t) (iblk m c 5 t) p11 := by
  rw [View.read_writes_eq_canon _ _ _ (View.cover_of_tiledL (runB m c t h p10 p11 p12 p13 s0 s1).2.2.2.2.1 S1x1x1024.size (by sl_kernel_rfl))]
  unfold runB kernelRun0_B
  dsimp only
  sl_unfold_words
  rw [View.canon_unit_zero z3]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, shapeCast_self, read_scratch0, read_scratch1]
  rfl

/-- At a point inside a sequence: the gate's sum. -/
theorem runB_12 (f) : (ms0_12 t).view.read (Elt F) ((ms0_12 t).view.writes (Elt F) f (runB m c t h p10 p11 p12 p13 s0 s1).2.2.2.2.2.1) =
    k0_pay20 (tileDh (iblk m c 0 t) (iblk m c 1 t) s0 s1) (k0_pay5 (iblk m c 2 t)) (k0_pay6 (iblk m c 2 t)) (iblk m c 5 t) (k0_pay7 (scaleRow (iblk m c 6 t))) (iblk m c 3 t) (iblk m c 4 t) p12 := by
  rw [View.read_writes_eq_canon _ _ _ (View.cover_of_tiledL (runB m c t h p10 p11 p12 p13 s0 s1).2.2.2.2.2.1 S1x1x1024.size (by sl_kernel_rfl))]
  unfold runB kernelRun0_B
  dsimp only
  sl_unfold_words
  rw [View.canon_unit_zero z3]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, shapeCast_self, read_scratch0, read_scratch1]
  rfl

/-- At a point inside a sequence: the norm weight's sum. -/
theorem runB_13 (f) : (ms0_13 t).view.read (Elt F) ((ms0_13 t).view.writes (Elt F) f (runB m c t h p10 p11 p12 p13 s0 s1).2.2.2.2.2.2.1) =
    k0_pay16 (tileDg (iblk m c 0 t) (iblk m c 1 t) (iblk m c 2 t) (iblk m c 6 t) s0 s1) p13 := by
  rw [View.read_writes_eq_canon _ _ _ (View.cover_of_tiledL (runB m c t h p10 p11 p12 p13 s0 s1).2.2.2.2.2.2.1 S1x1024.size (by sl_kernel_rfl))]
  unfold runB kernelRun0_B
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, shapeCast_self, read_scratch0, read_scratch1]
  rfl

end

section
variable (h : conds0_C (grid0.coords t)) (p13 : Vec F S1x1024 .f32)
    (s0 : Vec F S4096x1024 .bf16) (s1 : Vec F S1024x4096 .bf16)

/-- At the first point of a later sequence: the pre-activation's cotangent. -/
theorem runC_7 (f) : (ms0_7 t).view.read (Elt F) ((ms0_7 t).view.writes (Elt F) f (runC m c t h p13 s0 s1).1) =
    k0_pay2 (iblk m c 0 t) s0 (iblk m c 1 t) := by
  rw [View.read_writes_eq_canon _ _ _ (View.cover_of_tiledL (runC m c t h p13 s0 s1).1 S256x4096.size (by sl_kernel_rfl))]
  unfold runC kernelRun0_C
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, shapeCast_self, read_scratch0, read_scratch1]

/-- At the first point of a later sequence: the residual stream's cotangent. -/
theorem runC_8 (f) : (ms0_8 t).view.read (Elt F) ((ms0_8 t).view.writes (Elt F) f (runC m c t h p13 s0 s1).2.1) =
    tileDx (iblk m c 0 t) (iblk m c 1 t) (iblk m c 2 t) (iblk m c 3 t) (iblk m c 5 t) (iblk m c 6 t) s0 s1 := by
  rw [View.read_writes_eq_canon _ _ _ (View.cover_of_tiledL (runC m c t h p13 s0 s1).2.1 S256x1024.size (by sl_kernel_rfl))]
  unfold runC kernelRun0_C
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, shapeCast_self, read_scratch0, read_scratch1]
  rfl

/-- At the first point of a later sequence: the mixer output's cotangent. -/
theorem runC_9 (f) : (ms0_9 t).view.read (Elt F) ((ms0_9 t).view.writes (Elt F) f (runC m c t h p13 s0 s1).2.2.1) =
    tileDmixed (iblk m c 0 t) (iblk m c 1 t) (iblk m c 2 t) (iblk m c 3 t) (iblk m c 5 t) (iblk m c 6 t) s0 s1 := by
  rw [View.read_writes_eq_canon _ _ _ (View.cover_of_tiledL (runC m c t h p13 s0 s1).2.2.1 S256x1024.size (by sl_kernel_rfl))]
  unfold runC kernelRun0_C
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, shapeCast_self, read_scratch0, read_scratch1]
  rfl

/-- At the first point of a later sequence: the shift's sum. -/
theorem runC_10 (f) : (ms0_10 t).view.read (Elt F) ((ms0_10 t).view.writes (Elt F) f (runC m c t h p13 s0 s1).2.2.2.1) =
    k0_pay9 (tileDh (iblk m c 0 t) (iblk m c 1 t) s0 s1) := by
  rw [View.read_writes_eq_canon _ _ _ (View.cover_of_tiledL (runC m c t h p13 s0 s1).2.2.2.1 S1x1x1024.size (by sl_kernel_rfl))]
  unfold runC kernelRun0_C
  dsimp only
  sl_unfold_words
  rw [View.canon_unit_zero z3]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, shapeCast_self, read_scratch0, read_scratch1]
  rfl

/-- At the first point of a later sequence: the scale's sum. -/
theorem runC_11 (f) : (ms0_11 t).view.read (Elt F) ((ms0_11 t).view.writes (Elt F) f (runC m c t h p13 s0 s1).2.2.2.2.1) =
    k0_pay12 (tileDh (iblk m c 0 t) (iblk m c 1 t) s0 s1) (iblk m c 2 t) (iblk m c 5 t) := by
  rw [View.read_writes_eq_canon _ _ _ (View.cover_of_tiledL (runC m c t h p13 s0 s1).2.2.2.2.1 S1x1x1024.size (by sl_kernel_rfl))]
  unfold runC kernelRun0_C
  dsimp only
  sl_unfold_words
  rw [View.canon_unit_zero z3]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, shapeCast_self, read_scratch0, read_scratch1]
  rfl

/-- At the first point of a later sequence: the gate's sum. -/
theorem runC_12 (f) : (ms0_12 t).view.read (Elt F) ((ms0_12 t).view.writes (Elt F) f (runC m c t h p13 s0 s1).2.2.2.2.2.1) =
    k0_pay19 (tileDh (iblk m c 0 t) (iblk m c 1 t) s0 s1) (k0_pay5 (iblk m c 2 t)) (k0_pay6 (iblk m c 2 t)) (iblk m c 5 t) (k0_pay7 (scaleRow (iblk m c 6 t))) (iblk m c 3 t) (iblk m c 4 t) := by
  rw [View.read_writes_eq_canon _ _ _ (View.cover_of_tiledL (runC m c t h p13 s0 s1).2.2.2.2.2.1 S1x1x1024.size (by sl_kernel_rfl))]
  unfold runC kernelRun0_C
  dsimp only
  sl_unfold_words
  rw [View.canon_unit_zero z3]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, shapeCast_self, read_scratch0, read_scratch1]
  rfl

/-- At the first point of a later sequence: the norm weight's sum. -/
theorem runC_13 (f) : (ms0_13 t).view.read (Elt F) ((ms0_13 t).view.writes (Elt F) f (runC m c t h p13 s0 s1).2.2.2.2.2.2.1) =
    k0_pay16 (tileDg (iblk m c 0 t) (iblk m c 1 t) (iblk m c 2 t) (iblk m c 6 t) s0 s1) p13 := by
  rw [View.read_writes_eq_canon _ _ _ (View.cover_of_tiledL (runC m c t h p13 s0 s1).2.2.2.2.2.2.1 S1x1024.size (by sl_kernel_rfl))]
  unfold runC kernelRun0_C
  dsimp only
  sl_unfold_words
  rw [View.canon_unit_zero z2]
  simp only [View.readAt_eq_ld, Memref.IsWhole.read_unread, View.ld_unit_zero (S := S256x1024) z2, View.ld_unit_zero (S := S256x4096) z2, View.ld_unit_zero (S := S4096x1024) z2, View.ld_unit_zero (S := S1024x4096) z2, View.ld_unit_zero (S := S1x1x1024) z3, View.ld_unit_zero (S := S1x1024) z2, shapeCast_self, read_scratch0, read_scratch1]
  rfl

end

end Cert.BwdFfn

end
-- ==== Proof.BwdFfn.State.lean ====
/-
  What the buffers hold point by point: each tile's own outputs, the running sums of a sequence and of the whole batch,
  and the two weight matrices in the scratch.
-/
module

public import proofs.«01_k».proof.Proof.BwdFfn.PointA
public import proofs.«01_k».proof.Proof.BwdFfn.PointBC
public import Idealize.ShloMosaic.Lib.Claim

@[expose] public section

set_option maxRecDepth 16384

noncomputable section

namespace Cert.BwdFfn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

/-- The grid point numbered `n`. -/
def pt (n : ℕ) : Fin cfg0.N := ⟨n % 32, lt_of_lt_of_eq (Nat.mod_lt _ (by decide)) N_0.symm⟩

theorem pt_val (t : Fin cfg0.N) : pt t.val = t :=
  Fin.ext (Nat.mod_eq_of_lt (lt_of_lt_of_eq t.isLt (show cfg0.N = 32 from N_0)))

/-- The modulated row's cotangent at point `n`. -/
def dhAt (c : Dev nD) (n : ℕ) : Vec F S256x1024 .f32 := tileDh (iblk m c 0 (pt n)) (iblk m c 1 (pt n)) (W2 m c) (W1 m c)

/-- The running sum for the shift after point `n`: started afresh at a sequence's first point. -/
def sum10 (c : Dev nD) : ℕ → Vec F S1x1x1024 .f32
  | 0 => k0_pay9 (dhAt m c 0)
  | n + 1 => if (n + 1) % 8 = 0 then k0_pay9 (dhAt m c (n + 1))
      else k0_pay10 (dhAt m c (n + 1)) (sum10 c n)

theorem sum10_first (c : Dev nD) (n : ℕ) (h : n % 8 = 0) : sum10 m c n = k0_pay9 (dhAt m c n) := by
  cases n with
  | zero => rfl
  | succ n => exact if_pos h

theorem sum10_next (c : Dev nD) (n : ℕ) (h : n % 8 ≠ 0) : sum10 m c n = k0_pay10 (dhAt m c n) (sum10 m c (n - 1)) := by
  cases n with
  | zero => exact absurd rfl h
  | succ n => exact if_neg h

/-- The running sum for the scale after point `n`: started afresh at a sequence's first point. -/
def sum11 (c : Dev nD) : ℕ → Vec F S1x1x1024 .f32
  | 0 => k0_pay12 (dhAt m c 0) (iblk m c 2 (pt 0)) (iblk m c 5 (pt 0))
  | n + 1 => if (n + 1) % 8 = 0 then k0_pay12 (dhAt m c (n + 1)) (iblk m c 2 (pt (n + 1))) (iblk m c 5 (pt (n + 1)))
      else k0_pay13 (dhAt m c (n + 1)) (iblk m c 2 (pt (n + 1))) (iblk m c 5 (pt (n + 1))) (sum11 c n)

theorem sum11_first (c : Dev nD) (n : ℕ) (h : n % 8 = 0) : sum11 m c n = k0_pay12 (dhAt m c n) (iblk m c 2 (pt n)) (iblk m c 5 (pt n)) := by
  cases n with
  | zero => rfl
  | succ n => exact if_pos h

theorem sum11_next (c : Dev nD) (n : ℕ) (h : n % 8 ≠ 0) : sum11 m c n = k0_pay13 (dhAt m c n) (iblk m c 2 (pt n)) (iblk m c 5 (pt n)) (sum11 m c (n - 1)) := by
  cases n with
  | zero => exact absurd rfl h
  | succ n => exact if_neg h

/-- The running sum for the gate after point `n`: started afresh at a sequence's first point. -/
def sum12 (c : Dev nD) : ℕ → Vec F S1x1x1024 .f32
  | 0 => k0_pay19 (dhAt m c 0) (k0_pay5 (iblk m c 2 (pt 0))) (k0_pay6 (iblk m c 2 (pt 0))) (iblk m c 5 (pt 0)) (k0_pay7 (scaleRow (iblk m c 6 (pt 0)))) (iblk m c 3 (pt 0)) (iblk m c 4 (pt 0))
  | n + 1 => if (n + 1) % 8 = 0 then k0_pay19 (dhAt m c (n + 1)) (k0_pay5 (iblk m c 2 (pt (n + 1)))) (k0_pay6 (iblk m c 2 (pt (n + 1)))) (iblk m c 5 (pt (n + 1))) (k0_pay7 (scaleRow (iblk m c 6 (pt (n + 1))))) (iblk m c 3 (pt (n + 1))) (iblk m c 4 (pt (n + 1)))
      else k0_pay20 (dhAt m c (n + 1)) (k0_pay5 (iblk m c 2 (pt (n + 1)))) (k0_pay6 (iblk m c 2 (pt (n + 1)))) (iblk m c 5 (pt (n + 1))) (k0_pay7 (scaleRow (iblk m c 6 (pt (n + 1))))) (iblk m c 3 (pt (n + 1))) (iblk m c 4 (pt (n + 1))) (sum12 c n)

theorem sum12_first (c : Dev nD) (n : ℕ) (h : n % 8 = 0) : sum12 m c n = k0_pay19 (dhAt m c n) (k0_pay5 (iblk m c 2 (pt n))) (k0_pay6 (iblk m c 2 (pt n))) (iblk m c 5 (pt n)) (k0_pay7 (scaleRow (iblk m c 6 (pt n)))) (iblk m c 3 (pt n)) (iblk m c 4 (pt n)) := by
  cases n with
  | zero => rfl
  | succ n => exact if_pos h

theorem sum12_next (c : Dev nD) (n : ℕ) (h : n % 8 ≠ 0) : sum12 m c n = k0_pay20 (dhAt m c n) (k0_pay5 (iblk m c 2 (pt n))) (k0_pay6 (iblk m c 2 (pt n))) (iblk m c 5 (pt n)) (k0_pay7 (scaleRow (iblk m c 6 (pt n)))) (iblk m c 3 (pt n)) (iblk m c 4 (pt n)) (sum12 m c (n - 1)) := by
  cases n with
  | zero => exact absurd rfl h
  | succ n => exact if_neg h

/-- The running sum for the norm weight after point `n`. -/
def sum13 (c : Dev nD) : ℕ → Vec F S1x1024 .f32
  | 0 => k0_pay15 (tileDg (iblk m c 0 (pt 0)) (iblk m c 1 (pt 0)) (iblk m c 2 (pt 0)) (iblk m c 6 (pt 0)) (W2 m c) (W1 m c))
  | n + 1 => k0_pay16 (tileDg (iblk m c 0 (pt (n + 1))) (iblk m c 1 (pt (n + 1))) (iblk m c 2 (pt (n + 1))) (iblk m c 6 (pt (n + 1))) (W2 m c) (W1 m c)) (sum13 c n)

theorem sum13_next (c : Dev nD) (n : ℕ) (h : n ≠ 0) : sum13 m c n = k0_pay16 (tileDg (iblk m c 0 (pt n)) (iblk m c 1 (pt n)) (iblk m c 2 (pt n)) (iblk m c 6 (pt n)) (W2 m c) (W1 m c)) (sum13 m c (n - 1)) := by
  cases n with
  | zero => exact absurd rfl h
  | succ n => rfl

/-- The scratch, the register, the copies' counters and the two matrices in main memory, before point `n`. -/
def Inv (c : Dev nD) : (n : ℕ) → sProp 𝕄
  | 0 => Pipeline.ΦD osem0 spec0 H0 (V m) c
  | _ + 1 => iprop(iprop(owns (c : Thread nD τ) scM0_0 fullShare (W2 m c) ∗ owns (c : Thread nD τ) scM0_1 fullShare (W1 m c)) ∗ (∃ r, prngReg c r) ∗ iprop(semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0) ∗ iprop(hbPt0 c hbM0_0 (V m c main_v40) ∗ hbPt0 c hbM0_1 (V m c main_v38)))

theorem Inv_zero (c : Dev nD) (n : ℕ) (hz : n = 0) : Inv m c n = Pipeline.ΦD osem0 spec0 H0 (V m) c := by
  subst hz; rfl

theorem Inv_pos (c : Dev nD) (n : ℕ) (hz : n ≠ 0) :
    Inv m c n = iprop(iprop(owns (c : Thread nD τ) scM0_0 fullShare (W2 m c) ∗ owns (c : Thread nD τ) scM0_1 fullShare (W1 m c)) ∗ (∃ r, prngReg c r) ∗ iprop(semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0) ∗ iprop(hbPt0 c hbM0_0 (V m c main_v40) ∗ hbPt0 c hbM0_1 (V m c main_v38))) := by
  cases n with
  | zero => exact absurd rfl hz
  | succ n => rfl

/-- What each window's buffer holds after each point, and what is carried between points. -/
def dat (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay2 (iblk m c 0 t) (W2 m c) (iblk m c 1 t)
    | ⟨8, _⟩ => tileDx (iblk m c 0 t) (iblk m c 1 t) (iblk m c 2 t) (iblk m c 3 t) (iblk m c 5 t) (iblk m c 6 t) (W2 m c) (W1 m c)
    | ⟨9, _⟩ => tileDmixed (iblk m c 0 t) (iblk m c 1 t) (iblk m c 2 t) (iblk m c 3 t) (iblk m c 5 t) (iblk m c 6 t) (W2 m c) (W1 m c)
    | ⟨10, _⟩ => sum10 m c t.val
    | ⟨11, _⟩ => sum11 m c t.val
    | ⟨12, _⟩ => sum12 m c t.val
    | ⟨13, _⟩ => sum13 m c t.val
  Φ t := Inv m c t.val
  q _ := fullShare
  owed _ := 0

theorem dat_A (c : Dev nD) (w : Fin cfg0.W) : (dat m 0 c).A w = V m c (Pipeline.arrRef spec0 w) := by
  dsimp only [dat]

theorem after_0 (c : Dev nD) (t : Fin cfg0.N) : (dat m 0 c).after 0 t = iblk m c 0 t := by dsimp only [dat]
theorem after_1 (c : Dev nD) (t : Fin cfg0.N) : (dat m 0 c).after 1 t = iblk m c 1 t := by dsimp only [dat]
theorem after_2 (c : Dev nD) (t : Fin cfg0.N) : (dat m 0 c).after 2 t = iblk m c 2 t := by dsimp only [dat]
theorem after_3 (c : Dev nD) (t : Fin cfg0.N) : (dat m 0 c).after 3 t = iblk m c 3 t := by dsimp only [dat]
theorem after_4 (c : Dev nD) (t : Fin cfg0.N) : (dat m 0 c).after 4 t = iblk m c 4 t := by dsimp only [dat]
theorem after_5 (c : Dev nD) (t : Fin cfg0.N) : (dat m 0 c).after 5 t = iblk m c 5 t := by dsimp only [dat]
theorem after_6 (c : Dev nD) (t : Fin cfg0.N) : (dat m 0 c).after 6 t = iblk m c 6 t := by dsimp only [dat]
theorem after_7 (c : Dev nD) (t : Fin cfg0.N) : (dat m 0 c).after 7 t = k0_pay2 (iblk m c 0 t) (W2 m c) (iblk m c 1 t) := by dsimp only [dat]
theorem after_8 (c : Dev nD) (t : Fin cfg0.N) : (dat m 0 c).after 8 t = tileDx (iblk m c 0 t) (iblk m c 1 t) (iblk m c 2 t) (iblk m c 3 t) (iblk m c 5 t) (iblk m c 6 t) (W2 m c) (W1 m c) := by dsimp only [dat]
theorem after_9 (c : Dev nD) (t : Fin cfg0.N) : (dat m 0 c).after 9 t = tileDmixed (iblk m c 0 t) (iblk m c 1 t) (iblk m c 2 t) (iblk m c 3 t) (iblk m c 5 t) (iblk m c 6 t) (W2 m c) (W1 m c) := by dsimp only [dat]
theorem after_10 (c : Dev nD) (t : Fin cfg0.N) : (dat m 0 c).after 10 t = sum10 m c t.val := by dsimp only [dat]
theorem after_11 (c : Dev nD) (t : Fin cfg0.N) : (dat m 0 c).after 11 t = sum11 m c t.val := by dsimp only [dat]
theorem after_12 (c : Dev nD) (t : Fin cfg0.N) : (dat m 0 c).after 12 t = sum12 m c t.val := by dsimp only [dat]
theorem after_13 (c : Dev nD) (t : Fin cfg0.N) : (dat m 0 c).after 13 t = sum13 m c t.val := by dsimp only [dat]

theorem before_0 (c : Dev nD) (t : Fin cfg0.N) (d) : (dat m 0 c).before 0 t d = iblk m c 0 t :=
  before0_0_of m (dat m 0 c) (dat_A m c 0) (after_0 m c) t d
theorem before_1 (c : Dev nD) (t : Fin cfg0.N) (d) : (dat m 0 c).before 1 t d = iblk m c 1 t :=
  before0_1_of m (dat m 0 c) (dat_A m c 1) (after_1 m c) t d
theorem before_2 (c : Dev nD) (t : Fin cfg0.N) (d) : (dat m 0 c).before 2 t d = iblk m c 2 t :=
  before0_2_of m (dat m 0 c) (dat_A m c 2) (after_2 m c) t d
theorem before_3 (c : Dev nD) (t : Fin cfg0.N) (d) : (dat m 0 c).before 3 t d = iblk m c 3 t :=
  before0_3_of m (dat m 0 c) (dat_A m c 3) (after_3 m c) t d
theorem before_4 (c : Dev nD) (t : Fin cfg0.N) (d) : (dat m 0 c).before 4 t d = iblk m c 4 t :=
  before0_4_of m (dat m 0 c) (dat_A m c 4) (after_4 m c) t d
theorem before_5 (c : Dev nD) (t : Fin cfg0.N) (d) : (dat m 0 c).before 5 t d = iblk m c 5 t :=
  before0_5_of m (dat m 0 c) (dat_A m c 5) (after_5 m c) t d
theorem before_6 (c : Dev nD) (t : Fin cfg0.N) (d) : (dat m 0 c).before 6 t d = iblk m c 6 t :=
  before0_6_of m (dat m 0 c) (dat_A m c 6) (after_6 m c) t d

/-- Every point stores window 10. -/
theorem live_10 (t : Fin cfg0.N) : cfg0.idle 10 (grid0.coords t) = false := by
  by_cases h8 : t.val % 8 = 0
  · by_cases h0 : t.val = 0
    · have h := caseA h0
      exact liveAt0_10_A t h.1 h.2.1 h.2.2.1 h.2.2.2.1 h.2.2.2.2.1 h.2.2.2.2.2.1 h.2.2.2.2.2.2.1 h.2.2.2.2.2.2.2.1 h.2.2.2.2.2.2.2.2
    · have h := caseC h8 h0
      exact liveAt0_10_C t h.1 h.2.1 h.2.2.1 h.2.2.2.1 h.2.2.2.2.1 h.2.2.2.2.2.1 h.2.2.2.2.2.2.1 h.2.2.2.2.2.2.2.1 h.2.2.2.2.2.2.2.2
  · have h := caseB h8
    exact liveAt0_10_B t h.1 h.2.1 h.2.2.1 h.2.2.2.1 h.2.2.2.2.1 h.2.2.2.2.2.1 h.2.2.2.2.2.2.1 h.2.2.2.2.2.2.2.1 h.2.2.2.2.2.2.2.2

theorem carry_10 (c : Dev nD) : ∀ (t : Fin cfg0.N) (_ : t.val ≠ 0), cfg0.idle 10 (grid0.coords t) = true → cfg0.fresh 10 t.val = false →
    (dat m 0 c).after 10 t = (dat m 0 c).after 10 ⟨t.val - 1, by omega⟩ := by
  intro t _ hi _
  rw [live_10 t] at hi
  exact absurd hi Bool.false_ne_true

/-- Before a point of a run of points, window 10's buffer holds the running sum so far. -/
theorem before_10_B (c : Dev nD) (t : Fin cfg0.N) (h : conds0_B (grid0.coords t)) (d) :
    (dat m 0 c).before 10 t d = sum10 m c (t.val - 1) := by
  rw [Dat.before_out_traj _ 10 rfl (fun _ _ => rfl) (carry_10 m c) t.val t rfl d,
    if_neg (by rw [notFresh0_10_B t h.1 h.2.1 h.2.2.1 h.2.2.2.1 h.2.2.2.2.1 h.2.2.2.2.2.1 h.2.2.2.2.2.2.1 h.2.2.2.2.2.2.2.1 h.2.2.2.2.2.2.2.2]; exact Bool.false_ne_true)]
  dsimp only [dat]

/-- Every point stores window 11. -/
theorem live_11 (t : Fin cfg0.N) : cfg0.idle 11 (grid0.coords t) = false := by
  by_cases h8 : t.val % 8 = 0
  · by_cases h0 : t.val = 0
    · have h := caseA h0
      exact liveAt0_11_A t h.1 h.2.1 h.2.2.1 h.2.2.2.1 h.2.2.2.2.1 h.2.2.2.2.2.1 h.2.2.2.2.2.2.1 h.2.2.2.2.2.2.2.1 h.2.2.2.2.2.2.2.2
    · have h := caseC h8 h0
      exact liveAt0_11_C t h.1 h.2.1 h.2.2.1 h.2.2.2.1 h.2.2.2.2.1 h.2.2.2.2.2.1 h.2.2.2.2.2.2.1 h.2.2.2.2.2.2.2.1 h.2.2.2.2.2.2.2.2
  · have h := caseB h8
    exact liveAt0_11_B t h.1 h.2.1 h.2.2.1 h.2.2.2.1 h.2.2.2.2.1 h.2.2.2.2.2.1 h.2.2.2.2.2.2.1 h.2.2.2.2.2.2.2.1 h.2.2.2.2.2.2.2.2

theorem carry_11 (c : Dev nD) : ∀ (t : Fin cfg0.N) (_ : t.val ≠ 0), cfg0.idle 11 (grid0.coords t) = true → cfg0.fresh 11 t.val = false →
    (dat m 0 c).after 11 t = (dat m 0 c).after 11 ⟨t.val - 1, by omega⟩ := by
  intro t _ hi _
  rw [live_11 t] at hi
  exact absurd hi Bool.false_ne_true

/-- Before a point of a run of points, window 11's buffer holds the running sum so far. -/
theorem before_11_B (c : Dev nD) (t : Fin cfg0.N) (h : conds0_B (grid0.coords t)) (d) :
    (dat m 0 c).before 11 t d = sum11 m c (t.val - 1) := by
  rw [Dat.before_out_traj _ 11 rfl (fun _ _ => rfl) (carry_11 m c) t.val t rfl d,
    if_neg (by rw [notFresh0_11_B t h.1 h.2.1 h.2.2.1 h.2.2.2.1 h.2.2.2.2.1 h.2.2.2.2.2.1 h.2.2.2.2.2.2.1 h.2.2.2.2.2.2.2.1 h.2.2.2.2.2.2.2.2]; exact Bool.false_ne_true)]
  dsimp only [dat]

/-- Every point stores window 12. -/
theorem live_12 (t : Fin cfg0.N) : cfg0.idle 12 (grid0.coords t) = false := by
  by_cases h8 : t.val % 8 = 0
  · by_cases h0 : t.val = 0
    · have h := caseA h0
      exact liveAt0_12_A t h.1 h.2.1 h.2.2.1 h.2.2.2.1 h.2.2.2.2.1 h.2.2.2.2.2.1 h.2.2.2.2.2.2.1 h.2.2.2.2.2.2.2.1 h.2.2.2.2.2.2.2.2
    · have h := caseC h8 h0
      exact liveAt0_12_C t h.1 h.2.1 h.2.2.1 h.2.2.2.1 h.2.2.2.2.1 h.2.2.2.2.2.1 h.2.2.2.2.2.2.1 h.2.2.2.2.2.2.2.1 h.2.2.2.2.2.2.2.2
  · have h := caseB h8
    exact liveAt0_12_B t h.1 h.2.1 h.2.2.1 h.2.2.2.1 h.2.2.2.2.1 h.2.2.2.2.2.1 h.2.2.2.2.2.2.1 h.2.2.2.2.2.2.2.1 h.2.2.2.2.2.2.2.2

theorem carry_12 (c : Dev nD) : ∀ (t : Fin cfg0.N) (_ : t.val ≠ 0), cfg0.idle 12 (grid0.coords t) = true → cfg0.fresh 12 t.val = false →
    (dat m 0 c).after 12 t = (dat m 0 c).after 12 ⟨t.val - 1, by omega⟩ := by
  intro t _ hi _
  rw [live_12 t] at hi
  exact absurd hi Bool.false_ne_true

/-- Before a point of a run of points, window 12's buffer holds the running sum so far. -/
theorem before_12_B (c : Dev nD) (t : Fin cfg0.N) (h : conds0_B (grid0.coords t)) (d) :
    (dat m 0 c).before 12 t d = sum12 m c (t.val - 1) := by
  rw [Dat.before_out_traj _ 12 rfl (fun _ _ => rfl) (carry_12 m c) t.val t rfl d,
    if_neg (by rw [notFresh0_12_B t h.1 h.2.1 h.2.2.1 h.2.2.2.1 h.2.2.2.2.1 h.2.2.2.2.2.1 h.2.2.2.2.2.2.1 h.2.2.2.2.2.2.2.1 h.2.2.2.2.2.2.2.2]; exact Bool.false_ne_true)]
  dsimp only [dat]

/-- Every point stores window 13. -/
theorem live_13 (t : Fin cfg0.N) : cfg0.idle 13 (grid0.coords t) = false := by
  by_cases h8 : t.val % 8 = 0
  · by_cases h0 : t.val = 0
    · have h := caseA h0
      exact liveAt0_13_A t h.1 h.2.1 h.2.2.1 h.2.2.2.1 h.2.2.2.2.1 h.2.2.2.2.2.1 h.2.2.2.2.2.2.1 h.2.2.2.2.2.2.2.1 h.2.2.2.2.2.2.2.2
    · have h := caseC h8 h0
      exact liveAt0_13_C t h.1 h.2.1 h.2.2.1 h.2.2.2.1 h.2.2.2.2.1 h.2.2.2.2.2.1 h.2.2.2.2.2.2.1 h.2.2.2.2.2.2.2.1 h.2.2.2.2.2.2.2.2
  · have h := caseB h8
    exact liveAt0_13_B t h.1 h.2.1 h.2.2.1 h.2.2.2.1 h.2.2.2.2.1 h.2.2.2.2.2.1 h.2.2.2.2.2.2.1 h.2.2.2.2.2.2.2.1 h.2.2.2.2.2.2.2.2

theorem carry_13 (c : Dev nD) : ∀ (t : Fin cfg0.N) (_ : t.val ≠ 0), cfg0.idle 13 (grid0.coords t) = true → cfg0.fresh 13 t.val = false →
    (dat m 0 c).after 13 t = (dat m 0 c).after 13 ⟨t.val - 1, by omega⟩ := by
  intro t _ hi _
  rw [live_13 t] at hi
  exact absurd hi Bool.false_ne_true

/-- Before a point of a run of points, window 13's buffer holds the running sum so far. -/
theorem before_13_B (c : Dev nD) (t : Fin cfg0.N) (h : conds0_B (grid0.coords t)) (d) :
    (dat m 0 c).before 13 t d = sum13 m c (t.val - 1) := by
  rw [Dat.before_out_traj _ 13 rfl (fun _ _ => rfl) (carry_13 m c) t.val t rfl d,
    if_neg (by rw [notFresh0_13_B t h.1 h.2.1 h.2.2.1 h.2.2.2.1 h.2.2.2.2.1 h.2.2.2.2.2.1 h.2.2.2.2.2.2.1 h.2.2.2.2.2.2.2.1 h.2.2.2.2.2.2.2.2]; exact Bool.false_ne_true)]
  dsimp only [dat]

/-- Before a point of a run of points, window 13's buffer holds the running sum so far. -/
theorem before_13_C (c : Dev nD) (t : Fin cfg0.N) (h : conds0_C (grid0.coords t)) (d) :
    (dat m 0 c).before 13 t d = sum13 m c (t.val - 1) := by
  rw [Dat.before_out_traj _ 13 rfl (fun _ _ => rfl) (carry_13 m c) t.val t rfl d,
    if_neg (by rw [notFresh0_13_C t h.1 h.2.1 h.2.2.1 h.2.2.2.1 h.2.2.2.2.1 h.2.2.2.2.2.1 h.2.2.2.2.2.2.1 h.2.2.2.2.2.2.2.1 h.2.2.2.2.2.2.2.2]; exact Bool.false_ne_true)]
  dsimp only [dat]

/-- What the body is called with at point `t`, -/
def bodyPre (c : Dev nD) (t : Fin cfg0.N) : sProp 𝕄 :=
  iprop((dat m 0 c).Φ t.castSucc ∗ (dat m 0 c).owesAt () t.castSucc
    ∗ (∃ d, owns (c : Thread nD τ) (ms0_0 t) fullShare ((dat m 0 c).before 0 t d))
    ∗ (∃ d, owns (c : Thread nD τ) (ms0_1 t) fullShare ((dat m 0 c).before 1 t d))
    ∗ (∃ d, owns (c : Thread nD τ) (ms0_2 t) fullShare ((dat m 0 c).before 2 t d))
    ∗ (∃ d, owns (c : Thread nD τ) (ms0_3 t) fullShare ((dat m 0 c).before 3 t d))
    ∗ (∃ d, owns (c : Thread nD τ) (ms0_4 t) fullShare ((dat m 0 c).before 4 t d))
    ∗ (∃ d, owns (c : Thread nD τ) (ms0_5 t) fullShare ((dat m 0 c).before 5 t d))
    ∗ (∃ d, owns (c : Thread nD τ) (ms0_6 t) fullShare ((dat m 0 c).before 6 t d))
    ∗ (∃ d, owns (c : Thread nD τ) (ms0_7 t) fullShare ((dat m 0 c).before 7 t d))
    ∗ (∃ d, owns (c : Thread nD τ) (ms0_8 t) fullShare ((dat m 0 c).before 8 t d))
    ∗ (∃ d, owns (c : Thread nD τ) (ms0_9 t) fullShare ((dat m 0 c).before 9 t d))
    ∗ (∃ d, owns (c : Thread nD τ) (ms0_10 t) fullShare ((dat m 0 c).before 10 t d))
    ∗ (∃ d, owns (c : Thread nD τ) (ms0_11 t) fullShare ((dat m 0 c).before 11 t d))
    ∗ (∃ d, owns (c : Thread nD τ) (ms0_12 t) fullShare ((dat m 0 c).before 12 t d))
    ∗ (∃ d, owns (c : Thread nD τ) (ms0_13 t) fullShare ((dat m 0 c).before 13 t d)))

/-- and what it returns. -/
def bodyPost (c : Dev nD) (t : Fin cfg0.N) : sProp 𝕄 :=
  iprop((dat m 0 c).Φ t.succ ∗ (dat m 0 c).owesAt () t.succ
    ∗ (dat m 0 c).leavesExact 0 t
    ∗ (dat m 0 c).leavesExact 1 t
    ∗ (dat m 0 c).leavesExact 2 t
    ∗ (dat m 0 c).leavesExact 3 t
    ∗ (dat m 0 c).leavesExact 4 t
    ∗ (dat m 0 c).leavesExact 5 t
    ∗ (dat m 0 c).leavesExact 6 t
    ∗ (dat m 0 c).leavesExact 7 t
    ∗ (dat m 0 c).leavesExact 8 t
    ∗ (dat m 0 c).leavesExact 9 t
    ∗ (dat m 0 c).leavesExact 10 t
    ∗ (dat m 0 c).leavesExact 11 t
    ∗ (dat m 0 c).leavesExact 12 t
    ∗ (dat m 0 c).leavesExact 13 t)

theorem leaves_0 (c : Dev nD) (t : Fin cfg0.N) : (dat m 0 c).leavesExact 0 t = owns (c : Thread nD τ) (ms0_0 t) fullShare (iblk m c 0 t) := by
  unfold Dat.leavesExact; rw [liveAt0_0 t, after_0]
theorem leaves_1 (c : Dev nD) (t : Fin cfg0.N) : (dat m 0 c).leavesExact 1 t = owns (c : Thread nD τ) (ms0_1 t) fullShare (iblk m c 1 t) := by
  unfold Dat.leavesExact; rw [liveAt0_1 t, after_1]
theorem leaves_2 (c : Dev nD) (t : Fin cfg0.N) : (dat m 0 c).leavesExact 2 t = owns (c : Thread nD τ) (ms0_2 t) fullShare (iblk m c 2 t) := by
  unfold Dat.leavesExact; rw [liveAt0_2 t, after_2]
theorem leaves_3 (c : Dev nD) (t : Fin cfg0.N) : (dat m 0 c).leavesExact 3 t = owns (c : Thread nD τ) (ms0_3 t) fullShare (iblk m c 3 t) := by
  unfold Dat.leavesExact; rw [liveAt0_3 t, after_3]
theorem leaves_4 (c : Dev nD) (t : Fin cfg0.N) : (dat m 0 c).leavesExact 4 t = owns (c : Thread nD τ) (ms0_4 t) fullShare (iblk m c 4 t) := by
  unfold Dat.leavesExact; rw [liveAt0_4 t, after_4]
theorem leaves_5 (c : Dev nD) (t : Fin cfg0.N) : (dat m 0 c).leavesExact 5 t = owns (c : Thread nD τ) (ms0_5 t) fullShare (iblk m c 5 t) := by
  unfold Dat.leavesExact; rw [liveAt0_5 t, after_5]
theorem leaves_6 (c : Dev nD) (t : Fin cfg0.N) : (dat m 0 c).leavesExact 6 t = owns (c : Thread nD τ) (ms0_6 t) fullShare (iblk m c 6 t) := by
  unfold Dat.leavesExact; rw [liveAt0_6 t, after_6]
theorem leaves_7 (c : Dev nD) (t : Fin cfg0.N) : (dat m 0 c).leavesExact 7 t = owns (c : Thread nD τ) (ms0_7 t) fullShare (k0_pay2 (iblk m c 0 t) (W2 m c) (iblk m c 1 t)) := by
  unfold Dat.leavesExact; rw [liveAt0_7 t, after_7]
theorem leaves_8 (c : Dev nD) (t : Fin cfg0.N) : (dat m 0 c).leavesExact 8 t = owns (c : Thread nD τ) (ms0_8 t) fullShare (tileDx (iblk m c 0 t) (iblk m c 1 t) (iblk m c 2 t) (iblk m c 3 t) (iblk m c 5 t) (iblk m c 6 t) (W2 m c) (W1 m c)) := by
  unfold Dat.leavesExact; rw [liveAt0_8 t, after_8]
theorem leaves_9 (c : Dev nD) (t : Fin cfg0.N) : (dat m 0 c).leavesExact 9 t = owns (c : Thread nD τ) (ms0_9 t) fullShare (tileDmixed (iblk m c 0 t) (iblk m c 1 t) (iblk m c 2 t) (iblk m c 3 t) (iblk m c 5 t) (iblk m c 6 t) (W2 m c) (W1 m c)) := by
  unfold Dat.leavesExact; rw [liveAt0_9 t, after_9]
theorem leaves_10 (c : Dev nD) (t : Fin cfg0.N) : (dat m 0 c).leavesExact 10 t = owns (c : Thread nD τ) (ms0_10 t) fullShare (sum10 m c t.val) := by
  unfold Dat.leavesExact; rw [live_10 t, after_10]
theorem leaves_11 (c : Dev nD) (t : Fin cfg0.N) : (dat m 0 c).leavesExact 11 t = owns (c : Thread nD τ) (ms0_11 t) fullShare (sum11 m c t.val) := by
  unfold Dat.leavesExact; rw [live_11 t, after_11]
theorem leaves_12 (c : Dev nD) (t : Fin cfg0.N) : (dat m 0 c).leavesExact 12 t = owns (c : Thread nD τ) (ms0_12 t) fullShare (sum12 m c t.val) := by
  unfold Dat.leavesExact; rw [live_12 t, after_12]
theorem leaves_13 (c : Dev nD) (t : Fin cfg0.N) : (dat m 0 c).leavesExact 13 t = owns (c : Thread nD τ) (ms0_13 t) fullShare (sum13 m c t.val) := by
  unfold Dat.leavesExact; rw [live_13 t, after_13]

end Cert.BwdFfn

end
-- ==== Proof.BwdFfn.BodyA.lean ====
/-
  The body at the first point.
-/
module

public import proofs.«01_k».proof.Proof.BwdFfn.State

@[expose] public section

set_option maxRecDepth 16384

noncomputable section

namespace Cert.BwdFfn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 6000000 in
/-- The body at the first point: from what the point before left it leaves what the state says. -/
theorem sound_A (c : Dev nD) (t : Fin cfg0.N) (h0 : t.val = 0) :
    bodyPre m c t ⊢ wp frame (wpE (defs₀ (F := F)) Variants.none c none) Set.univ (bodyAt0 t) (fun _ => bodyPost m c t) := by
  have h := caseA h0
  unfold bodyPre bodyPost bodyAt0
  simp only [before_0, before_1, before_2, before_3, before_4, before_5, before_6]
  rw [show (dat m 0 c).Φ t.succ = Inv m c (t.val + 1) from rfl, Inv_pos m c _ (Nat.succ_ne_zero _),
    show (dat m 0 c).Φ t.castSucc = Inv m c t.val from rfl]
  unfold Dat.owesAt Pipeline.owesWithin
  rw [show (dat m 0 c).owed t.castSucc = 0 from rfl, show (dat m 0 c).owed t.succ = 0 from rfl]
  rw [leaves_0, leaves_1, leaves_2, leaves_3, leaves_4, leaves_5, leaves_6, leaves_7, leaves_8, leaves_9, leaves_10, leaves_11, leaves_12, leaves_13]
  rw [Inv_zero m c _ h0, PhiD0_eq]
  rw [sum10_first m c _ (by omega), sum11_first m c _ (by omega), sum12_first m c _ (by omega), show sum13 m c t.val = sum13 m c 0 from by rw [h0]]
  unfold sum13 dhAt
  rw [show pt 0 = t from by rw [← h0]; exact pt_val t, pt_val]
  iintro ⟨⟨⟨HS0, HS1⟩, Hg, ⟨Hq0, Hq1, Hq2, Hq3, Hq4⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runA m c t h).2.2.2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  isplitl [Hq0]; · iexact Hq0
  isplitl [Hq1]; · iexact Hq1
  isplitl [Hq2]; · iexact Hq2
  isplitl [Hq3]; · iexact Hq3
  isplitl [Hq4]; · iexact Hq4
  isplitl [Hh0]; · iexact Hh0
  isplitl [Hh1]; · iexact Hh1
  isplitl [HW]; · iexact HW
  iintro ⟨H0, H1, H2, H3, H4, H5, H6, ⟨%e7, H7⟩, ⟨%e8, H8⟩, ⟨%e9, H9⟩, ⟨%e10, H10⟩, ⟨%e11, H11⟩, ⟨%e12, H12⟩, ⟨%e13, H13⟩, ⟨%es0, HS0⟩, ⟨%es1, HS1⟩, Hq0, Hq1, Hq2, Hq3, Hq4, Hh0, Hh1, ⟨%W', HW'⟩⟩
  isplitl [HS0 HS1 Hg Hq0 Hq1 Hq2 Hq3 Hq4 Hh0 Hh1]
  · isplitl [HS0 HS1]
    · isplitl [HS0]
      · unfold owns; iexists _; isplitr
        swap; · iexact HS0
        ipureintro; exact runA_s0 h _
      unfold owns; iexists _; isplitr
      swap; · iexact HS1
      ipureintro; exact runA_s1 h _
    isplitl [Hg]; · iexact Hg
    isplitl [Hq0 Hq1 Hq2 Hq3 Hq4]
    · isplitl [Hq0]; · iexact Hq0
      isplitl [Hq1]; · iexact Hq1
      isplitl [Hq2]; · iexact Hq2
      isplitl [Hq3]; · iexact Hq3
      iexact Hq4
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact runA_7 h _
  isplitl [H8]
  · unfold owns; iexists _; isplitr
    swap; · iexact H8
    ipureintro; exact runA_8 h _
  isplitl [H9]
  · unfold owns; iexists _; isplitr
    swap; · iexact H9
    ipureintro; exact runA_9 h _
  isplitl [H10]
  · unfold owns; iexists _; isplitr
    swap; · iexact H10
    ipureintro; exact runA_10 h _
  isplitl [H11]
  · unfold owns; iexists _; isplitr
    swap; · iexact H11
    ipureintro; exact runA_11 h _
  isplitl [H12]
  · unfold owns; iexists _; isplitr
    swap; · iexact H12
    ipureintro; exact runA_12 h _
  unfold owns; iexists _; isplitr
  swap; · iexact H13
  ipureintro; exact runA_13 h _

end Cert.BwdFfn

end
-- ==== Proof.BwdFfn.BodyB.lean ====
/-
  The body at a point inside a sequence.
-/
module

public import proofs.«01_k».proof.Proof.BwdFfn.State

@[expose] public section

set_option maxRecDepth 16384

noncomputable section

namespace Cert.BwdFfn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 6000000 in
/-- The body at a point inside a sequence: from what the point before left it leaves what the state says. -/
theorem sound_B (c : Dev nD) (t : Fin cfg0.N) (h8 : t.val % 8 ≠ 0) :
    bodyPre m c t ⊢ wp frame (wpE (defs₀ (F := F)) Variants.none c none) Set.univ (bodyAt0 t) (fun _ => bodyPost m c t) := by
  have h := caseB h8
  unfold bodyPre bodyPost bodyAt0
  simp only [before_0, before_1, before_2, before_3, before_4, before_5, before_6]
  rw [show (dat m 0 c).Φ t.succ = Inv m c (t.val + 1) from rfl, Inv_pos m c _ (Nat.succ_ne_zero _),
    show (dat m 0 c).Φ t.castSucc = Inv m c t.val from rfl]
  unfold Dat.owesAt Pipeline.owesWithin
  rw [show (dat m 0 c).owed t.castSucc = 0 from rfl, show (dat m 0 c).owed t.succ = 0 from rfl]
  rw [leaves_0, leaves_1, leaves_2, leaves_3, leaves_4, leaves_5, leaves_6, leaves_7, leaves_8, leaves_9, leaves_10, leaves_11, leaves_12, leaves_13]
  rw [Inv_pos m c _ (by omega)]
  simp only [before_10_B m c t h, before_11_B m c t h, before_12_B m c t h, before_13_B m c t h]
  rw [sum10_next m c _ h8, sum11_next m c _ h8, sum12_next m c _ h8, sum13_next m c t.val (by omega)]
  unfold dhAt
  rw [pt_val]
  iintro ⟨⟨⟨HS0, HS1⟩, Hg, ⟨Hq0, Hq1, Hq2, Hq3, Hq4⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runB m c t h (sum10 m c (t.val - 1)) (sum11 m c (t.val - 1)) (sum12 m c (t.val - 1)) (sum13 m c (t.val - 1)) (W2 m c) (W1 m c)).2.2.2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexact H10
  isplitl [H11]; · iexact H11
  isplitl [H12]; · iexact H12
  isplitl [H13]; · iexact H13
  isplitl [HS0]; · iexact HS0
  isplitl [HS1]; · iexact HS1
  isplitl [Hq0]; · iexact Hq0
  isplitl [Hq1]; · iexact Hq1
  isplitl [Hq2]; · iexact Hq2
  isplitl [Hq3]; · iexact Hq3
  isplitl [Hq4]; · iexact Hq4
  isplitl [Hh0]; · iexact Hh0
  isplitl [Hh1]; · iexact Hh1
  isplitl [HW]; · iexact HW
  iintro ⟨H0, H1, H2, H3, H4, H5, H6, ⟨%e7, H7⟩, ⟨%e8, H8⟩, ⟨%e9, H9⟩, ⟨%e10, H10⟩, ⟨%e11, H11⟩, ⟨%e12, H12⟩, ⟨%e13, H13⟩, HS0, HS1, Hq0, Hq1, Hq2, Hq3, Hq4, Hh0, Hh1, ⟨%W', HW'⟩⟩
  isplitl [HS0 HS1 Hg Hq0 Hq1 Hq2 Hq3 Hq4 Hh0 Hh1]
  · isplitl [HS0 HS1]
    · isplitl [HS0]
      · iexact HS0
      iexact HS1
    isplitl [Hg]; · iexact Hg
    isplitl [Hq0 Hq1 Hq2 Hq3 Hq4]
    · isplitl [Hq0]; · iexact Hq0
      isplitl [Hq1]; · iexact Hq1
      isplitl [Hq2]; · iexact Hq2
      isplitl [Hq3]; · iexact Hq3
      iexact Hq4
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact runB_7 h _ _ _ _ _ _ _
  isplitl [H8]
  · unfold owns; iexists _; isplitr
    swap; · iexact H8
    ipureintro; exact runB_8 h _ _ _ _ _ _ _
  isplitl [H9]
  · unfold owns; iexists _; isplitr
    swap; · iexact H9
    ipureintro; exact runB_9 h _ _ _ _ _ _ _
  isplitl [H10]
  · unfold owns; iexists _; isplitr
    swap; · iexact H10
    ipureintro; exact runB_10 h _ _ _ _ _ _ _
  isplitl [H11]
  · unfold owns; iexists _; isplitr
    swap; · iexact H11
    ipureintro; exact runB_11 h _ _ _ _ _ _ _
  isplitl [H12]
  · unfold owns; iexists _; isplitr
    swap; · iexact H12
    ipureintro; exact runB_12 h _ _ _ _ _ _ _
  unfold owns; iexists _; isplitr
  swap; · iexact H13
  ipureintro; exact runB_13 h _ _ _ _ _ _ _

end Cert.BwdFfn

end
-- ==== Proof.BwdFfn.BodyC.lean ====
/-
  The body at the first point of a later sequence.
-/
module

public import proofs.«01_k».proof.Proof.BwdFfn.State

@[expose] public section

set_option maxRecDepth 16384

noncomputable section

namespace Cert.BwdFfn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 6000000 in
/-- The body at the first point of a later sequence: from what the point before left it leaves what the state says. -/
theorem sound_C (c : Dev nD) (t : Fin cfg0.N) (h8 : t.val % 8 = 0) (h0 : t.val ≠ 0) :
    bodyPre m c t ⊢ wp frame (wpE (defs₀ (F := F)) Variants.none c none) Set.univ (bodyAt0 t) (fun _ => bodyPost m c t) := by
  have h := caseC h8 h0
  unfold bodyPre bodyPost bodyAt0
  simp only [before_0, before_1, before_2, before_3, before_4, before_5, before_6]
  rw [show (dat m 0 c).Φ t.succ = Inv m c (t.val + 1) from rfl, Inv_pos m c _ (Nat.succ_ne_zero _),
    show (dat m 0 c).Φ t.castSucc = Inv m c t.val from rfl]
  unfold Dat.owesAt Pipeline.owesWithin
  rw [show (dat m 0 c).owed t.castSucc = 0 from rfl, show (dat m 0 c).owed t.succ = 0 from rfl]
  rw [leaves_0, leaves_1, leaves_2, leaves_3, leaves_4, leaves_5, leaves_6, leaves_7, leaves_8, leaves_9, leaves_10, leaves_11, leaves_12, leaves_13]
  rw [Inv_pos m c _ h0]
  simp only [before_13_C m c t h]
  rw [sum10_first m c _ h8, sum11_first m c _ h8, sum12_first m c _ h8, sum13_next m c t.val h0]
  unfold dhAt
  rw [pt_val]
  iintro ⟨⟨⟨HS0, HS1⟩, Hg, ⟨Hq0, Hq1, Hq2, Hq3, Hq4⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runC m c t h (sum13 m c (t.val - 1)) (W2 m c) (W1 m c)).2.2.2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexact H13
  isplitl [HS0]; · iexact HS0
  isplitl [HS1]; · iexact HS1
  isplitl [Hq0]; · iexact Hq0
  isplitl [Hq1]; · iexact Hq1
  isplitl [Hq2]; · iexact Hq2
  isplitl [Hq3]; · iexact Hq3
  isplitl [Hq4]; · iexact Hq4
  isplitl [Hh0]; · iexact Hh0
  isplitl [Hh1]; · iexact Hh1
  isplitl [HW]; · iexact HW
  iintro ⟨H0, H1, H2, H3, H4, H5, H6, ⟨%e7, H7⟩, ⟨%e8, H8⟩, ⟨%e9, H9⟩, ⟨%e10, H10⟩, ⟨%e11, H11⟩, ⟨%e12, H12⟩, ⟨%e13, H13⟩, HS0, HS1, Hq0, Hq1, Hq2, Hq3, Hq4, Hh0, Hh1, ⟨%W', HW'⟩⟩
  isplitl [HS0 HS1 Hg Hq0 Hq1 Hq2 Hq3 Hq4 Hh0 Hh1]
  · isplitl [HS0 HS1]
    · isplitl [HS0]
      · iexact HS0
      iexact HS1
    isplitl [Hg]; · iexact Hg
    isplitl [Hq0 Hq1 Hq2 Hq3 Hq4]
    · isplitl [Hq0]; · iexact Hq0
      isplitl [Hq1]; · iexact Hq1
      isplitl [Hq2]; · iexact Hq2
      isplitl [Hq3]; · iexact Hq3
      iexact Hq4
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact runC_7 h _ _ _ _
  isplitl [H8]
  · unfold owns; iexists _; isplitr
    swap; · iexact H8
    ipureintro; exact runC_8 h _ _ _ _
  isplitl [H9]
  · unfold owns; iexists _; isplitr
    swap; · iexact H9
    ipureintro; exact runC_9 h _ _ _ _
  isplitl [H10]
  · unfold owns; iexists _; isplitr
    swap; · iexact H10
    ipureintro; exact runC_10 h _ _ _ _
  isplitl [H11]
  · unfold owns; iexists _; isplitr
    swap; · iexact H11
    ipureintro; exact runC_11 h _ _ _ _
  isplitl [H12]
  · unfold owns; iexists _; isplitr
    swap; · iexact H12
    ipureintro; exact runC_12 h _ _ _ _
  unfold owns; iexists _; isplitr
  swap; · iexact H13
  ipureintro; exact runC_13 h _ _ _ _

end Cert.BwdFfn

end
-- ==== Proof.BwdFfn.Run.lean ====
/-
  The launch: the body's obligation at every point, the run and the frame.
-/
module

public import proofs.«01_k».proof.Proof.BwdFfn.BodyA
public import proofs.«01_k».proof.Proof.BwdFfn.BodyB
public import proofs.«01_k».proof.Proof.BwdFfn.BodyC

@[expose] public section

set_option maxRecDepth 16384

noncomputable section

namespace Cert.BwdFfn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

variable (ρ : Dev nD → PrngReg)

/-- The body at any point. -/
theorem sound (c : Dev nD) (t : Fin cfg0.N) :
    bodyPre m c t ⊢ wp frame (wpE (defs₀ (F := F)) Variants.none c none) Set.univ (bodyAt0 t) (fun _ => bodyPost m c t) := by
  by_cases h8 : t.val % 8 = 0
  · by_cases h0 : t.val = 0
    · exact sound_A m c t h0
    · exact sound_C m c t h8 h0
  · exact sound_B m c t h8

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dat (F := F) m 0 c) (defs₀ (F := F)) Variants.none () Set.univ := fun t => by
  rw [bigSep_W0, bigSep_W0, body_row]
  exact triple_restated (sound m c t) rfl .rfl fun _ => .rfl

/-- What the launch hands over is what is held before the first point. -/
theorem enter (c : Dev nD) : Pipeline.ΦD osem0 spec0 H0 (V m) c ⊢ (dat m 0 c).Φ 0 := by
  rw [show (dat m 0 c).Φ 0 = Inv m c 0 from rfl, Inv_zero m c 0 rfl]

/-- After the last point the scratch's contents are forgotten. -/
theorem leave (c : Dev nD) : (dat m 0 c).Φ (Fin.last cfg0.N) ⊢ Pipeline.ΦD osem0 spec0 H0 (V m) c := by
  rw [show (dat m 0 c).Φ (Fin.last cfg0.N) = Inv m c cfg0.N from rfl,
    Inv_pos m c _ (by have : cfg0.N = 32 := N_0; omega), PhiD0_eq]
  iintro ⟨⟨HS0, HS1⟩, Hg, ⟨Hq0, Hq1, Hq2, Hq3, Hq4⟩, ⟨Hh0, Hh1⟩⟩
  isplitl [HS0 HS1]
  · isplitl [HS0]
    · iexists _; iexact HS0
    iexists _; iexact HS1
  isplitl [Hg]; · iexact Hg
  isplitl [Hq0 Hq1 Hq2 Hq3 Hq4]
  · isplitl [Hq0]; · iexact Hq0
    isplitl [Hq1]; · iexact Hq1
    isplitl [Hq2]; · iexact Hq2
    isplitl [Hq3]; · iexact Hq3
    iexact Hq4
  isplitl [Hh0]; · iexact Hh0
  iexact Hh1

set_option backward.isDefEq.respectTransparency.types false in
/-- The launch ends with every array at what the points wrote back and every counter at zero. -/
theorem run_quiet : θ_run defs (onTc (τ := τ) (main (F := F))) (s₀ m ρ) (fun r => (Pipeline.FramePost cfgs (dat m) 0 (V m)) r ∧ r.2.sem = fun _ => 0) :=
  Pipeline.θ_run_frame_dma (Q' := _) cfgs (dat m) (0 : Fin 1) launch0 osem0 defs₀ Variants.none ownSemFacts0 H0 H0_sub m ρ main
    (hbody := fun c => (obligation m c).loose) (hshare := fun c => (dat m 0 c).share_full fun _ => rfl)
    (howed := fun _ _ => rfl) (V := V m) (hmain := hmain m Variants.none) (hA := dat_A m)
    (hin := enter m) (hout := leave m)

/-- The launch ends with every array at what the points wrote back. -/
theorem run_post : θ_run defs (onTc (τ := τ) (main (F := F))) (s₀ m ρ) (Pipeline.FramePost cfgs (dat m) 0 (V m)) :=
  (θ_run defs _ _).mono (fun _ h => h.1) (run_quiet m ρ)

/-- The arguments end unchanged and every counter at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dat m) (dat_A m) (run_post m ρ)) ((θ_run defs _ _).mono (fun _ h => h.2) (run_quiet m ρ))

end Cert.BwdFfn

end
-- ==== Proof.BwdFfn.Tile.lean ====
/-
  What the backward pass of the sub-layer computes for one block of 256 rows of one sequence, against the reference's
  own intermediate arrays at those rows: the pre-activation's cotangent, the modulated row's, the residual stream's,
  the mixer output's, and the block's column sums for the modulation and the norm's weight.
-/
module

public import proofs.«01_k».proof.Proof.Gen.KernelIdeal.Skeleton
public import proofs.«01_k».proof.Proof.Gen.ReferenceIdeal.Read
public import proofs.«01_k».proof.Proof.BwdFfn.Algebra
public import Idealize.ShloMosaic.Lib.Pointwise
public import Idealize.ShloMosaic.Lib.ValueIdx

@[expose] public section

noncomputable section

namespace Cert.BwdFfn

open Idealize.ShloMosaic Cert.KernelIdeal Cert.KernelIdeal.Gen
open Cert.ReferenceIdeal.Read

/-- The seven arguments, as arrays of extended reals. -/
structure Args where
  x : (⟨S4x2048x1024, .f32⟩ : BufTy).Contents (Elt Ideal)
  mixed : (⟨S4x2048x1024, .f32⟩ : BufTy).Contents (Elt Ideal)
  mod : (⟨S4x6144, .f32⟩ : BufTy).Contents (Elt Ideal)
  g : (⟨S1x1024, .f32⟩ : BufTy).Contents (Elt Ideal)
  w1 : (⟨S1x1024x4096, .f32⟩ : BufTy).Contents (Elt Ideal)
  w2 : (⟨S1x4096x1024, .f32⟩ : BufTy).Contents (Elt Ideal)
  ct : (⟨S4x2048x1024, .f32⟩ : BufTy).Contents (Elt Ideal)

namespace Args

variable (A : Args)

/-- The gated residual row, the input of the normalisation. -/
abbrev x1 := val_main_v12 (F := Ideal) A.x A.mixed A.mod
/-- The pre-activation. -/
abbrev a := val_main_v37 (F := Ideal) A.x A.mixed A.mod A.g A.w1
/-- The gated cotangent. -/
abbrev df := val_main_v52 (F := Ideal) A.mod A.ct
/-- The pre-activation's cotangent. -/
abbrev da := val_main_v56 (F := Ideal) A.x A.mixed A.mod A.g A.w1 A.w2 A.ct
/-- The modulated row's cotangent. -/
abbrev dh := val_main_v57 (F := Ideal) A.x A.mixed A.mod A.g A.w1 A.w2 A.ct
/-- The `rsqrt` factor of a row. -/
abbrev r := val_main_v22 (F := Ideal) A.x A.mixed A.mod
/-- The normalised row. -/
abbrev n := val_main_v27 (F := Ideal) A.x A.mixed A.mod
/-- The shifted mean square of a row. -/
abbrev ms := val_main_v21 (F := Ideal) A.x A.mixed A.mod
/-- The normalised row's cotangent. -/
abbrev dn := val_main_v69 (F := Ideal) A.x A.mixed A.mod A.g A.w1 A.w2 A.ct
/-- The residual stream's cotangent. -/
abbrev dx := val_main_v83 (F := Ideal) A.x A.mixed A.mod A.g A.w1 A.w2 A.ct
/-- The mixer output's cotangent. -/
abbrev dmixed := val_main_v85 (F := Ideal) A.x A.mixed A.mod A.g A.w1 A.w2 A.ct
/-- The scale's cotangent before the sum over the sequence. -/
abbrev dscale := val_main_v60 (F := Ideal) A.x A.mixed A.mod A.g A.w1 A.w2 A.ct
/-- The norm weight's cotangent before the sum over all rows. -/
abbrev dg := val_main_v65 (F := Ideal) A.x A.mixed A.mod A.g A.w1 A.w2 A.ct
/-- The gate's cotangent before the sum over the sequence. -/
abbrev dgate := val_main_v86 (F := Ideal) A.x A.mixed A.mod A.g A.w1 A.w2 A.ct

theorem ms_apply (b : Fin 4) (s : Fin 2048) : A.ms (ix3 b s 0)
    = Ideal.div (∑ k, A.x1 (ix3 b s k) * A.x1 (ix3 b s k)) (Ideal.ofBits FTy.f32 0x44800000#32) + Ideal.ofBits FTy.f32 0x358637BD#32 := by
  unfold ms
  pointwise [val_main_v21, val_main_v20, val_main_v19, val_main_v18, val_main_v17, val_main_v16, val_main_v13, val_main_cst_0, val_main_cst_1, val_main_cst_2]

theorem r_apply (b : Fin 4) (s : Fin 2048) : A.r (ix3 b s 0) = Ideal.rsqrt (A.ms (ix3 b s 0)) := by
  unfold r
  pointwise [val_main_v22]

theorem n_apply (b : Fin 4) (s : Fin 2048) (d : Fin 1024) : A.n (ix3 b s d) = A.x1 (ix3 b s d) * A.r (ix3 b s 0) := by
  unfold n
  pointwise [val_main_v27, val_main_v26]

theorem da_apply (b : Fin 4) (s : Fin 2048) (f : Fin 4096) : A.da (ix3 b s f)
    = (∑ k, A.df (ix3 b s k) * val_main_v8 (F := Ideal) A.w2 (ix2 f k)) * (Ideal.ofBits FTy.f32 0x40000000#32 * max (A.a (ix3 b s f)) 0) := by
  unfold da
  pointwise [ReferenceIdeal.dot_S4x2048x1024_S4096x1024_S4x2048x4096_2_1_01_0_n_n, val_main_cst_5, val_main_cst_7, val_main_cst_8, val_main_call0_v0, val_main_call0_cst, val_main_v56, val_main_v54, val_main_v55, val_main_v53, val_main_v44, val_main_v40, val_main_v38, val_main_v43, val_main_v39]
  split
  · rfl
  · rename_i h
    rw [max_eq_right (not_lt.mp h), mul_zero, mul_zero]

theorem dh_apply (b : Fin 4) (s : Fin 2048) (d : Fin 1024) : A.dh (ix3 b s d)
    = ∑ k, A.da (ix3 b s k) * val_main_v7 (F := Ideal) A.w1 (ix2 d k) := by
  unfold dh
  pointwise [ReferenceIdeal.dot_S4x2048x4096_S1024x4096_S4x2048x1024_2_1_01_0_n_n, val_main_v57]

theorem dn_apply (b : Fin 4) (s : Fin 2048) (d : Fin 1024) : A.dn (ix3 b s d)
    = (A.dh (ix3 b s d) * (Ideal.ofBits FTy.f32 0x3F800000#32 + val_main_v5 (F := Ideal) A.mod (ix3 b 0 d))) * A.g (ix2 0 d) := by
  unfold dn
  pointwise [val_main_v69, val_main_v68, val_main_v64, val_main_v63, val_main_v32, val_main_v31, val_main_cst_4, val_main_v9, val_main_v28]

theorem dscale_apply (b : Fin 4) (s : Fin 2048) (d : Fin 1024) : A.dscale (ix3 b s d)
    = (A.n (ix3 b s d) * A.g (ix2 0 d)) * A.dh (ix3 b s d) := by
  unfold dscale
  pointwise [val_main_v60, val_main_v30, val_main_v29, val_main_v28, val_main_v9]

theorem dg_apply (b : Fin 4) (s : Fin 2048) (d : Fin 1024) : A.dg (ix3 b s d)
    = A.n (ix3 b s d) * (A.dh (ix3 b s d) * (Ideal.ofBits FTy.f32 0x3F800000#32 + val_main_v5 (F := Ideal) A.mod (ix3 b 0 d))) := by
  unfold dg
  pointwise [val_main_v65, val_main_v64, val_main_v63, val_main_v32, val_main_v31, val_main_cst_4]

theorem dgate_apply (b : Fin 4) (s : Fin 2048) (d : Fin 1024) : A.dgate (ix3 b s d)
    = A.dx (ix3 b s d) * A.mixed (ix3 b s d) := by
  unfold dgate
  pointwise [val_main_v86]

theorem dmixed_apply (b : Fin 4) (s : Fin 2048) (d : Fin 1024) : A.dmixed (ix3 b s d)
    = val_main_v3 (F := Ideal) A.mod (ix3 b 0 d) * A.dx (ix3 b s d) := by
  unfold dmixed
  pointwise [val_main_v85, val_main_v84]

theorem dx_apply (b : Fin 4) (s : Fin 2048) (d : Fin 1024) : A.dx (ix3 b s d)
    = A.ct (ix3 b s d) + A.dn (ix3 b s d) * A.r (ix3 b s 0)
      + Ideal.div ((∑ k, A.x1 (ix3 b s k) * A.dn (ix3 b s k))
          * (Ideal.ofBits FTy.f32 0xBF000000#32 * Ideal.div (A.r (ix3 b s 0)) (A.ms (ix3 b s 0)))) (Ideal.ofBits FTy.f32 0x44800000#32)
        * (Ideal.ofBits FTy.f32 0x40000000#32 * A.x1 (ix3 b s d)) := by
  unfold dx
  pointwise [val_main_v83, val_main_v82, val_main_v81, val_main_v80, val_main_v79, val_main_v78, val_main_v77, val_main_v76, val_main_v75, val_main_v74, val_main_v73, val_main_v72, val_main_v71, val_main_v49, val_main_v15, val_main_v14, val_main_v25, val_main_v24, val_main_v23, val_main_cst_13, val_main_cst_14, val_main_cst_15, val_main_cst, val_main_cst_3]
  rw [Fin.sum_univ_one]

/-- The residual stream's cotangent in the kernel's form. -/
theorem dx_apply' (b : Fin 4) (s : Fin 2048) (d : Fin 1024) : A.dx (ix3 b s d)
    = A.ct (ix3 b s d) + A.r (ix3 b s 0) * (A.dn (ix3 b s d)
        - A.n (ix3 b s d) * Ideal.div (∑ k, A.dn (ix3 b s k) * A.n (ix3 b s k)) (Ideal.ofBits FTy.f32 0x44800000#32)) := by
  have hk : Ideal.ofBits FTy.f32 0x44800000#32 = ((1024 : ℝ) : EReal) := by
    simp [Ideal.ofBits, Ideal.ieee]; rw [← EReal.coe_mul]; norm_num
  have h2 : Ideal.ofBits FTy.f32 0x40000000#32 = ((2 : ℝ) : EReal) := by
    simp [Ideal.ofBits, Ideal.ieee]; rw [← EReal.coe_mul]; norm_num
  have hm : Ideal.ofBits FTy.f32 0xBF000000#32 = ((-(1/2) : ℝ) : EReal) := by
    simp [Ideal.ofBits, Ideal.ieee]; rw [← EReal.coe_mul]; norm_num
  obtain ⟨ε, hε, he⟩ : ∃ ε : ℝ, 0 < ε ∧ Ideal.ofBits FTy.f32 0x358637BD#32 = (ε : EReal) := by
    refine ⟨_, ?_, rfl⟩
    rw [if_neg (by decide)]
    positivity
  rw [dx_apply]
  simp only [n_apply]
  have key := RowAlgebra.rms_grad (fun k => A.x1 (ix3 b s k)) (fun k => A.dn (ix3 b s k)) (A.ct (ix3 b s d)) d
    (k := 1024) (ε := ε) (by norm_num) hε (A.ms (ix3 b s 0)) (A.r (ix3 b s 0))
    (by rw [ms_apply, hk, he]) (A.r_apply b s) h2 hm
  rw [hk]
  exact key.symm

end Args

/-- One block of 256 rows of sequence `b` as the kernel holds it: the gated cotangent, the pre-activation, the residual
    row, the cotangent, the mixer output, the norm's weight, the scale and gate rows, and the two weights. -/
structure TileAt (A : Args) (b : Fin 4) (ρ : Fin 256 → Fin 2048)
    (df : Vec Ideal S256x1024 .bf16) (a : Vec Ideal S256x4096 .f32) (x dy mx : Vec Ideal S256x1024 .f32)
    (g : Vec Ideal S1x1024 .f32) (sc gt : Vec Ideal S1x1x1024 .f32)
    (w2 : Vec Ideal S4096x1024 .bf16) (w1 : Vec Ideal S1024x4096 .bf16) : Prop where
  df : ∀ p d, df (ix2 p d) = A.df (ix3 b (ρ p) d)
  a : ∀ p f, a (ix2 p f) = A.a (ix3 b (ρ p) f)
  x : ∀ p d, x (ix2 p d) = A.x1 (ix3 b (ρ p) d)
  dy : ∀ p d, dy (ix2 p d) = A.ct (ix3 b (ρ p) d)
  mx : ∀ p d, mx (ix2 p d) = A.mixed (ix3 b (ρ p) d)
  g : ∀ d, g (ix2 0 d) = A.g (ix2 0 d)
  sc : ∀ d, sc (ix3 0 0 d) = val_main_v5 (F := Ideal) A.mod (ix3 b 0 d)
  gt : ∀ d, gt (ix3 0 0 d) = val_main_v3 (F := Ideal) A.mod (ix3 b 0 d)
  w2 : ∀ f d, w2 (ix2 f d) = val_main_v8 (F := Ideal) A.w2 (ix2 f d)
  w1 : ∀ d f, w1 (ix2 d f) = val_main_v7 (F := Ideal) A.w1 (ix2 d f)

namespace TileAt

variable {A : Args} {b : Fin 4} {ρ : Fin 256 → Fin 2048}
  {df : Vec Ideal S256x1024 .bf16} {a : Vec Ideal S256x4096 .f32} {x dy mx : Vec Ideal S256x1024 .f32}
  {g : Vec Ideal S1x1024 .f32} {sc gt : Vec Ideal S1x1x1024 .f32}
  {w2 : Vec Ideal S4096x1024 .bf16} {w1 : Vec Ideal S1024x4096 .bf16}
  (T : TileAt A b ρ df a x dy mx g sc gt w2 w1)

include T

theorem da (p : Fin 256) (f : Fin 4096) : k0_pay2 df w2 a (ix2 p f) = A.da (ix3 b (ρ p) f) := by
  rw [Args.da_apply]
  pointwise [k0_pay2, dot_S256x1024_S4096x1024_S256x4096_1_1_0_0_n_n, shapeCast_self, T.df, T.w2, T.a]

theorem dh (p : Fin 256) (d : Fin 1024) : k0_pay3 df w2 a w1 (ix2 p d) = A.dh (ix3 b (ρ p) d) := by
  rw [Args.dh_apply]
  pointwise [k0_pay3, dot_S256x4096_S1024x4096_S256x1024_1_1_0_0_n_n, shapeCast_self, T.w1, T.da]

theorem r (p : Fin 256) : k0_pay5 x (ix2 p 0) = A.r (ix3 b (ρ p) 0) := by
  rw [Args.r_apply, Args.ms_apply]
  pointwise [k0_pay5, k0_pay4, shapeCast_self, T.x]

theorem n (p : Fin 256) (d : Fin 1024) : k0_pay6 x (ix2 p d) = A.n (ix3 b (ρ p) d) := by
  rw [Args.n_apply]
  pointwise [k0_pay6, k0_pay4, shapeCast_self, T.x, T.r]

theorem sc1 (d : Fin 1024) : k0_pay7 sc (ix2 0 d) = Ideal.ofBits FTy.f32 0x3F800000#32 + val_main_v5 (F := Ideal) A.mod (ix3 b 0 d) := by
  pointwise [k0_pay7, T.sc]

theorem dx (p : Fin 256) (d : Fin 1024) :
    k0_pay17 (k0_pay3 df w2 a w1) (k0_pay5 x) (k0_pay6 x) g (k0_pay7 sc) dy (ix2 p d) = A.dx (ix3 b (ρ p) d) := by
  rw [Args.dx_apply']
  simp only [Args.dn_apply]
  pointwise [k0_pay17, shapeCast_self, T.dh, T.r, T.n, T.g, T.sc1, T.dy]

theorem dmixed (p : Fin 256) (d : Fin 1024) :
    k0_pay1 (k0_pay17 (k0_pay3 df w2 a w1) (k0_pay5 x) (k0_pay6 x) g (k0_pay7 sc) dy) gt (ix2 p d) = A.dmixed (ix3 b (ρ p) d) := by
  rw [Args.dmixed_apply, mul_comm]
  pointwise [k0_pay1, shapeCast_self, T.dx, T.gt]

theorem dshift (d : Fin 1024) : k0_pay8 (k0_pay3 df w2 a w1) (ix2 0 d) = ∑ p, A.dh (ix3 b (ρ p) d) := by
  pointwise [k0_pay8, T.dh]

theorem dscale (d : Fin 1024) : k0_pay11 (k0_pay3 df w2 a w1) x g (ix2 0 d) = ∑ p, A.dscale (ix3 b (ρ p) d) := by
  simp only [Args.dscale_apply]
  pointwise [k0_pay11, T.dh, T.n, T.g]
  exact Finset.sum_congr rfl fun p _ => mul_comm _ _

theorem dg (d : Fin 1024) : k0_pay15 (k0_pay14 (k0_pay3 df w2 a w1) x sc) (ix2 0 d) = ∑ p, A.dg (ix3 b (ρ p) d) := by
  simp only [Args.dg_apply]
  pointwise [k0_pay15, k0_pay14, T.dh, T.n, T.sc1]
  exact Finset.sum_congr rfl fun p _ => mul_comm _ _

theorem dgate (d : Fin 1024) :
    k0_pay18 (k0_pay3 df w2 a w1) (k0_pay5 x) (k0_pay6 x) g (k0_pay7 sc) dy mx (ix2 0 d) = ∑ p, A.dgate (ix3 b (ρ p) d) := by
  simp only [Args.dgate_apply]
  pointwise [k0_pay18, shapeCast_self, T.dx, T.mx]

end TileAt

end Cert.BwdFfn

end
-- ==== Proof.BwdFfn.Host.lean ====
/-
  What the kernel's operands hold when the launch starts: the seven arguments' rows, the saved forward values and the two
  weight matrices, each as the reference's own intermediate array laid out in rows.
-/
module

public import proofs.«01_k».proof.Proof.BwdFfn.Run
public import proofs.«01_k».proof.Proof.BwdFfn.Tile

@[expose] public section

set_option maxRecDepth 16384

noncomputable section

namespace Cert.BwdFfn

open Idealize.ShloMosaic Idealize.ShloMosaic.TcCoe Idealize.ShloMosaic.Tactic Cert.KernelIdeal Cert.KernelIdeal.Gen
open Cert.ReferenceIdeal.Read

variable (m : (ℓ : Loc nD τ sig) → Buf (Elt Ideal) ℓ) (c : Dev nD)

/-- The seven arguments as the launch finds them. -/
def args : Args where
  x := m ((c : Thread nD τ).loc main_arg0)
  mixed := m ((c : Thread nD τ).loc main_arg1)
  mod := m ((c : Thread nD τ).loc main_arg2)
  g := m ((c : Thread nD τ).loc main_arg3)
  w1 := m ((c : Thread nD τ).loc main_arg4)
  w2 := m ((c : Thread nD τ).loc main_arg5)
  ct := m ((c : Thread nD τ).loc main_arg6)

theorem entry_g : (V m c main_arg3 : Vec Ideal S1x1024 .f32) = (args m c).g := V_main_arg3 m c

theorem entry_ct : (V m c main_v44 : Vec Ideal S8192x1024 .f32)
    = shapeCast S8192x1024 (args m c).ct shapeCasts_S4x2048x1024_S8192x1024 := by
  entry_read
  rfl

theorem entry_mixed : (V m c main_v45 : Vec Ideal S8192x1024 .f32)
    = shapeCast S8192x1024 (args m c).mixed shapeCasts_S4x2048x1024_S8192x1024 := by
  entry_read
  rfl

theorem entry_mod : (V m c main_v46 : Vec Ideal S4x6x1024 .f32)
    = shapeCast S4x6x1024 (args m c).mod shapeCasts_S4x6144_S4x6x1024 := by
  entry_read
  rfl

theorem entry_x1 : (V m c main_v43 : Vec Ideal S8192x1024 .f32)
    = shapeCast S8192x1024 (args m c).x1 shapeCasts_S4x2048x1024_S8192x1024 := by
  entry_read
  rfl

theorem entry_a : (V m c main_v42 : Vec Ideal S8192x4096 .f32)
    = shapeCast S8192x4096 (args m c).a shapeCasts_S4x2048x4096_S8192x4096 := by
  entry_read
  rfl

theorem entry_df : (V m c main_v41 : Vec Ideal S8192x1024 .bf16)
    = shapeCast S8192x1024 (truncf (F := Ideal) .bf16 (mulf (F := Ideal) (args m c).ct (broadcastInDim S4x2048x1024 ![0, 1, 2] bcast_S4x1x1024_S4x2048x1024_0_1_2
        (val_main_v6 (F := Ideal) (args m c).mod))) bitsLt_bf16_f32) shapeCasts_S4x2048x1024_S8192x1024 := by
  entry_read
  rfl

theorem entry_w2 : (V m c main_v40 : Vec Ideal S4096x1024 .bf16)
    = truncf (F := Ideal) .bf16 (val_main_v8 (F := Ideal) (args m c).w2) bitsLt_bf16_f32 := by
  entry_read
  rfl

theorem entry_w1 : (V m c main_v38 : Vec Ideal S4x1024x1024 .bf16)
    = transpose S4x1024x1024 [1, 0, 2] (shapeCast S1024x4x1024 (truncf (F := Ideal) .bf16 (val_main_v7 (F := Ideal) (args m c).w1) bitsLt_bf16_f32)
        shapeCasts_S1024x4096_S1024x4x1024) transposes_S1024x4x1024_S4x1024x1024_1_0_2 := by
  entry_read
  rfl

end Cert.BwdFfn

end
-- ==== Proof.BwdFfn.Blocks.lean ====
/-
  Each grid point's blocks as the reference's own intermediate arrays: point `t` works on sequence `t / 8`, rows
  `256 * (t % 8)` and up.
-/
module

public import proofs.«01_k».proof.Proof.BwdFfn.Host

@[expose] public section

set_option maxRecDepth 16384

noncomputable section

namespace Cert.BwdFfn

open Idealize.ShloMosaic Idealize.ShloMosaic.TcCoe Idealize.ShloMosaic.Tactic Cert.KernelIdeal Cert.KernelIdeal.Gen
open Cert.ReferenceIdeal.Read

variable (m : (ℓ : Loc nD τ sig) → Buf (Elt Ideal) ℓ) (c : Dev nD) (t : Fin cfg0.N)

theorem pt_lt (t : Fin cfg0.N) : t.val < 32 := lt_of_lt_of_eq t.isLt (show cfg0.N = 32 from N_0)

/-- The sequence a point works on. -/
def seqOf : Fin 4 := ⟨t.val / 8, by have := pt_lt t; omega⟩
/-- The row of its sequence a point's `p`th row is. -/
def rowOf (p : Fin 256) : Fin 2048 := ⟨(t.val % 8) * 256 + p.val, by have := p.isLt; omega⟩
/-- The row among all rows. -/
def flatOf (p : Fin 256) : Fin 8192 := ⟨t.val * 256 + p.val, by have := p.isLt; have := pt_lt t; omega⟩

theorem seq_flat (p : Fin 256) (h) : (⟨(flatOf t p).val / 2048, h⟩ : Fin 4) = seqOf t :=
  Fin.ext (by show (t.val * 256 + p.val) / 2048 = t.val / 8; have := p.isLt; omega)
theorem row_flat (p : Fin 256) (h) : (⟨(flatOf t p).val % 2048, h⟩ : Fin 2048) = rowOf t p :=
  Fin.ext (by show (t.val * 256 + p.val) % 2048 = (t.val % 8) * 256 + p.val; have := p.isLt; omega)

/-- Rows of an array flattened over its sequences. -/
theorem rows_apply {n : ℕ} {α : Type} (f : (⟨3, ![4, 2048, n]⟩ : Shape).Idx → α) (h : (⟨3, ![4, 2048, n]⟩ : Shape).ShapeCasts ⟨2, ![8192, n]⟩)
    (p : Fin 256) (d : Fin n) : shapeCast ⟨2, ![8192, n]⟩ f h (Idealize.ShloMosaic.ix2 (flatOf t p) d) = f (Idealize.ShloMosaic.ix3 (seqOf t) (rowOf t p) d) := by
  refine shapeCast_apply f h _ _ ?_
  rw [Shape.rowMajor_val_three, Shape.rowMajor_val_two]
  show (t.val / 8 * 2048 + (t.val % 8 * 256 + p.val)) * n + d.val = (t.val * 256 + p.val) * n + d.val
  congr 2
  omega

theorem blk_0 (p : Fin 256) (d : Fin 1024) : iblk m c 0 t (Idealize.ShloMosaic.ix2 p d)
    = (V m c main_v41 : Vec Ideal S8192x1024 .bf16) (Idealize.ShloMosaic.ix2 (flatOf t p) d) := by
  have hi : win0_0.index t 0 = t.val ∧ win0_0.index t 1 = 0 :=
    (by decide +kernel : ∀ t : Fin grid0.N, win0_0.index t 0 = t.val ∧ win0_0.index t 1 = 0) t
  unfold iblk
  rw [View.read_apply]
  show V m c main_v41 _ = V m c main_v41 _
  congr 1
  funext a
  apply Fin.ext
  match a with
  | ⟨0, _⟩ =>
    show win0_0.index t 0 * 256 + 1 * p.val = t.val * 256 + p.val
    rw [hi.1, Nat.one_mul]
  | ⟨1, _⟩ =>
    show win0_0.index t 1 * 1024 + 1 * d.val = d.val
    rw [hi.2]; omega

theorem blk_1 (p : Fin 256) (d : Fin 4096) : iblk m c 1 t (Idealize.ShloMosaic.ix2 p d)
    = (V m c main_v42 : Vec Ideal S8192x4096 .f32) (Idealize.ShloMosaic.ix2 (flatOf t p) d) := by
  have hi : win0_1.index t 0 = t.val ∧ win0_1.index t 1 = 0 :=
    (by decide +kernel : ∀ t : Fin grid0.N, win0_1.index t 0 = t.val ∧ win0_1.index t 1 = 0) t
  unfold iblk
  rw [View.read_apply]
  show V m c main_v42 _ = V m c main_v42 _
  congr 1
  funext a
  apply Fin.ext
  match a with
  | ⟨0, _⟩ =>
    show win0_1.index t 0 * 256 + 1 * p.val = t.val * 256 + p.val
    rw [hi.1, Nat.one_mul]
  | ⟨1, _⟩ =>
    show win0_1.index t 1 * 4096 + 1 * d.val = d.val
    rw [hi.2]; omega

theorem blk_2 (p : Fin 256) (d : Fin 1024) : iblk m c 2 t (Idealize.ShloMosaic.ix2 p d)
    = (V m c main_v43 : Vec Ideal S8192x1024 .f32) (Idealize.ShloMosaic.ix2 (flatOf t p) d) := by
  have hi : win0_2.index t 0 = t.val ∧ win0_2.index t 1 = 0 :=
    (by decide +kernel : ∀ t : Fin grid0.N, win0_2.index t 0 = t.val ∧ win0_2.index t 1 = 0) t
  unfold iblk
  rw [View.read_apply]
  show V m c main_v43 _ = V m c main_v43 _
  congr 1
  funext a
  apply Fin.ext
  match a with
  | ⟨0, _⟩ =>
    show win0_2.index t 0 * 256 + 1 * p.val = t.val * 256 + p.val
    rw [hi.1, Nat.one_mul]
  | ⟨1, _⟩ =>
    show win0_2.index t 1 * 1024 + 1 * d.val = d.val
    rw [hi.2]; omega

theorem blk_3 (p : Fin 256) (d : Fin 1024) : iblk m c 3 t (Idealize.ShloMosaic.ix2 p d)
    = (V m c main_v44 : Vec Ideal S8192x1024 .f32) (Idealize.ShloMosaic.ix2 (flatOf t p) d) := by
  have hi : win0_3.index t 0 = t.val ∧ win0_3.index t 1 = 0 :=
    (by decide +kernel : ∀ t : Fin grid0.N, win0_3.index t 0 = t.val ∧ win0_3.index t 1 = 0) t
  unfold iblk
  rw [View.read_apply]
  show V m c main_v44 _ = V m c main_v44 _
  congr 1
  funext a
  apply Fin.ext
  match a with
  | ⟨0, _⟩ =>
    show win0_3.index t 0 * 256 + 1 * p.val = t.val * 256 + p.val
    rw [hi.1, Nat.one_mul]
  | ⟨1, _⟩ =>
    show win0_3.index t 1 * 1024 + 1 * d.val = d.val
    rw [hi.2]; omega

theorem blk_4 (p : Fin 256) (d : Fin 1024) : iblk m c 4 t (Idealize.ShloMosaic.ix2 p d)
    = (V m c main_v45 : Vec Ideal S8192x1024 .f32) (Idealize.ShloMosaic.ix2 (flatOf t p) d) := by
  have hi : win0_4.index t 0 = t.val ∧ win0_4.index t 1 = 0 :=
    (by decide +kernel : ∀ t : Fin grid0.N, win0_4.index t 0 = t.val ∧ win0_4.index t 1 = 0) t
  unfold iblk
  rw [View.read_apply]
  show V m c main_v45 _ = V m c main_v45 _
  congr 1
  funext a
  apply Fin.ext
  match a with
  | ⟨0, _⟩ =>
    show win0_4.index t 0 * 256 + 1 * p.val = t.val * 256 + p.val
    rw [hi.1, Nat.one_mul]
  | ⟨1, _⟩ =>
    show win0_4.index t 1 * 1024 + 1 * d.val = d.val
    rw [hi.2]; omega

theorem blk_5 (d : Fin 1024) : iblk m c 5 t (Idealize.ShloMosaic.ix2 0 d) = (args m c).g (Idealize.ShloMosaic.ix2 0 d) := by
  have hi : win0_5.index t 0 = 0 ∧ win0_5.index t 1 = 0 :=
    (by decide +kernel : ∀ t : Fin grid0.N, win0_5.index t 0 = 0 ∧ win0_5.index t 1 = 0) t
  rw [← entry_g]
  unfold iblk
  rw [View.read_apply]
  show V m c main_arg3 _ = V m c main_arg3 _
  congr 1
  funext a
  apply Fin.ext
  match a with
  | ⟨0, _⟩ =>
    show win0_5.index t 0 * 1 + 1 * 0 = 0
    rw [hi.1]
  | ⟨1, _⟩ =>
    show win0_5.index t 1 * 1024 + 1 * d.val = d.val
    rw [hi.2]; omega

theorem blk_6 (k : Fin 6) (d : Fin 1024) : iblk m c 6 t (Idealize.ShloMosaic.ix3 0 k d)
    = (V m c main_v46 : Vec Ideal S4x6x1024 .f32) (Idealize.ShloMosaic.ix3 (seqOf t) k d) := by
  have hi : win0_6.index t 0 = t.val / 8 ∧ win0_6.index t 1 = 0 ∧ win0_6.index t 2 = 0 :=
    (by decide +kernel : ∀ t : Fin grid0.N, win0_6.index t 0 = t.val / 8 ∧ win0_6.index t 1 = 0 ∧ win0_6.index t 2 = 0) t
  unfold iblk
  rw [View.read_apply]
  show V m c main_v46 _ = V m c main_v46 _
  congr 1
  funext a
  apply Fin.ext
  match a with
  | ⟨0, _⟩ =>
    show win0_6.index t 0 * 1 + 1 * 0 = t.val / 8
    rw [hi.1]; omega
  | ⟨1, _⟩ =>
    show win0_6.index t 1 * 6 + 1 * k.val = k.val
    rw [hi.2.1]; omega
  | ⟨2, _⟩ =>
    show win0_6.index t 2 * 1024 + 1 * d.val = d.val
    rw [hi.2.2]; omega

theorem scale_apply (d : Fin 1024) : scaleRow (iblk m c 6 t) (Idealize.ShloMosaic.ix3 0 0 d)
    = val_main_v5 (F := Ideal) (args m c).mod (Idealize.ShloMosaic.ix3 (seqOf t) 0 d) := by
  refine ((?_ : _ = iblk m c 6 t (Idealize.ShloMosaic.ix3 0 4 d)).trans (blk_6 m c t 4 d)).trans ?_
  · unfold scaleRow View.ld
    congr 1
    funext a
    apply Fin.ext
    match a with
    | ⟨0, _⟩ => rfl
    | ⟨1, _⟩ => rfl
    | ⟨2, _⟩ => show 0 + 1 * d.val = d.val; omega
  · rw [entry_mod]
    pointwise [val_main_v5, val_main_v0]

theorem gate_apply (d : Fin 1024) : gateRow (iblk m c 6 t) (Idealize.ShloMosaic.ix3 0 0 d)
    = val_main_v3 (F := Ideal) (args m c).mod (Idealize.ShloMosaic.ix3 (seqOf t) 0 d) := by
  refine ((?_ : _ = iblk m c 6 t (Idealize.ShloMosaic.ix3 0 2 d)).trans (blk_6 m c t 2 d)).trans ?_
  · unfold gateRow View.ld
    congr 1
    funext a
    apply Fin.ext
    match a with
    | ⟨0, _⟩ => rfl
    | ⟨1, _⟩ => rfl
    | ⟨2, _⟩ => show 0 + 1 * d.val = d.val; omega
  · rw [entry_mod]
    pointwise [val_main_v3, val_main_v0]

theorem w2_apply (f : Fin 4096) (d : Fin 1024) : W2 m c (Idealize.ShloMosaic.ix2 f d)
    = val_main_v8 (F := Ideal) (args m c).w2 (Idealize.ShloMosaic.ix2 f d) := by
  unfold W2
  rw [entry_w2]
  rfl

theorem w1_apply (d : Fin 1024) (f : Fin 4096) : W1 m c (Idealize.ShloMosaic.ix2 d f)
    = val_main_v7 (F := Ideal) (args m c).w1 (Idealize.ShloMosaic.ix2 d f) := by
  unfold W1
  rw [entry_w1]
  refine (transpose_apply _ _ _ _ (Idealize.ShloMosaic.ix3 d ⟨f.val / 1024, by have := f.isLt; omega⟩ ⟨f.val % 1024, by omega⟩) ?_).trans
    ((shapeCast_apply _ _ _ (Idealize.ShloMosaic.ix2 d f) ?_).trans rfl)
  · intro a
    match a with
    | ⟨0, _⟩ => rfl
    | ⟨1, _⟩ => rfl
    | ⟨2, _⟩ => rfl
  · rw [Shape.rowMajor_val_two, Shape.rowMajor_val_three]
    show d.val * 4096 + f.val = (d.val * 4 + f.val / 1024) * 1024 + f.val % 1024
    omega

/-- The blocks of a point are the reference's arrays at its rows. -/
theorem tileAt : TileAt (args m c) (seqOf t) (rowOf t) (iblk m c 0 t) (iblk m c 1 t) (iblk m c 2 t) (iblk m c 3 t) (iblk m c 4 t)
    (iblk m c 5 t) (scaleRow (iblk m c 6 t)) (gateRow (iblk m c 6 t)) (W2 m c) (W1 m c) where
  df p d := by
    refine ((blk_0 m c t p d).trans (congrFun (entry_df m c) _)).trans ((rows_apply t _ _ p d).trans ?_)
    show _ * _ = (args m c).df (Idealize.ShloMosaic.ix3 (seqOf t) (rowOf t p) d)
    rw [mul_comm]
    unfold Args.df
    pointwise [val_main_v52, val_main_v51, val_main_v50]
  a p d := ((blk_1 m c t p d).trans (congrFun (entry_a m c) _)).trans (rows_apply t _ _ p d)
  x p d := ((blk_2 m c t p d).trans (congrFun (entry_x1 m c) _)).trans (rows_apply t _ _ p d)
  dy p d := ((blk_3 m c t p d).trans (congrFun (entry_ct m c) _)).trans (rows_apply t _ _ p d)
  mx p d := ((blk_4 m c t p d).trans (congrFun (entry_mixed m c) _)).trans (rows_apply t _ _ p d)
  g d := blk_5 m c t d
  sc d := scale_apply m c t d
  gt d := gate_apply m c t d
  w2 f d := w2_apply m c f d
  w1 d f := w1_apply m c d f

end Cert.BwdFfn

end
-- ==== Proof.BwdFfn.Sums.lean ====
/-
  The four running sums: after the last point of a sequence the sums over its 2048 rows, after the last point of all the
  sum over every row.
-/
module

public import proofs.«01_k».proof.Proof.BwdFfn.Blocks

@[expose] public section

set_option maxRecDepth 16384

noncomputable section

namespace Cert.BwdFfn

open Idealize.ShloMosaic Idealize.ShloMosaic.TcCoe Idealize.ShloMosaic.Tactic Cert.KernelIdeal Cert.KernelIdeal.Gen
open Cert.ReferenceIdeal.Read

/-- A sum that starts afresh every eighth step and takes 256 more terms at each. -/
theorem runSum (S : ℕ → EReal) (g : ℕ → ℕ → EReal)
    (first : ∀ n < 32, n % 8 = 0 → S n = ∑ p : Fin 256, g (n / 8) (n % 8 * 256 + p.val))
    (next : ∀ n < 32, n % 8 ≠ 0 → S n = S (n - 1) + ∑ p : Fin 256, g (n / 8) (n % 8 * 256 + p.val)) :
    ∀ n < 32, S n = ∑ s ∈ Finset.range ((n % 8 + 1) * 256), g (n / 8) s := by
  intro n
  induction n with
  | zero =>
    intro h
    rw [first 0 h rfl, Finset.sum_range]
    refine Finset.sum_congr rfl fun p _ => ?_
    show g 0 (0 * 256 + p.val) = _
    rw [Nat.zero_mul, Nat.zero_add]
  | succ n ih =>
    intro h
    by_cases h8 : (n + 1) % 8 = 0
    · rw [first _ h h8, h8, Finset.sum_range]
      refine Finset.sum_congr rfl fun p _ => ?_
      rw [Nat.zero_mul, Nat.zero_add]
    · have e1 : n / 8 = (n + 1) / 8 := by omega
      have e2 : ((n + 1) % 8 + 1) * 256 = (n % 8 + 1) * 256 + 256 := by omega
      have e3 : (n + 1) % 8 * 256 = (n % 8 + 1) * 256 := by omega
      rw [next _ h h8, Nat.add_sub_cancel, ih (by omega), e1, e2, e3, Finset.sum_range_add,
        Finset.sum_range (fun x => g ((n + 1) / 8) ((n % 8 + 1) * 256 + x))]

/-- A sum that takes 256 more terms at each step. -/
theorem runSumAll (S : ℕ → EReal) (g : ℕ → EReal) (first : S 0 = ∑ p : Fin 256, g p.val)
    (next : ∀ n < 32, n ≠ 0 → S n = S (n - 1) + ∑ p : Fin 256, g (n * 256 + p.val)) :
    ∀ n < 32, S n = ∑ s ∈ Finset.range ((n + 1) * 256), g s := by
  intro n
  induction n with
  | zero => intro _; rw [first, Finset.sum_range]
  | succ n ih =>
    intro h
    rw [next _ h (Nat.succ_ne_zero n), Nat.add_sub_cancel, ih (by omega),
      show (n + 1 + 1) * 256 = (n + 1) * 256 + 256 by omega, Finset.sum_range_add, Finset.sum_range (fun x => g ((n + 1) * 256 + x))]

/-- A table of rows by sequence and place, at any two numbers. -/
def ext (f : Fin 4 → Fin 2048 → EReal) (b s : ℕ) : EReal := if h : b < 4 ∧ s < 2048 then f ⟨b, h.1⟩ ⟨s, h.2⟩ else 0

theorem ext_at (f : Fin 4 → Fin 2048 → EReal) (t : Fin cfg0.N) (p : Fin 256) :
    ext f (t.val / 8) (t.val % 8 * 256 + p.val) = f (seqOf t) (rowOf t p) :=
  dif_pos ⟨(seqOf t).isLt, (rowOf t p).isLt⟩

theorem ext_sum (f : Fin 4 → Fin 2048 → EReal) (b : Fin 4) : ∑ s ∈ Finset.range 2048, ext f b.val s = ∑ s, f b s := by
  rw [Finset.sum_range]
  exact Finset.sum_congr rfl fun s _ => dif_pos ⟨b.isLt, s.isLt⟩

theorem ext_sum_all (f : Fin 4 → Fin 2048 → EReal) :
    ∑ k ∈ Finset.range 8192, ext f (k / 2048) (k % 2048) = ∑ b, ∑ s, f b s := by
  have h : ∀ b : ℕ, ∑ k ∈ Finset.range (b * 2048), ext f (k / 2048) (k % 2048)
      = ∑ i ∈ Finset.range b, ∑ s ∈ Finset.range 2048, ext f i s := by
    intro b
    induction b with
    | zero => simp
    | succ b ih =>
      rw [show (b + 1) * 2048 = b * 2048 + 2048 by omega, Finset.sum_range_add, ih, Finset.sum_range_succ _ b]
      refine congrArg _ (Finset.sum_congr rfl fun s hs => ?_)
      have := Finset.mem_range.1 hs
      rw [show (b * 2048 + s) / 2048 = b by omega, show (b * 2048 + s) % 2048 = s by omega]
  refine (h 4).trans ?_
  rw [Finset.sum_range]
  exact Finset.sum_congr rfl fun b _ => ext_sum f b

variable (m : (ℓ : Loc nD τ sig) → Buf (Elt Ideal) ℓ) (c : Dev nD)

theorem pt_num (n : ℕ) (h : n < 32) : (pt n).val = n := Nat.mod_eq_of_lt h

theorem pay9_apply (v : Vec Ideal S256x1024 .f32) (d : Fin 1024) :
    k0_pay9 (F := Ideal) v (Idealize.ShloMosaic.ix3 0 0 d) = k0_pay8 (F := Ideal) v (Idealize.ShloMosaic.ix2 0 d) := by
  pointwise [k0_pay9]
theorem pay10_apply (v : Vec Ideal S256x1024 .f32) (y : Vec Ideal S1x1x1024 .f32) (d : Fin 1024) :
    k0_pay10 (F := Ideal) v y (Idealize.ShloMosaic.ix3 0 0 d) = y (Idealize.ShloMosaic.ix3 0 0 d) + k0_pay8 (F := Ideal) v (Idealize.ShloMosaic.ix2 0 d) := by
  pointwise [k0_pay10]
theorem pay12_apply (v x : Vec Ideal S256x1024 .f32) (g : Vec Ideal S1x1024 .f32) (d : Fin 1024) :
    k0_pay12 (F := Ideal) v x g (Idealize.ShloMosaic.ix3 0 0 d) = k0_pay11 (F := Ideal) v x g (Idealize.ShloMosaic.ix2 0 d) := by
  pointwise [k0_pay12]
theorem pay13_apply (v x : Vec Ideal S256x1024 .f32) (g : Vec Ideal S1x1024 .f32) (y : Vec Ideal S1x1x1024 .f32) (d : Fin 1024) :
    k0_pay13 (F := Ideal) v x g y (Idealize.ShloMosaic.ix3 0 0 d)
      = y (Idealize.ShloMosaic.ix3 0 0 d) + k0_pay11 (F := Ideal) v x g (Idealize.ShloMosaic.ix2 0 d) := by
  pointwise [k0_pay13]
theorem pay16_apply (v : Vec Ideal S256x1024 .f32) (y : Vec Ideal S1x1024 .f32) (d : Fin 1024) :
    k0_pay16 (F := Ideal) v y (Idealize.ShloMosaic.ix2 0 d) = y (Idealize.ShloMosaic.ix2 0 d) + k0_pay15 (F := Ideal) v (Idealize.ShloMosaic.ix2 0 d) := by
  pointwise [k0_pay16, shapeCast_self]
theorem pay19_apply (v : Vec Ideal S256x1024 .f32) (r : Vec Ideal S256x1 .f32) (n : Vec Ideal S256x1024 .f32) (g s : Vec Ideal S1x1024 .f32)
    (dy x : Vec Ideal S256x1024 .f32) (d : Fin 1024) :
    k0_pay19 (F := Ideal) v r n g s dy x (Idealize.ShloMosaic.ix3 0 0 d) = k0_pay18 (F := Ideal) v r n g s dy x (Idealize.ShloMosaic.ix2 0 d) := by
  pointwise [k0_pay19]
theorem pay20_apply (v : Vec Ideal S256x1024 .f32) (r : Vec Ideal S256x1 .f32) (n : Vec Ideal S256x1024 .f32) (g s : Vec Ideal S1x1024 .f32)
    (dy x : Vec Ideal S256x1024 .f32) (y : Vec Ideal S1x1x1024 .f32) (d : Fin 1024) :
    k0_pay20 (F := Ideal) v r n g s dy x y (Idealize.ShloMosaic.ix3 0 0 d)
      = y (Idealize.ShloMosaic.ix3 0 0 d) + k0_pay18 (F := Ideal) v r n g s dy x (Idealize.ShloMosaic.ix2 0 d) := by
  pointwise [k0_pay20]

theorem term10 (n : ℕ) (hn : n < 32) (d : Fin 1024) :
    ∑ p : Fin 256, ext (fun b s => (args m c).dh (Idealize.ShloMosaic.ix3 b s d)) (n / 8) (n % 8 * 256 + p.val)
      = ∑ p, (args m c).dh (Idealize.ShloMosaic.ix3 (seqOf (pt n)) (rowOf (pt n) p) d) := by
  refine Finset.sum_congr rfl fun p _ => ?_
  have e := ext_at (fun b s => (args m c).dh (Idealize.ShloMosaic.ix3 b s d)) (pt n) p
  rwa [pt_num n hn] at e

/-- After a sequence's last point the running sum for the shift is the sum over the sequence. -/
theorem sum10_last (n : ℕ) (hn : n < 32) (h7 : n % 8 = 7) (d : Fin 1024) : sum10 m c n (Idealize.ShloMosaic.ix3 0 0 d)
    = ∑ s, (args m c).dh (Idealize.ShloMosaic.ix3 ⟨n / 8, by omega⟩ s d) := by
  have h := runSum (fun n => sum10 m c n (Idealize.ShloMosaic.ix3 0 0 d)) (ext fun b s => (args m c).dh (Idealize.ShloMosaic.ix3 b s d))
    (fun n hn h => by
      rw [term10 m c n hn d, sum10_first m c n h, pay9_apply]
      exact (tileAt m c (pt n)).dshift d)
    (fun n hn h => by
      rw [term10 m c n hn d, sum10_next m c n h, pay10_apply]
      exact congrArg _ ((tileAt m c (pt n)).dshift d)) n hn
  refine h.trans ?_
  rw [h7]
  exact ext_sum (fun b s => (args m c).dh (Idealize.ShloMosaic.ix3 b s d)) ⟨n / 8, by omega⟩

theorem term11 (n : ℕ) (hn : n < 32) (d : Fin 1024) :
    ∑ p : Fin 256, ext (fun b s => (args m c).dscale (Idealize.ShloMosaic.ix3 b s d)) (n / 8) (n % 8 * 256 + p.val)
      = ∑ p, (args m c).dscale (Idealize.ShloMosaic.ix3 (seqOf (pt n)) (rowOf (pt n) p) d) := by
  refine Finset.sum_congr rfl fun p _ => ?_
  have e := ext_at (fun b s => (args m c).dscale (Idealize.ShloMosaic.ix3 b s d)) (pt n) p
  rwa [pt_num n hn] at e

/-- After a sequence's last point the running sum for the scale is the sum over the sequence. -/
theorem sum11_last (n : ℕ) (hn : n < 32) (h7 : n % 8 = 7) (d : Fin 1024) : sum11 m c n (Idealize.ShloMosaic.ix3 0 0 d)
    = ∑ s, (args m c).dscale (Idealize.ShloMosaic.ix3 ⟨n / 8, by omega⟩ s d) := by
  have h := runSum (fun n => sum11 m c n (Idealize.ShloMosaic.ix3 0 0 d)) (ext fun b s => (args m c).dscale (Idealize.ShloMosaic.ix3 b s d))
    (fun n hn h => by
      rw [term11 m c n hn d, sum11_first m c n h, pay12_apply]
      exact (tileAt m c (pt n)).dscale d)
    (fun n hn h => by
      rw [term11 m c n hn d, sum11_next m c n h, pay13_apply]
      exact congrArg _ ((tileAt m c (pt n)).dscale d)) n hn
  refine h.trans ?_
  rw [h7]
  exact ext_sum (fun b s => (args m c).dscale (Idealize.ShloMosaic.ix3 b s d)) ⟨n / 8, by omega⟩

theorem term12 (n : ℕ) (hn : n < 32) (d : Fin 1024) :
    ∑ p : Fin 256, ext (fun b s => (args m c).dgate (Idealize.ShloMosaic.ix3 b s d)) (n / 8) (n % 8 * 256 + p.val)
      = ∑ p, (args m c).dgate (Idealize.ShloMosaic.ix3 (seqOf (pt n)) (rowOf (pt n) p) d) := by
  refine Finset.sum_congr rfl fun p _ => ?_
  have e := ext_at (fun b s => (args m c).dgate (Idealize.ShloMosaic.ix3 b s d)) (pt n) p
  rwa [pt_num n hn] at e

/-- After a sequence's last point the running sum for the gate is the sum over the sequence. -/
theorem sum12_last (n : ℕ) (hn : n < 32) (h7 : n % 8 = 7) (d : Fin 1024) : sum12 m c n (Idealize.ShloMosaic.ix3 0 0 d)
    = ∑ s, (args m c).dgate (Idealize.ShloMosaic.ix3 ⟨n / 8, by omega⟩ s d) := by
  have h := runSum (fun n => sum12 m c n (Idealize.ShloMosaic.ix3 0 0 d)) (ext fun b s => (args m c).dgate (Idealize.ShloMosaic.ix3 b s d))
    (fun n hn h => by
      rw [term12 m c n hn d, sum12_first m c n h, pay19_apply]
      exact (tileAt m c (pt n)).dgate d)
    (fun n hn h => by
      rw [term12 m c n hn d, sum12_next m c n h, pay20_apply]
      exact congrArg _ ((tileAt m c (pt n)).dgate d)) n hn
  refine h.trans ?_
  rw [h7]
  exact ext_sum (fun b s => (args m c).dgate (Idealize.ShloMosaic.ix3 b s d)) ⟨n / 8, by omega⟩

theorem term13 (n : ℕ) (hn : n < 32) (d : Fin 1024) :
    ∑ p : Fin 256, ext (fun b s => (args m c).dg (Idealize.ShloMosaic.ix3 b s d)) ((n * 256 + p.val) / 2048) ((n * 256 + p.val) % 2048)
      = ∑ p, (args m c).dg (Idealize.ShloMosaic.ix3 (seqOf (pt n)) (rowOf (pt n) p) d) := by
  refine Finset.sum_congr rfl fun p _ => ?_
  have e := ext_at (fun b s => (args m c).dg (Idealize.ShloMosaic.ix3 b s d)) (pt n) p
  have hp := p.isLt
  rw [pt_num n hn] at e
  rwa [show (n * 256 + p.val) / 2048 = n / 8 by omega, show (n * 256 + p.val) % 2048 = n % 8 * 256 + p.val by omega]

/-- After the last point of all the running sum for the norm's weight is the sum over every row. -/
theorem sum13_last (d : Fin 1024) : sum13 m c 31 (Idealize.ShloMosaic.ix2 0 d)
    = ∑ b, ∑ s, (args m c).dg (Idealize.ShloMosaic.ix3 b s d) := by
  have h := runSumAll (fun n => sum13 m c n (Idealize.ShloMosaic.ix2 0 d))
    (fun k => ext (fun b s => (args m c).dg (Idealize.ShloMosaic.ix3 b s d)) (k / 2048) (k % 2048))
    (by
      have e := term13 m c 0 (by omega) d
      simp only [Nat.zero_mul, Nat.zero_add] at e
      rw [e]
      exact (tileAt m c (pt 0)).dg d)
    (fun n hn h => by
      rw [term13 m c n hn d, sum13_next m c n h, pay16_apply]
      exact congrArg _ ((tileAt m c (pt n)).dg d)) 31 (by omega)
  exact h.trans (ext_sum_all fun b s => (args m c).dg (Idealize.ShloMosaic.ix3 b s d))

end Cert.BwdFfn

end
-- ==== Proof.FwdFfn.Sums.lean ====
/-
  The two running sums: after the last point of a sequence the gate's cotangent summed over its 2048 rows, after the last
  point of all half the sum of every row's mean squared error.
-/
module

public import proofs.«01_k».proof.Proof.FwdFfn.Blocks
public import proofs.«01_k».proof.Proof.BwdFfn.Sums

@[expose] public section

set_option maxRecDepth 16384

noncomputable section

namespace Cert.FwdFfn

open Idealize.ShloMosaic Idealize.ShloMosaic.TcCoe Idealize.ShloMosaic.Tactic Cert.Kernel4Ideal Cert.Kernel4Ideal.Gen
open Cert.Reference4Ideal.Read

variable (m : (ℓ : Loc nD τ sig) → Buf (Elt Ideal) ℓ) (c : Dev nD)

theorem pt_num (n : ℕ) (h : n < 32) : (pt n).val = n := Nat.mod_eq_of_lt h

theorem ext_at (f : Fin 4 → Fin 2048 → EReal) (t : Fin cfg0.N) (p : Fin 256) :
    Cert.BwdFfn.ext f (t.val / 8) (t.val % 8 * 256 + p.val) = f (seqOf t) (rowOf t p) :=
  dif_pos ⟨(seqOf t).isLt, (rowOf t p).isLt⟩

theorem gateFirst_apply (x0 x1 : Vec Ideal S256x1024 .f32) (x2 : Vec Ideal S1x1024 .f32) (x3 : Vec Ideal S1x6x1024 .f32)
    (w1 : Vec Ideal S1024x4096 .bf16) (w2 : Vec Ideal S4096x1024 .bf16) (d : Fin 1024) :
    gateFirst (F := Ideal) x0 x1 x2 x3 w1 w2 (Idealize.ShloMosaic.ix3 0 0 d)
      = k0_pay3 (F := Ideal) (tileF x0 x2 x3 w1 w2) (tileErr x0 x1 x2 x3 w1 w2) k0_pay15 (Idealize.ShloMosaic.ix2 0 d) := by
  unfold gateFirst
  pointwise [k0_pay4]

theorem gateNext_apply (x0 x1 : Vec Ideal S256x1024 .f32) (x2 : Vec Ideal S1x1024 .f32) (x3 : Vec Ideal S1x6x1024 .f32)
    (w1 : Vec Ideal S1024x4096 .bf16) (w2 : Vec Ideal S4096x1024 .bf16) (y : Vec Ideal S1x1x1024 .f32) (d : Fin 1024) :
    gateNext (F := Ideal) x0 x1 x2 x3 w1 w2 y (Idealize.ShloMosaic.ix3 0 0 d)
      = y (Idealize.ShloMosaic.ix3 0 0 d) + k0_pay3 (F := Ideal) (tileF x0 x2 x3 w1 w2) (tileErr x0 x1 x2 x3 w1 w2) k0_pay15 (Idealize.ShloMosaic.ix2 0 d) := by
  unfold gateNext
  pointwise [k0_pay5]

theorem lossNext_apply (x0 x1 : Vec Ideal S256x1024 .f32) (x2 : Vec Ideal S1x1024 .f32) (x3 : Vec Ideal S1x6x1024 .f32)
    (w1 : Vec Ideal S1024x4096 .bf16) (w2 : Vec Ideal S4096x1024 .bf16) (y : Vec Ideal S8x128 .f32) (i : Fin 8) (j : Fin 128) :
    lossNext (F := Ideal) x0 x1 x2 x3 w1 w2 y (Idealize.ShloMosaic.ix2 i j) = y (Idealize.ShloMosaic.ix2 i j) + lossFirst (F := Ideal) x0 x1 x2 x3 w1 w2 (Idealize.ShloMosaic.ix2 i j) := by
  unfold lossNext lossFirst
  pointwise [k0_pay14, shapeCast_self]

theorem term9 (n : ℕ) (hn : n < 32) (d : Fin 1024) :
    ∑ p : Fin 256, Cert.BwdFfn.ext (fun b s => (args m c).dgate (Idealize.ShloMosaic.ix3 b s d)) (n / 8) (n % 8 * 256 + p.val)
      = ∑ p, (args m c).dgate (Idealize.ShloMosaic.ix3 (seqOf (pt n)) (rowOf (pt n) p) d) := by
  refine Finset.sum_congr rfl fun p _ => ?_
  have e := ext_at (fun b s => (args m c).dgate (Idealize.ShloMosaic.ix3 b s d)) (pt n) p
  rwa [pt_num n hn] at e

/-- After a sequence's last point the running sum for the gate is the sum over the sequence. -/
theorem sum9_last (n : ℕ) (hn : n < 32) (h7 : n % 8 = 7) (d : Fin 1024) : sum9 m c n (Idealize.ShloMosaic.ix3 0 0 d)
    = ∑ s, (args m c).dgate (Idealize.ShloMosaic.ix3 ⟨n / 8, by omega⟩ s d) := by
  have h := Cert.BwdFfn.runSum (fun n => sum9 m c n (Idealize.ShloMosaic.ix3 0 0 d)) (Cert.BwdFfn.ext fun b s => (args m c).dgate (Idealize.ShloMosaic.ix3 b s d))
    (fun n hn h => by
      rw [term9 m c n hn d, sum9_first m c n h, gateFirst_apply]
      exact (tileAt m c (pt n)).dgate d)
    (fun n hn h => by
      rw [term9 m c n hn d, sum9_next m c n h, gateNext_apply]
      exact congrArg _ ((tileAt m c (pt n)).dgate d)) n hn
  refine h.trans ?_
  rw [h7]
  exact Cert.BwdFfn.ext_sum (fun b s => (args m c).dgate (Idealize.ShloMosaic.ix3 b s d)) ⟨n / 8, by omega⟩

theorem half : Ideal.ofBits FTy.f32 0x3F000000#32 = ((1 / 2 : ℝ) : EReal) := by
  simp [Ideal.ofBits, Ideal.ieee]; rw [← EReal.coe_mul]; norm_num

/-- Half a row's mean squared error. -/
def halfMs (b : Fin 4) (s : Fin 2048) : EReal := (args m c).ms (Idealize.ShloMosaic.ix2 b s) * ((1 / 2 : ℝ) : EReal)

theorem term10 (n : ℕ) (hn : n < 32) :
    ∑ p : Fin 256, Cert.BwdFfn.ext (halfMs m c) ((n * 256 + p.val) / 2048) ((n * 256 + p.val) % 2048)
      = Ideal.ofBits FTy.f32 0x3F000000#32 * ∑ p, (args m c).ms (Idealize.ShloMosaic.ix2 (seqOf (pt n)) (rowOf (pt n) p)) := by
  have h : ∑ p : Fin 256, Cert.BwdFfn.ext (halfMs m c) ((n * 256 + p.val) / 2048) ((n * 256 + p.val) % 2048)
      = ∑ p : Fin 256, (args m c).ms (Idealize.ShloMosaic.ix2 (seqOf (pt n)) (rowOf (pt n) p)) * ((1 / 2 : ℝ) : EReal) := by
    refine Finset.sum_congr rfl fun p _ => ?_
    have e := ext_at (halfMs m c) (pt n) p
    have hp := p.isLt
    rw [pt_num n hn] at e
    rwa [show (n * 256 + p.val) / 2048 = n / 8 by omega, show (n * 256 + p.val) % 2048 = n % 8 * 256 + p.val by omega]
  rw [h, half, mul_comm (G := EReal)]
  exact Cert.RowAlgebra.sum_mul_coe _ _ (by norm_num)

/-- After the last point of all the running sum for the loss is half the sum of every row's mean squared error. -/
theorem sum10_last (i : Fin 8) (j : Fin 128) : sum10 m c 31 (Idealize.ShloMosaic.ix2 i j)
    = Ideal.ofBits FTy.f32 0x3F000000#32 * ∑ b, ∑ s, (args m c).ms (Idealize.ShloMosaic.ix2 b s) := by
  have h := Cert.BwdFfn.runSumAll (fun n => sum10 m c n (Idealize.ShloMosaic.ix2 i j))
    (fun k => Cert.BwdFfn.ext (halfMs m c) (k / 2048) (k % 2048))
    (by
      have e := term10 m c 0 (by omega)
      simp only [Nat.zero_mul, Nat.zero_add] at e
      rw [e]
      exact (tileAt m c (pt 0)).loss i j)
    (fun n hn h => by
      rw [term10 m c n hn, sum10_next m c n h, lossNext_apply]
      exact congrArg _ ((tileAt m c (pt n)).loss i j)) 31 (by omega)
  have e : ∑ b, ∑ s, halfMs m c b s = (∑ b, ∑ s, (args m c).ms (Idealize.ShloMosaic.ix2 b s)) * ((1 / 2 : ℝ) : EReal) := by
    unfold halfMs
    rw [← Cert.RowAlgebra.sum_mul_coe _ _ (by norm_num)]
    exact Finset.sum_congr rfl fun b _ => Cert.RowAlgebra.sum_mul_coe _ _ (by norm_num)
  rw [half, mul_comm (G := EReal)]
  exact (h.trans (Cert.BwdFfn.ext_sum_all (halfMs m c))).trans e

end Cert.FwdFfn

end
-- ==== Proof.FwdFfn.Arrays.lean ====
/-
  The seven arrays the kernel leaves are the reference's seven results.
-/
module

public import proofs.«01_k».proof.Proof.FwdFfn.Sums
public import Idealize.ShloMosaic.Lib.Pipeline.ValueKit

@[expose] public section

set_option maxRecDepth 16384

noncomputable section

namespace Cert.FwdFfn

open Idealize.ShloMosaic Idealize.ShloMosaic.TcCoe Idealize.ShloMosaic.Tactic Cert.Kernel4Ideal Cert.Kernel4Ideal.Gen
open Idealize.ShloMosaic.Pipeline (Dat Cfg Window)
open Cert.Reference4Ideal.Read

variable (m : (ℓ : Loc nD τ sig) → Buf (Elt Ideal) ℓ) (c : Dev nD)

theorem ref55_apply (A : Args) (b : Fin 4) (d : Fin 1024) :
    val_main_v55 (F := Ideal) A.x A.tg A.mod A.g A.w1 A.w2 (Idealize.ShloMosaic.ix3 b 0 d) = ∑ s, A.dgate (Idealize.ShloMosaic.ix3 b s d) := by
  unfold Args.dgate
  pointwise [val_main_v55, val_main_v54, val_main_cst_11]

theorem ref64_apply (A : Args) (i : Fin 8) (j : Fin 128) :
    val_main_v64 (F := Ideal) A.x A.tg A.mod A.g A.w1 A.w2 (Idealize.ShloMosaic.ix2 i j)
      = Ideal.ofBits FTy.f32 0x3F000000#32 * ∑ b, ∑ s, A.ms (Idealize.ShloMosaic.ix2 b s) := by
  have h : val_main_v43 (F := Ideal) A.x A.tg A.mod A.g A.w1 A.w2 (idx_main_v64 (Idealize.ShloMosaic.ix2 i j)) = ∑ b, ∑ s, A.ms (Idealize.ShloMosaic.ix2 b s) := by
    rw [val_main_v43_apply]
    have hz : val_main_cst_6 (F := Ideal) (Shape.Idx.first Cert.Reference4Ideal.Gen.h_S_) = (0 : EReal) := by
      show Ideal.ofBits FTy.f32 0#32 = 0
      simp [Ideal.ofBits, Ideal.ieee]
    rw [hz, zero_add (M := EReal)]
    exact Idealize.ShloMosaic.sum_idx2 _
  rw [val_main_v64_apply, val_main_v44_apply]
  exact congrArg (Ideal.ofBits FTy.f32 0x3F000000#32 * ·) h

theorem arr4 : (dat m 0 c).arrAt 4 cfg0.N = val_main_v57 (F := Ideal) (args m c).x (args m c).mod (args m c).g := by
  refine (dat m 0 c).arrAt_eq_of_covers 4 _ (by decide +kernel) fun t _ y => ?_
  obtain ⟨p, d, rfl⟩ : ∃ p d, y = Idealize.ShloMosaic.ix2 p d := ⟨y 0, y 1, by funext a; fin_cases a <;> rfl⟩
  have hi : win0_4.index t 0 = t.val ∧ win0_4.index t 1 = 0 :=
    (by decide +kernel : ∀ t : Fin grid0.N, win0_4.index t 0 = t.val ∧ win0_4.index t 1 = 0) t
  have he : ((cfg0.win 4).blk t).view.emb (Idealize.ShloMosaic.ix2 p d) = (Idealize.ShloMosaic.ix2 (flatOf t p) d : S8192x1024.Idx) := by
    funext a
    apply Fin.ext
    match a with
    | ⟨0, _⟩ =>
      show win0_4.index t 0 * 256 + 1 * p.val = t.val * 256 + p.val
      rw [hi.1, Nat.one_mul]
    | ⟨1, _⟩ =>
      show win0_4.index t 1 * 1024 + 1 * d.val = d.val
      rw [hi.2]; omega
  rw [he]
  show (dat m 0 c).after 4 t (Idealize.ShloMosaic.ix2 p d) = _
  rw [after_4]
  exact ((tileAt m c t).h2 p d).trans (rows_apply t _ _ p d).symm

theorem arr5 : (dat m 0 c).arrAt 5 cfg0.N = val_main_v58 (F := Ideal) (args m c).x (args m c).mod (args m c).g (args m c).w1 := by
  refine (dat m 0 c).arrAt_eq_of_covers 5 _ (by decide +kernel) fun t _ y => ?_
  obtain ⟨p, d, rfl⟩ : ∃ p d, y = Idealize.ShloMosaic.ix2 p d := ⟨y 0, y 1, by funext a; fin_cases a <;> rfl⟩
  have hi : win0_5.index t 0 = t.val ∧ win0_5.index t 1 = 0 :=
    (by decide +kernel : ∀ t : Fin grid0.N, win0_5.index t 0 = t.val ∧ win0_5.index t 1 = 0) t
  have he : ((cfg0.win 5).blk t).view.emb (Idealize.ShloMosaic.ix2 p d) = (Idealize.ShloMosaic.ix2 (flatOf t p) d : S8192x4096.Idx) := by
    funext a
    apply Fin.ext
    match a with
    | ⟨0, _⟩ =>
      show win0_5.index t 0 * 256 + 1 * p.val = t.val * 256 + p.val
      rw [hi.1, Nat.one_mul]
    | ⟨1, _⟩ =>
      show win0_5.index t 1 * 4096 + 1 * d.val = d.val
      rw [hi.2]; omega
  rw [he]
  show (dat m 0 c).after 5 t (Idealize.ShloMosaic.ix2 p d) = _
  rw [after_5]
  exact ((tileAt m c t).a p d).trans (rows_apply t _ _ p d).symm

theorem arr6 : (dat m 0 c).arrAt 6 cfg0.N = val_main_v60 (F := Ideal) (args m c).x (args m c).mod (args m c).g (args m c).w1 := by
  refine (dat m 0 c).arrAt_eq_of_covers 6 _ (by decide +kernel) fun t _ y => ?_
  obtain ⟨p, d, rfl⟩ : ∃ p d, y = Idealize.ShloMosaic.ix2 p d := ⟨y 0, y 1, by funext a; fin_cases a <;> rfl⟩
  have hi : win0_6.index t 0 = t.val ∧ win0_6.index t 1 = 0 :=
    (by decide +kernel : ∀ t : Fin grid0.N, win0_6.index t 0 = t.val ∧ win0_6.index t 1 = 0) t
  have he : ((cfg0.win 6).blk t).view.emb (Idealize.ShloMosaic.ix2 p d) = (Idealize.ShloMosaic.ix2 (flatOf t p) d : S8192x4096.Idx) := by
    funext a
    apply Fin.ext
    match a with
    | ⟨0, _⟩ =>
      show win0_6.index t 0 * 256 + 1 * p.val = t.val * 256 + p.val
      rw [hi.1, Nat.one_mul]
    | ⟨1, _⟩ =>
      show win0_6.index t 1 * 4096 + 1 * d.val = d.val
      rw [hi.2]; omega
  rw [he]
  show (dat m 0 c).after 6 t (Idealize.ShloMosaic.ix2 p d) = _
  rw [after_6]
  exact ((tileAt m c t).r p d).trans (rows_apply t _ _ p d).symm

theorem arr7 : (dat m 0 c).arrAt 7 cfg0.N = val_main_v61 (F := Ideal) (args m c).x (args m c).tg (args m c).mod (args m c).g (args m c).w1 (args m c).w2 := by
  refine (dat m 0 c).arrAt_eq_of_covers 7 _ (by decide +kernel) fun t _ y => ?_
  obtain ⟨p, d, rfl⟩ : ∃ p d, y = Idealize.ShloMosaic.ix2 p d := ⟨y 0, y 1, by funext a; fin_cases a <;> rfl⟩
  have hi : win0_7.index t 0 = t.val ∧ win0_7.index t 1 = 0 :=
    (by decide +kernel : ∀ t : Fin grid0.N, win0_7.index t 0 = t.val ∧ win0_7.index t 1 = 0) t
  have he : ((cfg0.win 7).blk t).view.emb (Idealize.ShloMosaic.ix2 p d) = (Idealize.ShloMosaic.ix2 (flatOf t p) d : S8192x1024.Idx) := by
    funext a
    apply Fin.ext
    match a with
    | ⟨0, _⟩ =>
      show win0_7.index t 0 * 256 + 1 * p.val = t.val * 256 + p.val
      rw [hi.1, Nat.one_mul]
    | ⟨1, _⟩ =>
      show win0_7.index t 1 * 1024 + 1 * d.val = d.val
      rw [hi.2]; omega
  rw [he]
  show (dat m 0 c).after 7 t (Idealize.ShloMosaic.ix2 p d) = _
  rw [after_7]
  exact ((tileAt m c t).dy p d).trans (rows_apply t _ _ p d).symm

theorem arr8 : (dat m 0 c).arrAt 8 cfg0.N = val_main_v63 (F := Ideal) (args m c).x (args m c).tg (args m c).mod (args m c).g (args m c).w1 (args m c).w2 := by
  refine (dat m 0 c).arrAt_eq_of_covers 8 _ (by decide +kernel) fun t _ y => ?_
  obtain ⟨p, d, rfl⟩ : ∃ p d, y = Idealize.ShloMosaic.ix2 p d := ⟨y 0, y 1, by funext a; fin_cases a <;> rfl⟩
  have hi : win0_8.index t 0 = t.val ∧ win0_8.index t 1 = 0 :=
    (by decide +kernel : ∀ t : Fin grid0.N, win0_8.index t 0 = t.val ∧ win0_8.index t 1 = 0) t
  have he : ((cfg0.win 8).blk t).view.emb (Idealize.ShloMosaic.ix2 p d) = (Idealize.ShloMosaic.ix2 (flatOf t p) d : S8192x1024.Idx) := by
    funext a
    apply Fin.ext
    match a with
    | ⟨0, _⟩ =>
      show win0_8.index t 0 * 256 + 1 * p.val = t.val * 256 + p.val
      rw [hi.1, Nat.one_mul]
    | ⟨1, _⟩ =>
      show win0_8.index t 1 * 1024 + 1 * d.val = d.val
      rw [hi.2]; omega
  rw [he]
  show (dat m 0 c).after 8 t (Idealize.ShloMosaic.ix2 p d) = _
  rw [after_8]
  exact ((tileAt m c t).df p d).trans (rows_apply t _ _ p d).symm

theorem arr9 : (dat m 0 c).arrAt 9 cfg0.N = val_main_v55 (F := Ideal) (args m c).x (args m c).tg (args m c).mod (args m c).g (args m c).w1 (args m c).w2 := by
  refine (dat m 0 c).arrAt_eq_of_covers 9 _ (by decide +kernel) fun t hf y => ?_
  have h7 : t.val % 8 = 7 := (by decide +kernel : ∀ t : Fin grid0.N, win0_9.flush t = true → t.val % 8 = 7) t hf
  obtain ⟨d, rfl⟩ : ∃ d, y = Idealize.ShloMosaic.ix3 0 0 d :=
    ⟨y 2, by funext a; fin_cases a; exacts [Fin.ext (Nat.lt_one_iff.1 (y 0).isLt), Fin.ext (Nat.lt_one_iff.1 (y 1).isLt), rfl]⟩
  have hi : win0_9.index t 0 = t.val / 8 ∧ win0_9.index t 1 = 0 ∧ win0_9.index t 2 = 0 :=
    (by decide +kernel : ∀ t : Fin grid0.N, win0_9.index t 0 = t.val / 8 ∧ win0_9.index t 1 = 0 ∧ win0_9.index t 2 = 0) t
  have he : ((cfg0.win 9).blk t).view.emb (Idealize.ShloMosaic.ix3 0 0 d) = (Idealize.ShloMosaic.ix3 (seqOf t) 0 d : S4x1x1024.Idx) := by
    funext a
    apply Fin.ext
    match a with
    | ⟨0, _⟩ =>
      show win0_9.index t 0 * 1 + 1 * 0 = t.val / 8
      rw [hi.1]; omega
    | ⟨1, _⟩ =>
      show win0_9.index t 1 * 1 + 1 * 0 = 0
      rw [hi.2.1]
    | ⟨2, _⟩ =>
      show win0_9.index t 2 * 1024 + 1 * d.val = d.val
      rw [hi.2.2]; omega
  rw [he, ref55_apply]
  show (dat m 0 c).after 9 t (Idealize.ShloMosaic.ix3 0 0 d) = _
  rw [after_9]
  exact sum9_last m c t.val (pt_lt t) h7 d

theorem arr10 : (dat m 0 c).arrAt 10 cfg0.N = val_main_v64 (F := Ideal) (args m c).x (args m c).tg (args m c).mod (args m c).g (args m c).w1 (args m c).w2 := by
  refine (dat m 0 c).arrAt_eq_of_covers 10 _ (by decide +kernel) fun t hf y => ?_
  have h7 : t.val = 31 := (by decide +kernel : ∀ t : Fin grid0.N, win0_10.flush t = true → t.val = 31) t hf
  obtain ⟨i, j, rfl⟩ : ∃ i j, y = Idealize.ShloMosaic.ix2 i j := ⟨y 0, y 1, by funext a; fin_cases a <;> rfl⟩
  have hi : win0_10.index t 0 = 0 ∧ win0_10.index t 1 = 0 :=
    (by decide +kernel : ∀ t : Fin grid0.N, win0_10.index t 0 = 0 ∧ win0_10.index t 1 = 0) t
  have he : ((cfg0.win 10).blk t).view.emb (Idealize.ShloMosaic.ix2 i j) = (Idealize.ShloMosaic.ix2 i j : S8x128.Idx) := by
    funext a
    apply Fin.ext
    match a with
    | ⟨0, _⟩ =>
      show win0_10.index t 0 * 8 + 1 * i.val = i.val
      rw [hi.1]; omega
    | ⟨1, _⟩ =>
      show win0_10.index t 1 * 128 + 1 * j.val = j.val
      rw [hi.2]; omega
  rw [he, ref64_apply]
  show (dat m 0 c).after 10 t (Idealize.ShloMosaic.ix2 i j) = _
  rw [after_10, h7]
  exact sum10_last m c i j

end Cert.FwdFfn

end
-- ==== Proof.FwdFfn.Equation.lean ====
/-
  The value claim: both programs run, and the kernel's seven results are the reference's.
-/
module

public import proofs.«01_k».proof.Defs
public import proofs.«01_k».proof.Proof.FwdFfn.Arrays
public import proofs.«01_k».proof.Proof.Gen.Reference4Ideal.Run

@[expose] public section

set_option maxRecDepth 16384

noncomputable section

namespace Cert.FwdFfn

open Idealize.ShloMosaic Idealize.ShloMosaic.TcCoe Idealize.ShloMosaic.Tactic Cert.Kernel4Ideal Cert.Kernel4Ideal.Gen
open Idealize.SL.Sem
open Cert.Reference4Ideal.Read

variable (m : (ℓ : Loc nD τ sig) → Buf (Elt Ideal) ℓ) (ρ : Dev nD → PrngReg)

variable {m} {r : PUnit × MemSt nD τ sig (Elt Ideal)}

theorem post4 (h : Pipeline.FramePost cfgs (dat m) 0 (V m) r) (c : Dev nD) : r.2.mem ((c.tc : Thread nD τ).loc main_v9_0) = val_main_v57 (F := Ideal) (args m c).x (args m c).mod (args m c).g :=
  ((h c).1 4).trans (arr4 m c)
theorem post5 (h : Pipeline.FramePost cfgs (dat m) 0 (V m) r) (c : Dev nD) : r.2.mem ((c.tc : Thread nD τ).loc main_v9_1) = val_main_v58 (F := Ideal) (args m c).x (args m c).mod (args m c).g (args m c).w1 :=
  ((h c).1 5).trans (arr5 m c)
theorem post6 (h : Pipeline.FramePost cfgs (dat m) 0 (V m) r) (c : Dev nD) : r.2.mem ((c.tc : Thread nD τ).loc main_v9_2) = val_main_v60 (F := Ideal) (args m c).x (args m c).mod (args m c).g (args m c).w1 :=
  ((h c).1 6).trans (arr6 m c)
theorem post7 (h : Pipeline.FramePost cfgs (dat m) 0 (V m) r) (c : Dev nD) : r.2.mem ((c.tc : Thread nD τ).loc main_v9_3) = val_main_v61 (F := Ideal) (args m c).x (args m c).tg (args m c).mod (args m c).g (args m c).w1 (args m c).w2 :=
  ((h c).1 7).trans (arr7 m c)
theorem post8 (h : Pipeline.FramePost cfgs (dat m) 0 (V m) r) (c : Dev nD) : r.2.mem ((c.tc : Thread nD τ).loc main_v9_4) = val_main_v63 (F := Ideal) (args m c).x (args m c).tg (args m c).mod (args m c).g (args m c).w1 (args m c).w2 :=
  ((h c).1 8).trans (arr8 m c)
theorem post9 (h : Pipeline.FramePost cfgs (dat m) 0 (V m) r) (c : Dev nD) : r.2.mem ((c.tc : Thread nD τ).loc main_v9_5) = val_main_v55 (F := Ideal) (args m c).x (args m c).tg (args m c).mod (args m c).g (args m c).w1 (args m c).w2 :=
  ((h c).1 9).trans (arr9 m c)
theorem post10 (h : Pipeline.FramePost cfgs (dat m) 0 (V m) r) (c : Dev nD) : r.2.mem ((c.tc : Thread nD τ).loc main_v9_6) = val_main_v64 (F := Ideal) (args m c).x (args m c).tg (args m c).mod (args m c).g (args m c).w1 (args m c).w2 :=
  ((h c).1 10).trans (arr10 m c)
theorem kept0 (h : Pipeline.FramePost cfgs (dat m) 0 (V m) r) (c : Dev nD) : r.2.mem ((c.tc : Thread nD τ).loc main_arg0) = m ((c.tc : Thread nD τ).loc main_arg0) :=
  ((h c).2 main_arg0 (Pipeline.mem_restRefs_of main_arg0 (by decide) (by decide))).trans (V_main_arg0 m c)
theorem kept1 (h : Pipeline.FramePost cfgs (dat m) 0 (V m) r) (c : Dev nD) : r.2.mem ((c.tc : Thread nD τ).loc main_arg1) = m ((c.tc : Thread nD τ).loc main_arg1) :=
  ((h c).2 main_arg1 (Pipeline.mem_restRefs_of main_arg1 (by decide) (by decide))).trans (V_main_arg1 m c)
theorem kept2 (h : Pipeline.FramePost cfgs (dat m) 0 (V m) r) (c : Dev nD) : r.2.mem ((c.tc : Thread nD τ).loc main_arg2) = m ((c.tc : Thread nD τ).loc main_arg2) :=
  ((h c).2 main_arg2 (Pipeline.mem_restRefs_of main_arg2 (by decide) (by decide))).trans (V_main_arg2 m c)
theorem kept3 (h : Pipeline.FramePost cfgs (dat m) 0 (V m) r) (c : Dev nD) : r.2.mem ((c.tc : Thread nD τ).loc main_arg3) = m ((c.tc : Thread nD τ).loc main_arg3) :=
  ((h c).1 2).trans (((dat m 0 c).arrAt_in 2 rfl _).trans ((dat_A m c 2).trans (V_main_arg3 m c)))
theorem kept4 (h : Pipeline.FramePost cfgs (dat m) 0 (V m) r) (c : Dev nD) : r.2.mem ((c.tc : Thread nD τ).loc main_arg4) = m ((c.tc : Thread nD τ).loc main_arg4) :=
  ((h c).2 main_arg4 (Pipeline.mem_restRefs_of main_arg4 (by decide) (by decide))).trans (V_main_arg4 m c)
theorem kept5 (h : Pipeline.FramePost cfgs (dat m) 0 (V m) r) (c : Dev nD) : r.2.mem ((c.tc : Thread nD τ).loc main_arg5) = m ((c.tc : Thread nD τ).loc main_arg5) :=
  ((h c).2 main_arg5 (Pipeline.mem_restRefs_of main_arg5 (by decide) (by decide))).trans (V_main_arg5 m c)

variable (m)

/-- The kernel's run, its results as the reference's arrays of its arguments. -/
theorem run_values : θ_run defs (onTc (τ := τ) (main (F := Ideal))) ⟨m, fun _ => 0, ρ⟩ (fun r => ∀ c : Dev nD,
      r.2.mem ((c.tc : Thread nD τ).loc main_v9_0) = val_main_v57 (F := Ideal) (args m c).x (args m c).mod (args m c).g
      ∧ r.2.mem ((c.tc : Thread nD τ).loc main_v9_1) = val_main_v58 (F := Ideal) (args m c).x (args m c).mod (args m c).g (args m c).w1
      ∧ r.2.mem ((c.tc : Thread nD τ).loc main_v9_2) = val_main_v60 (F := Ideal) (args m c).x (args m c).mod (args m c).g (args m c).w1
      ∧ r.2.mem ((c.tc : Thread nD τ).loc main_v9_3) = val_main_v61 (F := Ideal) (args m c).x (args m c).tg (args m c).mod (args m c).g (args m c).w1 (args m c).w2
      ∧ r.2.mem ((c.tc : Thread nD τ).loc main_v9_4) = val_main_v63 (F := Ideal) (args m c).x (args m c).tg (args m c).mod (args m c).g (args m c).w1 (args m c).w2
      ∧ r.2.mem ((c.tc : Thread nD τ).loc main_v9_5) = val_main_v55 (F := Ideal) (args m c).x (args m c).tg (args m c).mod (args m c).g (args m c).w1 (args m c).w2
      ∧ r.2.mem ((c.tc : Thread nD τ).loc main_v9_6) = val_main_v64 (F := Ideal) (args m c).x (args m c).tg (args m c).mod (args m c).g (args m c).w1 (args m c).w2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨post4 h c, post5 h c, post6 h c, post7 h c, post8 h c, post9 h c, post10 h c, kept0 h c, kept1 h c, kept2 h c, kept3 h c, kept4 h c, kept5 h c⟩)
    (run_post m ρ)

/-- The reference's frame. -/
theorem frame_reference : Cert.quiescent_Reference4Ideal := fun m ρ _ =>
  (θ_run Cert.Reference4Ideal.defs _ _).mono (fun r h => ⟨fun c => (h c).2.2.2.2.2.2.2, sem_eq_zero_of_no_sems (by decide) r.2⟩)
    (Cert.Reference4Ideal.Value.run m ρ)

/-- The kernel and the reference leave equal results. -/
theorem equation : Cert.algebraic_Kernel4Ideal_Reference4Ideal := by
  intro m g m' g' _ hm
  refine ⟨fun c => val_main_v57 (F := Ideal) (args m c).x (args m c).mod (args m c).g, fun c => val_main_v58 (F := Ideal) (args m c).x (args m c).mod (args m c).g (args m c).w1, fun c => val_main_v60 (F := Ideal) (args m c).x (args m c).mod (args m c).g (args m c).w1, fun c => val_main_v61 (F := Ideal) (args m c).x (args m c).tg (args m c).mod (args m c).g (args m c).w1 (args m c).w2, fun c => val_main_v63 (F := Ideal) (args m c).x (args m c).tg (args m c).mod (args m c).g (args m c).w1 (args m c).w2, fun c => val_main_v55 (F := Ideal) (args m c).x (args m c).tg (args m c).mod (args m c).g (args m c).w1 (args m c).w2, fun c => val_main_v64 (F := Ideal) (args m c).x (args m c).tg (args m c).mod (args m c).g (args m c).w1 (args m c).w2, run_values m g,
    (θ_run Cert.Reference4Ideal.defs _ _).mono (fun r h c => ?_) (Cert.Reference4Ideal.Value.run m' g')⟩
  obtain ⟨e0, e1, e2, e3, e4, e5⟩ := hm c
  obtain ⟨h0, h1, h2, h3, h4, h5, h6, hargs⟩ := h c
  refine ⟨h0.trans ((val_main_v57_eq _ _ _).trans ?_), h1.trans ((val_main_v58_eq _ _ _ _).trans ?_), h2.trans ((val_main_v60_eq _ _ _ _).trans ?_), h3.trans ((val_main_v61_eq m' c).trans ?_), h4.trans ((val_main_v63_eq m' c).trans ?_), h5.trans ((val_main_v55_eq m' c).trans ?_), h6.trans ((val_main_v64_eq m' c).trans ?_), hargs⟩
  · rw [e0, e2, e3]; rfl
  · rw [e0, e2, e3, e4]; rfl
  · rw [e0, e2, e3, e4]; rfl
  all_goals (rw [e0, e1, e2, e3, e4, e5]; rfl)

end Cert.FwdFfn

end
-- ==== Proof.FwdIn.State.lean ====
/-
  What the run of the input projection holds after each point of its grid: the scratch keeps the weights the first point
  fetched, and the five output blocks are the kernel's own expressions of the point's input blocks and these weights.
-/
module

public import proofs.«01_k».proof.Proof.Gen.Kernel7Ideal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FwdIn

open Idealize.ShloMosaic Idealize.ShloMosaic.TcCoe Idealize.ShloMosaic.Tactic Cert.Kernel7Ideal Cert.Kernel7Ideal.Gen

/-- The scale row of a block of the modulation. -/
def scaleRow (x : Vec Ideal S1x6x1024 .f32) : Vec Ideal S1x1x1024 .f32 :=
  View.ld x (Rect.unit ![0, 1, 0] ![1, 1, 1024] inb_S1x6x1024_S1x1x1024_0_1_0)
/-- The shift row of a block of the modulation. -/
def shiftRow (x : Vec Ideal S1x6x1024 .f32) : Vec Ideal S1x1x1024 .f32 :=
  View.ld x (Rect.unit ![0, 0, 0] ![1, 1, 1024] inb_S1x6x1024_S1x1x1024_0_0_0)

variable (m : (ℓ : Loc nD τ sig) → Buf (Elt Ideal) ℓ) (c : Dev nD) (t : Fin cfg0.N)

/-- The weights in memory when the launch starts. -/
abbrev wts : Vec Ideal S1024x3584 .bf16 := V m c main_v13

/-- The fetched weights are the scratch's contents, and a load of the scratch reads them. -/
theorem canon_fetched (u : Vec Ideal S1024x3584 .bf16) :
    View.canon ([⟨Rect.whole S1024x3584, ReadAs.same.apply (View.read (Elt Ideal) (View.whole main_v13) u)⟩] : List (View.Piece (Elt Ideal) S1024x3584 .bf16)) = u := by
  funext y
  refine View.canon_apply_of_pieces u _ ?_ y ⟨_, List.mem_singleton.mpr rfl, ?_⟩
  · intro p hp x
    rw [List.mem_singleton] at hp
    subst hp
    exact congrArg u (Rect.emb_whole_apply _ x).symm
  · rw [Rect.set_whole]; exact Finset.mem_univ _

theorem load_fetched (u : Vec Ideal S1024x3584 .bf16) (inb : ∀ a, (![0, 0] : Fin 2 → ℕ) a + (![1024, 3584] : Fin 2 → ℕ) a ≤ S1024x3584.size a) :
    (View.whole cc0_scratch0).readCov ([⟨Rect.whole S1024x3584, ReadAs.same.apply (View.read (Elt Ideal) (View.whole main_v13) u)⟩] : List (View.Piece (Elt Ideal) S1024x3584 .bf16)) (Rect.unit (s := S1024x3584) ![0, 0] ![1024, 3584] inb).toLoadRect = u := by
  rw [View.readCov_eq_canon', canon_fetched]
  exact View.ld_unit_zero (S := S1024x3584) (by funext a; fin_cases a <;> rfl) inb _

/-- The point before. -/
theorem prev_lt (t : Fin cfg0.N) : t.val - 1 < cfg0.N := Nat.lt_of_le_of_lt (Nat.sub_le _ _) t.isLt

theorem kept (h : ¬ t.val % 16 = 0) : (outsAt0 m c t.val t.isLt).2.2.2.2.2 = (outsAt0 m c (t.val - 1) (prev_lt t)).2.2.2.2.2 := by
  rw [outsAt0_B m c t h]
  rfl

theorem fetched (h : t.val % 16 = 0) : (outsAt0 m c t.val t.isLt).2.2.2.2.2 = wts m c := by
  rw [outsAt0_A m c t h]
  frame_out
  exact canon_fetched _

/-- The scratch holds the weights after every point. -/
theorem scratch (n : ℕ) (h : n < cfg0.N) : (outsAt0 m c n h).2.2.2.2.2 = wts m c := by
  induction n with
  | zero => exact fetched m c ⟨0, h⟩ (Nat.zero_mod _)
  | succ n ih =>
    have hN : n + 1 < 16 := lt_of_lt_of_eq h (show cfg0.N = 16 from N_0)
    exact (kept m c ⟨n + 1, h⟩ (by show ¬ (n + 1) % 16 = 0; omega)).trans (ih (Nat.lt_of_succ_lt h))

theorem out_h : (outsAt0 m c t.val t.isLt).1 = k0_pay4 (iblk m c 0 t) (iblk m c 1 t) (scaleRow (iblk m c 2 t)) (shiftRow (iblk m c 2 t)) := by
  by_cases h : t.val % 16 = 0
  · rw [outsAt0_A m c t h]
    frame_out
    rfl
  · rw [outsAt0_B m c t h]
    frame_out
    rfl

theorem out_zm : (outsAt0 m c t.val t.isLt).2.1 = k0_pay2 (k0_pay5 (iblk m c 0 t) (iblk m c 1 t) (scaleRow (iblk m c 2 t)) (shiftRow (iblk m c 2 t)) (wts m c)) := by
  by_cases h : t.val % 16 = 0
  · rw [outsAt0_A m c t h]
    frame_out
    rw [load_fetched]
    rfl
  · rw [outsAt0_B m c t h, scratch m c (t.val - 1) (prev_lt t)]
    frame_out
    simp only [read_unread_whole]
    rfl

theorem out_zglu : (outsAt0 m c t.val t.isLt).2.2.1 = k0_pay1 (k0_pay5 (iblk m c 0 t) (iblk m c 1 t) (scaleRow (iblk m c 2 t)) (shiftRow (iblk m c 2 t)) (wts m c)) := by
  by_cases h : t.val % 16 = 0
  · rw [outsAt0_A m c t h]
    frame_out
    rw [load_fetched]
    rfl
  · rw [outsAt0_B m c t h, scratch m c (t.val - 1) (prev_lt t)]
    frame_out
    simp only [read_unread_whole]
    rfl

theorem out_zgate : (outsAt0 m c t.val t.isLt).2.2.2.1 = k0_pay6 (iblk m c 0 t) (iblk m c 1 t) (scaleRow (iblk m c 2 t)) (shiftRow (iblk m c 2 t)) (wts m c) := by
  by_cases h : t.val % 16 = 0
  · rw [outsAt0_A m c t h]
    frame_out
    rw [load_fetched]
    rfl
  · rw [outsAt0_B m c t h, scratch m c (t.val - 1) (prev_lt t)]
    frame_out
    simp only [read_unread_whole]
    rfl

theorem out_u0 : (outsAt0 m c t.val t.isLt).2.2.2.2.1 = k0_pay3 (k0_pay5 (iblk m c 0 t) (iblk m c 1 t) (scaleRow (iblk m c 2 t)) (shiftRow (iblk m c 2 t)) (wts m c)) := by
  by_cases h : t.val % 16 = 0
  · rw [outsAt0_A m c t h]
    frame_out
    rw [load_fetched]
    rfl
  · rw [outsAt0_B m c t h, scratch m c (t.val - 1) (prev_lt t)]
    frame_out
    simp only [read_unread_whole]
    rfl

end Cert.FwdIn

end
-- ==== Proof.FwdIn.Tile.lean ====
/-
  What the input projection computes for one block of 512 rows of one sequence, against the reference's own intermediate
  arrays at those rows: the modulated row, its products with the columns of the projection, and the gated linear unit.
-/
module

public import proofs.«01_k».proof.Proof.Gen.Kernel7Ideal.Skeleton
public import proofs.«01_k».proof.Proof.Gen.Reference7Ideal.Read
public import Idealize.ShloMosaic.Lib.Pointwise
public import Idealize.ShloMosaic.Lib.ValueIdx
public import Idealize.ShloMosaic.Lib.Pipeline.Value

@[expose] public section

noncomputable section

namespace Cert.FwdIn

open Idealize.ShloMosaic Cert.Kernel7Ideal Cert.Kernel7Ideal.Gen
open Cert.Reference7Ideal.Read

/-- The four arguments, as arrays of extended reals. -/
structure Args where
  x : (⟨S4x2048x1024, .f32⟩ : BufTy).Contents (Elt Ideal)
  mod : (⟨S4x6144, .f32⟩ : BufTy).Contents (Elt Ideal)
  g : (⟨S1x1024, .f32⟩ : BufTy).Contents (Elt Ideal)
  w : (⟨S1x1024x3488, .f32⟩ : BufTy).Contents (Elt Ideal)

/-- Column `k + j` among the 3488 columns of the projection. -/
def at3488 (k : ℕ) {n : ℕ} (j : Fin n) (h : k + n ≤ 3488) : Fin 3488 := ⟨k + j.val, by have := j.isLt; omega⟩
/-- Column `k + j` among the 3584 columns the kernel holds. -/
def at3584 (k : ℕ) {n : ℕ} (j : Fin n) (h : k + n ≤ 3584) : Fin 3584 := ⟨k + j.val, by have := j.isLt; omega⟩
/-- Column `k + j` among the 512 columns of the latents. -/
def at512 (k : ℕ) {n : ℕ} (j : Fin n) (h : k + n ≤ 512) : Fin 512 := ⟨k + j.val, by have := j.isLt; omega⟩

namespace Args

variable (A : Args)

/-- The modulated, normed row. -/
abbrev h := val_main_v26 (F := Ideal) A.x A.mod A.g
/-- The projection's matrix. -/
abbrev W := val_main_v27 (F := Ideal) A.w
/-- The projected row. -/
abbrev z := val_main_v28 (F := Ideal) A.x A.mod A.g A.w
/-- The latents in the layout the kernel keeps them in. -/
abbrev zm := val_main_v33 (F := Ideal) A.x A.mod A.g A.w
/-- The gated linear unit's input, and the gates. -/
abbrev zglu := val_main_v34 (F := Ideal) A.x A.mod A.g A.w
abbrev zgate := val_main_v35 (F := Ideal) A.x A.mod A.g A.w
/-- The gated linear unit. -/
abbrev u0 := val_main_v49 (F := Ideal) A.x A.mod A.g A.w

theorem h_apply (b : Fin 4) (s : Fin 2048) (d : Fin 1024) : A.h (ix3 b s d)
    = A.x (ix3 b s d) * Ideal.rsqrt (Ideal.div (∑ k, A.x (ix3 b s k) * A.x (ix3 b s k)) (Ideal.ofBits FTy.f32 0x44800000#32) + Ideal.ofBits FTy.f32 0x358637BD#32)
        * A.g (ix2 0 d) * (Ideal.ofBits FTy.f32 0x3F800000#32 + val_main_v2 (F := Ideal) A.mod (ix3 b 0 d)) + val_main_v1 (F := Ideal) A.mod (ix3 b 0 d) := by
  unfold h
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_cst, val_main_cst_0, val_main_cst_1, val_main_cst_2]

theorem z_apply (b : Fin 4) (s : Fin 2048) (f : Fin 3488) : A.z (ix3 b s f) = ∑ k, A.h (ix3 b s k) * A.W (ix2 k f) := by
  unfold z
  pointwise [Reference7Ideal.dot_S4x2048x1024_S1024x3488_S4x2048x3488_2_0_01_1_n_n, val_main_v28]

theorem zgate_apply (b : Fin 4) (s : Fin 2048) (j : Fin 2048) : A.zgate (ix3 b s j) = A.z (ix3 b s (at3488 1440 j (by decide))) := by
  refine (val_main_v35_apply (F := Ideal) _ _ _ _ _).trans (congrArg A.z ?_)
  funext a
  fin_cases a <;> rfl

theorem zglu_apply (b : Fin 4) (s : Fin 2048) (j : Fin 1024) : A.zglu (ix3 b s j) = A.z (ix3 b s (at3488 416 j (by decide))) := by
  refine (val_main_v34_apply (F := Ideal) _ _ _ _ _).trans (congrArg A.z ?_)
  funext a
  fin_cases a <;> rfl

theorem u0_apply (b : Fin 4) (s : Fin 2048) (j : Fin 512) : A.u0 (ix3 b s j)
    = A.zglu (ix3 b s ⟨j.val, by have := j.isLt; omega⟩)
      * Ideal.logistic (A.zglu (ix3 b s ⟨512 + j.val, by have := j.isLt; omega⟩)) := by
  unfold u0
  pointwise [val_main_v49, val_main_v48, val_main_v47, val_main_v46, val_main_v45, val_main_v44, val_main_v43, val_main_v37, val_main_v36, val_main_cst_5, val_main_cst_6]
  rfl

/-- The latents' pieces, one by one: the two latents, 64 zeros, the rotary part of the key, 32 zeros. -/
theorem zm_lat (b : Fin 4) (s : Fin 2048) (j : Fin 384) : A.zm (ix3 b s (at512 0 j (by decide))) = A.z (ix3 b s (at3488 0 j (by decide))) := by
  unfold zm val_main_v33
  refine (concatenate_apply_piece (t := Cert.Reference7Ideal.S4x2048x512) 2 _ _ _ 0 (by simp) Cert.Reference7Ideal.S4x2048x384 (val_main_v29 (F := Ideal) A.x A.mod A.g A.w) rfl rfl 0 rfl (ix3 b s j)
    (fun a ha => ?_) rfl).trans ((val_main_v29_apply (F := Ideal) _ _ _ _ _).trans (congrArg A.z ?_))
  · fin_cases a
    · rfl
    · rfl
    · exact absurd rfl ha
  · funext a
    fin_cases a <;> first | rfl | exact Fin.ext (Nat.zero_add _).symm

theorem zm_gap (b : Fin 4) (s : Fin 2048) (j : Fin 64) : A.zm (ix3 b s (at512 384 j (by decide))) = 0 := by
  unfold zm val_main_v33
  refine (concatenate_apply_piece (t := Cert.Reference7Ideal.S4x2048x512) 2 _ _ _ 1 (by simp) Cert.Reference7Ideal.S4x2048x64 (val_main_v30 (F := Ideal)) rfl rfl 384 rfl (ix3 b s j)
    (fun a ha => ?_) rfl).trans ?_
  · fin_cases a
    · rfl
    · rfl
    · exact absurd rfl ha
  · pointwise [val_main_v30, val_main_cst_3]

theorem zm_rot (b : Fin 4) (s : Fin 2048) (j : Fin 32) : A.zm (ix3 b s (at512 448 j (by decide))) = A.z (ix3 b s (at3488 384 j (by decide))) := by
  unfold zm val_main_v33
  refine (concatenate_apply_piece (t := Cert.Reference7Ideal.S4x2048x512) 2 _ _ _ 2 (by simp) Cert.Reference7Ideal.S4x2048x32 (val_main_v31 (F := Ideal) A.x A.mod A.g A.w) rfl rfl 448 rfl (ix3 b s j)
    (fun a ha => ?_) rfl).trans ((val_main_v31_apply (F := Ideal) _ _ _ _ _).trans (congrArg A.z ?_))
  · fin_cases a
    · rfl
    · rfl
    · exact absurd rfl ha
  · funext a
    fin_cases a <;> rfl

theorem zm_end (b : Fin 4) (s : Fin 2048) (j : Fin 32) : A.zm (ix3 b s (at512 480 j (by decide))) = 0 := by
  unfold zm val_main_v33
  refine (concatenate_apply_piece (t := Cert.Reference7Ideal.S4x2048x512) 2 _ _ _ 3 (by simp) Cert.Reference7Ideal.S4x2048x32 (val_main_v32 (F := Ideal)) rfl rfl 480 rfl (ix3 b s j)
    (fun a ha => ?_) rfl).trans ?_
  · fin_cases a
    · rfl
    · rfl
    · exact absurd rfl ha
  · pointwise [val_main_v32, val_main_cst_4]

end Args

/-- One block of 512 rows of sequence `b` as the kernel holds it: the residual row, the norm's weight, the scale and shift
    rows, and the projection's columns in the kernel's order, with columns of zeros between. -/
structure TileAt (A : Args) (b : Fin 4) (ρ : Fin 512 → Fin 2048)
    (x : Vec Ideal S512x1024 .f32) (g : Vec Ideal S1x1024 .f32) (sc sh : Vec Ideal S1x1x1024 .f32)
    (w : Vec Ideal S1024x3584 .bf16) : Prop where
  x : ∀ p d, x (ix2 p d) = A.x (ix3 b (ρ p) d)
  g : ∀ d, g (ix2 0 d) = A.g (ix2 0 d)
  sc : ∀ d, sc (ix3 0 0 d) = val_main_v2 (F := Ideal) A.mod (ix3 b 0 d)
  sh : ∀ d, sh (ix3 0 0 d) = val_main_v1 (F := Ideal) A.mod (ix3 b 0 d)
  gate : ∀ d (j : Fin 2048), w (ix2 d (at3584 0 j (by decide))) = A.W (ix2 d (at3488 1440 j (by decide)))
  glu : ∀ d (j : Fin 1024), w (ix2 d (at3584 2048 j (by decide))) = A.W (ix2 d (at3488 416 j (by decide)))
  lat : ∀ d (j : Fin 384), w (ix2 d (at3584 3072 j (by decide))) = A.W (ix2 d (at3488 0 j (by decide)))
  gap : ∀ d (j : Fin 64), w (ix2 d (at3584 3456 j (by decide))) = (0 : EReal)
  rot : ∀ d (j : Fin 32), w (ix2 d (at3584 3520 j (by decide))) = A.W (ix2 d (at3488 384 j (by decide)))
  fin : ∀ d (j : Fin 32), w (ix2 d (at3584 3552 j (by decide))) = (0 : EReal)

namespace TileAt

variable {A : Args} {b : Fin 4} {ρ : Fin 512 → Fin 2048}
  {x : Vec Ideal S512x1024 .f32} {g : Vec Ideal S1x1024 .f32} {sc sh : Vec Ideal S1x1x1024 .f32}
  {w : Vec Ideal S1024x3584 .bf16}
  (T : TileAt A b ρ x g sc sh w)

include T

theorem h (p : Fin 512) (d : Fin 1024) : k0_pay4 x g sc sh (ix2 p d) = A.h (ix3 b (ρ p) d) := by
  rw [Args.h_apply]
  pointwise [k0_pay4, shapeCast_self, T.x, T.g, T.sc, T.sh]

theorem z (p : Fin 512) (f : Fin 3584) : k0_pay5 x g sc sh w (ix2 p f) = ∑ d, A.h (ix3 b (ρ p) d) * w (ix2 d f) := by
  pointwise [k0_pay5, dot_S512x1024_S1024x3584_S512x3584_1_0_0_1_n_n, T.h]

/-- A column of the projection gives its entry of the projected row; a column of zeros gives zero. -/
theorem z_col (p : Fin 512) (f : Fin 3584) (f' : Fin 3488) (hf : ∀ d, w (ix2 d f) = A.W (ix2 d f')) :
    k0_pay5 x g sc sh w (ix2 p f) = A.z (ix3 b (ρ p) f') := by
  rw [T.z, Args.z_apply]
  exact Finset.sum_congr rfl fun d _ => congrArg (_ * ·) (hf d)

theorem z_zero (p : Fin 512) (f : Fin 3584) (hf : ∀ d, w (ix2 d f) = (0 : EReal)) : k0_pay5 x g sc sh w (ix2 p f) = (0 : EReal) := by
  rw [T.z]
  exact Finset.sum_eq_zero fun d _ => (congrArg (_ * ·) (hf d)).trans (mul_zero (M₀ := EReal) _)

theorem zgate (p : Fin 512) (j : Fin 2048) : k0_pay6 x g sc sh w (ix2 p j) = A.zgate (ix3 b (ρ p) j) := by
  rw [Args.zgate_apply, ← T.z_col p _ _ fun d => T.gate d j]
  unfold k0_pay6
  refine extractStridedSlice_apply _ _ _ _ _ fun a => ?_
  fin_cases a
  · exact (Nat.zero_add _).symm
  · show 0 + j.val = 0 + j.val; rfl

theorem zglu (p : Fin 512) (j : Fin 1024) : k0_pay1 (k0_pay5 x g sc sh w) (ix2 p j) = A.zglu (ix3 b (ρ p) j) := by
  rw [Args.zglu_apply, ← T.z_col p _ _ fun d => T.glu d j]
  unfold k0_pay1
  refine extractStridedSlice_apply _ _ _ _ _ fun a => ?_
  fin_cases a
  · exact (Nat.zero_add _).symm
  · rfl

theorem lat_read (p : Fin 512) (j : Fin 512) : k0_pay2 (k0_pay5 x g sc sh w) (ix2 p j) = k0_pay5 x g sc sh w (ix2 p (at3584 3072 j (by decide))) := by
  unfold k0_pay2
  refine extractStridedSlice_apply _ _ _ _ _ fun a => ?_
  fin_cases a
  · exact (Nat.zero_add _).symm
  · rfl

theorem zm (p : Fin 512) (j : Fin 512) : k0_pay2 (k0_pay5 x g sc sh w) (ix2 p j) = A.zm (ix3 b (ρ p) j) := by
  rw [T.lat_read]
  have hj := j.isLt
  by_cases h1 : j.val < 384
  · have e : j = at512 0 (⟨j.val, h1⟩ : Fin 384) (by decide) := Fin.ext (Nat.zero_add _).symm
    have e' : at3584 3072 j (by decide) = at3584 3072 (⟨j.val, h1⟩ : Fin 384) (by decide) := rfl
    rw [e', T.z_col p _ _ fun d => T.lat d _, ← Args.zm_lat, ← e]
  by_cases h2 : j.val < 448
  · have e : j = at512 384 (⟨j.val - 384, by omega⟩ : Fin 64) (by decide) := Fin.ext (by show j.val = 384 + (j.val - 384); omega)
    have e' : at3584 3072 j (by decide) = at3584 3456 (⟨j.val - 384, by omega⟩ : Fin 64) (by decide) := Fin.ext (by show 3072 + j.val = 3456 + (j.val - 384); omega)
    rw [e', T.z_zero p _ fun d => T.gap d _, ← Args.zm_gap A b (ρ p) ⟨j.val - 384, by omega⟩, ← e]
  by_cases h3 : j.val < 480
  · have e : j = at512 448 (⟨j.val - 448, by omega⟩ : Fin 32) (by decide) := Fin.ext (by show j.val = 448 + (j.val - 448); omega)
    have e' : at3584 3072 j (by decide) = at3584 3520 (⟨j.val - 448, by omega⟩ : Fin 32) (by decide) := Fin.ext (by show 3072 + j.val = 3520 + (j.val - 448); omega)
    rw [e', T.z_col p _ _ fun d => T.rot d _, ← Args.zm_rot, ← e]
  · have e : j = at512 480 (⟨j.val - 480, by omega⟩ : Fin 32) (by decide) := Fin.ext (by show j.val = 480 + (j.val - 480); omega)
    have e' : at3584 3072 j (by decide) = at3584 3552 (⟨j.val - 480, by omega⟩ : Fin 32) (by decide) := Fin.ext (by show 3072 + j.val = 3552 + (j.val - 480); omega)
    rw [e', T.z_zero p _ fun d => T.fin d _, ← Args.zm_end A b (ρ p) ⟨j.val - 480, by omega⟩, ← e]

theorem u0 (p : Fin 512) (j : Fin 512) : k0_pay3 (k0_pay5 x g sc sh w) (ix2 p j) = A.u0 (ix3 b (ρ p) j) := by
  rw [Args.u0_apply, ← T.zglu, ← T.zglu]
  pointwise [k0_pay3]

end TileAt

end Cert.FwdIn

end
-- ==== Proof.FwdIn.Blocks.lean ====
/-
  What the operands of the input projection hold when the launch starts, and each grid point's blocks as the reference's own
  intermediate arrays: point `t` works on sequence `t / 4`, rows `512 * (t % 4)` and up.
-/
module

public import proofs.«01_k».proof.Proof.FwdIn.State
public import proofs.«01_k».proof.Proof.FwdIn.Tile

@[expose] public section

set_option maxRecDepth 16384

noncomputable section

namespace Cert.FwdIn

open Idealize.ShloMosaic Idealize.ShloMosaic.TcCoe Idealize.ShloMosaic.Tactic Cert.Kernel7Ideal Cert.Kernel7Ideal.Gen
open Cert.Reference7Ideal.Read

variable (m : (ℓ : Loc nD τ sig) → Buf (Elt Ideal) ℓ) (c : Dev nD) (t : Fin cfg0.N)

/-- The four arguments as the launch finds them. -/
def args : Args where
  x := m ((c : Thread nD τ).loc main_arg0)
  mod := m ((c : Thread nD τ).loc main_arg1)
  g := m ((c : Thread nD τ).loc main_arg2)
  w := m ((c : Thread nD τ).loc main_arg3)

theorem entry_g : (V m c main_arg2 : Vec Ideal S1x1024 .f32) = (args m c).g := V_main_arg2 m c

theorem entry_x : (V m c main_v0 : Vec Ideal S8192x1024 .f32)
    = shapeCast S8192x1024 (args m c).x shapeCasts_S4x2048x1024_S8192x1024 := by
  entry_read
  rfl

theorem entry_mod : (V m c main_v1 : Vec Ideal S4x6x1024 .f32)
    = shapeCast S4x6x1024 (args m c).mod shapeCasts_S4x6144_S4x6x1024 := by
  entry_read
  rfl

/-- The projection in the width the kernel holds. -/
abbrev half : Vec Ideal S1x1024x3488 .bf16 := truncf (F := Ideal) .bf16 ((args m c).w : FVec Ideal S1x1024x3488 .f32) bitsLt_bf16_f32

/-- The pieces the weights are joined from. -/
abbrev pGate : Vec Ideal S1024x2048 .bf16 := shapeCast S1024x2048 (extractStridedSlice S1x1024x2048 ![0, 0, 1440] (half m c) slices_S1x1024x3488_S1x1024x2048_0_0_1440) shapeCasts_S1x1024x2048_S1024x2048
abbrev pGlu : Vec Ideal S1024x1024 .bf16 := shapeCast S1024x1024 (extractStridedSlice S1x1024x1024 ![0, 0, 416] (half m c) slices_S1x1024x3488_S1x1024x1024_0_0_416) shapeCasts_S1x1024x1024_S1024x1024
abbrev pLat : Vec Ideal S1024x384 .bf16 := shapeCast S1024x384 (extractStridedSlice S1x1024x384 ![0, 0, 0] (half m c) slices_S1x1024x3488_S1x1024x384_0_0_0) shapeCasts_S1x1024x384_S1024x384
abbrev pRot : Vec Ideal S1024x32 .bf16 := shapeCast S1024x32 (extractStridedSlice S1x1024x32 ![0, 0, 384] (half m c) slices_S1x1024x3488_S1x1024x32_0_0_384) shapeCasts_S1x1024x32_S1024x32
abbrev pZero64 : Vec Ideal S1024x64 .bf16 := broadcastInDim S1024x64 ![] bcast_S_S1024x64 (constant (F := Ideal) S_ .bf16 0x0000#16)
abbrev pZero32 : Vec Ideal S1024x32 .bf16 := broadcastInDim S1024x32 ![] bcast_S_S1024x32 (constant (F := Ideal) S_ .bf16 0x0000#16)

/-- Six pieces joined, each replaced by an equal one. -/
theorem join_congr {a₁ b₁ : Vec Ideal S1024x2048 .bf16} {a₂ b₂ : Vec Ideal S1024x1024 .bf16} {a₃ b₃ : Vec Ideal S1024x384 .bf16}
    {a₄ b₄ : Vec Ideal S1024x64 .bf16} {a₅ b₅ a₆ b₆ : Vec Ideal S1024x32 .bf16}
    (h₁ : a₁ = b₁) (h₂ : a₂ = b₂) (h₃ : a₃ = b₃) (h₄ : a₄ = b₄) (h₅ : a₅ = b₅) (h₆ : a₆ = b₆) :
    concatenate S1024x3584 1 [⟨S1024x2048, a₁⟩, ⟨S1024x1024, a₂⟩, ⟨S1024x384, a₃⟩, ⟨S1024x64, a₄⟩, ⟨S1024x32, a₅⟩, ⟨S1024x32, a₆⟩]
        concatenates_S1024x2048_S1024x1024_S1024x384_S1024x64_S1024x32_S1024x32_S1024x3584_d1
      = concatenate S1024x3584 1 [⟨S1024x2048, b₁⟩, ⟨S1024x1024, b₂⟩, ⟨S1024x384, b₃⟩, ⟨S1024x64, b₄⟩, ⟨S1024x32, b₅⟩, ⟨S1024x32, b₆⟩]
        concatenates_S1024x2048_S1024x1024_S1024x384_S1024x64_S1024x32_S1024x32_S1024x3584_d1 := by
  subst h₁ h₂ h₃ h₄ h₅ h₆
  rfl

theorem entry_w : (wts m c : Vec Ideal S1024x3584 .bf16) = concatenate S1024x3584 1
    [⟨S1024x2048, pGate m c⟩, ⟨S1024x1024, pGlu m c⟩, ⟨S1024x384, pLat m c⟩, ⟨S1024x64, pZero64⟩, ⟨S1024x32, pRot m c⟩, ⟨S1024x32, pZero32⟩]
    concatenates_S1024x2048_S1024x1024_S1024x384_S1024x64_S1024x32_S1024x32_S1024x3584_d1 := by
  unfold wts V
  simp only [StableHlo.after_cons, StableHlo.after_nil]
  refine (StableHlo.nary_result _ _ _ _ _ _).trans (join_congr ?_ ?_ ?_ ?_ ?_ ?_)
  all_goals (after_results_loop; rfl)

/-- One column of a piece cut from the projection. -/
theorem cut_apply {n : ℕ} (o : ℕ) (hs : S1x1024x3488.Slices ![0, 0, o] ⟨3, ![1, 1024, n]⟩)
    (hc : (⟨3, ![1, 1024, n]⟩ : Shape).ShapeCasts ⟨2, ![1024, n]⟩) (d : Fin 1024) (j : Fin n) (h : o + n ≤ 3488) :
    shapeCast ⟨2, ![1024, n]⟩ (extractStridedSlice ⟨3, ![1, 1024, n]⟩ ![0, 0, o] (half m c) hs) hc (Idealize.ShloMosaic.ix2 d j)
      = (args m c).W (Idealize.ShloMosaic.ix2 d (at3488 o j h)) := by
  refine (shapeCast_apply _ hc _ (Idealize.ShloMosaic.ix3 0 d j) ?_).trans ((extractStridedSlice_apply _ _ _ _ (Idealize.ShloMosaic.ix3 0 d (at3488 o j h)) ?_).trans ?_)
  · rw [Shape.rowMajor_val_two, Shape.rowMajor_val_three]
    show (0 * 1024 + d.val) * n + j.val = d.val * n + j.val
    rw [Nat.zero_mul, Nat.zero_add]
  · intro a
    match a with
    | ⟨0, _⟩ => rfl
    | ⟨1, _⟩ => exact (Nat.zero_add _).symm
    | ⟨2, _⟩ => rfl
  · unfold Args.W val_main_v27
    refine (shapeCast_apply _ _ _ (Idealize.ShloMosaic.ix3 0 d (at3488 o j h)) ?_).symm
    rw [Shape.rowMajor_val_two, Shape.rowMajor_val_three]
    show (0 * 1024 + d.val) * 3488 + (o + j.val) = d.val * 3488 + (o + j.val)
    rw [Nat.zero_mul, Nat.zero_add]

/-- The weights' columns, piece by piece. -/
theorem w_gate (d : Fin 1024) (j : Fin 2048) : wts m c (Idealize.ShloMosaic.ix2 d (at3584 0 j (by decide))) = (args m c).W (Idealize.ShloMosaic.ix2 d (at3488 1440 j (by decide))) := by
  rw [entry_w]
  refine (concatenate_apply_piece (t := S1024x3584) 1 _ _ _ 0 (by simp) S1024x2048 (pGate m c) rfl rfl 0 rfl (Idealize.ShloMosaic.ix2 d j)
    (fun a ha => ?_) rfl).trans (cut_apply m c 1440 _ _ d j (by decide))
  match a with
  | ⟨0, _⟩ => rfl
  | ⟨1, _⟩ => exact absurd rfl ha

theorem w_glu (d : Fin 1024) (j : Fin 1024) : wts m c (Idealize.ShloMosaic.ix2 d (at3584 2048 j (by decide))) = (args m c).W (Idealize.ShloMosaic.ix2 d (at3488 416 j (by decide))) := by
  rw [entry_w]
  refine (concatenate_apply_piece (t := S1024x3584) 1 _ _ _ 1 (by simp) S1024x1024 (pGlu m c) rfl rfl 2048 rfl (Idealize.ShloMosaic.ix2 d j)
    (fun a ha => ?_) rfl).trans (cut_apply m c 416 _ _ d j (by decide))
  match a with
  | ⟨0, _⟩ => rfl
  | ⟨1, _⟩ => exact absurd rfl ha

theorem w_lat (d : Fin 1024) (j : Fin 384) : wts m c (Idealize.ShloMosaic.ix2 d (at3584 3072 j (by decide))) = (args m c).W (Idealize.ShloMosaic.ix2 d (at3488 0 j (by decide))) := by
  rw [entry_w]
  refine (concatenate_apply_piece (t := S1024x3584) 1 _ _ _ 2 (by simp) S1024x384 (pLat m c) rfl rfl 3072 rfl (Idealize.ShloMosaic.ix2 d j)
    (fun a ha => ?_) rfl).trans (cut_apply m c 0 _ _ d j (by decide))
  match a with
  | ⟨0, _⟩ => rfl
  | ⟨1, _⟩ => exact absurd rfl ha

theorem w_gap (d : Fin 1024) (j : Fin 64) : wts m c (Idealize.ShloMosaic.ix2 d (at3584 3456 j (by decide))) = (0 : EReal) := by
  rw [entry_w]
  refine (concatenate_apply_piece (t := S1024x3584) 1 _ _ _ 3 (by simp) S1024x64 pZero64 rfl rfl 3456 rfl (Idealize.ShloMosaic.ix2 d j)
    (fun a ha => ?_) rfl).trans ?_
  · match a with
    | ⟨0, _⟩ => rfl
    | ⟨1, _⟩ => exact absurd rfl ha
  · pointwise [pZero64]

theorem w_rot (d : Fin 1024) (j : Fin 32) : wts m c (Idealize.ShloMosaic.ix2 d (at3584 3520 j (by decide))) = (args m c).W (Idealize.ShloMosaic.ix2 d (at3488 384 j (by decide))) := by
  rw [entry_w]
  refine (concatenate_apply_piece (t := S1024x3584) 1 _ _ _ 4 (by simp) S1024x32 (pRot m c) rfl rfl 3520 rfl (Idealize.ShloMosaic.ix2 d j)
    (fun a ha => ?_) rfl).trans (cut_apply m c 384 _ _ d j (by decide))
  match a with
  | ⟨0, _⟩ => rfl
  | ⟨1, _⟩ => exact absurd rfl ha

theorem w_fin (d : Fin 1024) (j : Fin 32) : wts m c (Idealize.ShloMosaic.ix2 d (at3584 3552 j (by decide))) = (0 : EReal) := by
  rw [entry_w]
  refine (concatenate_apply_piece (t := S1024x3584) 1 _ _ _ 5 (by simp) S1024x32 pZero32 rfl rfl 3552 rfl (Idealize.ShloMosaic.ix2 d j)
    (fun a ha => ?_) rfl).trans ?_
  · match a with
    | ⟨0, _⟩ => rfl
    | ⟨1, _⟩ => exact absurd rfl ha
  · pointwise [pZero32]

theorem pt_lt (t : Fin cfg0.N) : t.val < 16 := lt_of_lt_of_eq t.isLt (show cfg0.N = 16 from N_0)

/-- The sequence a point works on. -/
def seqOf : Fin 4 := ⟨t.val / 4, by have := pt_lt t; omega⟩
/-- The row of its sequence a point's `p`th row is. -/
def rowOf (p : Fin 512) : Fin 2048 := ⟨(t.val % 4) * 512 + p.val, by have := p.isLt; omega⟩
/-- The row among all rows. -/
def flatOf (p : Fin 512) : Fin 8192 := ⟨t.val * 512 + p.val, by have := p.isLt; have := pt_lt t; omega⟩

/-- Rows of an array flattened over its sequences. -/
theorem rows_apply {n : ℕ} {α : Type} (f : (⟨3, ![4, 2048, n]⟩ : Shape).Idx → α) (h : (⟨3, ![4, 2048, n]⟩ : Shape).ShapeCasts ⟨2, ![8192, n]⟩)
    (p : Fin 512) (d : Fin n) : shapeCast ⟨2, ![8192, n]⟩ f h (Idealize.ShloMosaic.ix2 (flatOf t p) d) = f (Idealize.ShloMosaic.ix3 (seqOf t) (rowOf t p) d) := by
  refine shapeCast_apply f h _ _ ?_
  rw [Shape.rowMajor_val_three, Shape.rowMajor_val_two]
  show (t.val / 4 * 2048 + (t.val % 4 * 512 + p.val)) * n + d.val = (t.val * 512 + p.val) * n + d.val
  congr 2
  omega

theorem blk_0 (p : Fin 512) (d : Fin 1024) : iblk m c 0 t (Idealize.ShloMosaic.ix2 p d)
    = (V m c main_v0 : Vec Ideal S8192x1024 .f32) (Idealize.ShloMosaic.ix2 (flatOf t p) d) := by
  have hi : win0_0.index t 0 = t.val ∧ win0_0.index t 1 = 0 :=
    (by decide +kernel : ∀ t : Fin grid0.N, win0_0.index t 0 = t.val ∧ win0_0.index t 1 = 0) t
  unfold iblk
  rw [View.read_apply]
  show V m c main_v0 _ = V m c main_v0 _
  congr 1
  funext a
  apply Fin.ext
  match a with
  | ⟨0, _⟩ =>
    show win0_0.index t 0 * 512 + 1 * p.val = t.val * 512 + p.val
    rw [hi.1, Nat.one_mul]
  | ⟨1, _⟩ =>
    show win0_0.index t 1 * 1024 + 1 * d.val = d.val
    rw [hi.2]; omega

theorem blk_1 (d : Fin 1024) : iblk m c 1 t (Idealize.ShloMosaic.ix2 0 d) = (args m c).g (Idealize.ShloMosaic.ix2 0 d) := by
  have hi : win0_1.index t 0 = 0 ∧ win0_1.index t 1 = 0 :=
    (by decide +kernel : ∀ t : Fin grid0.N, win0_1.index t 0 = 0 ∧ win0_1.index t 1 = 0) t
  rw [← entry_g]
  unfold iblk
  rw [View.read_apply]
  show V m c main_arg2 _ = V m c main_arg2 _
  congr 1
  funext a
  apply Fin.ext
  match a with
  | ⟨0, _⟩ =>
    show win0_1.index t 0 * 1 + 1 * 0 = 0
    rw [hi.1]
  | ⟨1, _⟩ =>
    show win0_1.index t 1 * 1024 + 1 * d.val = d.val
    rw [hi.2]; omega

theorem blk_2 (k : Fin 6) (d : Fin 1024) : iblk m c 2 t (Idealize.ShloMosaic.ix3 0 k d)
    = (V m c main_v1 : Vec Ideal S4x6x1024 .f32) (Idealize.ShloMosaic.ix3 (seqOf t) k d) := by
  have hi : win0_2.index t 0 = t.val / 4 ∧ win0_2.index t 1 = 0 ∧ win0_2.index t 2 = 0 :=
    (by decide +kernel : ∀ t : Fin grid0.N, win0_2.index t 0 = t.val / 4 ∧ win0_2.index t 1 = 0 ∧ win0_2.index t 2 = 0) t
  unfold iblk
  rw [View.read_apply]
  show V m c main_v1 _ = V m c main_v1 _
  congr 1
  funext a
  apply Fin.ext
  match a with
  | ⟨0, _⟩ =>
    show win0_2.index t 0 * 1 + 1 * 0 = t.val / 4
    rw [hi.1]; omega
  | ⟨1, _⟩ =>
    show win0_2.index t 1 * 6 + 1 * k.val = k.val
    rw [hi.2.1]; omega
  | ⟨2, _⟩ =>
    show win0_2.index t 2 * 1024 + 1 * d.val = d.val
    rw [hi.2.2]; omega

theorem scale_apply (d : Fin 1024) : scaleRow (iblk m c 2 t) (Idealize.ShloMosaic.ix3 0 0 d)
    = val_main_v2 (F := Ideal) (args m c).mod (Idealize.ShloMosaic.ix3 (seqOf t) 0 d) := by
  refine ((?_ : _ = iblk m c 2 t (Idealize.ShloMosaic.ix3 0 1 d)).trans (blk_2 m c t 1 d)).trans ?_
  · unfold scaleRow View.ld
    congr 1
    funext a
    apply Fin.ext
    match a with
    | ⟨0, _⟩ => rfl
    | ⟨1, _⟩ => rfl
    | ⟨2, _⟩ => show 0 + 1 * d.val = d.val; omega
  · rw [entry_mod]
    pointwise [val_main_v2, val_main_v0]

theorem shift_apply (d : Fin 1024) : shiftRow (iblk m c 2 t) (Idealize.ShloMosaic.ix3 0 0 d)
    = val_main_v1 (F := Ideal) (args m c).mod (Idealize.ShloMosaic.ix3 (seqOf t) 0 d) := by
  refine ((?_ : _ = iblk m c 2 t (Idealize.ShloMosaic.ix3 0 0 d)).trans (blk_2 m c t 0 d)).trans ?_
  · unfold shiftRow View.ld
    congr 1
    funext a
    apply Fin.ext
    match a with
    | ⟨0, _⟩ => rfl
    | ⟨1, _⟩ => rfl
    | ⟨2, _⟩ => show 0 + 1 * d.val = d.val; omega
  · rw [entry_mod]
    pointwise [val_main_v1, val_main_v0]

/-- The blocks of a point are the reference's arrays at its rows. -/
theorem tileAt : TileAt (args m c) (seqOf t) (rowOf t) (iblk m c 0 t) (iblk m c 1 t)
    (scaleRow (iblk m c 2 t)) (shiftRow (iblk m c 2 t)) (wts m c) where
  x p d := ((blk_0 m c t p d).trans (congrFun (entry_x m c) _)).trans (rows_apply t _ _ p d)
  g d := blk_1 m c t d
  sc d := scale_apply m c t d
  sh d := shift_apply m c t d
  gate d j := w_gate m c d j
  glu d j := w_glu m c d j
  lat d j := w_lat m c d j
  gap d j := w_gap m c d j
  rot d j := w_rot m c d j
  fin d j := w_fin m c d j

end Cert.FwdIn

end
-- ==== Proof.FwdIn.Equation.lean ====
/-
  The five arrays the input projection leaves are the reference's five results, so the two leave equal results.
-/
module

public import proofs.«01_k».proof.Defs
public import proofs.«01_k».proof.Proof.FwdIn.Blocks
public import proofs.«01_k».proof.Proof.Gen.Reference7Ideal.Run

@[expose] public section

set_option maxRecDepth 16384

noncomputable section

namespace Cert.FwdIn

open Idealize.ShloMosaic Idealize.ShloMosaic.TcCoe Idealize.ShloMosaic.Tactic Cert.Kernel7Ideal Cert.Kernel7Ideal.Gen
open Idealize.SL.Sem
open Cert.Reference7Ideal.Read

variable (m : (ℓ : Loc nD τ sig) → Buf (Elt Ideal) ℓ) (c : Dev nD)

theorem arr3 : (dats m 0 c).arrAt 3 cfg0.N = val_main_v39 (F := Ideal) (args m c).x (args m c).mod (args m c).g := by
  refine (dats m 0 c).arrAt_eq_of_covers 3 _ (by decide +kernel) fun t _ y => ?_
  obtain ⟨p, d, rfl⟩ : ∃ p d, y = Idealize.ShloMosaic.ix2 p d := ⟨y 0, y 1, by funext a; fin_cases a <;> rfl⟩
  have hi : win0_3.index t 0 = t.val ∧ win0_3.index t 1 = 0 :=
    (by decide +kernel : ∀ t : Fin grid0.N, win0_3.index t 0 = t.val ∧ win0_3.index t 1 = 0) t
  have he : ((cfg0.win 3).blk t).view.emb (Idealize.ShloMosaic.ix2 p d) = (Idealize.ShloMosaic.ix2 (flatOf t p) d : S8192x1024.Idx) := by
    funext a
    apply Fin.ext
    match a with
    | ⟨0, _⟩ =>
      show win0_3.index t 0 * 512 + 1 * p.val = t.val * 512 + p.val
      rw [hi.1, Nat.one_mul]
    | ⟨1, _⟩ =>
      show win0_3.index t 1 * 1024 + 1 * d.val = d.val
      rw [hi.2]; omega
  rw [he]
  show (dats m 0 c).after 3 t (Idealize.ShloMosaic.ix2 p d) = _
  rw [after0_3, out_h]
  exact ((tileAt m c t).h p d).trans (rows_apply t _ _ p d).symm

theorem arr4 : (dats m 0 c).arrAt 4 cfg0.N = val_main_v40 (F := Ideal) (args m c).x (args m c).mod (args m c).g (args m c).w := by
  refine (dats m 0 c).arrAt_eq_of_covers 4 _ (by decide +kernel) fun t _ y => ?_
  obtain ⟨p, d, rfl⟩ : ∃ p d, y = Idealize.ShloMosaic.ix2 p d := ⟨y 0, y 1, by funext a; fin_cases a <;> rfl⟩
  have hi : win0_4.index t 0 = t.val ∧ win0_4.index t 1 = 0 :=
    (by decide +kernel : ∀ t : Fin grid0.N, win0_4.index t 0 = t.val ∧ win0_4.index t 1 = 0) t
  have he : ((cfg0.win 4).blk t).view.emb (Idealize.ShloMosaic.ix2 p d) = (Idealize.ShloMosaic.ix2 (flatOf t p) d : S8192x512.Idx) := by
    funext a
    apply Fin.ext
    match a with
    | ⟨0, _⟩ =>
      show win0_4.index t 0 * 512 + 1 * p.val = t.val * 512 + p.val
      rw [hi.1, Nat.one_mul]
    | ⟨1, _⟩ =>
      show win0_4.index t 1 * 512 + 1 * d.val = d.val
      rw [hi.2]; omega
  rw [he]
  show (dats m 0 c).after 4 t (Idealize.ShloMosaic.ix2 p d) = _
  rw [after0_4, out_zm]
  exact ((tileAt m c t).zm p d).trans (rows_apply t _ _ p d).symm

theorem arr5 : (dats m 0 c).arrAt 5 cfg0.N = val_main_v41 (F := Ideal) (args m c).x (args m c).mod (args m c).g (args m c).w := by
  refine (dats m 0 c).arrAt_eq_of_covers 5 _ (by decide +kernel) fun t _ y => ?_
  obtain ⟨p, d, rfl⟩ : ∃ p d, y = Idealize.ShloMosaic.ix2 p d := ⟨y 0, y 1, by funext a; fin_cases a <;> rfl⟩
  have hi : win0_5.index t 0 = t.val ∧ win0_5.index t 1 = 0 :=
    (by decide +kernel : ∀ t : Fin grid0.N, win0_5.index t 0 = t.val ∧ win0_5.index t 1 = 0) t
  have he : ((cfg0.win 5).blk t).view.emb (Idealize.ShloMosaic.ix2 p d) = (Idealize.ShloMosaic.ix2 (flatOf t p) d : S8192x1024.Idx) := by
    funext a
    apply Fin.ext
    match a with
    | ⟨0, _⟩ =>
      show win0_5.index t 0 * 512 + 1 * p.val = t.val * 512 + p.val
      rw [hi.1, Nat.one_mul]
    | ⟨1, _⟩ =>
      show win0_5.index t 1 * 1024 + 1 * d.val = d.val
      rw [hi.2]; omega
  rw [he]
  show (dats m 0 c).after 5 t (Idealize.ShloMosaic.ix2 p d) = _
  rw [after0_5, out_zglu]
  exact ((tileAt m c t).zglu p d).trans (rows_apply t _ _ p d).symm

theorem arr6 : (dats m 0 c).arrAt 6 cfg0.N = val_main_v42 (F := Ideal) (args m c).x (args m c).mod (args m c).g (args m c).w := by
  refine (dats m 0 c).arrAt_eq_of_covers 6 _ (by decide +kernel) fun t _ y => ?_
  obtain ⟨p, d, rfl⟩ : ∃ p d, y = Idealize.ShloMosaic.ix2 p d := ⟨y 0, y 1, by funext a; fin_cases a <;> rfl⟩
  have hi : win0_6.index t 0 = t.val ∧ win0_6.index t 1 = 0 :=
    (by decide +kernel : ∀ t : Fin grid0.N, win0_6.index t 0 = t.val ∧ win0_6.index t 1 = 0) t
  have he : ((cfg0.win 6).blk t).view.emb (Idealize.ShloMosaic.ix2 p d) = (Idealize.ShloMosaic.ix2 (flatOf t p) d : S8192x2048.Idx) := by
    funext a
    apply Fin.ext
    match a with
    | ⟨0, _⟩ =>
      show win0_6.index t 0 * 512 + 1 * p.val = t.val * 512 + p.val
      rw [hi.1, Nat.one_mul]
    | ⟨1, _⟩ =>
      show win0_6.index t 1 * 2048 + 1 * d.val = d.val
      rw [hi.2]; omega
  rw [he]
  show (dats m 0 c).after 6 t (Idealize.ShloMosaic.ix2 p d) = _
  rw [after0_6, out_zgate]
  exact ((tileAt m c t).zgate p d).trans (rows_apply t _ _ p d).symm

theorem arr7 : (dats m 0 c).arrAt 7 cfg0.N = val_main_v50 (F := Ideal) (args m c).x (args m c).mod (args m c).g (args m c).w := by
  refine (dats m 0 c).arrAt_eq_of_covers 7 _ (by decide +kernel) fun t _ y => ?_
  obtain ⟨p, d, rfl⟩ : ∃ p d, y = Idealize.ShloMosaic.ix2 p d := ⟨y 0, y 1, by funext a; fin_cases a <;> rfl⟩
  have hi : win0_7.index t 0 = t.val ∧ win0_7.index t 1 = 0 :=
    (by decide +kernel : ∀ t : Fin grid0.N, win0_7.index t 0 = t.val ∧ win0_7.index t 1 = 0) t
  have he : ((cfg0.win 7).blk t).view.emb (Idealize.ShloMosaic.ix2 p d) = (Idealize.ShloMosaic.ix2 (flatOf t p) d : S8192x512.Idx) := by
    funext a
    apply Fin.ext
    match a with
    | ⟨0, _⟩ =>
      show win0_7.index t 0 * 512 + 1 * p.val = t.val * 512 + p.val
      rw [hi.1, Nat.one_mul]
    | ⟨1, _⟩ =>
      show win0_7.index t 1 * 512 + 1 * d.val = d.val
      rw [hi.2]; omega
  rw [he]
  show (dats m 0 c).after 7 t (Idealize.ShloMosaic.ix2 p d) = _
  rw [after0_7, out_u0]
  exact ((tileAt m c t).u0 p d).trans (rows_apply t _ _ p d).symm

/-- The reference's frame. -/
theorem frame_reference : Cert.quiescent_Reference7Ideal := fun m ρ _ =>
  (θ_run Cert.Reference7Ideal.defs _ _).mono (fun r h => ⟨fun c => (h c).2.2.2.2.2, sem_eq_zero_of_no_sems (by decide) r.2⟩)
    (Cert.Reference7Ideal.Value.run m ρ)

/-- The kernel and the reference leave equal results. -/
theorem equation : Cert.algebraic_Kernel7Ideal_Reference7Ideal := by
  intro m g m' g' _ hm
  refine ⟨fun c => val_main_v39 (F := Ideal) (args m c).x (args m c).mod (args m c).g, fun c => val_main_v40 (F := Ideal) (args m c).x (args m c).mod (args m c).g (args m c).w, fun c => val_main_v41 (F := Ideal) (args m c).x (args m c).mod (args m c).g (args m c).w, fun c => val_main_v42 (F := Ideal) (args m c).x (args m c).mod (args m c).g (args m c).w, fun c => val_main_v50 (F := Ideal) (args m c).x (args m c).mod (args m c).g (args m c).w,
    (θ_run defs _ _).mono (fun r h c => ?_) (Value.run_blocks m g),
    (θ_run Cert.Reference7Ideal.defs _ _).mono (fun r h c => ?_) (Cert.Reference7Ideal.Value.run m' g')⟩
  · obtain ⟨h0, h1, h2, h3, h4, hargs⟩ := h c
    exact ⟨h0.trans (arr3 m c), h1.trans (arr4 m c), h2.trans (arr5 m c), h3.trans (arr6 m c), h4.trans (arr7 m c), hargs⟩
  obtain ⟨e0, e1, e2, e3⟩ := hm c
  obtain ⟨h0, h1, h2, h3, h4, hargs⟩ := h c
  refine ⟨h0.trans ((val_main_v39_eq _ _ _).trans ?_), h1.trans ((val_main_v40_eq _ _ _ _).trans ?_), h2.trans ((val_main_v41_eq _ _ _ _).trans ?_), h3.trans ((val_main_v42_eq _ _ _ _).trans ?_), h4.trans ((val_main_v50_eq _ _ _ _).trans ?_), hargs⟩
  · rw [e0, e1, e2]; rfl
  all_goals (rw [e0, e1, e2, e3]; rfl)

end Cert.FwdIn

end
-- ==== Proof.DwFf.Rows.lean ====
/-
  Sums over the 8192 rows of a device: the two halves that a weight gradient's grid walks, and the four sequences of 2048
  tokens that the reference sums over.
-/
module

public import Idealize.ShloMosaic.Lib.Pipeline.ValueKit
public import Idealize.ShloMosaic.Lib.Pointwise

@[expose] public section

noncomputable section

namespace Cert.DwFf

open Idealize.ShloMosaic

/-- Row `p` of the first half, and of the second. -/
def lo (p : Fin 4096) : Fin 8192 := ⟨p.val, by have := p.isLt; omega⟩
def hi (p : Fin 4096) : Fin 8192 := ⟨4096 + p.val, by have := p.isLt; omega⟩
/-- Token `q` of sequence `b` among all rows. -/
def row (b : Fin 4) (q : Fin 2048) : Fin 8192 := ⟨b.val * 2048 + q.val, by have := b.isLt; have := q.isLt; omega⟩

/-- The two halves together are the four sequences together. -/
theorem halves (f : Fin 8192 → EReal) : (∑ p, f (lo p)) + ∑ p, f (hi p) = ∑ b, ∑ q, f (row b q) := by
  have h2 := Fin.sum_mul_add_fin 2 4096 f
  have h4 := Fin.sum_mul_add_fin 4 2048 f
  rw [Fin.sum_univ_two] at h2
  refine Eq.trans ?_ (h2.trans h4.symm)
  refine congrArg₂ (· + ·) (Finset.sum_congr rfl fun p _ => congrArg f (Fin.ext ?_)) (Finset.sum_congr rfl fun p _ => congrArg f (Fin.ext ?_))
  · show p.val = 0 * 4096 + p.val; omega
  · show 4096 + p.val = 1 * 4096 + p.val; omega

/-- An array of four sequences read as rows. -/
theorem flat_apply {n : ℕ} {α : Type} (f : (⟨3, ![4, 2048, n]⟩ : Shape).Idx → α) (h : (⟨3, ![4, 2048, n]⟩ : Shape).ShapeCasts ⟨2, ![8192, n]⟩)
    (b : Fin 4) (q : Fin 2048) (d : Fin n) : shapeCast ⟨2, ![8192, n]⟩ f h (Idealize.ShloMosaic.ix2 (row b q) d) = f (Idealize.ShloMosaic.ix3 b q d) := by
  refine shapeCast_apply f h _ _ ?_
  rw [Shape.rowMajor_val_three, Shape.rowMajor_val_two]
  rfl

end Cert.DwFf

end
-- ==== Proof.DwO.Entry.lean ====
/-
  The gradient of the matrix that takes the heads to the rows: what the call's two operands hold, what a grid point makes of its blocks, and
  what the reference sums.
-/
module

public import proofs.«01_k».proof.Proof.Gen.Kernel8Ideal.Value
public import proofs.«01_k».proof.Proof.Gen.Reference8Ideal.Read
public import proofs.«01_k».proof.Proof.DwFf.Rows

@[expose] public section

set_option maxRecDepth 16384

noncomputable section

namespace Cert.DwO

open Idealize.ShloMosaic Idealize.ShloMosaic.TcCoe Idealize.ShloMosaic.Tactic Cert.Kernel8Ideal Cert.Kernel8Ideal.Gen
open Cert.Reference8Ideal.Read Cert.DwFf

variable (m : (ℓ : Loc nD τ sig) → Buf (Elt Ideal) ℓ) (c : Dev nD)

/-- The heads as attention leaves them. -/
abbrev heads : FVec Ideal S4x2048x1024 .f32 := (m ((c : Thread nD τ).loc main_arg0) : FVec Ideal S4x2048x1024 .f32)
/-- The gates before their sigmoid, and the cotangent. -/
abbrev gates : FVec Ideal S4x2048x2048 .f32 := (m ((c : Thread nD τ).loc main_arg1) : FVec Ideal S4x2048x2048 .f32)
abbrev ct : FVec Ideal S4x2048x1024 .f32 := (m ((c : Thread nD τ).loc main_arg2) : FVec Ideal S4x2048x1024 .f32)
/-- The gated cotangent as the reference has it. -/
abbrev dya : FVec Ideal S4x2048x1024 .f32 := val_main_v11 (F := Ideal) (m ((c : Thread nD τ).loc main_arg1)) (m ((c : Thread nD τ).loc main_arg2))
/-- The reference's result. -/
abbrev grad : FVec Ideal S1024x1024 .f32 :=
  val_main_v13 (F := Ideal) (m ((c : Thread nD τ).loc main_arg0)) (m ((c : Thread nD τ).loc main_arg1)) (m ((c : Thread nD τ).loc main_arg2))

/-- The call's left operand: the heads in rows. -/
theorem entry_heads : (V m c main_v10 : Vec Ideal S8192x1024 .bf16)
    = shapeCast S8192x1024 (truncf (F := Ideal) .bf16 (heads m c) bitsLt_bf16_f32) shapeCasts_S4x2048x1024_S8192x1024 := by
  entry_read
  rfl

/-- The call's right operand: the cotangent times the first half of the gates, in rows. -/
theorem entry_dya : (V m c main_v11 : Vec Ideal S8192x1024 .bf16)
    = shapeCast S8192x1024 (truncf (F := Ideal) .bf16 (mulf (F := Ideal) (ct m c)
        (Host.divf (F := Ideal) (broadcastInDim S4x2048x1024 ![] bcast_S_S4x2048x1024 (constant (F := Ideal) S_ .f32 0x3F800000#32))
          (addf (F := Ideal) (broadcastInDim S4x2048x1024 ![] bcast_S_S4x2048x1024 (constant (F := Ideal) S_ .f32 0x3F800000#32))
            (Host.exp (F := Ideal) (Host.negf (F := Ideal) (extractStridedSlice S4x2048x1024 ![0, 0, 0] (gates m c) slices_S4x2048x2048_S4x2048x1024_0_0_0))))))
        bitsLt_bf16_f32) shapeCasts_S4x2048x1024_S8192x1024 := by
  entry_read
  rfl

theorem heads_row (b : Fin 4) (q : Fin 2048) (d : Fin 1024) :
    (V m c main_v10 : Vec Ideal S8192x1024 .bf16) (Idealize.ShloMosaic.ix2 (row b q) d) = heads m c (Idealize.ShloMosaic.ix3 b q d) := by
  rw [entry_heads]
  exact flat_apply _ _ b q d

theorem dya_row (b : Fin 4) (q : Fin 2048) (d : Fin 1024) :
    (V m c main_v11 : Vec Ideal S8192x1024 .bf16) (Idealize.ShloMosaic.ix2 (row b q) d) = dya m c (Idealize.ShloMosaic.ix3 b q d) := by
  rw [entry_dya]
  refine (flat_apply _ _ b q d).trans ?_
  unfold dya
  pointwise [val_main_v11, val_main_v6, val_main_v5, val_main_v4, val_main_v3, val_main_v2, val_main_v1, val_main_v0, val_main_cst, val_main_cst_0]
  exact mul_comm (G := EReal) _ _

/-- The reference's entry: the sum over all tokens of cotangent times head. -/
theorem grad_apply (i j : Fin 1024) : grad m c (Idealize.ShloMosaic.ix2 i j)
    = ∑ b, ∑ q, dya m c (Idealize.ShloMosaic.ix3 b q j) * heads m c (Idealize.ShloMosaic.ix3 b q i) := by
  unfold grad dya heads
  pointwise [val_main_v13, val_main_v12, Reference8Ideal.dot_S4x2048x1024_S4x2048x1024_S1024x1024_01_01_2_2_n_n]

/-- A block's product, transposed on the left. -/
theorem pay_apply (x : Vec Ideal S4096x1024 .bf16) (y : Vec Ideal S4096x1024 .bf16) (i j : Fin 1024) :
    k0_pay1 (F := Ideal) x y (Idealize.ShloMosaic.ix2 i j) = ∑ p, x (Idealize.ShloMosaic.ix2 p i) * y (Idealize.ShloMosaic.ix2 p j) := by
  pointwise [k0_pay1, dot_S4096x1024_S4096x1024_S1024x1024_0_0_1_1_n_n, shapeCast_self]

end Cert.DwO

end
-- ==== Proof.DwO.Equation.lean ====
/-
  The gradient of the matrix that takes the heads to the rows: the two points of the grid together hold the reference's sum, so the call
  leaves the reference's result.
-/
module

public import proofs.«01_k».proof.Defs
public import proofs.«01_k».proof.Proof.DwO.Entry
public import proofs.«01_k».proof.Proof.Gen.Reference8Ideal.Run
public import Idealize.ShloMosaic.Lib.Pipeline.ValueKit

@[expose] public section

set_option maxRecDepth 16384

noncomputable section

namespace Cert.DwO

open Idealize.ShloMosaic Idealize.ShloMosaic.TcCoe Idealize.ShloMosaic.Tactic Cert.Kernel8Ideal Cert.Kernel8Ideal.Gen
open Idealize.SL.Sem
open Cert.Reference8Ideal.Read Cert.DwFf

variable (m : (ℓ : Loc nD τ sig) → Buf (Elt Ideal) ℓ) (c : Dev nD) (t : Fin cfg0.N)

theorem pt_lt (t : Fin cfg0.N) : t.val < 2 := lt_of_lt_of_eq t.isLt (show cfg0.N = 2 from N_0)

/-- The row a point's `p`th row is. -/
def rowAt (p : Fin 4096) : Fin 8192 := ⟨t.val % 2 * 4096 + p.val, by have := p.isLt; omega⟩

theorem blk_0 (p : Fin 4096) (i : Fin 1024) : iblk m c 0 t (Idealize.ShloMosaic.ix2 p i)
    = (V m c main_v10 : Vec Ideal S8192x1024 .bf16) (Idealize.ShloMosaic.ix2 (rowAt t p) i) := by
  have hi : win0_0.index t 0 = t.val % 2 ∧ win0_0.index t 1 = 0 :=
    (by decide +kernel : ∀ t : Fin grid0.N, win0_0.index t 0 = t.val % 2 ∧ win0_0.index t 1 = 0) t
  unfold iblk
  rw [View.read_apply]
  show V m c main_v10 _ = V m c main_v10 _
  congr 1
  funext a
  apply Fin.ext
  match a with
  | ⟨0, _⟩ =>
    show win0_0.index t 0 * 4096 + 1 * p.val = t.val % 2 * 4096 + p.val
    rw [hi.1, Nat.one_mul]
  | ⟨1, _⟩ =>
    show win0_0.index t 1 * 1024 + 1 * i.val = i.val
    rw [hi.2]; omega

theorem blk_1 (p : Fin 4096) (j : Fin 1024) : iblk m c 1 t (Idealize.ShloMosaic.ix2 p j)
    = (V m c main_v11 : Vec Ideal S8192x1024 .bf16) (Idealize.ShloMosaic.ix2 (rowAt t p) j) := by
  have hi : win0_1.index t 0 = t.val % 2 ∧ win0_1.index t 1 = 0 :=
    (by decide +kernel : ∀ t : Fin grid0.N, win0_1.index t 0 = t.val % 2 ∧ win0_1.index t 1 = 0) t
  unfold iblk
  rw [View.read_apply]
  show V m c main_v11 _ = V m c main_v11 _
  congr 1
  funext a
  apply Fin.ext
  match a with
  | ⟨0, _⟩ =>
    show win0_1.index t 0 * 4096 + 1 * p.val = t.val % 2 * 4096 + p.val
    rw [hi.1, Nat.one_mul]
  | ⟨1, _⟩ =>
    show win0_1.index t 1 * 1024 + 1 * j.val = j.val
    rw [hi.2]; omega

/-- The two operands. -/
abbrev lhs : Vec Ideal S8192x1024 .bf16 := V m c main_v10
abbrev rhs : Vec Ideal S8192x1024 .bf16 := V m c main_v11

/-- One row's part of an entry of the result. -/
def part (i j : Fin 1024) (r : Fin 8192) : EReal :=
  lhs m c (Idealize.ShloMosaic.ix2 r i) * rhs m c (Idealize.ShloMosaic.ix2 r j)

/-- A point's product sums its half of the rows. -/
theorem prod_apply (i j : Fin 1024) : k0_pay1 (F := Ideal) (iblk m c 0 t) (iblk m c 1 t) (Idealize.ShloMosaic.ix2 i j)
    = ∑ p, part m c i j (rowAt t p) := by
  rw [pay_apply]
  refine Finset.sum_congr rfl fun p _ => ?_
  rw [blk_0, blk_1]
  rfl

theorem outs_even (h : t.val % 2 = 0) (i j : Fin 1024) : outsAt0 m c t.val t.isLt (Idealize.ShloMosaic.ix2 i j) = ∑ p, part m c i j (rowAt t p) := by
  rw [outsAt0_A m c t h (by omega)]
  frame_out
  exact prod_apply m c t i j

theorem outs_odd (h : t.val % 2 = 1) (i j : Fin 1024) : outsAt0 m c t.val t.isLt (Idealize.ShloMosaic.ix2 i j)
    = ∑ b, ∑ q, part m c i j (row b q) := by
  have hlt : t.val - 1 < cfg0.N := Nat.lt_of_le_of_lt (Nat.sub_le _ _) t.isLt
  have he : outsAt0 m c (t.val - 1) hlt (Idealize.ShloMosaic.ix2 i j) = ∑ p, part m c i j (lo p) := by
    refine (outs_even m c ⟨t.val - 1, hlt⟩ (by show (t.val - 1) % 2 = 0; omega) i j).trans ?_
    refine Finset.sum_congr rfl fun p _ => ?_
    have hr : rowAt ⟨t.val - 1, hlt⟩ p = lo p := Fin.ext (by show (t.val - 1) % 2 * 4096 + p.val = p.val; omega)
    rw [hr]
  have ho : ∑ p, part m c i j (rowAt t p) = ∑ p, part m c i j (hi p) := by
    refine Finset.sum_congr rfl fun p _ => congrArg _ (Fin.ext ?_)
    show t.val % 2 * 4096 + p.val = 4096 + p.val
    omega
  rw [← halves, ← he, ← ho, ← prod_apply]
  rw [outsAt0_B m c t (by omega) h]
  frame_out
  pointwise [k0_pay2, shapeCast_self]

theorem grad_part (i j : Fin 1024) : ∑ b, ∑ q, part m c i j (row b q) = grad m c (Idealize.ShloMosaic.ix2 i j) := by
  rw [grad_apply]
  refine Finset.sum_congr rfl fun b _ => Finset.sum_congr rfl fun q _ => ?_
  unfold part lhs rhs
  rw [heads_row, dya_row]
  exact mul_comm (G := EReal) _ _

/-- The call leaves the reference's result. -/
theorem arr : (dats m 0 c).arrAt 2 cfg0.N = grad m c := by
  refine (dats m 0 c).arrAt_eq_of_covers 2 _ (by decide +kernel) fun t hf y => ?_
  have h1 : t.val % 2 = 1 := (by decide +kernel : ∀ t : Fin grid0.N, win0_2.flush t = true → t.val % 2 = 1) t hf
  obtain ⟨i, j, rfl⟩ : ∃ i j, y = Idealize.ShloMosaic.ix2 i j := ⟨y 0, y 1, by funext a; fin_cases a <;> rfl⟩
  have hi : win0_2.index t 0 = 0 ∧ win0_2.index t 1 = 0 :=
    (by decide +kernel : ∀ t : Fin grid0.N, win0_2.index t 0 = 0 ∧ win0_2.index t 1 = 0) t
  have he : ((cfg0.win 2).blk t).view.emb (Idealize.ShloMosaic.ix2 i j) = (Idealize.ShloMosaic.ix2 i j : S1024x1024.Idx) := by
    funext a
    apply Fin.ext
    match a with
    | ⟨0, _⟩ =>
      show win0_2.index t 0 * 1024 + 1 * i.val = i.val
      rw [hi.1]; omega
    | ⟨1, _⟩ =>
      show win0_2.index t 1 * 1024 + 1 * j.val = j.val
      rw [hi.2]; omega
  rw [he]
  show (dats m 0 c).after 2 t (Idealize.ShloMosaic.ix2 i j) = _
  rw [after0_2]
  exact (outs_odd m c t h1 i j).trans (grad_part m c i j)

/-- The reference's frame. -/
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

/-- The kernel and the reference leave equal results. -/
theorem equation : Cert.algebraic_Kernel8Ideal_Reference8Ideal := by
  intro m g m' g' _ hm
  refine ⟨fun c => grad m c, (θ_run defs _ _).mono (fun r h c => ⟨(h c).1.trans (arr m c), (h c).2⟩) (Value.run_blocks m g),
    (θ_run Cert.Reference8Ideal.defs _ _).mono (fun r h c => ?_) (Cert.Reference8Ideal.Value.run m' g')⟩
  obtain ⟨e0, e1, e2⟩ := hm c
  obtain ⟨h0, hargs⟩ := h c
  refine ⟨h0.trans ((val_main_v13_eq _ _ _).trans ?_), hargs⟩
  rw [e0, e1, e2]

end Cert.DwO

end
-- ==== Proof.DwPw.Entry.lean ====
/-
  The gradient of the convolution branch's output matrix: what the call's two operands hold, what a grid point makes of its blocks, and
  what the reference sums.
-/
module

public import proofs.«01_k».proof.Proof.Gen.Kernel9Ideal.Value
public import proofs.«01_k».proof.Proof.Gen.Reference9Ideal.Read
public import proofs.«01_k».proof.Proof.DwFf.Rows

@[expose] public section

set_option maxRecDepth 16384

noncomputable section

namespace Cert.DwPw

open Idealize.ShloMosaic Idealize.ShloMosaic.TcCoe Idealize.ShloMosaic.Tactic Cert.Kernel9Ideal Cert.Kernel9Ideal.Gen
open Cert.Reference9Ideal.Read Cert.DwFf

variable (m : (ℓ : Loc nD τ sig) → Buf (Elt Ideal) ℓ) (c : Dev nD)

/-- The convolution branch before its output matrix. -/
abbrev conv : FVec Ideal S4x2048x512 .f32 := (m ((c : Thread nD τ).loc main_arg0) : FVec Ideal S4x2048x512 .f32)
/-- The gates before their sigmoid, and the cotangent. -/
abbrev gates : FVec Ideal S4x2048x2048 .f32 := (m ((c : Thread nD τ).loc main_arg1) : FVec Ideal S4x2048x2048 .f32)
abbrev ct : FVec Ideal S4x2048x1024 .f32 := (m ((c : Thread nD τ).loc main_arg2) : FVec Ideal S4x2048x1024 .f32)
/-- The gated cotangent as the reference has it. -/
abbrev dyb : FVec Ideal S4x2048x1024 .f32 := val_main_v11 (F := Ideal) (m ((c : Thread nD τ).loc main_arg1)) (m ((c : Thread nD τ).loc main_arg2))
/-- The reference's result. -/
abbrev grad : FVec Ideal S4x512x256 .f32 :=
  val_main_v15 (F := Ideal) (m ((c : Thread nD τ).loc main_arg0)) (m ((c : Thread nD τ).loc main_arg1)) (m ((c : Thread nD τ).loc main_arg2))

/-- The call's left operand: the branch in rows. -/
theorem entry_conv : (V m c main_v10 : Vec Ideal S8192x512 .bf16)
    = shapeCast S8192x512 (truncf (F := Ideal) .bf16 (conv m c) bitsLt_bf16_f32) shapeCasts_S4x2048x512_S8192x512 := by
  entry_read
  rfl

/-- The call's right operand: the cotangent times the second half of the gates, in rows. -/
theorem entry_dyb : (V m c main_v11 : Vec Ideal S8192x1024 .bf16)
    = shapeCast S8192x1024 (truncf (F := Ideal) .bf16 (mulf (F := Ideal) (ct m c)
        (Host.divf (F := Ideal) (broadcastInDim S4x2048x1024 ![] bcast_S_S4x2048x1024 (constant (F := Ideal) S_ .f32 0x3F800000#32))
          (addf (F := Ideal) (broadcastInDim S4x2048x1024 ![] bcast_S_S4x2048x1024 (constant (F := Ideal) S_ .f32 0x3F800000#32))
            (Host.exp (F := Ideal) (Host.negf (F := Ideal) (extractStridedSlice S4x2048x1024 ![0, 0, 1024] (gates m c) slices_S4x2048x2048_S4x2048x1024_0_0_1024))))))
        bitsLt_bf16_f32) shapeCasts_S4x2048x1024_S8192x1024 := by
  entry_read
  rfl

theorem conv_row (b : Fin 4) (q : Fin 2048) (d : Fin 512) :
    (V m c main_v10 : Vec Ideal S8192x512 .bf16) (Idealize.ShloMosaic.ix2 (row b q) d) = conv m c (Idealize.ShloMosaic.ix3 b q d) := by
  rw [entry_conv]
  exact flat_apply _ _ b q d

theorem dyb_row (b : Fin 4) (q : Fin 2048) (d : Fin 1024) :
    (V m c main_v11 : Vec Ideal S8192x1024 .bf16) (Idealize.ShloMosaic.ix2 (row b q) d) = dyb m c (Idealize.ShloMosaic.ix3 b q d) := by
  rw [entry_dyb]
  refine (flat_apply _ _ b q d).trans ?_
  unfold dyb
  pointwise [val_main_v11, val_main_v7, val_main_v5, val_main_v4, val_main_v3, val_main_v2, val_main_v1, val_main_v0, val_main_cst, val_main_cst_0]
  exact mul_comm (G := EReal) _ _

/-- Column `256 * s + j` of the matrix. -/
def col (s : Fin 4) (j : Fin 256) : Fin 1024 := ⟨s.val * 256 + j.val, by have := s.isLt; have := j.isLt; omega⟩

/-- The reference's entry: the sum over all tokens of cotangent times branch, its columns in four shards. -/
theorem grad_apply (s : Fin 4) (i : Fin 512) (j : Fin 256) : grad m c (Idealize.ShloMosaic.ix3 s i j)
    = ∑ b, ∑ q, dyb m c (Idealize.ShloMosaic.ix3 b q (col s j)) * conv m c (Idealize.ShloMosaic.ix3 b q i) := by
  unfold grad
  have h : val_main_v14 (F := Ideal) (m ((c : Thread nD τ).loc main_arg0)) (m ((c : Thread nD τ).loc main_arg1)) (m ((c : Thread nD τ).loc main_arg2)) (Idealize.ShloMosaic.ix3 i s j)
      = val_main_v13 (F := Ideal) (m ((c : Thread nD τ).loc main_arg0)) (m ((c : Thread nD τ).loc main_arg1)) (m ((c : Thread nD τ).loc main_arg2)) (Idealize.ShloMosaic.ix2 i (col s j)) := by
    unfold val_main_v14
    refine shapeCast_apply _ _ _ _ ?_
    rw [Shape.rowMajor_val_three, Shape.rowMajor_val_two]
    show i.val * 1024 + (s.val * 256 + j.val) = (i.val * 4 + s.val) * 256 + j.val
    omega
  refine Eq.trans ?_ (h.trans ?_)
  · pointwise [val_main_v15]
  · unfold dyb conv
    pointwise [val_main_v13, val_main_v12, Reference9Ideal.dot_S4x2048x1024_S4x2048x512_S1024x512_01_01_2_2_n_n]

/-- A block's product, transposed on the left. -/
theorem pay_apply (x : Vec Ideal S4096x512 .bf16) (y : Vec Ideal S4096x256 .bf16) (i : Fin 512) (j : Fin 256) :
    k0_pay1 (F := Ideal) x y (Idealize.ShloMosaic.ix2 i j) = ∑ p, x (Idealize.ShloMosaic.ix2 p i) * y (Idealize.ShloMosaic.ix2 p j) := by
  pointwise [k0_pay1, dot_S4096x512_S4096x256_S512x256_0_0_1_1_n_n, shapeCast_self]

end Cert.DwPw

end
-- ==== Proof.DwPw.Equation.lean ====
/-
  The gradient of the convolution branch's output matrix: the two points of each block together hold the reference's sum, so the call
  leaves the reference's result.
-/
module

public import proofs.«01_k».proof.Defs
public import proofs.«01_k».proof.Proof.DwPw.Entry
public import proofs.«01_k».proof.Proof.Gen.Reference9Ideal.Run
public import Idealize.ShloMosaic.Lib.Pipeline.ValueKit

@[expose] public section

set_option maxRecDepth 16384

noncomputable section

namespace Cert.DwPw

open Idealize.ShloMosaic Idealize.ShloMosaic.TcCoe Idealize.ShloMosaic.Tactic Cert.Kernel9Ideal Cert.Kernel9Ideal.Gen
open Idealize.SL.Sem
open Cert.Reference9Ideal.Read Cert.DwFf

variable (m : (ℓ : Loc nD τ sig) → Buf (Elt Ideal) ℓ) (c : Dev nD) (t : Fin cfg0.N)

theorem pt_lt (t : Fin cfg0.N) : t.val < 8 := lt_of_lt_of_eq t.isLt (show cfg0.N = 8 from N_0)

/-- The row a point's `p`th row is. -/
def rowAt (p : Fin 4096) : Fin 8192 := ⟨t.val % 2 * 4096 + p.val, by have := p.isLt; omega⟩
/-- The shard of the matrix a point works on. -/
def shard : Fin 4 := ⟨t.val / 2, by have := pt_lt t; omega⟩

theorem blk_0 (p : Fin 4096) (i : Fin 512) : iblk m c 0 t (Idealize.ShloMosaic.ix2 p i)
    = (V m c main_v10 : Vec Ideal S8192x512 .bf16) (Idealize.ShloMosaic.ix2 (rowAt t p) i) := by
  have hi : win0_0.index t 0 = t.val % 2 ∧ win0_0.index t 1 = 0 :=
    (by decide +kernel : ∀ t : Fin grid0.N, win0_0.index t 0 = t.val % 2 ∧ win0_0.index t 1 = 0) t
  unfold iblk
  rw [View.read_apply]
  show V m c main_v10 _ = V m c main_v10 _
  congr 1
  funext a
  apply Fin.ext
  match a with
  | ⟨0, _⟩ =>
    show win0_0.index t 0 * 4096 + 1 * p.val = t.val % 2 * 4096 + p.val
    rw [hi.1, Nat.one_mul]
  | ⟨1, _⟩ =>
    show win0_0.index t 1 * 512 + 1 * i.val = i.val
    rw [hi.2]; omega

theorem blk_1 (p : Fin 4096) (j : Fin 256) : iblk m c 1 t (Idealize.ShloMosaic.ix2 p j)
    = (V m c main_v11 : Vec Ideal S8192x1024 .bf16) (Idealize.ShloMosaic.ix2 (rowAt t p) (col (shard t) j)) := by
  have hi : win0_1.index t 0 = t.val % 2 ∧ win0_1.index t 1 = t.val / 2 :=
    (by decide +kernel : ∀ t : Fin grid0.N, win0_1.index t 0 = t.val % 2 ∧ win0_1.index t 1 = t.val / 2) t
  unfold iblk
  rw [View.read_apply]
  show V m c main_v11 _ = V m c main_v11 _
  congr 1
  funext a
  apply Fin.ext
  match a with
  | ⟨0, _⟩ =>
    show win0_1.index t 0 * 4096 + 1 * p.val = t.val % 2 * 4096 + p.val
    rw [hi.1, Nat.one_mul]
  | ⟨1, _⟩ =>
    show win0_1.index t 1 * 256 + 1 * j.val = t.val / 2 * 256 + j.val
    rw [hi.2]; omega

/-- The two operands. -/
abbrev lhs : Vec Ideal S8192x512 .bf16 := V m c main_v10
abbrev rhs : Vec Ideal S8192x1024 .bf16 := V m c main_v11

/-- One row's part of an entry of the result. -/
def part (i : Fin 512) (j : Fin 256) (r : Fin 8192) : EReal :=
  lhs m c (Idealize.ShloMosaic.ix2 r i) * rhs m c (Idealize.ShloMosaic.ix2 r (col (shard t) j))

/-- A point's product sums its half of the rows. -/
theorem prod_apply (i : Fin 512) (j : Fin 256) : k0_pay1 (F := Ideal) (iblk m c 0 t) (iblk m c 1 t) (Idealize.ShloMosaic.ix2 i j)
    = ∑ p, part m c t i j (rowAt t p) := by
  rw [pay_apply]
  refine Finset.sum_congr rfl fun p _ => ?_
  rw [blk_0, blk_1]
  rfl

theorem outs_even (h : t.val % 2 = 0) (i : Fin 512) (j : Fin 256) : outsAt0 m c t.val t.isLt (Idealize.ShloMosaic.ix3 0 i j) = ∑ p, part m c t i j (rowAt t p) := by
  rw [outsAt0_A m c t h (by omega)]
  frame_out
  rw [← prod_apply m c t i j]
  pointwise [k0_pay2, shapeCast_self]

theorem outs_odd (h : t.val % 2 = 1) (i : Fin 512) (j : Fin 256) : outsAt0 m c t.val t.isLt (Idealize.ShloMosaic.ix3 0 i j)
    = ∑ b, ∑ q, part m c t i j (row b q) := by
  have hlt : t.val - 1 < cfg0.N := Nat.lt_of_le_of_lt (Nat.sub_le _ _) t.isLt
  have he : outsAt0 m c (t.val - 1) hlt (Idealize.ShloMosaic.ix3 0 i j) = ∑ p, part m c t i j (lo p) := by
    refine (outs_even m c ⟨t.val - 1, hlt⟩ (by show (t.val - 1) % 2 = 0; omega) i j).trans ?_
    refine Finset.sum_congr rfl fun p _ => ?_
    have hr : rowAt ⟨t.val - 1, hlt⟩ p = lo p := Fin.ext (by show (t.val - 1) % 2 * 4096 + p.val = p.val; omega)
    have hc : shard ⟨t.val - 1, hlt⟩ = shard t := Fin.ext (by show (t.val - 1) / 2 = t.val / 2; omega)
    unfold part
    rw [hr, hc]
  have ho : ∑ p, part m c t i j (rowAt t p) = ∑ p, part m c t i j (hi p) := by
    refine Finset.sum_congr rfl fun p _ => congrArg _ (Fin.ext ?_)
    show t.val % 2 * 4096 + p.val = 4096 + p.val
    omega
  rw [← halves, ← he, ← ho, ← prod_apply]
  rw [outsAt0_B m c t (by omega) h]
  frame_out
  pointwise [k0_pay3, shapeCast_self]

theorem grad_part (i : Fin 512) (j : Fin 256) : ∑ b, ∑ q, part m c t i j (row b q) = grad m c (Idealize.ShloMosaic.ix3 (shard t) i j) := by
  rw [grad_apply]
  refine Finset.sum_congr rfl fun b _ => Finset.sum_congr rfl fun q _ => ?_
  unfold part lhs rhs
  rw [conv_row, dyb_row]
  exact mul_comm (G := EReal) _ _

/-- The call leaves the reference's result. -/
theorem arr : (dats m 0 c).arrAt 2 cfg0.N = grad m c := by
  refine (dats m 0 c).arrAt_eq_of_covers 2 _ (by decide +kernel) fun t hf y => ?_
  have h1 : t.val % 2 = 1 := (by decide +kernel : ∀ t : Fin grid0.N, win0_2.flush t = true → t.val % 2 = 1) t hf
  obtain ⟨i, j, rfl⟩ : ∃ i j, y = Idealize.ShloMosaic.ix3 0 i j :=
    ⟨y 1, y 2, by funext a; fin_cases a; exacts [Fin.ext (Nat.lt_one_iff.1 (y 0).isLt), rfl, rfl]⟩
  have hi : win0_2.index t 0 = t.val / 2 ∧ win0_2.index t 1 = 0 ∧ win0_2.index t 2 = 0 :=
    (by decide +kernel : ∀ t : Fin grid0.N, win0_2.index t 0 = t.val / 2 ∧ win0_2.index t 1 = 0 ∧ win0_2.index t 2 = 0) t
  have he : ((cfg0.win 2).blk t).view.emb (Idealize.ShloMosaic.ix3 0 i j) = (Idealize.ShloMosaic.ix3 (shard t) i j : S4x512x256.Idx) := by
    funext a
    apply Fin.ext
    match a with
    | ⟨0, _⟩ =>
      show win0_2.index t 0 * 1 + 1 * 0 = t.val / 2
      rw [hi.1]; omega
    | ⟨1, _⟩ =>
      show win0_2.index t 1 * 512 + 1 * i.val = i.val
      rw [hi.2.1]; omega
    | ⟨2, _⟩ =>
      show win0_2.index t 2 * 256 + 1 * j.val = j.val
      rw [hi.2.2]; omega
  rw [he]
  show (dats m 0 c).after 2 t (Idealize.ShloMosaic.ix3 0 i j) = _
  rw [after0_2]
  exact (outs_odd m c t h1 i j).trans (grad_part m c t i j)

/-- The reference's frame. -/
theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

/-- The kernel and the reference leave equal results. -/
theorem equation : Cert.algebraic_Kernel9Ideal_Reference9Ideal := by
  intro m g m' g' _ hm
  refine ⟨fun c => grad m c, (θ_run defs _ _).mono (fun r h c => ⟨(h c).1.trans (arr m c), (h c).2⟩) (Value.run_blocks m g),
    (θ_run Cert.Reference9Ideal.defs _ _).mono (fun r h c => ?_) (Cert.Reference9Ideal.Value.run m' g')⟩
  obtain ⟨e0, e1, e2⟩ := hm c
  obtain ⟨h0, hargs⟩ := h c
  refine ⟨h0.trans ((val_main_v15_eq _ _ _).trans ?_), hargs⟩
  rw [e0, e1, e2]

end Cert.DwPw

end
-- ==== Proof.Adam.Equation.lean ====
/-
  The optimizer's step of one matrix: every block's step and moments are the reference's, entry by entry.
-/
module

public import proofs.«01_k».proof.Defs
public import proofs.«01_k».proof.Proof.Gen.Kernel10.Frame
public import proofs.«01_k».proof.Proof.Gen.Kernel10Ideal.Value
public import proofs.«01_k».proof.Proof.Gen.Reference10Ideal.Read
public import proofs.«01_k».proof.Proof.Gen.Reference10Ideal.Run
public import Idealize.ShloMosaic.Lib.Pointwise

@[expose] public section

set_option maxRecDepth 16384

noncomputable section

namespace Cert.Adam

open Idealize.ShloMosaic Idealize.ShloMosaic.TcCoe Idealize.ShloMosaic.Tactic Cert.Kernel10Ideal Cert.Kernel10Ideal.Gen
open Idealize.SL.Sem
open Cert.Reference10Ideal.Read Cert.Kernel10Ideal.Value

variable (w g u v : FVec Ideal S1024x1024 .f32)

/-- The step, and the two new moments, entry by entry. -/
theorem step_eq : G4 (F := Ideal) w g u v = val_main_v23 (F := Ideal) w g u v := by
  funext i
  rfl

theorem mean_eq : G5 (F := Ideal) g u = val_main_v4 (F := Ideal) g u := by
  funext i
  rfl

theorem square_eq : G6 (F := Ideal) g v = val_main_v10 (F := Ideal) g v := by
  funext i
  rfl

/-- The reference's frame. -/
theorem frame_reference : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run m ρ)

/-- The kernel and the reference leave equal results. -/
theorem equation : Cert.algebraic_Kernel10Ideal_Reference10Ideal := by
  intro m g m' g' _ hm
  refine ⟨_, _, _, Cert.Kernel10Ideal.Value.run m g,
    (θ_run Cert.Reference10Ideal.defs _ _).mono (fun r h c => ?_) (Cert.Reference10Ideal.Value.run m' g')⟩
  obtain ⟨e0, e1, e2, e3⟩ := hm c
  obtain ⟨h0, h1, h2, hargs⟩ := h c
  refine ⟨h0.trans ((val_main_v23_eq _ _ _ _).trans ?_), h1.trans ((val_main_v4_eq _ _).trans ?_), h2.trans ((val_main_v10_eq _ _).trans ?_), hargs⟩
  · rw [e0, e1, e2, e3]; exact (step_eq _ _ _ _).symm
  · rw [e1, e2]; exact (mean_eq _ _).symm
  · rw [e1, e3]; exact (square_eq _ _).symm

end Cert.Adam

end
-- ==== Proof.AdaMod.Equation.lean ====
/-
  The modulation of all sequences: the activated conditioning times the matrix, plus the bias.
-/
module

public import proofs.«01_k».proof.Defs
public import proofs.«01_k».proof.Proof.Gen.Kernel11.Frame
public import proofs.«01_k».proof.Proof.Gen.Kernel11Ideal.Value
public import proofs.«01_k».proof.Proof.Gen.Reference11Ideal.Read
public import proofs.«01_k».proof.Proof.Gen.Reference11Ideal.Run
public import Idealize.ShloMosaic.Lib.Pointwise

@[expose] public section

set_option maxRecDepth 16384

noncomputable section

namespace Cert.AdaMod

open Idealize.ShloMosaic Idealize.ShloMosaic.TcCoe Idealize.ShloMosaic.Tactic Cert.Kernel11Ideal Cert.Kernel11Ideal.Gen
open Idealize.SL.Sem
open Cert.Reference11Ideal.Read Cert.Kernel11Ideal.Value

variable (x : FVec Ideal S32x1024 .f32) (w : FVec Ideal S1024x1536 .f32) (b : FVec Ideal S1x1536 .f32)

/-- The modulation, entry by entry. -/
theorem mod_eq : G3 (F := Ideal) x w b = val_main_v3 (F := Ideal) x w b := by
  funext y
  obtain ⟨i, j, rfl⟩ : ∃ i j, y = Idealize.ShloMosaic.ix2 i j := ⟨y 0, y 1, by funext a; fin_cases a <;> rfl⟩
  pointwise [G3, k0_pay1, val_main_v3, val_main_v2, val_main_v1, val_main_v0, val_main_call0_v5, val_main_call0_v4, val_main_call0_v3, val_main_call0_v2, val_main_call0_v1, val_main_call0_v0, val_main_call0_cst, val_main_call0_cst_0, dot_S32x1024_S1024x1536_S32x1536_1_0_0_1_n_n, Reference11Ideal.dot_S32x1024_S1024x1536_S32x1536_1_0_0_1_n_n]
  rfl

/-- The reference's frame. -/
theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run m ρ)

/-- The kernel and the reference leave equal results. -/
theorem equation : Cert.algebraic_Kernel11Ideal_Reference11Ideal := by
  intro m g m' g' _ hm
  refine ⟨_, Cert.Kernel11Ideal.Value.run m g,
    (θ_run Cert.Reference11Ideal.defs _ _).mono (fun r h c => ?_) (Cert.Reference11Ideal.Value.run m' g')⟩
  obtain ⟨e0, e1, e2⟩ := hm c
  obtain ⟨h0, hargs⟩ := h c
  refine ⟨h0.trans ((val_main_v3_eq _ _ _).trans ?_), hargs⟩
  rw [e0, e1, e2]
  exact (mod_eq _ _ _).symm

end Cert.AdaMod

end
-- ==== Proof.AdamFf2.Equation.lean ====
/-
  The optimizer's step of one matrix: every block's step and moments are the reference's, entry by entry.
-/
module

public import proofs.«01_k».proof.Defs
public import proofs.«01_k».proof.Proof.Gen.Kernel12.Frame
public import proofs.«01_k».proof.Proof.Gen.Kernel12Ideal.Value
public import proofs.«01_k».proof.Proof.Gen.Reference12Ideal.Read
public import proofs.«01_k».proof.Proof.Gen.Reference12Ideal.Run
public import Idealize.ShloMosaic.Lib.Pointwise

@[expose] public section

set_option maxRecDepth 16384

noncomputable section

namespace Cert.AdamFf2

open Idealize.ShloMosaic Idealize.ShloMosaic.TcCoe Idealize.ShloMosaic.Tactic Cert.Kernel12Ideal Cert.Kernel12Ideal.Gen
open Idealize.SL.Sem
open Cert.Reference12Ideal.Read Cert.Kernel12Ideal.Value

variable (w g u v : FVec Ideal S1024x1024 .f32)

/-- The step, and the two new moments, entry by entry. -/
theorem step_eq : G4 (F := Ideal) w g u v = val_main_v23 (F := Ideal) w g u v := by
  funext i
  rfl

theorem mean_eq : G5 (F := Ideal) g u = val_main_v4 (F := Ideal) g u := by
  funext i
  rfl

theorem square_eq : G6 (F := Ideal) g v = val_main_v10 (F := Ideal) g v := by
  funext i
  rfl

/-- The reference's frame. -/
theorem frame_reference : Cert.quiescent_Reference12Ideal := fun m ρ _ =>
  (θ_run Cert.Reference12Ideal.defs _ _).mono (fun r h => ⟨fun c => (h c).2.2.2, sem_eq_zero_of_no_sems (by decide) r.2⟩)
    (Cert.Reference12Ideal.Value.run m ρ)

/-- The kernel and the reference leave equal results. -/
theorem equation : Cert.algebraic_Kernel12Ideal_Reference12Ideal := by
  intro m g m' g' _ hm
  refine ⟨_, _, _, Cert.Kernel12Ideal.Value.run m g,
    (θ_run Cert.Reference12Ideal.defs _ _).mono (fun r h c => ?_) (Cert.Reference12Ideal.Value.run m' g')⟩
  obtain ⟨e0, e1, e2, e3⟩ := hm c
  obtain ⟨h0, h1, h2, hargs⟩ := h c
  refine ⟨h0.trans ((val_main_v23_eq _ _ _ _).trans ?_), h1.trans ((val_main_v4_eq _ _).trans ?_), h2.trans ((val_main_v10_eq _ _).trans ?_), hargs⟩
  · rw [e0, e1, e2, e3]; exact (step_eq _ _ _ _).symm
  · rw [e1, e2]; exact (mean_eq _ _).symm
  · rw [e1, e3]; exact (square_eq _ _).symm

end Cert.AdamFf2

end
-- ==== Proof.AdamAda.Equation.lean ====
/-
  The optimizer's step of one matrix: every block's step and moments are the reference's, entry by entry.
-/
module

public import proofs.«01_k».proof.Defs
public import proofs.«01_k».proof.Proof.Gen.Kernel13.Frame
public import proofs.«01_k».proof.Proof.Gen.Kernel13Ideal.Value
public import proofs.«01_k».proof.Proof.Gen.Reference13Ideal.Read
public import proofs.«01_k».proof.Proof.Gen.Reference13Ideal.Run
public import Idealize.ShloMosaic.Lib.Pointwise

@[expose] public section

set_option maxRecDepth 16384

noncomputable section

namespace Cert.AdamAda

open Idealize.ShloMosaic Idealize.ShloMosaic.TcCoe Idealize.ShloMosaic.Tactic Cert.Kernel13Ideal Cert.Kernel13Ideal.Gen
open Idealize.SL.Sem
open Cert.Reference13Ideal.Read Cert.Kernel13Ideal.Value

variable (w g u v : FVec Ideal S1024x1536 .f32)

/-- The step, and the two new moments, entry by entry. -/
theorem step_eq : G4 (F := Ideal) w g u v = val_main_v23 (F := Ideal) w g u v := by
  funext i
  rfl

theorem mean_eq : G5 (F := Ideal) g u = val_main_v4 (F := Ideal) g u := by
  funext i
  rfl

theorem square_eq : G6 (F := Ideal) g v = val_main_v10 (F := Ideal) g v := by
  funext i
  rfl

/-- The reference's frame. -/
theorem frame_reference : Cert.quiescent_Reference13Ideal := fun m ρ _ =>
  (θ_run Cert.Reference13Ideal.defs _ _).mono (fun r h => ⟨fun c => (h c).2.2.2, sem_eq_zero_of_no_sems (by decide) r.2⟩)
    (Cert.Reference13Ideal.Value.run m ρ)

/-- The kernel and the reference leave equal results. -/
theorem equation : Cert.algebraic_Kernel13Ideal_Reference13Ideal := by
  intro m g m' g' _ hm
  refine ⟨_, _, _, Cert.Kernel13Ideal.Value.run m g,
    (θ_run Cert.Reference13Ideal.defs _ _).mono (fun r h c => ?_) (Cert.Reference13Ideal.Value.run m' g')⟩
  obtain ⟨e0, e1, e2, e3⟩ := hm c
  obtain ⟨h0, h1, h2, hargs⟩ := h c
  refine ⟨h0.trans ((val_main_v23_eq _ _ _ _).trans ?_), h1.trans ((val_main_v4_eq _ _).trans ?_), h2.trans ((val_main_v10_eq _ _).trans ?_), hargs⟩
  · rw [e0, e1, e2, e3]; exact (step_eq _ _ _ _).symm
  · rw [e1, e2]; exact (mean_eq _ _).symm
  · rw [e1, e3]; exact (square_eq _ _).symm

end Cert.AdamAda

end
-- ==== Proof.AdamIn.Equation.lean ====
/-
  The optimizer's step of one matrix: every block's step and moments are the reference's, entry by entry.
-/
module

public import proofs.«01_k».proof.Defs
public import proofs.«01_k».proof.Proof.Gen.Kernel14.Frame
public import proofs.«01_k».proof.Proof.Gen.Kernel14Ideal.Value
public import proofs.«01_k».proof.Proof.Gen.Reference14Ideal.Read
public import proofs.«01_k».proof.Proof.Gen.Reference14Ideal.Run
public import Idealize.ShloMosaic.Lib.Pointwise

@[expose] public section

set_option maxRecDepth 16384

noncomputable section

namespace Cert.AdamIn

open Idealize.ShloMosaic Idealize.ShloMosaic.TcCoe Idealize.ShloMosaic.Tactic Cert.Kernel14Ideal Cert.Kernel14Ideal.Gen
open Idealize.SL.Sem
open Cert.Reference14Ideal.Read Cert.Kernel14Ideal.Value

variable (w g u v : FVec Ideal S872x1024 .f32)

/-- The step, and the two new moments, entry by entry. -/
theorem step_eq : G4 (F := Ideal) w g u v = val_main_v23 (F := Ideal) w g u v := by
  funext i
  rfl

theorem mean_eq : G5 (F := Ideal) g u = val_main_v4 (F := Ideal) g u := by
  funext i
  rfl

theorem square_eq : G6 (F := Ideal) g v = val_main_v10 (F := Ideal) g v := by
  funext i
  rfl

/-- The reference's frame. -/
theorem frame_reference : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run m ρ)

/-- The kernel and the reference leave equal results. -/
theorem equation : Cert.algebraic_Kernel14Ideal_Reference14Ideal := by
  intro m g m' g' _ hm
  refine ⟨_, _, _, Cert.Kernel14Ideal.Value.run m g,
    (θ_run Cert.Reference14Ideal.defs _ _).mono (fun r h c => ?_) (Cert.Reference14Ideal.Value.run m' g')⟩
  obtain ⟨e0, e1, e2, e3⟩ := hm c
  obtain ⟨h0, h1, h2, hargs⟩ := h c
  refine ⟨h0.trans ((val_main_v23_eq _ _ _ _).trans ?_), h1.trans ((val_main_v4_eq _ _).trans ?_), h2.trans ((val_main_v10_eq _ _).trans ?_), hargs⟩
  · rw [e0, e1, e2, e3]; exact (step_eq _ _ _ _).symm
  · rw [e1, e2]; exact (mean_eq _ _).symm
  · rw [e1, e3]; exact (square_eq _ _).symm

end Cert.AdamIn

end
-- ==== Proof.AdaBwd.Equation.lean ====
/-
  The gradients of the modulation's matrix and bias from the modulation's own, and the sums of the eight devices' parts.
-/
module

public import proofs.«01_k».proof.Defs
public import proofs.«01_k».proof.Proof.Gen.Kernel15.Frame
public import proofs.«01_k».proof.Proof.Gen.Kernel15Ideal.Value
public import proofs.«01_k».proof.Proof.Gen.Reference15Ideal.Read
public import proofs.«01_k».proof.Proof.Gen.Reference15Ideal.Run
public import Idealize.ShloMosaic.Lib.Pointwise

@[expose] public section

set_option maxRecDepth 16384

noncomputable section

namespace Cert.AdaBwd

open Idealize.ShloMosaic Idealize.ShloMosaic.TcCoe Idealize.ShloMosaic.Tactic Cert.Kernel15Ideal Cert.Kernel15Ideal.Gen
open Idealize.SL.Sem
open Cert.Reference15Ideal.Read Cert.Kernel15Ideal.Value

/-- One of eight slabs, read out as a matrix. -/
theorem slab_apply {R n : ℕ} (x : FVec Ideal ⟨3, ![8, R, n]⟩ .f32) (k : Fin 8)
    (inb : ∀ a, (![k.val, 0, 0] : Fin 3 → ℕ) a + (⟨3, ![1, R, n]⟩ : Shape).size a ≤ (⟨3, ![8, R, n]⟩ : Shape).size a)
    (hc : (⟨3, ![1, R, n]⟩ : Shape).ShapeCasts ⟨2, ![R, n]⟩) (i : Fin R) (j : Fin n) :
    shapeCast ⟨2, ![R, n]⟩ (fun z => x ((Rect.unit (s := ⟨3, ![8, R, n]⟩) ![k.val, 0, 0] (⟨3, ![1, R, n]⟩ : Shape).size inb).idx z) : FVec Ideal ⟨3, ![1, R, n]⟩ .f32) hc (Idealize.ShloMosaic.ix2 i j)
      = x (Idealize.ShloMosaic.ix3 k i j) := by
  refine (shapeCast_apply _ hc _ (Idealize.ShloMosaic.ix3 0 i j) ?_).trans ?_
  · rw [Shape.rowMajor_val_two, Shape.rowMajor_val_three]
    show (0 * R + i.val) * n + j.val = i.val * n + j.val
    rw [Nat.zero_mul, Nat.zero_add]
  · show x _ = x _
    congr 1
    funext a
    apply Fin.ext
    match a with
    | ⟨0, _⟩ => rfl
    | ⟨1, _⟩ => show 0 + 1 * i.val = i.val; omega
    | ⟨2, _⟩ => show 0 + 1 * j.val = j.val; omega

variable (c : FVec Ideal S32x1024 .f32) (d : FVec Ideal S32x6144 .f32) (e : FVec Ideal S32x1536 .f32)

/-- The matrix's gradient. -/
theorem grad_eq : k0_pay2 (F := Ideal) c e = val_main_v4 (F := Ideal) c e := by
  funext y
  obtain ⟨i, j, rfl⟩ : ∃ i j, y = Idealize.ShloMosaic.ix2 i j := ⟨y 0, y 1, by funext a; fin_cases a <;> rfl⟩
  pointwise [k0_pay2, val_main_v4, val_main_v3, val_main_v1, val_main_call0_v5, val_main_call0_v4, val_main_call0_v3, val_main_call0_v2, val_main_call0_v1, val_main_call0_v0, val_main_call0_cst, val_main_call0_cst_0, dot_S32x1024_S32x1536_S1024x1536_0_0_1_1_n_n, Reference15Ideal.dot_S32x1536_S32x1024_S1536x1024_0_0_1_1_n_n]
  exact Finset.sum_congr rfl fun p _ => mul_comm (G := EReal) _ _

/-- The bias's gradient. -/
theorem bias_eq : k0_pay3 (F := Ideal) d = val_main_v6 (F := Ideal) d := by
  funext y
  obtain ⟨i, j, rfl⟩ : ∃ i j, y = Idealize.ShloMosaic.ix2 i j := ⟨y 0, y 1, by funext a; fin_cases a <;> rfl⟩
  pointwise [k0_pay3, val_main_v6, val_main_v5, val_main_cst_0]

theorem sum3_eq (x : FVec Ideal S8x32x512 .f32) : k0_pay6 (F := Ideal) (k0_pay4 (View.ld x r0_5) (View.ld x r0_6) (View.ld x r0_7) (View.ld x r0_8) (View.ld x r0_9)) (k0_pay5 (View.ld x r0_10)) (View.ld x r0_11) (View.ld x r0_12)
    = val_main_v7 (F := Ideal) x := by
  funext y
  obtain ⟨i, j, rfl⟩ : ∃ i j, y = Idealize.ShloMosaic.ix2 i j := ⟨y 0, y 1, by funext a; fin_cases a <;> rfl⟩
  have h : val_main_v7 (F := Ideal) x (Idealize.ShloMosaic.ix2 i j) = ∑ k : Fin 8, x (Idealize.ShloMosaic.ix3 k i j) := by
    pointwise [val_main_v7, val_main_cst_1]
  rw [h, Fin.sum_univ_eight]
  have s := fun k inb => slab_apply (R := 32) (n := 512) x k inb shapeCasts_S1x32x512_S32x512 i j
  rw [← s 0 inb_S8x32x512_S1x32x512_0_0_0, ← s 1 inb_S8x32x512_S1x32x512_1_0_0, ← s 2 inb_S8x32x512_S1x32x512_2_0_0, ← s 3 inb_S8x32x512_S1x32x512_3_0_0, ← s 4 inb_S8x32x512_S1x32x512_4_0_0, ← s 5 inb_S8x32x512_S1x32x512_5_0_0, ← s 6 inb_S8x32x512_S1x32x512_6_0_0, ← s 7 inb_S8x32x512_S1x32x512_7_0_0]
  rfl

theorem sum4_eq (x : FVec Ideal S8x8x128 .f32) : k0_pay8 (F := Ideal) (k0_pay7 (View.ld x r0_14) (View.ld x r0_15) (View.ld x r0_16) (View.ld x r0_17) (View.ld x r0_18) (View.ld x r0_19) (View.ld x r0_20)) (View.ld x r0_21)
    = val_main_v8 (F := Ideal) x := by
  funext y
  obtain ⟨i, j, rfl⟩ : ∃ i j, y = Idealize.ShloMosaic.ix2 i j := ⟨y 0, y 1, by funext a; fin_cases a <;> rfl⟩
  have h : val_main_v8 (F := Ideal) x (Idealize.ShloMosaic.ix2 i j) = ∑ k : Fin 8, x (Idealize.ShloMosaic.ix3 k i j) := by
    pointwise [val_main_v8, val_main_cst_2]
  rw [h, Fin.sum_univ_eight]
  have s := fun k inb => slab_apply (R := 8) (n := 128) x k inb shapeCasts_S1x8x128_S8x128 i j
  rw [← s 0 inb_S8x8x128_S1x8x128_0_0_0, ← s 1 inb_S8x8x128_S1x8x128_1_0_0, ← s 2 inb_S8x8x128_S1x8x128_2_0_0, ← s 3 inb_S8x8x128_S1x8x128_3_0_0, ← s 4 inb_S8x8x128_S1x8x128_4_0_0, ← s 5 inb_S8x8x128_S1x8x128_5_0_0, ← s 6 inb_S8x8x128_S1x8x128_6_0_0, ← s 7 inb_S8x8x128_S1x8x128_7_0_0]
  rfl

theorem sum5_eq (x : FVec Ideal S8x1x1024 .f32) : k0_pay9 (F := Ideal) (View.ld x r0_23) (View.ld x r0_24) (View.ld x r0_25) (View.ld x r0_26) (View.ld x r0_27) (View.ld x r0_28) (View.ld x r0_29) (View.ld x r0_30)
    = val_main_v9 (F := Ideal) x := by
  funext y
  obtain ⟨i, j, rfl⟩ : ∃ i j, y = Idealize.ShloMosaic.ix2 i j := ⟨y 0, y 1, by funext a; fin_cases a <;> rfl⟩
  obtain rfl : i = 0 := Subsingleton.elim _ _
  have h : val_main_v9 (F := Ideal) x (Idealize.ShloMosaic.ix2 0 j) = ∑ k : Fin 8, x (Idealize.ShloMosaic.ix3 k 0 j) := by
    pointwise [val_main_v9, val_main_cst_3]
  rw [h, Fin.sum_univ_eight]
  have s := fun k inb => slab_apply (R := 1) (n := 1024) x k inb shapeCasts_S1x1x1024_S1x1024 0 j
  rw [← s 0 inb_S8x1x1024_S1x1x1024_0_0_0, ← s 1 inb_S8x1x1024_S1x1x1024_1_0_0, ← s 2 inb_S8x1x1024_S1x1x1024_2_0_0, ← s 3 inb_S8x1x1024_S1x1x1024_3_0_0, ← s 4 inb_S8x1x1024_S1x1x1024_4_0_0, ← s 5 inb_S8x1x1024_S1x1x1024_5_0_0, ← s 6 inb_S8x1x1024_S1x1x1024_6_0_0, ← s 7 inb_S8x1x1024_S1x1x1024_7_0_0]
  rfl

theorem sum6_eq (x : FVec Ideal S8x1x256 .f32) : k0_pay10 (F := Ideal) (View.ld x r0_32) (View.ld x r0_33) (View.ld x r0_34) (View.ld x r0_35) (View.ld x r0_36) (View.ld x r0_37) (View.ld x r0_38) (View.ld x r0_39)
    = val_main_v10 (F := Ideal) x := by
  funext y
  obtain ⟨i, j, rfl⟩ : ∃ i j, y = Idealize.ShloMosaic.ix2 i j := ⟨y 0, y 1, by funext a; fin_cases a <;> rfl⟩
  obtain rfl : i = 0 := Subsingleton.elim _ _
  have h : val_main_v10 (F := Ideal) x (Idealize.ShloMosaic.ix2 0 j) = ∑ k : Fin 8, x (Idealize.ShloMosaic.ix3 k 0 j) := by
    pointwise [val_main_v10, val_main_cst_4]
  rw [h, Fin.sum_univ_eight]
  have s := fun k inb => slab_apply (R := 1) (n := 256) x k inb shapeCasts_S1x1x256_S1x256 0 j
  rw [← s 0 inb_S8x1x256_S1x1x256_0_0_0, ← s 1 inb_S8x1x256_S1x1x256_1_0_0, ← s 2 inb_S8x1x256_S1x1x256_2_0_0, ← s 3 inb_S8x1x256_S1x1x256_3_0_0, ← s 4 inb_S8x1x256_S1x1x256_4_0_0, ← s 5 inb_S8x1x256_S1x1x256_5_0_0, ← s 6 inb_S8x1x256_S1x1x256_6_0_0, ← s 7 inb_S8x1x256_S1x1x256_7_0_0]
  rfl

theorem sum7_eq (x : FVec Ideal S8x1x128 .f32) : k0_pay13 (F := Ideal) (k0_pay11 (View.ld x r0_41)) (k0_pay12 (View.ld x r0_42)) (View.ld x r0_43) (View.ld x r0_44) (View.ld x r0_45) (View.ld x r0_46) (View.ld x r0_47) (View.ld x r0_48)
    = val_main_v11 (F := Ideal) x := by
  funext y
  obtain ⟨i, j, rfl⟩ : ∃ i j, y = Idealize.ShloMosaic.ix2 i j := ⟨y 0, y 1, by funext a; fin_cases a <;> rfl⟩
  obtain rfl : i = 0 := Subsingleton.elim _ _
  have h : val_main_v11 (F := Ideal) x (Idealize.ShloMosaic.ix2 0 j) = ∑ k : Fin 8, x (Idealize.ShloMosaic.ix3 k 0 j) := by
    pointwise [val_main_v11, val_main_cst_5]
  rw [h, Fin.sum_univ_eight]
  have s := fun k inb => slab_apply (R := 1) (n := 128) x k inb shapeCasts_S1x1x128_S1x128 0 j
  rw [← s 0 inb_S8x1x128_S1x1x128_0_0_0, ← s 1 inb_S8x1x128_S1x1x128_1_0_0, ← s 2 inb_S8x1x128_S1x1x128_2_0_0, ← s 3 inb_S8x1x128_S1x1x128_3_0_0, ← s 4 inb_S8x1x128_S1x1x128_4_0_0, ← s 5 inb_S8x1x128_S1x1x128_5_0_0, ← s 6 inb_S8x1x128_S1x1x128_6_0_0, ← s 7 inb_S8x1x128_S1x1x128_7_0_0]
  rfl

theorem sum8_eq (x : FVec Ideal S8x1x96 .f32) : k0_pay15 (F := Ideal) (k0_pay14 (View.ld x r0_50) (View.ld x r0_51) (View.ld x r0_52)) (View.ld x r0_53) (View.ld x r0_54) (View.ld x r0_55) (View.ld x r0_56) (View.ld x r0_57)
    = val_main_v12 (F := Ideal) x := by
  funext y
  obtain ⟨i, j, rfl⟩ : ∃ i j, y = Idealize.ShloMosaic.ix2 i j := ⟨y 0, y 1, by funext a; fin_cases a <;> rfl⟩
  obtain rfl : i = 0 := Subsingleton.elim _ _
  have h : val_main_v12 (F := Ideal) x (Idealize.ShloMosaic.ix2 0 j) = ∑ k : Fin 8, x (Idealize.ShloMosaic.ix3 k 0 j) := by
    pointwise [val_main_v12, val_main_cst_6]
  rw [h, Fin.sum_univ_eight]
  have s := fun k inb => slab_apply (R := 1) (n := 96) x k inb shapeCasts_S1x1x96_S1x96 0 j
  rw [← s 0 inb_S8x1x96_S1x1x96_0_0_0, ← s 1 inb_S8x1x96_S1x1x96_1_0_0, ← s 2 inb_S8x1x96_S1x1x96_2_0_0, ← s 3 inb_S8x1x96_S1x1x96_3_0_0, ← s 4 inb_S8x1x96_S1x1x96_4_0_0, ← s 5 inb_S8x1x96_S1x1x96_5_0_0, ← s 6 inb_S8x1x96_S1x1x96_6_0_0, ← s 7 inb_S8x1x96_S1x1x96_7_0_0]
  rfl

theorem sum9_eq (x : FVec Ideal S8x1x96 .f32) : k0_pay18 (F := Ideal) (k0_pay16 (View.ld x r0_50) (View.ld x r0_51) (View.ld x r0_52) (View.ld x r0_53)) (k0_pay17 (View.ld x r0_54)) (View.ld x r0_55) (View.ld x r0_56) (View.ld x r0_57)
    = val_main_v13 (F := Ideal) x := by
  funext y
  obtain ⟨i, j, rfl⟩ : ∃ i j, y = Idealize.ShloMosaic.ix2 i j := ⟨y 0, y 1, by funext a; fin_cases a <;> rfl⟩
  obtain rfl : i = 0 := Subsingleton.elim _ _
  have h : val_main_v13 (F := Ideal) x (Idealize.ShloMosaic.ix2 0 j) = ∑ k : Fin 8, x (Idealize.ShloMosaic.ix3 k 0 j) := by
    pointwise [val_main_v13, val_main_cst_7]
  rw [h, Fin.sum_univ_eight]
  have s := fun k inb => slab_apply (R := 1) (n := 96) x k inb shapeCasts_S1x1x96_S1x96 0 j
  rw [← s 0 inb_S8x1x96_S1x1x96_0_0_0, ← s 1 inb_S8x1x96_S1x1x96_1_0_0, ← s 2 inb_S8x1x96_S1x1x96_2_0_0, ← s 3 inb_S8x1x96_S1x1x96_3_0_0, ← s 4 inb_S8x1x96_S1x1x96_4_0_0, ← s 5 inb_S8x1x96_S1x1x96_5_0_0, ← s 6 inb_S8x1x96_S1x1x96_6_0_0, ← s 7 inb_S8x1x96_S1x1x96_7_0_0]
  rfl

theorem sum10_eq (x : FVec Ideal S8x1x512 .f32) : k0_pay20 (F := Ideal) (k0_pay19 (View.ld x r0_59) (View.ld x r0_60) (View.ld x r0_61) (View.ld x r0_62) (View.ld x r0_63) (View.ld x r0_64)) (View.ld x r0_65) (View.ld x r0_66)
    = val_main_v14 (F := Ideal) x := by
  funext y
  obtain ⟨i, j, rfl⟩ : ∃ i j, y = Idealize.ShloMosaic.ix2 i j := ⟨y 0, y 1, by funext a; fin_cases a <;> rfl⟩
  obtain rfl : i = 0 := Subsingleton.elim _ _
  have h : val_main_v14 (F := Ideal) x (Idealize.ShloMosaic.ix2 0 j) = ∑ k : Fin 8, x (Idealize.ShloMosaic.ix3 k 0 j) := by
    pointwise [val_main_v14, val_main_cst_8]
  rw [h, Fin.sum_univ_eight]
  have s := fun k inb => slab_apply (R := 1) (n := 512) x k inb shapeCasts_S1x1x512_S1x512 0 j
  rw [← s 0 inb_S8x1x512_S1x1x512_0_0_0, ← s 1 inb_S8x1x512_S1x1x512_1_0_0, ← s 2 inb_S8x1x512_S1x1x512_2_0_0, ← s 3 inb_S8x1x512_S1x1x512_3_0_0, ← s 4 inb_S8x1x512_S1x1x512_4_0_0, ← s 5 inb_S8x1x512_S1x1x512_5_0_0, ← s 6 inb_S8x1x512_S1x1x512_6_0_0, ← s 7 inb_S8x1x512_S1x1x512_7_0_0]
  rfl

theorem sum11_eq (x : FVec Ideal S8x1x512 .f32) : k0_pay23 (F := Ideal) (k0_pay21 (View.ld x r0_59) (View.ld x r0_60) (View.ld x r0_61) (View.ld x r0_62) (View.ld x r0_63) (View.ld x r0_64) (View.ld x r0_65)) (k0_pay22 (View.ld x r0_66))
    = val_main_v15 (F := Ideal) x := by
  funext y
  obtain ⟨i, j, rfl⟩ : ∃ i j, y = Idealize.ShloMosaic.ix2 i j := ⟨y 0, y 1, by funext a; fin_cases a <;> rfl⟩
  obtain rfl : i = 0 := Subsingleton.elim _ _
  have h : val_main_v15 (F := Ideal) x (Idealize.ShloMosaic.ix2 0 j) = ∑ k : Fin 8, x (Idealize.ShloMosaic.ix3 k 0 j) := by
    pointwise [val_main_v15, val_main_cst_9]
  rw [h, Fin.sum_univ_eight]
  have s := fun k inb => slab_apply (R := 1) (n := 512) x k inb shapeCasts_S1x1x512_S1x512 0 j
  rw [← s 0 inb_S8x1x512_S1x1x512_0_0_0, ← s 1 inb_S8x1x512_S1x1x512_1_0_0, ← s 2 inb_S8x1x512_S1x1x512_2_0_0, ← s 3 inb_S8x1x512_S1x1x512_3_0_0, ← s 4 inb_S8x1x512_S1x1x512_4_0_0, ← s 5 inb_S8x1x512_S1x1x512_5_0_0, ← s 6 inb_S8x1x512_S1x1x512_6_0_0, ← s 7 inb_S8x1x512_S1x1x512_7_0_0]
  rfl

theorem sum12_eq (x : FVec Ideal S8x1x512 .f32) : k0_pay24 (F := Ideal) (View.ld x r0_59) (View.ld x r0_60) (View.ld x r0_61) (View.ld x r0_62) (View.ld x r0_63) (View.ld x r0_64) (View.ld x r0_65) (View.ld x r0_66)
    = val_main_v16 (F := Ideal) x := by
  funext y
  obtain ⟨i, j, rfl⟩ : ∃ i j, y = Idealize.ShloMosaic.ix2 i j := ⟨y 0, y 1, by funext a; fin_cases a <;> rfl⟩
  obtain rfl : i = 0 := Subsingleton.elim _ _
  have h : val_main_v16 (F := Ideal) x (Idealize.ShloMosaic.ix2 0 j) = ∑ k : Fin 8, x (Idealize.ShloMosaic.ix3 k 0 j) := by
    pointwise [val_main_v16, val_main_cst_10]
  rw [h, Fin.sum_univ_eight]
  have s := fun k inb => slab_apply (R := 1) (n := 512) x k inb shapeCasts_S1x1x512_S1x512 0 j
  rw [← s 0 inb_S8x1x512_S1x1x512_0_0_0, ← s 1 inb_S8x1x512_S1x1x512_1_0_0, ← s 2 inb_S8x1x512_S1x1x512_2_0_0, ← s 3 inb_S8x1x512_S1x1x512_3_0_0, ← s 4 inb_S8x1x512_S1x1x512_4_0_0, ← s 5 inb_S8x1x512_S1x1x512_5_0_0, ← s 6 inb_S8x1x512_S1x1x512_6_0_0, ← s 7 inb_S8x1x512_S1x1x512_7_0_0]
  rfl

theorem sum13_eq (x : FVec Ideal S8x1x1024 .f32) : k0_pay1 (F := Ideal) (View.ld x r0_23) (View.ld x r0_24) (View.ld x r0_25) (View.ld x r0_26) (View.ld x r0_27) (View.ld x r0_28) (View.ld x r0_29) (View.ld x r0_30)
    = val_main_v17 (F := Ideal) x := by
  funext y
  obtain ⟨i, j, rfl⟩ : ∃ i j, y = Idealize.ShloMosaic.ix2 i j := ⟨y 0, y 1, by funext a; fin_cases a <;> rfl⟩
  obtain rfl : i = 0 := Subsingleton.elim _ _
  have h : val_main_v17 (F := Ideal) x (Idealize.ShloMosaic.ix2 0 j) = ∑ k : Fin 8, x (Idealize.ShloMosaic.ix3 k 0 j) := by
    pointwise [val_main_v17, val_main_cst_11]
  rw [h, Fin.sum_univ_eight]
  have s := fun k inb => slab_apply (R := 1) (n := 1024) x k inb shapeCasts_S1x1x1024_S1x1024 0 j
  rw [← s 0 inb_S8x1x1024_S1x1x1024_0_0_0, ← s 1 inb_S8x1x1024_S1x1x1024_1_0_0, ← s 2 inb_S8x1x1024_S1x1x1024_2_0_0, ← s 3 inb_S8x1x1024_S1x1x1024_3_0_0, ← s 4 inb_S8x1x1024_S1x1x1024_4_0_0, ← s 5 inb_S8x1x1024_S1x1x1024_5_0_0, ← s 6 inb_S8x1x1024_S1x1x1024_6_0_0, ← s 7 inb_S8x1x1024_S1x1x1024_7_0_0]
  rfl

/-- The reference's frame. -/
theorem frame_reference : Cert.quiescent_Reference15Ideal := fun m ρ _ =>
  (θ_run Cert.Reference15Ideal.defs _ _).mono (fun r h => ⟨fun c => (h c).2.2.2.2.2.2.2.2.2.2.2.2.2, sem_eq_zero_of_no_sems (by decide) r.2⟩)
    (Cert.Reference15Ideal.Value.run m ρ)

/-- The kernel and the reference leave equal results. -/
theorem equation : Cert.algebraic_Kernel15Ideal_Reference15Ideal := by
  intro m g m' g' _ hm
  refine ⟨_, _, _, _, _, _, _, _, _, _, _, _, _, Cert.Kernel15Ideal.Value.run m g,
    (θ_run Cert.Reference15Ideal.defs _ _).mono (fun r h c => ?_) (Cert.Reference15Ideal.Value.run m' g')⟩
  obtain ⟨e0, e1, e2, e3, e4, e5, e6, e7, e8, e9, e10, e11, e12, e13⟩ := hm c
  obtain ⟨h0, h1, h2, h3, h4, h5, h6, h7, h8, h9, h10, h11, h12, hargs⟩ := h c
  refine ⟨h0.trans ((val_main_v4_eq _ _).trans ?_), h1.trans ((val_main_v6_eq _).trans ?_), h2.trans ((val_main_v7_eq _).trans ?_), h3.trans ((val_main_v8_eq _).trans ?_), h4.trans ((val_main_v9_eq _).trans ?_), h5.trans ((val_main_v10_eq _).trans ?_), h6.trans ((val_main_v11_eq _).trans ?_), h7.trans ((val_main_v12_eq _).trans ?_), h8.trans ((val_main_v13_eq _).trans ?_), h9.trans ((val_main_v14_eq _).trans ?_), h10.trans ((val_main_v15_eq _).trans ?_), h11.trans ((val_main_v16_eq _).trans ?_), h12.trans ((val_main_v17_eq _).trans ?_), hargs⟩
  · rw [e0, e2]; exact (grad_eq _ _).symm
  · rw [e1]; exact (bias_eq _).symm
  · rw [e3]; exact (sum3_eq _).symm
  · rw [e4]; exact (sum4_eq _).symm
  · rw [e5]; exact (sum5_eq _).symm
  · rw [e6]; exact (sum6_eq _).symm
  · rw [e7]; exact (sum7_eq _).symm
  · rw [e8]; exact (sum8_eq _).symm
  · rw [e9]; exact (sum9_eq _).symm
  · rw [e10]; exact (sum10_eq _).symm
  · rw [e11]; exact (sum11_eq _).symm
  · rw [e12]; exact (sum12_eq _).symm
  · rw [e13]; exact (sum13_eq _).symm

end Cert.AdaBwd

end
-- ==== Proof.DwIn.Entry.lean ====
/-
  The gradient of the attention input matrix: what the call's two operands hold, what a grid point makes of its blocks, and
  what the reference sums.
-/
module

public import proofs.«01_k».proof.Proof.Gen.Kernel5Ideal.Value
public import proofs.«01_k».proof.Proof.Gen.Reference5Ideal.Read
public import proofs.«01_k».proof.Proof.DwFf.Rows

@[expose] public section

set_option maxRecDepth 16384

noncomputable section

namespace Cert.DwIn

open Idealize.ShloMosaic Idealize.ShloMosaic.TcCoe Idealize.ShloMosaic.Tactic Cert.Kernel5Ideal Cert.Kernel5Ideal.Gen
open Cert.Reference5Ideal.Read Cert.DwFf

variable (m : (ℓ : Loc nD τ sig) → Buf (Elt Ideal) ℓ) (c : Dev nD)

/-- The modulated, normed rows, from the arguments. -/
abbrev hid : FVec Ideal S4x2048x1024 .f32 :=
  val_main_v27 (F := Ideal) (m ((c : Thread nD τ).loc main_arg0)) (m ((c : Thread nD τ).loc main_arg1)) (m ((c : Thread nD τ).loc main_arg2))
/-- The projection's cotangent. -/
abbrev dproj : FVec Ideal S4x2048x3584 .f32 := (m ((c : Thread nD τ).loc main_arg3) : FVec Ideal S4x2048x3584 .f32)
/-- The reference's result. -/
abbrev grad : FVec Ideal S1024x3584 .f32 :=
  val_main_v30 (F := Ideal) (m ((c : Thread nD τ).loc main_arg0)) (m ((c : Thread nD τ).loc main_arg1)) (m ((c : Thread nD τ).loc main_arg2)) (m ((c : Thread nD τ).loc main_arg3))

/-- The call's left operand: the modulated rows. -/
theorem entry_hid : (V m c main_v28 : Vec Ideal S8192x1024 .bf16)
    = shapeCast S8192x1024 (truncf (F := Ideal) .bf16 (hid m c) bitsLt_bf16_f32) shapeCasts_S4x2048x1024_S8192x1024 := by
  entry_read
  rfl

/-- The call's right operand: the projection's cotangent in rows. -/
theorem entry_dproj : (V m c main_v30 : Vec Ideal S8192x3584 .bf16)
    = shapeCast S8192x3584 (truncf (F := Ideal) .bf16 (dproj m c) bitsLt_bf16_f32) shapeCasts_S4x2048x3584_S8192x3584 := by
  entry_read
  rfl

theorem hid_row (b : Fin 4) (q : Fin 2048) (d : Fin 1024) :
    (V m c main_v28 : Vec Ideal S8192x1024 .bf16) (Idealize.ShloMosaic.ix2 (row b q) d) = hid m c (Idealize.ShloMosaic.ix3 b q d) := by
  rw [entry_hid]
  exact flat_apply _ _ b q d

theorem dproj_row (b : Fin 4) (q : Fin 2048) (f : Fin 3584) :
    (V m c main_v30 : Vec Ideal S8192x3584 .bf16) (Idealize.ShloMosaic.ix2 (row b q) f) = dproj m c (Idealize.ShloMosaic.ix3 b q f) := by
  rw [entry_dproj]
  exact flat_apply _ _ b q f

/-- The reference's entry: the sum over all tokens of cotangent times row. -/
theorem grad_apply (d : Fin 1024) (f : Fin 3584) : grad m c (Idealize.ShloMosaic.ix2 d f)
    = ∑ b, ∑ q, dproj m c (Idealize.ShloMosaic.ix3 b q f) * hid m c (Idealize.ShloMosaic.ix3 b q d) := by
  unfold grad dproj hid
  pointwise [val_main_v30, val_main_v29, Reference5Ideal.dot_S4x2048x3584_S4x2048x1024_S3584x1024_01_01_2_2_n_n]

/-- A block's product, transposed on the left. -/
theorem pay_apply (x : Vec Ideal S4096x1024 .bf16) (y : Vec Ideal S4096x896 .bf16) (i : Fin 1024) (j : Fin 896) :
    k0_pay1 (F := Ideal) x y (Idealize.ShloMosaic.ix2 i j) = ∑ p, x (Idealize.ShloMosaic.ix2 p i) * y (Idealize.ShloMosaic.ix2 p j) := by
  pointwise [k0_pay1, dot_S4096x1024_S4096x896_S1024x896_0_0_1_1_n_n, shapeCast_self]

end Cert.DwIn

end
-- ==== Proof.DwIn.Equation.lean ====
/-
  The gradient of the attention input matrix: the two points of each block together hold the reference's sum, so the call
  leaves the reference's result.
-/
module

public import proofs.«01_k».proof.Defs
public import proofs.«01_k».proof.Proof.DwIn.Entry
public import proofs.«01_k».proof.Proof.Gen.Reference5Ideal.Run
public import Idealize.ShloMosaic.Lib.Pipeline.ValueKit

@[expose] public section

set_option maxRecDepth 16384

noncomputable section

namespace Cert.DwIn

open Idealize.ShloMosaic Idealize.ShloMosaic.TcCoe Idealize.ShloMosaic.Tactic Cert.Kernel5Ideal Cert.Kernel5Ideal.Gen
open Idealize.SL.Sem
open Cert.Reference5Ideal.Read Cert.DwFf

variable (m : (ℓ : Loc nD τ sig) → Buf (Elt Ideal) ℓ) (c : Dev nD) (t : Fin cfg0.N)

theorem pt_lt (t : Fin cfg0.N) : t.val < 8 := lt_of_lt_of_eq t.isLt (show cfg0.N = 8 from N_0)

/-- The row a point's `p`th row is. -/
def rowAt (p : Fin 4096) : Fin 8192 := ⟨t.val % 2 * 4096 + p.val, by have := p.isLt; omega⟩
/-- The column of the matrix a point's `j`th column is. -/
def colAt (j : Fin 896) : Fin 3584 := ⟨t.val / 2 * 896 + j.val, by have := j.isLt; have := pt_lt t; omega⟩

theorem blk_0 (p : Fin 4096) (i : Fin 1024) : iblk m c 0 t (Idealize.ShloMosaic.ix2 p i)
    = (V m c main_v28 : Vec Ideal S8192x1024 .bf16) (Idealize.ShloMosaic.ix2 (rowAt t p) i) := by
  have hi : win0_0.index t 0 = t.val % 2 ∧ win0_0.index t 1 = 0 :=
    (by decide +kernel : ∀ t : Fin grid0.N, win0_0.index t 0 = t.val % 2 ∧ win0_0.index t 1 = 0) t
  unfold iblk
  rw [View.read_apply]
  show V m c main_v28 _ = V m c main_v28 _
  congr 1
  funext a
  apply Fin.ext
  match a with
  | ⟨0, _⟩ =>
    show win0_0.index t 0 * 4096 + 1 * p.val = t.val % 2 * 4096 + p.val
    rw [hi.1, Nat.one_mul]
  | ⟨1, _⟩ =>
    show win0_0.index t 1 * 1024 + 1 * i.val = i.val
    rw [hi.2]; omega

theorem blk_1 (p : Fin 4096) (j : Fin 896) : iblk m c 1 t (Idealize.ShloMosaic.ix2 p j)
    = (V m c main_v30 : Vec Ideal S8192x3584 .bf16) (Idealize.ShloMosaic.ix2 (rowAt t p) (colAt t j)) := by
  have hi : win0_1.index t 0 = t.val % 2 ∧ win0_1.index t 1 = t.val / 2 :=
    (by decide +kernel : ∀ t : Fin grid0.N, win0_1.index t 0 = t.val % 2 ∧ win0_1.index t 1 = t.val / 2) t
  unfold iblk
  rw [View.read_apply]
  show V m c main_v30 _ = V m c main_v30 _
  congr 1
  funext a
  apply Fin.ext
  match a with
  | ⟨0, _⟩ =>
    show win0_1.index t 0 * 4096 + 1 * p.val = t.val % 2 * 4096 + p.val
    rw [hi.1, Nat.one_mul]
  | ⟨1, _⟩ =>
    show win0_1.index t 1 * 896 + 1 * j.val = t.val / 2 * 896 + j.val
    rw [hi.2]; omega

/-- The two operands. -/
abbrev lhs : Vec Ideal S8192x1024 .bf16 := V m c main_v28
abbrev rhs : Vec Ideal S8192x3584 .bf16 := V m c main_v30

/-- One row's part of an entry of the result. -/
def part (i : Fin 1024) (j : Fin 896) (r : Fin 8192) : EReal :=
  lhs m c (Idealize.ShloMosaic.ix2 r i) * rhs m c (Idealize.ShloMosaic.ix2 r (colAt t j))

/-- A point's product sums its half of the rows. -/
theorem prod_apply (i : Fin 1024) (j : Fin 896) : k0_pay1 (F := Ideal) (iblk m c 0 t) (iblk m c 1 t) (Idealize.ShloMosaic.ix2 i j)
    = ∑ p, part m c t i j (rowAt t p) := by
  rw [pay_apply]
  refine Finset.sum_congr rfl fun p _ => ?_
  rw [blk_0, blk_1]
  rfl

theorem outs_even (h : t.val % 2 = 0) (i : Fin 1024) (j : Fin 896) : outsAt0 m c t.val t.isLt (Idealize.ShloMosaic.ix2 i j) = ∑ p, part m c t i j (rowAt t p) := by
  rw [outsAt0_A m c t h (by omega)]
  frame_out
  exact prod_apply m c t i j

theorem outs_odd (h : t.val % 2 = 1) (i : Fin 1024) (j : Fin 896) : outsAt0 m c t.val t.isLt (Idealize.ShloMosaic.ix2 i j)
    = ∑ b, ∑ q, part m c t i j (row b q) := by
  have hlt : t.val - 1 < cfg0.N := Nat.lt_of_le_of_lt (Nat.sub_le _ _) t.isLt
  have he : outsAt0 m c (t.val - 1) hlt (Idealize.ShloMosaic.ix2 i j) = ∑ p, part m c t i j (lo p) := by
    refine (outs_even m c ⟨t.val - 1, hlt⟩ (by show (t.val - 1) % 2 = 0; omega) i j).trans ?_
    refine Finset.sum_congr rfl fun p _ => ?_
    have hr : rowAt ⟨t.val - 1, hlt⟩ p = lo p := Fin.ext (by show (t.val - 1) % 2 * 4096 + p.val = p.val; omega)
    have hc : colAt ⟨t.val - 1, hlt⟩ j = colAt t j := Fin.ext (by show (t.val - 1) / 2 * 896 + j.val = t.val / 2 * 896 + j.val; omega)
    unfold part
    rw [hr, hc]
  have ho : ∑ p, part m c t i j (rowAt t p) = ∑ p, part m c t i j (hi p) := by
    refine Finset.sum_congr rfl fun p _ => congrArg _ (Fin.ext ?_)
    show t.val % 2 * 4096 + p.val = 4096 + p.val
    omega
  rw [← halves, ← he, ← ho, ← prod_apply]
  rw [outsAt0_B m c t (by omega) h]
  frame_out
  pointwise [k0_pay2, shapeCast_self]

theorem grad_part (i : Fin 1024) (j : Fin 896) : ∑ b, ∑ q, part m c t i j (row b q) = grad m c (Idealize.ShloMosaic.ix2 i (colAt t j)) := by
  rw [grad_apply]
  refine Finset.sum_congr rfl fun b _ => Finset.sum_congr rfl fun q _ => ?_
  unfold part lhs rhs
  rw [hid_row, dproj_row]
  exact mul_comm (G := EReal) _ _

/-- The call leaves the reference's result. -/
theorem arr : (dats m 0 c).arrAt 2 cfg0.N = grad m c := by
  refine (dats m 0 c).arrAt_eq_of_covers 2 _ (by decide +kernel) fun t hf y => ?_
  have h1 : t.val % 2 = 1 := (by decide +kernel : ∀ t : Fin grid0.N, win0_2.flush t = true → t.val % 2 = 1) t hf
  obtain ⟨i, j, rfl⟩ : ∃ i j, y = Idealize.ShloMosaic.ix2 i j := ⟨y 0, y 1, by funext a; fin_cases a <;> rfl⟩
  have hi : win0_2.index t 0 = 0 ∧ win0_2.index t 1 = t.val / 2 :=
    (by decide +kernel : ∀ t : Fin grid0.N, win0_2.index t 0 = 0 ∧ win0_2.index t 1 = t.val / 2) t
  have he : ((cfg0.win 2).blk t).view.emb (Idealize.ShloMosaic.ix2 i j) = (Idealize.ShloMosaic.ix2 i (colAt t j) : S1024x3584.Idx) := by
    funext a
    apply Fin.ext
    match a with
    | ⟨0, _⟩ =>
      show win0_2.index t 0 * 1024 + 1 * i.val = i.val
      rw [hi.1]; omega
    | ⟨1, _⟩ =>
      show win0_2.index t 1 * 896 + 1 * j.val = t.val / 2 * 896 + j.val
      rw [hi.2]; omega
  rw [he]
  show (dats m 0 c).after 2 t (Idealize.ShloMosaic.ix2 i j) = _
  rw [after0_2]
  exact (outs_odd m c t h1 i j).trans (grad_part m c t i j)

/-- The reference's frame. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- The kernel and the reference leave equal results. -/
theorem equation : Cert.algebraic_Kernel5Ideal_Reference5Ideal := by
  intro m g m' g' _ hm
  refine ⟨fun c => grad m c, (θ_run defs _ _).mono (fun r h c => ⟨(h c).1.trans (arr m c), (h c).2⟩) (Value.run_blocks m g),
    (θ_run Cert.Reference5Ideal.defs _ _).mono (fun r h c => ?_) (Cert.Reference5Ideal.Value.run m' g')⟩
  obtain ⟨e0, e1, e2, e3⟩ := hm c
  obtain ⟨h0, hargs⟩ := h c
  refine ⟨h0.trans ((val_main_v30_eq _ _ _ _).trans ?_), hargs⟩
  rw [e0, e1, e2, e3]

end Cert.DwIn

end
-- ==== Proof.DwOut.Entry.lean ====
/-
  The gradient of the attention output matrix: what the call's two operands hold, what a grid point makes of its blocks, and
  what the reference sums.
-/
module

public import proofs.«01_k».proof.Proof.Gen.Kernel6Ideal.Value
public import proofs.«01_k».proof.Proof.Gen.Reference6Ideal.Read
public import proofs.«01_k».proof.Proof.DwFf.Rows

@[expose] public section

set_option maxRecDepth 16384

noncomputable section

namespace Cert.DwOut

open Idealize.ShloMosaic Idealize.ShloMosaic.TcCoe Idealize.ShloMosaic.Tactic Cert.Kernel6Ideal Cert.Kernel6Ideal.Gen
open Cert.Reference6Ideal.Read Cert.DwFf

variable (m : (ℓ : Loc nD τ sig) → Buf (Elt Ideal) ℓ) (c : Dev nD)

/-- The mixed heads. -/
abbrev mixed : FVec Ideal S4x2048x1024 .f32 := (m ((c : Thread nD τ).loc main_arg0) : FVec Ideal S4x2048x1024 .f32)
/-- The gated cotangent. -/
abbrev dout : FVec Ideal S4x2048x1024 .f32 := val_main_v12 (F := Ideal) (m ((c : Thread nD τ).loc main_arg1)) (m ((c : Thread nD τ).loc main_arg2))
/-- The reference's result. -/
abbrev grad : FVec Ideal S1024x1024 .f32 :=
  val_main_v14 (F := Ideal) (m ((c : Thread nD τ).loc main_arg0)) (m ((c : Thread nD τ).loc main_arg1)) (m ((c : Thread nD τ).loc main_arg2))

/-- The call's left operand: the mixed heads in rows. -/
theorem entry_mixed : (V m c main_v11 : Vec Ideal S8192x1024 .bf16)
    = shapeCast S8192x1024 (truncf (F := Ideal) .bf16 (mixed m c) bitsLt_bf16_f32) shapeCasts_S4x2048x1024_S8192x1024 := by
  entry_read
  rfl

/-- The call's right operand: the gated cotangent in rows. -/
theorem entry_dout : (V m c main_v12 : Vec Ideal S8192x1024 .bf16)
    = shapeCast S8192x1024 (truncf (F := Ideal) .bf16 (mulf (F := Ideal) (m ((c : Thread nD τ).loc main_arg2) : FVec Ideal S4x2048x1024 .f32)
        (val_main_v11 (F := Ideal) (m ((c : Thread nD τ).loc main_arg1)))) bitsLt_bf16_f32) shapeCasts_S4x2048x1024_S8192x1024 := by
  entry_read
  rfl

theorem mixed_row (b : Fin 4) (q : Fin 2048) (d : Fin 1024) :
    (V m c main_v11 : Vec Ideal S8192x1024 .bf16) (Idealize.ShloMosaic.ix2 (row b q) d) = mixed m c (Idealize.ShloMosaic.ix3 b q d) := by
  rw [entry_mixed]
  exact flat_apply _ _ b q d

theorem dout_row (b : Fin 4) (q : Fin 2048) (d : Fin 1024) :
    (V m c main_v12 : Vec Ideal S8192x1024 .bf16) (Idealize.ShloMosaic.ix2 (row b q) d) = dout m c (Idealize.ShloMosaic.ix3 b q d) := by
  rw [entry_dout]
  refine (flat_apply _ _ b q d).trans ?_
  unfold dout
  pointwise [val_main_v12]
  exact mul_comm (G := EReal) _ _

/-- The reference's entry: the sum over all tokens of cotangent times head. -/
theorem grad_apply (i j : Fin 1024) : grad m c (Idealize.ShloMosaic.ix2 i j)
    = ∑ b, ∑ q, dout m c (Idealize.ShloMosaic.ix3 b q j) * mixed m c (Idealize.ShloMosaic.ix3 b q i) := by
  unfold grad dout mixed
  pointwise [val_main_v14, val_main_v13, Reference6Ideal.dot_S4x2048x1024_S4x2048x1024_S1024x1024_01_01_2_2_n_n]

/-- A block's product, transposed on the left. -/
theorem pay_apply (x : Vec Ideal S4096x1024 .bf16) (y : Vec Ideal S4096x1024 .bf16) (i j : Fin 1024) :
    k0_pay1 (F := Ideal) x y (Idealize.ShloMosaic.ix2 i j) = ∑ p, x (Idealize.ShloMosaic.ix2 p i) * y (Idealize.ShloMosaic.ix2 p j) := by
  pointwise [k0_pay1, dot_S4096x1024_S4096x1024_S1024x1024_0_0_1_1_n_n, shapeCast_self]

end Cert.DwOut

end
-- ==== Proof.DwOut.Equation.lean ====
/-
  The gradient of the attention output matrix: the two points of the grid together hold the reference's sum, so the call
  leaves the reference's result.
-/
module

public import proofs.«01_k».proof.Defs
public import proofs.«01_k».proof.Proof.DwOut.Entry
public import proofs.«01_k».proof.Proof.Gen.Reference6Ideal.Run
public import Idealize.ShloMosaic.Lib.Pipeline.ValueKit

@[expose] public section

set_option maxRecDepth 16384

noncomputable section

namespace Cert.DwOut

open Idealize.ShloMosaic Idealize.ShloMosaic.TcCoe Idealize.ShloMosaic.Tactic Cert.Kernel6Ideal Cert.Kernel6Ideal.Gen
open Idealize.SL.Sem
open Cert.Reference6Ideal.Read Cert.DwFf

variable (m : (ℓ : Loc nD τ sig) → Buf (Elt Ideal) ℓ) (c : Dev nD) (t : Fin cfg0.N)

theorem pt_lt (t : Fin cfg0.N) : t.val < 2 := lt_of_lt_of_eq t.isLt (show cfg0.N = 2 from N_0)

/-- The row a point's `p`th row is. -/
def rowAt (p : Fin 4096) : Fin 8192 := ⟨t.val % 2 * 4096 + p.val, by have := p.isLt; omega⟩

theorem blk_0 (p : Fin 4096) (i : Fin 1024) : iblk m c 0 t (Idealize.ShloMosaic.ix2 p i)
    = (V m c main_v11 : Vec Ideal S8192x1024 .bf16) (Idealize.ShloMosaic.ix2 (rowAt t p) i) := by
  have hi : win0_0.index t 0 = t.val % 2 ∧ win0_0.index t 1 = 0 :=
    (by decide +kernel : ∀ t : Fin grid0.N, win0_0.index t 0 = t.val % 2 ∧ win0_0.index t 1 = 0) t
  unfold iblk
  rw [View.read_apply]
  show V m c main_v11 _ = V m c main_v11 _
  congr 1
  funext a
  apply Fin.ext
  match a with
  | ⟨0, _⟩ =>
    show win0_0.index t 0 * 4096 + 1 * p.val = t.val % 2 * 4096 + p.val
    rw [hi.1, Nat.one_mul]
  | ⟨1, _⟩ =>
    show win0_0.index t 1 * 1024 + 1 * i.val = i.val
    rw [hi.2]; omega

theorem blk_1 (p : Fin 4096) (j : Fin 1024) : iblk m c 1 t (Idealize.ShloMosaic.ix2 p j)
    = (V m c main_v12 : Vec Ideal S8192x1024 .bf16) (Idealize.ShloMosaic.ix2 (rowAt t p) j) := by
  have hi : win0_1.index t 0 = t.val % 2 ∧ win0_1.index t 1 = 0 :=
    (by decide +kernel : ∀ t : Fin grid0.N, win0_1.index t 0 = t.val % 2 ∧ win0_1.index t 1 = 0) t
  unfold iblk
  rw [View.read_apply]
  show V m c main_v12 _ = V m c main_v12 _
  congr 1
  funext a
  apply Fin.ext
  match a with
  | ⟨0, _⟩ =>
    show win0_1.index t 0 * 4096 + 1 * p.val = t.val % 2 * 4096 + p.val
    rw [hi.1, Nat.one_mul]
  | ⟨1, _⟩ =>
    show win0_1.index t 1 * 1024 + 1 * j.val = j.val
    rw [hi.2]; omega

/-- The two operands. -/
abbrev lhs : Vec Ideal S8192x1024 .bf16 := V m c main_v11
abbrev rhs : Vec Ideal S8192x1024 .bf16 := V m c main_v12

/-- One row's part of an entry of the result. -/
def part (i j : Fin 1024) (r : Fin 8192) : EReal :=
  lhs m c (Idealize.ShloMosaic.ix2 r i) * rhs m c (Idealize.ShloMosaic.ix2 r j)

/-- A point's product sums its half of the rows. -/
theorem prod_apply (i j : Fin 1024) : k0_pay1 (F := Ideal) (iblk m c 0 t) (iblk m c 1 t) (Idealize.ShloMosaic.ix2 i j)
    = ∑ p, part m c i j (rowAt t p) := by
  rw [pay_apply]
  refine Finset.sum_congr rfl fun p _ => ?_
  rw [blk_0, blk_1]
  rfl

theorem outs_even (h : t.val % 2 = 0) (i j : Fin 1024) : outsAt0 m c t.val t.isLt (Idealize.ShloMosaic.ix2 i j) = ∑ p, part m c i j (rowAt t p) := by
  rw [outsAt0_A m c t h (by omega)]
  frame_out
  exact prod_apply m c t i j

theorem outs_odd (h : t.val % 2 = 1) (i j : Fin 1024) : outsAt0 m c t.val t.isLt (Idealize.ShloMosaic.ix2 i j)
    = ∑ b, ∑ q, part m c i j (row b q) := by
  have hlt : t.val - 1 < cfg0.N := Nat.lt_of_le_of_lt (Nat.sub_le _ _) t.isLt
  have he : outsAt0 m c (t.val - 1) hlt (Idealize.ShloMosaic.ix2 i j) = ∑ p, part m c i j (lo p) := by
    refine (outs_even m c ⟨t.val - 1, hlt⟩ (by show (t.val - 1) % 2 = 0; omega) i j).trans ?_
    refine Finset.sum_congr rfl fun p _ => ?_
    have hr : rowAt ⟨t.val - 1, hlt⟩ p = lo p := Fin.ext (by show (t.val - 1) % 2 * 4096 + p.val = p.val; omega)
    rw [hr]
  have ho : ∑ p, part m c i j (rowAt t p) = ∑ p, part m c i j (hi p) := by
    refine Finset.sum_congr rfl fun p _ => congrArg _ (Fin.ext ?_)
    show t.val % 2 * 4096 + p.val = 4096 + p.val
    omega
  rw [← halves, ← he, ← ho, ← prod_apply]
  rw [outsAt0_B m c t (by omega) h]
  frame_out
  pointwise [k0_pay2, shapeCast_self]

theorem grad_part (i j : Fin 1024) : ∑ b, ∑ q, part m c i j (row b q) = grad m c (Idealize.ShloMosaic.ix2 i j) := by
  rw [grad_apply]
  refine Finset.sum_congr rfl fun b _ => Finset.sum_congr rfl fun q _ => ?_
  unfold part lhs rhs
  rw [mixed_row, dout_row]
  exact mul_comm (G := EReal) _ _

/-- The call leaves the reference's result. -/
theorem arr : (dats m 0 c).arrAt 2 cfg0.N = grad m c := by
  refine (dats m 0 c).arrAt_eq_of_covers 2 _ (by decide +kernel) fun t hf y => ?_
  have h1 : t.val % 2 = 1 := (by decide +kernel : ∀ t : Fin grid0.N, win0_2.flush t = true → t.val % 2 = 1) t hf
  obtain ⟨i, j, rfl⟩ : ∃ i j, y = Idealize.ShloMosaic.ix2 i j := ⟨y 0, y 1, by funext a; fin_cases a <;> rfl⟩
  have hi : win0_2.index t 0 = 0 ∧ win0_2.index t 1 = 0 :=
    (by decide +kernel : ∀ t : Fin grid0.N, win0_2.index t 0 = 0 ∧ win0_2.index t 1 = 0) t
  have he : ((cfg0.win 2).blk t).view.emb (Idealize.ShloMosaic.ix2 i j) = (Idealize.ShloMosaic.ix2 i j : S1024x1024.Idx) := by
    funext a
    apply Fin.ext
    match a with
    | ⟨0, _⟩ =>
      show win0_2.index t 0 * 1024 + 1 * i.val = i.val
      rw [hi.1]; omega
    | ⟨1, _⟩ =>
      show win0_2.index t 1 * 1024 + 1 * j.val = j.val
      rw [hi.2]; omega
  rw [he]
  show (dats m 0 c).after 2 t (Idealize.ShloMosaic.ix2 i j) = _
  rw [after0_2]
  exact (outs_odd m c t h1 i j).trans (grad_part m c i j)

/-- The reference's frame. -/
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

/-- The kernel and the reference leave equal results. -/
theorem equation : Cert.algebraic_Kernel6Ideal_Reference6Ideal := by
  intro m g m' g' _ hm
  refine ⟨fun c => grad m c, (θ_run defs _ _).mono (fun r h c => ⟨(h c).1.trans (arr m c), (h c).2⟩) (Value.run_blocks m g),
    (θ_run Cert.Reference6Ideal.defs _ _).mono (fun r h c => ?_) (Cert.Reference6Ideal.Value.run m' g')⟩
  obtain ⟨e0, e1, e2⟩ := hm c
  obtain ⟨h0, hargs⟩ := h c
  refine ⟨h0.trans ((val_main_v14_eq _ _ _).trans ?_), hargs⟩
  rw [e0, e1, e2]

end Cert.DwOut

end
-- ==== Proof.DwFf1.Entry.lean ====
/-
  The gradient of the first feed-forward matrix: what the call's two operands hold, what a grid point makes of its blocks,
  and what the reference sums.
-/
module

public import proofs.«01_k».proof.Proof.Gen.Kernel3Ideal.Value
public import proofs.«01_k».proof.Proof.Gen.Reference3Ideal.Read
public import proofs.«01_k».proof.Proof.DwFf.Rows

@[expose] public section

set_option maxRecDepth 16384

noncomputable section

namespace Cert.DwFf1

open Idealize.ShloMosaic Idealize.ShloMosaic.TcCoe Idealize.ShloMosaic.Tactic Cert.Kernel3Ideal Cert.Kernel3Ideal.Gen
open Cert.Reference3Ideal.Read Cert.DwFf

variable (m : (ℓ : Loc nD τ sig) → Buf (Elt Ideal) ℓ) (c : Dev nD)

/-- The modulated, normed rows, from the arguments. -/
abbrev hid : FVec Ideal S4x2048x1024 .f32 :=
  val_main_v27 (F := Ideal) (m ((c : Thread nD τ).loc main_arg0)) (m ((c : Thread nD τ).loc main_arg1)) (m ((c : Thread nD τ).loc main_arg2))
/-- The pre-activation. -/
abbrev pre : FVec Ideal S4x2048x4096 .f32 :=
  val_main_v28 (F := Ideal) (m ((c : Thread nD τ).loc main_arg0)) (m ((c : Thread nD τ).loc main_arg1)) (m ((c : Thread nD τ).loc main_arg2)) (m ((c : Thread nD τ).loc main_arg3))
/-- Twice its positive part. -/
abbrev slope : FVec Ideal S4x2048x4096 .f32 :=
  val_main_v35 (F := Ideal) (m ((c : Thread nD τ).loc main_arg0)) (m ((c : Thread nD τ).loc main_arg1)) (m ((c : Thread nD τ).loc main_arg2)) (m ((c : Thread nD τ).loc main_arg3))
/-- The cotangent and the gate, and the second matrix. -/
abbrev ct : FVec Ideal S4x2048x1024 .f32 := (m ((c : Thread nD τ).loc main_arg5) : FVec Ideal S4x2048x1024 .f32)
abbrev gate : FVec Ideal S4x2048x1024 .f32 := val_main_v41 (F := Ideal) (m ((c : Thread nD τ).loc main_arg1))
abbrev wout : FVec Ideal S4096x1024 .f32 := val_main_v36 (F := Ideal) (m ((c : Thread nD τ).loc main_arg4))
/-- The pre-activation's cotangent as the reference has it. -/
abbrev dpre : FVec Ideal S4x2048x4096 .f32 :=
  val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
/-- The reference's result. -/
abbrev grad : FVec Ideal S4x1024x1024 .f32 :=
  val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The call's left operand: the modulated rows. -/
theorem entry_hid : (V m c main_v39 : Vec Ideal S8192x1024 .bf16)
    = shapeCast S8192x1024 (truncf (F := Ideal) .bf16 (hid m c) bitsLt_bf16_f32) shapeCasts_S4x2048x1024_S8192x1024 := by
  entry_read
  rfl

/-- The call's right operand: the gated cotangent run back through the second matrix, times the activation's slope. -/
theorem entry_dpre : (V m c main_v40 : Vec Ideal S8192x4096 .bf16)
    = shapeCast S8192x4096 (truncf (F := Ideal) .bf16 (mulf (F := Ideal)
        (Host.dotGeneral (F := Ideal) (φ₁ := .f32) (φ₂ := .f32) dot_S4x2048x1024_S4096x1024_S4x2048x4096_2_1_01_0_n_n none
          (mulf (F := Ideal) (ct m c) (gate m c)) (wout m c)) (slope m c)) bitsLt_bf16_f32) shapeCasts_S4x2048x4096_S8192x4096 := by
  entry_read
  rfl

theorem hid_row (b : Fin 4) (q : Fin 2048) (d : Fin 1024) :
    (V m c main_v39 : Vec Ideal S8192x1024 .bf16) (Idealize.ShloMosaic.ix2 (row b q) d) = hid m c (Idealize.ShloMosaic.ix3 b q d) := by
  rw [entry_hid]
  exact flat_apply _ _ b q d

/-- The reference's cotangent: where the pre-activation is not positive, the slope is zero already. -/
theorem dpre_apply (b : Fin 4) (q : Fin 2048) (f : Fin 4096) : dpre m c (Idealize.ShloMosaic.ix3 b q f)
    = (∑ k, ct m c (Idealize.ShloMosaic.ix3 b q k) * gate m c (Idealize.ShloMosaic.ix3 b q k) * wout m c (Idealize.ShloMosaic.ix2 f k)) * slope m c (Idealize.ShloMosaic.ix3 b q f) := by
  unfold dpre slope
  pointwise [Reference3Ideal.dot_S4x2048x1024_S4096x1024_S4x2048x4096_2_1_01_0_n_n, val_main_v46, val_main_v45, val_main_v44, val_main_v43, val_main_v42, val_main_v35, val_main_v34, val_main_v31, val_main_v30, val_main_v29, val_main_cst_3, val_main_cst_5, val_main_cst_6, val_main_call0_v0, val_main_call0_cst]
  split
  · refine congrArg (· * _) (Finset.sum_congr rfl fun k _ => ?_)
    exact congrArg (· * _) (mul_comm (G := EReal) _ _)
  · rename_i h
    rw [max_eq_right (not_lt.mp h), mul_zero, mul_zero]

theorem dpre_row (b : Fin 4) (q : Fin 2048) (f : Fin 4096) :
    (V m c main_v40 : Vec Ideal S8192x4096 .bf16) (Idealize.ShloMosaic.ix2 (row b q) f) = dpre m c (Idealize.ShloMosaic.ix3 b q f) := by
  rw [entry_dpre]
  refine (flat_apply _ _ b q f).trans ?_
  rw [dpre_apply]
  pointwise [dot_S4x2048x1024_S4096x1024_S4x2048x4096_2_1_01_0_n_n]

/-- Column `1024 * s + j` of the matrix. -/
def col (s : Fin 4) (j : Fin 1024) : Fin 4096 := ⟨s.val * 1024 + j.val, by have := s.isLt; have := j.isLt; omega⟩

/-- The reference's entry: the sum over all tokens of cotangent times row, its columns in four shards. -/
theorem grad_apply (s : Fin 4) (i j : Fin 1024) : grad m c (Idealize.ShloMosaic.ix3 s i j)
    = ∑ b, ∑ q, dpre m c (Idealize.ShloMosaic.ix3 b q (col s j)) * hid m c (Idealize.ShloMosaic.ix3 b q i) := by
  unfold grad
  have h : val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (Idealize.ShloMosaic.ix3 i s j)
      = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (Idealize.ShloMosaic.ix2 i (col s j)) := by
    unfold val_main_v49
    refine shapeCast_apply _ _ _ _ ?_
    rw [Shape.rowMajor_val_three, Shape.rowMajor_val_two]
    show i.val * 4096 + (s.val * 1024 + j.val) = (i.val * 4 + s.val) * 1024 + j.val
    omega
  refine Eq.trans ?_ (h.trans ?_)
  · pointwise [val_main_v50]
  · unfold dpre hid
    pointwise [val_main_v48, val_main_v47, Reference3Ideal.dot_S4x2048x4096_S4x2048x1024_S4096x1024_01_01_2_2_n_n]

/-- A block's product, transposed on the left. -/
theorem pay_apply (x : Vec Ideal S4096x1024 .bf16) (y : Vec Ideal S4096x1024 .bf16) (i j : Fin 1024) :
    k0_pay1 (F := Ideal) x y (Idealize.ShloMosaic.ix2 i j) = ∑ p, x (Idealize.ShloMosaic.ix2 p i) * y (Idealize.ShloMosaic.ix2 p j) := by
  pointwise [k0_pay1, dot_S4096x1024_S4096x1024_S1024x1024_0_0_1_1_n_n, shapeCast_self]

end Cert.DwFf1

end
-- ==== Proof.DwFf1.Equation.lean ====
/-
  The gradient of the first feed-forward matrix: the two points of each block together hold the reference's sum, so the call
  leaves the reference's result.
-/
module

public import proofs.«01_k».proof.Defs
public import proofs.«01_k».proof.Proof.DwFf1.Entry
public import proofs.«01_k».proof.Proof.Gen.Reference3Ideal.Run
public import Idealize.ShloMosaic.Lib.Pipeline.ValueKit

@[expose] public section

set_option maxRecDepth 16384

noncomputable section

namespace Cert.DwFf1

open Idealize.ShloMosaic Idealize.ShloMosaic.TcCoe Idealize.ShloMosaic.Tactic Cert.Kernel3Ideal Cert.Kernel3Ideal.Gen
open Idealize.SL.Sem
open Cert.Reference3Ideal.Read Cert.DwFf

variable (m : (ℓ : Loc nD τ sig) → Buf (Elt Ideal) ℓ) (c : Dev nD) (t : Fin cfg0.N)

theorem pt_lt (t : Fin cfg0.N) : t.val < 8 := lt_of_lt_of_eq t.isLt (show cfg0.N = 8 from N_0)

/-- The row a point's `p`th row is. -/
def rowAt (p : Fin 4096) : Fin 8192 := ⟨t.val % 2 * 4096 + p.val, by have := p.isLt; omega⟩
/-- The shard of the matrix a point works on. -/
def shard : Fin 4 := ⟨t.val / 2, by have := pt_lt t; omega⟩

theorem blk_0 (p : Fin 4096) (i : Fin 1024) : iblk m c 0 t (Idealize.ShloMosaic.ix2 p i)
    = (V m c main_v39 : Vec Ideal S8192x1024 .bf16) (Idealize.ShloMosaic.ix2 (rowAt t p) i) := by
  have hi : win0_0.index t 0 = t.val % 2 ∧ win0_0.index t 1 = 0 :=
    (by decide +kernel : ∀ t : Fin grid0.N, win0_0.index t 0 = t.val % 2 ∧ win0_0.index t 1 = 0) t
  unfold iblk
  rw [View.read_apply]
  show V m c main_v39 _ = V m c main_v39 _
  congr 1
  funext a
  apply Fin.ext
  match a with
  | ⟨0, _⟩ =>
    show win0_0.index t 0 * 4096 + 1 * p.val = t.val % 2 * 4096 + p.val
    rw [hi.1, Nat.one_mul]
  | ⟨1, _⟩ =>
    show win0_0.index t 1 * 1024 + 1 * i.val = i.val
    rw [hi.2]; omega

theorem blk_1 (p : Fin 4096) (j : Fin 1024) : iblk m c 1 t (Idealize.ShloMosaic.ix2 p j)
    = (V m c main_v40 : Vec Ideal S8192x4096 .bf16) (Idealize.ShloMosaic.ix2 (rowAt t p) (col (shard t) j)) := by
  have hi : win0_1.index t 0 = t.val % 2 ∧ win0_1.index t 1 = t.val / 2 :=
    (by decide +kernel : ∀ t : Fin grid0.N, win0_1.index t 0 = t.val % 2 ∧ win0_1.index t 1 = t.val / 2) t
  unfold iblk
  rw [View.read_apply]
  show V m c main_v40 _ = V m c main_v40 _
  congr 1
  funext a
  apply Fin.ext
  match a with
  | ⟨0, _⟩ =>
    show win0_1.index t 0 * 4096 + 1 * p.val = t.val % 2 * 4096 + p.val
    rw [hi.1, Nat.one_mul]
  | ⟨1, _⟩ =>
    show win0_1.index t 1 * 1024 + 1 * j.val = t.val / 2 * 1024 + j.val
    rw [hi.2]; omega

/-- The two operands. -/
abbrev lhs : Vec Ideal S8192x1024 .bf16 := V m c main_v39
abbrev rhs : Vec Ideal S8192x4096 .bf16 := V m c main_v40

/-- One row's part of an entry of the result. -/
def part (i j : Fin 1024) (r : Fin 8192) : EReal :=
  lhs m c (Idealize.ShloMosaic.ix2 r i) * rhs m c (Idealize.ShloMosaic.ix2 r (col (shard t) j))

/-- A point's product sums its half of the rows. -/
theorem prod_apply (i j : Fin 1024) : k0_pay1 (F := Ideal) (iblk m c 0 t) (iblk m c 1 t) (Idealize.ShloMosaic.ix2 i j)
    = ∑ p, part m c t i j (rowAt t p) := by
  rw [pay_apply]
  refine Finset.sum_congr rfl fun p _ => ?_
  rw [blk_0, blk_1]
  rfl

theorem outs_even (h : t.val % 2 = 0) (i j : Fin 1024) : outsAt0 m c t.val t.isLt (Idealize.ShloMosaic.ix3 0 i j) = ∑ p, part m c t i j (rowAt t p) := by
  rw [outsAt0_A m c t h (by omega)]
  frame_out
  rw [← prod_apply m c t i j]
  pointwise [k0_pay2, shapeCast_self]

theorem outs_odd (h : t.val % 2 = 1) (i j : Fin 1024) : outsAt0 m c t.val t.isLt (Idealize.ShloMosaic.ix3 0 i j)
    = ∑ b, ∑ q, part m c t i j (row b q) := by
  have hlt : t.val - 1 < cfg0.N := Nat.lt_of_le_of_lt (Nat.sub_le _ _) t.isLt
  have he : outsAt0 m c (t.val - 1) hlt (Idealize.ShloMosaic.ix3 0 i j) = ∑ p, part m c t i j (lo p) := by
    refine (outs_even m c ⟨t.val - 1, hlt⟩ (by show (t.val - 1) % 2 = 0; omega) i j).trans ?_
    refine Finset.sum_congr rfl fun p _ => ?_
    have hr : rowAt ⟨t.val - 1, hlt⟩ p = lo p := Fin.ext (by show (t.val - 1) % 2 * 4096 + p.val = p.val; omega)
    have hc : shard ⟨t.val - 1, hlt⟩ = shard t := Fin.ext (by show (t.val - 1) / 2 = t.val / 2; omega)
    unfold part
    rw [hr, hc]
  have ho : ∑ p, part m c t i j (rowAt t p) = ∑ p, part m c t i j (hi p) := by
    refine Finset.sum_congr rfl fun p _ => congrArg _ (Fin.ext ?_)
    show t.val % 2 * 4096 + p.val = 4096 + p.val
    omega
  rw [← halves, ← he, ← ho, ← prod_apply]
  rw [outsAt0_B m c t (by omega) h]
  frame_out
  pointwise [k0_pay3, shapeCast_self]

theorem grad_part (i j : Fin 1024) : ∑ b, ∑ q, part m c t i j (row b q) = grad m c (Idealize.ShloMosaic.ix3 (shard t) i j) := by
  rw [grad_apply]
  refine Finset.sum_congr rfl fun b _ => Finset.sum_congr rfl fun q _ => ?_
  unfold part lhs rhs
  rw [hid_row, dpre_row]
  exact mul_comm (G := EReal) _ _

/-- The call leaves the reference's result. -/
theorem arr : (dats m 0 c).arrAt 2 cfg0.N = grad m c := by
  refine (dats m 0 c).arrAt_eq_of_covers 2 _ (by decide +kernel) fun t hf y => ?_
  have h1 : t.val % 2 = 1 := (by decide +kernel : ∀ t : Fin grid0.N, win0_2.flush t = true → t.val % 2 = 1) t hf
  obtain ⟨i, j, rfl⟩ : ∃ i j, y = Idealize.ShloMosaic.ix3 0 i j :=
    ⟨y 1, y 2, by funext a; fin_cases a; exacts [Fin.ext (Nat.lt_one_iff.1 (y 0).isLt), rfl, rfl]⟩
  have hi : win0_2.index t 0 = t.val / 2 ∧ win0_2.index t 1 = 0 ∧ win0_2.index t 2 = 0 :=
    (by decide +kernel : ∀ t : Fin grid0.N, win0_2.index t 0 = t.val / 2 ∧ win0_2.index t 1 = 0 ∧ win0_2.index t 2 = 0) t
  have he : ((cfg0.win 2).blk t).view.emb (Idealize.ShloMosaic.ix3 0 i j) = (Idealize.ShloMosaic.ix3 (shard t) i j : S4x1024x1024.Idx) := by
    funext a
    apply Fin.ext
    match a with
    | ⟨0, _⟩ =>
      show win0_2.index t 0 * 1 + 1 * 0 = t.val / 2
      rw [hi.1]; omega
    | ⟨1, _⟩ =>
      show win0_2.index t 1 * 1024 + 1 * i.val = i.val
      rw [hi.2.1]; omega
    | ⟨2, _⟩ =>
      show win0_2.index t 2 * 1024 + 1 * j.val = j.val
      rw [hi.2.2]; omega
  rw [he]
  show (dats m 0 c).after 2 t (Idealize.ShloMosaic.ix3 0 i j) = _
  rw [after0_2]
  exact (outs_odd m c t h1 i j).trans (grad_part m c t i j)

/-- The reference's frame. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- The kernel and the reference leave equal results. -/
theorem equation : Cert.algebraic_Kernel3Ideal_Reference3Ideal := by
  intro m g m' g' _ hm
  refine ⟨fun c => grad m c, (θ_run defs _ _).mono (fun r h c => ⟨(h c).1.trans (arr m c), (h c).2⟩) (Value.run_blocks m g),
    (θ_run Cert.Reference3Ideal.defs _ _).mono (fun r h c => ?_) (Cert.Reference3Ideal.Value.run m' g')⟩
  obtain ⟨e0, e1, e2, e3, e4, e5⟩ := hm c
  obtain ⟨h0, hargs⟩ := h c
  refine ⟨h0.trans ((val_main_v50_eq m' c).trans ?_), hargs⟩
  rw [e0, e1, e2, e3, e4, e5]

end Cert.DwFf1

end
-- ==== Proof.DwFf2.Entry.lean ====
/-
  The gradient of the second feed-forward matrix: what the call's two operands hold, what a grid point makes of its blocks,
  and what the reference sums.
-/
module

public import proofs.«01_k».proof.Proof.Gen.Kernel2Ideal.Value
public import proofs.«01_k».proof.Proof.Gen.Reference2Ideal.Read
public import proofs.«01_k».proof.Proof.DwFf.Rows

@[expose] public section

set_option maxRecDepth 16384

noncomputable section

namespace Cert.DwFf2

open Idealize.ShloMosaic Idealize.ShloMosaic.TcCoe Idealize.ShloMosaic.Tactic Cert.Kernel2Ideal Cert.Kernel2Ideal.Gen
open Cert.Reference2Ideal.Read Cert.DwFf

variable (m : (ℓ : Loc nD τ sig) → Buf (Elt Ideal) ℓ) (c : Dev nD)

/-- The squared activations, from the arguments. -/
abbrev act : FVec Ideal S4x2048x4096 .f32 :=
  val_main_v31 (F := Ideal) (m ((c : Thread nD τ).loc main_arg0)) (m ((c : Thread nD τ).loc main_arg1)) (m ((c : Thread nD τ).loc main_arg2)) (m ((c : Thread nD τ).loc main_arg3))
/-- The gated cotangent. -/
abbrev dout : FVec Ideal S4x2048x1024 .f32 := val_main_v37 (F := Ideal) (m ((c : Thread nD τ).loc main_arg1)) (m ((c : Thread nD τ).loc main_arg4))
/-- The reference's result. -/
abbrev grad : FVec Ideal S4096x1024 .f32 :=
  val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The call's left operand: the squared activations in rows. -/
theorem entry_act : (V m c main_v35 : Vec Ideal S8192x4096 .bf16)
    = shapeCast S8192x4096 (truncf (F := Ideal) .bf16 (act m c) bitsLt_bf16_f32) shapeCasts_S4x2048x4096_S8192x4096 := by
  entry_read
  rfl

/-- The call's right operand: the gated cotangent in rows. -/
theorem entry_dout : (V m c main_v36 : Vec Ideal S8192x1024 .bf16)
    = shapeCast S8192x1024 (truncf (F := Ideal) .bf16 (mulf (F := Ideal) (m ((c : Thread nD τ).loc main_arg4) : FVec Ideal S4x2048x1024 .f32)
        (val_main_v36 (F := Ideal) (m ((c : Thread nD τ).loc main_arg1)))) bitsLt_bf16_f32) shapeCasts_S4x2048x1024_S8192x1024 := by
  entry_read
  rfl

theorem act_row (b : Fin 4) (q : Fin 2048) (f : Fin 4096) :
    (V m c main_v35 : Vec Ideal S8192x4096 .bf16) (Idealize.ShloMosaic.ix2 (row b q) f) = act m c (Idealize.ShloMosaic.ix3 b q f) := by
  rw [entry_act]
  exact flat_apply _ _ b q f

theorem dout_row (b : Fin 4) (q : Fin 2048) (d : Fin 1024) :
    (V m c main_v36 : Vec Ideal S8192x1024 .bf16) (Idealize.ShloMosaic.ix2 (row b q) d) = dout m c (Idealize.ShloMosaic.ix3 b q d) := by
  rw [entry_dout]
  refine (flat_apply _ _ b q d).trans ?_
  unfold dout
  pointwise [val_main_v37]
  exact mul_comm (G := EReal) _ _

/-- The reference's entry: the sum over all tokens of cotangent times activation. -/
theorem grad_apply (f : Fin 4096) (d : Fin 1024) : grad m c (Idealize.ShloMosaic.ix2 f d)
    = ∑ b, ∑ q, dout m c (Idealize.ShloMosaic.ix3 b q d) * act m c (Idealize.ShloMosaic.ix3 b q f) := by
  unfold grad dout act
  pointwise [val_main_v39, val_main_v38, Reference2Ideal.dot_S4x2048x1024_S4x2048x4096_S1024x4096_01_01_2_2_n_n]

/-- A block's product, transposed on the left. -/
theorem pay_apply (x : Vec Ideal S4096x1024 .bf16) (y : Vec Ideal S4096x1024 .bf16) (i j : Fin 1024) :
    k0_pay1 (F := Ideal) x y (Idealize.ShloMosaic.ix2 i j) = ∑ p, x (Idealize.ShloMosaic.ix2 p i) * y (Idealize.ShloMosaic.ix2 p j) := by
  pointwise [k0_pay1, dot_S4096x1024_S4096x1024_S1024x1024_0_0_1_1_n_n, shapeCast_self]

end Cert.DwFf2

end
-- ==== Proof.DwFf2.Equation.lean ====
/-
  The gradient of the second feed-forward matrix: the two points of each block together hold the reference's sum, so the call
  leaves the reference's result.
-/
module

public import proofs.«01_k».proof.Defs
public import proofs.«01_k».proof.Proof.DwFf2.Entry
public import proofs.«01_k».proof.Proof.Gen.Reference2Ideal.Run
public import Idealize.ShloMosaic.Lib.Pipeline.ValueKit

@[expose] public section

set_option maxRecDepth 16384

noncomputable section

namespace Cert.DwFf2

open Idealize.ShloMosaic Idealize.ShloMosaic.TcCoe Idealize.ShloMosaic.Tactic Cert.Kernel2Ideal Cert.Kernel2Ideal.Gen
open Idealize.SL.Sem
open Cert.Reference2Ideal.Read Cert.DwFf

variable (m : (ℓ : Loc nD τ sig) → Buf (Elt Ideal) ℓ) (c : Dev nD) (t : Fin cfg0.N)

theorem pt_lt (t : Fin cfg0.N) : t.val < 8 := lt_of_lt_of_eq t.isLt (show cfg0.N = 8 from N_0)

/-- The row a point's `p`th row is. -/
def rowAt (p : Fin 4096) : Fin 8192 := ⟨t.val % 2 * 4096 + p.val, by have := p.isLt; omega⟩
/-- The column of the activations a point's `i`th column is. -/
def colAt (i : Fin 1024) : Fin 4096 := ⟨t.val / 2 * 1024 + i.val, by have := i.isLt; have := pt_lt t; omega⟩

theorem blk_0 (p : Fin 4096) (i : Fin 1024) : iblk m c 0 t (Idealize.ShloMosaic.ix2 p i)
    = (V m c main_v35 : Vec Ideal S8192x4096 .bf16) (Idealize.ShloMosaic.ix2 (rowAt t p) (colAt t i)) := by
  have hi : win0_0.index t 0 = t.val % 2 ∧ win0_0.index t 1 = t.val / 2 :=
    (by decide +kernel : ∀ t : Fin grid0.N, win0_0.index t 0 = t.val % 2 ∧ win0_0.index t 1 = t.val / 2) t
  unfold iblk
  rw [View.read_apply]
  show V m c main_v35 _ = V m c main_v35 _
  congr 1
  funext a
  apply Fin.ext
  match a with
  | ⟨0, _⟩ =>
    show win0_0.index t 0 * 4096 + 1 * p.val = t.val % 2 * 4096 + p.val
    rw [hi.1, Nat.one_mul]
  | ⟨1, _⟩ =>
    show win0_0.index t 1 * 1024 + 1 * i.val = t.val / 2 * 1024 + i.val
    rw [hi.2]; omega

theorem blk_1 (p : Fin 4096) (j : Fin 1024) : iblk m c 1 t (Idealize.ShloMosaic.ix2 p j)
    = (V m c main_v36 : Vec Ideal S8192x1024 .bf16) (Idealize.ShloMosaic.ix2 (rowAt t p) j) := by
  have hi : win0_1.index t 0 = t.val % 2 ∧ win0_1.index t 1 = 0 :=
    (by decide +kernel : ∀ t : Fin grid0.N, win0_1.index t 0 = t.val % 2 ∧ win0_1.index t 1 = 0) t
  unfold iblk
  rw [View.read_apply]
  show V m c main_v36 _ = V m c main_v36 _
  congr 1
  funext a
  apply Fin.ext
  match a with
  | ⟨0, _⟩ =>
    show win0_1.index t 0 * 4096 + 1 * p.val = t.val % 2 * 4096 + p.val
    rw [hi.1, Nat.one_mul]
  | ⟨1, _⟩ =>
    show win0_1.index t 1 * 1024 + 1 * j.val = j.val
    rw [hi.2]; omega

/-- The two operands. -/
abbrev lhs : Vec Ideal S8192x4096 .bf16 := V m c main_v35
abbrev rhs : Vec Ideal S8192x1024 .bf16 := V m c main_v36

/-- One row's part of an entry of the result. -/
def part (i j : Fin 1024) (r : Fin 8192) : EReal :=
  lhs m c (Idealize.ShloMosaic.ix2 r (colAt t i)) * rhs m c (Idealize.ShloMosaic.ix2 r j)

/-- A point's product sums its half of the rows. -/
theorem prod_apply (i j : Fin 1024) : k0_pay1 (F := Ideal) (iblk m c 0 t) (iblk m c 1 t) (Idealize.ShloMosaic.ix2 i j)
    = ∑ p, part m c t i j (rowAt t p) := by
  rw [pay_apply]
  refine Finset.sum_congr rfl fun p _ => ?_
  rw [blk_0, blk_1]
  rfl

theorem outs_even (h : t.val % 2 = 0) (i j : Fin 1024) : outsAt0 m c t.val t.isLt (Idealize.ShloMosaic.ix2 i j) = ∑ p, part m c t i j (rowAt t p) := by
  rw [outsAt0_A m c t h (by omega)]
  frame_out
  exact prod_apply m c t i j

theorem outs_odd (h : t.val % 2 = 1) (i j : Fin 1024) : outsAt0 m c t.val t.isLt (Idealize.ShloMosaic.ix2 i j)
    = ∑ b, ∑ q, part m c t i j (row b q) := by
  have hlt : t.val - 1 < cfg0.N := Nat.lt_of_le_of_lt (Nat.sub_le _ _) t.isLt
  have he : outsAt0 m c (t.val - 1) hlt (Idealize.ShloMosaic.ix2 i j) = ∑ p, part m c t i j (lo p) := by
    refine (outs_even m c ⟨t.val - 1, hlt⟩ (by show (t.val - 1) % 2 = 0; omega) i j).trans ?_
    refine Finset.sum_congr rfl fun p _ => ?_
    have hr : rowAt ⟨t.val - 1, hlt⟩ p = lo p := Fin.ext (by show (t.val - 1) % 2 * 4096 + p.val = p.val; omega)
    have hc : colAt ⟨t.val - 1, hlt⟩ i = colAt t i := Fin.ext (by show (t.val - 1) / 2 * 1024 + i.val = t.val / 2 * 1024 + i.val; omega)
    unfold part
    rw [hr, hc]
  have ho : ∑ p, part m c t i j (rowAt t p) = ∑ p, part m c t i j (hi p) := by
    refine Finset.sum_congr rfl fun p _ => congrArg _ (Fin.ext ?_)
    show t.val % 2 * 4096 + p.val = 4096 + p.val
    omega
  rw [← halves, ← he, ← ho, ← prod_apply]
  rw [outsAt0_B m c t (by omega) h]
  frame_out
  pointwise [k0_pay2, shapeCast_self]

theorem grad_part (i j : Fin 1024) : ∑ b, ∑ q, part m c t i j (row b q) = grad m c (Idealize.ShloMosaic.ix2 (colAt t i) j) := by
  rw [grad_apply]
  refine Finset.sum_congr rfl fun b _ => Finset.sum_congr rfl fun q _ => ?_
  unfold part lhs rhs
  rw [act_row, dout_row]
  exact mul_comm (G := EReal) _ _

/-- The call leaves the reference's result. -/
theorem arr : (dats m 0 c).arrAt 2 cfg0.N = grad m c := by
  refine (dats m 0 c).arrAt_eq_of_covers 2 _ (by decide +kernel) fun t hf y => ?_
  have h1 : t.val % 2 = 1 := (by decide +kernel : ∀ t : Fin grid0.N, win0_2.flush t = true → t.val % 2 = 1) t hf
  obtain ⟨i, j, rfl⟩ : ∃ i j, y = Idealize.ShloMosaic.ix2 i j := ⟨y 0, y 1, by funext a; fin_cases a <;> rfl⟩
  have hi : win0_2.index t 0 = t.val / 2 ∧ win0_2.index t 1 = 0 :=
    (by decide +kernel : ∀ t : Fin grid0.N, win0_2.index t 0 = t.val / 2 ∧ win0_2.index t 1 = 0) t
  have he : ((cfg0.win 2).blk t).view.emb (Idealize.ShloMosaic.ix2 i j) = (Idealize.ShloMosaic.ix2 (colAt t i) j : S4096x1024.Idx) := by
    funext a
    apply Fin.ext
    match a with
    | ⟨0, _⟩ =>
      show win0_2.index t 0 * 1024 + 1 * i.val = t.val / 2 * 1024 + i.val
      rw [hi.1, Nat.one_mul]
    | ⟨1, _⟩ =>
      show win0_2.index t 1 * 1024 + 1 * j.val = j.val
      rw [hi.2]; omega
  rw [he]
  show (dats m 0 c).after 2 t (Idealize.ShloMosaic.ix2 i j) = _
  rw [after0_2]
  exact (outs_odd m c t h1 i j).trans (grad_part m c t i j)

/-- The reference's frame. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The kernel and the reference leave equal results. -/
theorem equation : Cert.algebraic_Kernel2Ideal_Reference2Ideal := by
  intro m g m' g' _ hm
  refine ⟨fun c => grad m c, (θ_run defs _ _).mono (fun r h c => ⟨(h c).1.trans (arr m c), (h c).2⟩) (Value.run_blocks m g),
    (θ_run Cert.Reference2Ideal.defs _ _).mono (fun r h c => ?_) (Cert.Reference2Ideal.Value.run m' g')⟩
  obtain ⟨e0, e1, e2, e3, e4⟩ := hm c
  obtain ⟨h0, hargs⟩ := h c
  refine ⟨h0.trans ((val_main_v39_eq _ _ _ _ _).trans ?_), hargs⟩
  rw [e0, e1, e2, e3, e4]

end Cert.DwFf2

end
-- ==== Proof.BwdFfn.Arrays.lean ====
/-
  The seven arrays the kernel leaves are the reference's seven results.
-/
module

public import proofs.«01_k».proof.Proof.BwdFfn.Sums
public import Idealize.ShloMosaic.Lib.Pipeline.ValueKit

@[expose] public section

set_option maxRecDepth 16384

noncomputable section

namespace Cert.BwdFfn

open Idealize.ShloMosaic Idealize.ShloMosaic.TcCoe Idealize.ShloMosaic.Tactic Cert.KernelIdeal Cert.KernelIdeal.Gen
open Idealize.ShloMosaic.Pipeline (Dat Cfg Window)
open Cert.ReferenceIdeal.Read

variable (m : (ℓ : Loc nD τ sig) → Buf (Elt Ideal) ℓ) (c : Dev nD)

theorem ref59_apply (A : Args) (b : Fin 4) (d : Fin 1024) :
    val_main_v59 (F := Ideal) A.x A.mixed A.mod A.g A.w1 A.w2 A.ct (Idealize.ShloMosaic.ix3 b 0 d) = ∑ s, A.dh (Idealize.ShloMosaic.ix3 b s d) := by
  unfold Args.dh
  pointwise [val_main_v59, val_main_v58, val_main_cst_9, val_main_cst_10, val_main_cst_16]

theorem ref62_apply (A : Args) (b : Fin 4) (d : Fin 1024) :
    val_main_v62 (F := Ideal) A.x A.mixed A.mod A.g A.w1 A.w2 A.ct (Idealize.ShloMosaic.ix3 b 0 d) = ∑ s, A.dscale (Idealize.ShloMosaic.ix3 b s d) := by
  unfold Args.dscale
  pointwise [val_main_v62, val_main_v61, val_main_cst_9, val_main_cst_10, val_main_cst_16]

theorem ref88_apply (A : Args) (b : Fin 4) (d : Fin 1024) :
    val_main_v88 (F := Ideal) A.x A.mixed A.mod A.g A.w1 A.w2 A.ct (Idealize.ShloMosaic.ix3 b 0 d) = ∑ s, A.dgate (Idealize.ShloMosaic.ix3 b s d) := by
  unfold Args.dgate
  pointwise [val_main_v88, val_main_v87, val_main_cst_9, val_main_cst_10, val_main_cst_16]

/-- A sum over the first two axes of a rank-3 array. -/
theorem sum_two_axes {n0 n1 n2 : ℕ} (h : (⟨3, ![n0, n1, n2]⟩ : Shape).ReducesTo [0, 1] ⟨1, ![n2]⟩)
    (v : (⟨3, ![n0, n1, n2]⟩ : Shape).Idx → EReal) (x : EReal) (d : Fin n2) :
    Ideal.hostReduceAdd h v x (Idealize.ShloMosaic.ix1 d) = x + ∑ a, ∑ b, v (Idealize.ShloMosaic.ix3 a b d) := by
  refine congrArg (x + ·) ?_
  refine (Finset.sum_filter_eq_sum_of_fiber _ (fun k : Fin n0 × Fin n1 => Idealize.ShloMosaic.ix3 k.1 k.2 d)
    (fun _ _ e => Prod.ext (congrFun e 0) (congrFun e 1)) (fun i => ⟨fun e => ⟨(i 0, i 1), ?_⟩, ?_⟩) v).trans ?_
  · funext a
    match a with
    | ⟨0, _⟩ => rfl
    | ⟨1, _⟩ => rfl
    | ⟨2, _⟩ => exact Fin.ext (congrArg Fin.val (congrFun e 0)).symm
  · rintro ⟨k, rfl⟩
    funext b
    match b with
    | ⟨0, _⟩ => rfl
  · rw [Fintype.sum_prod_type]

theorem ref94_apply (A : Args) (d : Fin 1024) :
    val_main_v94 (F := Ideal) A.x A.mixed A.mod A.g A.w1 A.w2 A.ct (Idealize.ShloMosaic.ix2 0 d) = ∑ b, ∑ s, A.dg (Idealize.ShloMosaic.ix3 b s d) := by
  unfold Args.dg
  pointwise [val_main_v94, val_main_v70, val_main_v67, val_main_v66, val_main_cst_11, val_main_cst_12, sum_two_axes]
  exact (Fintype.sum_unique _).trans (Fintype.sum_unique _)

theorem arr7 : (dat m 0 c).arrAt 7 cfg0.N = val_main_v90 (F := Ideal) (args m c).x (args m c).mixed (args m c).mod (args m c).g (args m c).w1 (args m c).w2 (args m c).ct := by
  refine (dat m 0 c).arrAt_eq_of_covers 7 _ (by decide +kernel) fun t _ y => ?_
  obtain ⟨p, d, rfl⟩ : ∃ p d, y = Idealize.ShloMosaic.ix2 p d := ⟨y 0, y 1, by funext a; fin_cases a <;> rfl⟩
  have hi : win0_7.index t 0 = t.val ∧ win0_7.index t 1 = 0 :=
    (by decide +kernel : ∀ t : Fin grid0.N, win0_7.index t 0 = t.val ∧ win0_7.index t 1 = 0) t
  have he : ((cfg0.win 7).blk t).view.emb (Idealize.ShloMosaic.ix2 p d) = (Idealize.ShloMosaic.ix2 (flatOf t p) d : S8192x4096.Idx) := by
    funext a
    apply Fin.ext
    match a with
    | ⟨0, _⟩ =>
      show win0_7.index t 0 * 256 + 1 * p.val = t.val * 256 + p.val
      rw [hi.1, Nat.one_mul]
    | ⟨1, _⟩ =>
      show win0_7.index t 1 * 4096 + 1 * d.val = d.val
      rw [hi.2]; omega
  rw [he]
  show (dat m 0 c).after 7 t (Idealize.ShloMosaic.ix2 p d) = _
  rw [after_7]
  exact ((tileAt m c t).da p d).trans (rows_apply t _ _ p d).symm

theorem arr8 : (dat m 0 c).arrAt 8 cfg0.N = val_main_v91 (F := Ideal) (args m c).x (args m c).mixed (args m c).mod (args m c).g (args m c).w1 (args m c).w2 (args m c).ct := by
  refine (dat m 0 c).arrAt_eq_of_covers 8 _ (by decide +kernel) fun t _ y => ?_
  obtain ⟨p, d, rfl⟩ : ∃ p d, y = Idealize.ShloMosaic.ix2 p d := ⟨y 0, y 1, by funext a; fin_cases a <;> rfl⟩
  have hi : win0_8.index t 0 = t.val ∧ win0_8.index t 1 = 0 :=
    (by decide +kernel : ∀ t : Fin grid0.N, win0_8.index t 0 = t.val ∧ win0_8.index t 1 = 0) t
  have he : ((cfg0.win 8).blk t).view.emb (Idealize.ShloMosaic.ix2 p d) = (Idealize.ShloMosaic.ix2 (flatOf t p) d : S8192x1024.Idx) := by
    funext a
    apply Fin.ext
    match a with
    | ⟨0, _⟩ =>
      show win0_8.index t 0 * 256 + 1 * p.val = t.val * 256 + p.val
      rw [hi.1, Nat.one_mul]
    | ⟨1, _⟩ =>
      show win0_8.index t 1 * 1024 + 1 * d.val = d.val
      rw [hi.2]; omega
  rw [he]
  show (dat m 0 c).after 8 t (Idealize.ShloMosaic.ix2 p d) = _
  rw [after_8]
  exact ((tileAt m c t).dx p d).trans (rows_apply t _ _ p d).symm

theorem arr9 : (dat m 0 c).arrAt 9 cfg0.N = val_main_v93 (F := Ideal) (args m c).x (args m c).mixed (args m c).mod (args m c).g (args m c).w1 (args m c).w2 (args m c).ct := by
  refine (dat m 0 c).arrAt_eq_of_covers 9 _ (by decide +kernel) fun t _ y => ?_
  obtain ⟨p, d, rfl⟩ : ∃ p d, y = Idealize.ShloMosaic.ix2 p d := ⟨y 0, y 1, by funext a; fin_cases a <;> rfl⟩
  have hi : win0_9.index t 0 = t.val ∧ win0_9.index t 1 = 0 :=
    (by decide +kernel : ∀ t : Fin grid0.N, win0_9.index t 0 = t.val ∧ win0_9.index t 1 = 0) t
  have he : ((cfg0.win 9).blk t).view.emb (Idealize.ShloMosaic.ix2 p d) = (Idealize.ShloMosaic.ix2 (flatOf t p) d : S8192x1024.Idx) := by
    funext a
    apply Fin.ext
    match a with
    | ⟨0, _⟩ =>
      show win0_9.index t 0 * 256 + 1 * p.val = t.val * 256 + p.val
      rw [hi.1, Nat.one_mul]
    | ⟨1, _⟩ =>
      show win0_9.index t 1 * 1024 + 1 * d.val = d.val
      rw [hi.2]; omega
  rw [he]
  show (dat m 0 c).after 9 t (Idealize.ShloMosaic.ix2 p d) = _
  rw [after_9]
  exact ((tileAt m c t).dmixed p d).trans (rows_apply t _ _ p d).symm

theorem arr10 : (dat m 0 c).arrAt 10 cfg0.N = val_main_v59 (F := Ideal) (args m c).x (args m c).mixed (args m c).mod (args m c).g (args m c).w1 (args m c).w2 (args m c).ct := by
  refine (dat m 0 c).arrAt_eq_of_covers 10 _ (by decide +kernel) fun t hf y => ?_
  have h7 : t.val % 8 = 7 := (by decide +kernel : ∀ t : Fin grid0.N, win0_10.flush t = true → t.val % 8 = 7) t hf
  obtain ⟨d, rfl⟩ : ∃ d, y = Idealize.ShloMosaic.ix3 0 0 d :=
    ⟨y 2, by funext a; fin_cases a; exacts [Fin.ext (Nat.lt_one_iff.1 (y 0).isLt), Fin.ext (Nat.lt_one_iff.1 (y 1).isLt), rfl]⟩
  have hi : win0_10.index t 0 = t.val / 8 ∧ win0_10.index t 1 = 0 ∧ win0_10.index t 2 = 0 :=
    (by decide +kernel : ∀ t : Fin grid0.N, win0_10.index t 0 = t.val / 8 ∧ win0_10.index t 1 = 0 ∧ win0_10.index t 2 = 0) t
  have he : ((cfg0.win 10).blk t).view.emb (Idealize.ShloMosaic.ix3 0 0 d) = (Idealize.ShloMosaic.ix3 (seqOf t) 0 d : S4x1x1024.Idx) := by
    funext a
    apply Fin.ext
    match a with
    | ⟨0, _⟩ =>
      show win0_10.index t 0 * 1 + 1 * 0 = t.val / 8
      rw [hi.1]; omega
    | ⟨1, _⟩ =>
      show win0_10.index t 1 * 1 + 1 * 0 = 0
      rw [hi.2.1]
    | ⟨2, _⟩ =>
      show win0_10.index t 2 * 1024 + 1 * d.val = d.val
      rw [hi.2.2]; omega
  rw [he, ref59_apply]
  show (dat m 0 c).after 10 t (Idealize.ShloMosaic.ix3 0 0 d) = _
  rw [after_10]
  exact sum10_last m c t.val (pt_lt t) h7 d

theorem arr11 : (dat m 0 c).arrAt 11 cfg0.N = val_main_v62 (F := Ideal) (args m c).x (args m c).mixed (args m c).mod (args m c).g (args m c).w1 (args m c).w2 (args m c).ct := by
  refine (dat m 0 c).arrAt_eq_of_covers 11 _ (by decide +kernel) fun t hf y => ?_
  have h7 : t.val % 8 = 7 := (by decide +kernel : ∀ t : Fin grid0.N, win0_11.flush t = true → t.val % 8 = 7) t hf
  obtain ⟨d, rfl⟩ : ∃ d, y = Idealize.ShloMosaic.ix3 0 0 d :=
    ⟨y 2, by funext a; fin_cases a; exacts [Fin.ext (Nat.lt_one_iff.1 (y 0).isLt), Fin.ext (Nat.lt_one_iff.1 (y 1).isLt), rfl]⟩
  have hi : win0_11.index t 0 = t.val / 8 ∧ win0_11.index t 1 = 0 ∧ win0_11.index t 2 = 0 :=
    (by decide +kernel : ∀ t : Fin grid0.N, win0_11.index t 0 = t.val / 8 ∧ win0_11.index t 1 = 0 ∧ win0_11.index t 2 = 0) t
  have he : ((cfg0.win 11).blk t).view.emb (Idealize.ShloMosaic.ix3 0 0 d) = (Idealize.ShloMosaic.ix3 (seqOf t) 0 d : S4x1x1024.Idx) := by
    funext a
    apply Fin.ext
    match a with
    | ⟨0, _⟩ =>
      show win0_11.index t 0 * 1 + 1 * 0 = t.val / 8
      rw [hi.1]; omega
    | ⟨1, _⟩ =>
      show win0_11.index t 1 * 1 + 1 * 0 = 0
      rw [hi.2.1]
    | ⟨2, _⟩ =>
      show win0_11.index t 2 * 1024 + 1 * d.val = d.val
      rw [hi.2.2]; omega
  rw [he, ref62_apply]
  show (dat m 0 c).after 11 t (Idealize.ShloMosaic.ix3 0 0 d) = _
  rw [after_11]
  exact sum11_last m c t.val (pt_lt t) h7 d

theorem arr12 : (dat m 0 c).arrAt 12 cfg0.N = val_main_v88 (F := Ideal) (args m c).x (args m c).mixed (args m c).mod (args m c).g (args m c).w1 (args m c).w2 (args m c).ct := by
  refine (dat m 0 c).arrAt_eq_of_covers 12 _ (by decide +kernel) fun t hf y => ?_
  have h7 : t.val % 8 = 7 := (by decide +kernel : ∀ t : Fin grid0.N, win0_12.flush t = true → t.val % 8 = 7) t hf
  obtain ⟨d, rfl⟩ : ∃ d, y = Idealize.ShloMosaic.ix3 0 0 d :=
    ⟨y 2, by funext a; fin_cases a; exacts [Fin.ext (Nat.lt_one_iff.1 (y 0).isLt), Fin.ext (Nat.lt_one_iff.1 (y 1).isLt), rfl]⟩
  have hi : win0_12.index t 0 = t.val / 8 ∧ win0_12.index t 1 = 0 ∧ win0_12.index t 2 = 0 :=
    (by decide +kernel : ∀ t : Fin grid0.N, win0_12.index t 0 = t.val / 8 ∧ win0_12.index t 1 = 0 ∧ win0_12.index t 2 = 0) t
  have he : ((cfg0.win 12).blk t).view.emb (Idealize.ShloMosaic.ix3 0 0 d) = (Idealize.ShloMosaic.ix3 (seqOf t) 0 d : S4x1x1024.Idx) := by
    funext a
    apply Fin.ext
    match a with
    | ⟨0, _⟩ =>
      show win0_12.index t 0 * 1 + 1 * 0 = t.val / 8
      rw [hi.1]; omega
    | ⟨1, _⟩ =>
      show win0_12.index t 1 * 1 + 1 * 0 = 0
      rw [hi.2.1]
    | ⟨2, _⟩ =>
      show win0_12.index t 2 * 1024 + 1 * d.val = d.val
      rw [hi.2.2]; omega
  rw [he, ref88_apply]
  show (dat m 0 c).after 12 t (Idealize.ShloMosaic.ix3 0 0 d) = _
  rw [after_12]
  exact sum12_last m c t.val (pt_lt t) h7 d

theorem arr13 : (dat m 0 c).arrAt 13 cfg0.N = val_main_v94 (F := Ideal) (args m c).x (args m c).mixed (args m c).mod (args m c).g (args m c).w1 (args m c).w2 (args m c).ct := by
  refine (dat m 0 c).arrAt_eq_of_covers 13 _ (by decide +kernel) fun t hf y => ?_
  have h7 : t.val = 31 := (by decide +kernel : ∀ t : Fin grid0.N, win0_13.flush t = true → t.val = 31) t hf
  obtain ⟨d, rfl⟩ : ∃ d, y = Idealize.ShloMosaic.ix2 0 d :=
    ⟨y 1, by funext a; fin_cases a; exacts [Fin.ext (Nat.lt_one_iff.1 (y 0).isLt), rfl]⟩
  have hi : win0_13.index t 0 = 0 ∧ win0_13.index t 1 = 0 :=
    (by decide +kernel : ∀ t : Fin grid0.N, win0_13.index t 0 = 0 ∧ win0_13.index t 1 = 0) t
  have he : ((cfg0.win 13).blk t).view.emb (Idealize.ShloMosaic.ix2 0 d) = (Idealize.ShloMosaic.ix2 0 d : S1x1024.Idx) := by
    funext a
    apply Fin.ext
    match a with
    | ⟨0, _⟩ =>
      show win0_13.index t 0 * 1 + 1 * 0 = 0
      rw [hi.1]
    | ⟨1, _⟩ =>
      show win0_13.index t 1 * 1024 + 1 * d.val = d.val
      rw [hi.2]; omega
  rw [he, ref94_apply]
  show (dat m 0 c).after 13 t (Idealize.ShloMosaic.ix2 0 d) = _
  rw [after_13, h7]
  exact sum13_last m c d

end Cert.BwdFfn

end
-- ==== Proof.BwdFfn.Equation.lean ====
/-
  The value claim: both programs run, and the kernel's seven results are the reference's.
-/
module

public import proofs.«01_k».proof.Defs
public import proofs.«01_k».proof.Proof.BwdFfn.Arrays
public import proofs.«01_k».proof.Proof.Gen.ReferenceIdeal.Run

@[expose] public section

set_option maxRecDepth 16384

noncomputable section

namespace Cert.BwdFfn

open Idealize.ShloMosaic Idealize.ShloMosaic.TcCoe Idealize.ShloMosaic.Tactic Cert.KernelIdeal Cert.KernelIdeal.Gen
open Idealize.SL.Sem
open Cert.ReferenceIdeal.Read

variable (m : (ℓ : Loc nD τ sig) → Buf (Elt Ideal) ℓ) (ρ : Dev nD → PrngReg)

variable {m} {r : PUnit × MemSt nD τ sig (Elt Ideal)}

theorem post7 (h : Pipeline.FramePost cfgs (dat m) 0 (V m) r) (c : Dev nD) : r.2.mem ((c.tc : Thread nD τ).loc main_v47_0) = val_main_v90 (F := Ideal) (args m c).x (args m c).mixed (args m c).mod (args m c).g (args m c).w1 (args m c).w2 (args m c).ct :=
  ((h c).1 7).trans (arr7 m c)
theorem post8 (h : Pipeline.FramePost cfgs (dat m) 0 (V m) r) (c : Dev nD) : r.2.mem ((c.tc : Thread nD τ).loc main_v47_1) = val_main_v91 (F := Ideal) (args m c).x (args m c).mixed (args m c).mod (args m c).g (args m c).w1 (args m c).w2 (args m c).ct :=
  ((h c).1 8).trans (arr8 m c)
theorem post9 (h : Pipeline.FramePost cfgs (dat m) 0 (V m) r) (c : Dev nD) : r.2.mem ((c.tc : Thread nD τ).loc main_v47_2) = val_main_v93 (F := Ideal) (args m c).x (args m c).mixed (args m c).mod (args m c).g (args m c).w1 (args m c).w2 (args m c).ct :=
  ((h c).1 9).trans (arr9 m c)
theorem post10 (h : Pipeline.FramePost cfgs (dat m) 0 (V m) r) (c : Dev nD) : r.2.mem ((c.tc : Thread nD τ).loc main_v47_3) = val_main_v59 (F := Ideal) (args m c).x (args m c).mixed (args m c).mod (args m c).g (args m c).w1 (args m c).w2 (args m c).ct :=
  ((h c).1 10).trans (arr10 m c)
theorem post11 (h : Pipeline.FramePost cfgs (dat m) 0 (V m) r) (c : Dev nD) : r.2.mem ((c.tc : Thread nD τ).loc main_v47_4) = val_main_v62 (F := Ideal) (args m c).x (args m c).mixed (args m c).mod (args m c).g (args m c).w1 (args m c).w2 (args m c).ct :=
  ((h c).1 11).trans (arr11 m c)
theorem post12 (h : Pipeline.FramePost cfgs (dat m) 0 (V m) r) (c : Dev nD) : r.2.mem ((c.tc : Thread nD τ).loc main_v47_5) = val_main_v88 (F := Ideal) (args m c).x (args m c).mixed (args m c).mod (args m c).g (args m c).w1 (args m c).w2 (args m c).ct :=
  ((h c).1 12).trans (arr12 m c)
theorem post13 (h : Pipeline.FramePost cfgs (dat m) 0 (V m) r) (c : Dev nD) : r.2.mem ((c.tc : Thread nD τ).loc main_v47_6) = val_main_v94 (F := Ideal) (args m c).x (args m c).mixed (args m c).mod (args m c).g (args m c).w1 (args m c).w2 (args m c).ct :=
  ((h c).1 13).trans (arr13 m c)
theorem kept0 (h : Pipeline.FramePost cfgs (dat m) 0 (V m) r) (c : Dev nD) : r.2.mem ((c.tc : Thread nD τ).loc main_arg0) = m ((c.tc : Thread nD τ).loc main_arg0) :=
  ((h c).2 main_arg0 (Pipeline.mem_restRefs_of main_arg0 (by decide) (by decide))).trans (V_main_arg0 m c)
theorem kept1 (h : Pipeline.FramePost cfgs (dat m) 0 (V m) r) (c : Dev nD) : r.2.mem ((c.tc : Thread nD τ).loc main_arg1) = m ((c.tc : Thread nD τ).loc main_arg1) :=
  ((h c).2 main_arg1 (Pipeline.mem_restRefs_of main_arg1 (by decide) (by decide))).trans (V_main_arg1 m c)
theorem kept2 (h : Pipeline.FramePost cfgs (dat m) 0 (V m) r) (c : Dev nD) : r.2.mem ((c.tc : Thread nD τ).loc main_arg2) = m ((c.tc : Thread nD τ).loc main_arg2) :=
  ((h c).2 main_arg2 (Pipeline.mem_restRefs_of main_arg2 (by decide) (by decide))).trans (V_main_arg2 m c)
theorem kept3 (h : Pipeline.FramePost cfgs (dat m) 0 (V m) r) (c : Dev nD) : r.2.mem ((c.tc : Thread nD τ).loc main_arg3) = m ((c.tc : Thread nD τ).loc main_arg3) :=
  ((h c).1 5).trans (((dat m 0 c).arrAt_in 5 rfl _).trans ((dat_A m c 5).trans (V_main_arg3 m c)))
theorem kept4 (h : Pipeline.FramePost cfgs (dat m) 0 (V m) r) (c : Dev nD) : r.2.mem ((c.tc : Thread nD τ).loc main_arg4) = m ((c.tc : Thread nD τ).loc main_arg4) :=
  ((h c).2 main_arg4 (Pipeline.mem_restRefs_of main_arg4 (by decide) (by decide))).trans (V_main_arg4 m c)
theorem kept5 (h : Pipeline.FramePost cfgs (dat m) 0 (V m) r) (c : Dev nD) : r.2.mem ((c.tc : Thread nD τ).loc main_arg5) = m ((c.tc : Thread nD τ).loc main_arg5) :=
  ((h c).2 main_arg5 (Pipeline.mem_restRefs_of main_arg5 (by decide) (by decide))).trans (V_main_arg5 m c)
theorem kept6 (h : Pipeline.FramePost cfgs (dat m) 0 (V m) r) (c : Dev nD) : r.2.mem ((c.tc : Thread nD τ).loc main_arg6) = m ((c.tc : Thread nD τ).loc main_arg6) :=
  ((h c).2 main_arg6 (Pipeline.mem_restRefs_of main_arg6 (by decide) (by decide))).trans (V_main_arg6 m c)

variable (m)

/-- The kernel's run, its results as the reference's arrays of its arguments. -/
theorem run_values : θ_run defs (onTc (τ := τ) (main (F := Ideal))) ⟨m, fun _ => 0, ρ⟩ (fun r => ∀ c : Dev nD,
      r.2.mem ((c.tc : Thread nD τ).loc main_v47_0) = val_main_v90 (F := Ideal) (args m c).x (args m c).mixed (args m c).mod (args m c).g (args m c).w1 (args m c).w2 (args m c).ct
      ∧ r.2.mem ((c.tc : Thread nD τ).loc main_v47_1) = val_main_v91 (F := Ideal) (args m c).x (args m c).mixed (args m c).mod (args m c).g (args m c).w1 (args m c).w2 (args m c).ct
      ∧ r.2.mem ((c.tc : Thread nD τ).loc main_v47_2) = val_main_v93 (F := Ideal) (args m c).x (args m c).mixed (args m c).mod (args m c).g (args m c).w1 (args m c).w2 (args m c).ct
      ∧ r.2.mem ((c.tc : Thread nD τ).loc main_v47_3) = val_main_v59 (F := Ideal) (args m c).x (args m c).mixed (args m c).mod (args m c).g (args m c).w1 (args m c).w2 (args m c).ct
      ∧ r.2.mem ((c.tc : Thread nD τ).loc main_v47_4) = val_main_v62 (F := Ideal) (args m c).x (args m c).mixed (args m c).mod (args m c).g (args m c).w1 (args m c).w2 (args m c).ct
      ∧ r.2.mem ((c.tc : Thread nD τ).loc main_v47_5) = val_main_v88 (F := Ideal) (args m c).x (args m c).mixed (args m c).mod (args m c).g (args m c).w1 (args m c).w2 (args m c).ct
      ∧ r.2.mem ((c.tc : Thread nD τ).loc main_v47_6) = val_main_v94 (F := Ideal) (args m c).x (args m c).mixed (args m c).mod (args m c).g (args m c).w1 (args m c).w2 (args m c).ct
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨post7 h c, post8 h c, post9 h c, post10 h c, post11 h c, post12 h c, post13 h c, kept0 h c, kept1 h c, kept2 h c, kept3 h c, kept4 h c, kept5 h c, kept6 h c⟩)
    (run_post m ρ)

/-- The reference's frame. -/
theorem frame_reference : Cert.quiescent_ReferenceIdeal := fun m ρ _ =>
  (θ_run Cert.ReferenceIdeal.defs _ _).mono (fun r h => ⟨fun c => (h c).2.2.2.2.2.2.2, sem_eq_zero_of_no_sems (by decide) r.2⟩)
    (Cert.ReferenceIdeal.Value.run m ρ)

/-- The kernel and the reference leave equal results. -/
theorem equation : Cert.algebraic_KernelIdeal_ReferenceIdeal := by
  intro m g m' g' _ hm
  refine ⟨fun c => val_main_v90 (F := Ideal) (args m c).x (args m c).mixed (args m c).mod (args m c).g (args m c).w1 (args m c).w2 (args m c).ct, fun c => val_main_v91 (F := Ideal) (args m c).x (args m c).mixed (args m c).mod (args m c).g (args m c).w1 (args m c).w2 (args m c).ct, fun c => val_main_v93 (F := Ideal) (args m c).x (args m c).mixed (args m c).mod (args m c).g (args m c).w1 (args m c).w2 (args m c).ct, fun c => val_main_v59 (F := Ideal) (args m c).x (args m c).mixed (args m c).mod (args m c).g (args m c).w1 (args m c).w2 (args m c).ct, fun c => val_main_v62 (F := Ideal) (args m c).x (args m c).mixed (args m c).mod (args m c).g (args m c).w1 (args m c).w2 (args m c).ct, fun c => val_main_v88 (F := Ideal) (args m c).x (args m c).mixed (args m c).mod (args m c).g (args m c).w1 (args m c).w2 (args m c).ct, fun c => val_main_v94 (F := Ideal) (args m c).x (args m c).mixed (args m c).mod (args m c).g (args m c).w1 (args m c).w2 (args m c).ct, run_values m g,
    (θ_run Cert.ReferenceIdeal.defs _ _).mono (fun r h c => ?_) (Cert.ReferenceIdeal.Value.run m' g')⟩
  obtain ⟨e0, e1, e2, e3, e4, e5, e6⟩ := hm c
  obtain ⟨h0, h1, h2, h3, h4, h5, h6, hargs⟩ := h c
  refine ⟨h0.trans ((val_main_v90_eq m' c).trans ?_), h1.trans ((val_main_v91_eq m' c).trans ?_), h2.trans ((val_main_v93_eq m' c).trans ?_), h3.trans ((val_main_v59_eq m' c).trans ?_), h4.trans ((val_main_v62_eq m' c).trans ?_), h5.trans ((val_main_v88_eq m' c).trans ?_), h6.trans ((val_main_v94_eq m' c).trans ?_), hargs⟩
  all_goals (rw [e0, e1, e2, e3, e4, e5, e6]; rfl)

end Cert.BwdFfn

end
-- ==== Proof.lean ====
/- The certificate: the frames of the kernel, its idealisation and the reference, and the equality of their results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.FwdFfn.Equation
public import proofs.«01_k».proof.Proof.FwdIn.Equation
public import proofs.«01_k».proof.Proof.DwO.Equation
public import proofs.«01_k».proof.Proof.DwPw.Equation
public import proofs.«01_k».proof.Proof.Adam.Equation
public import proofs.«01_k».proof.Proof.AdaMod.Equation
public import proofs.«01_k».proof.Proof.AdamFf2.Equation
public import proofs.«01_k».proof.Proof.AdamAda.Equation
public import proofs.«01_k».proof.Proof.AdamIn.Equation
public import proofs.«01_k».proof.Proof.AdaBwd.Equation
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.FwdFfnBits.Run
public import proofs.«01_k».proof.Proof.DwIn.Equation
public import proofs.«01_k».proof.Proof.DwOut.Equation
public import proofs.«01_k».proof.Proof.DwFf1.Equation
public import proofs.«01_k».proof.Proof.DwFf2.Equation
public import proofs.«01_k».proof.Proof.BwdFfn.Equation
public import proofs.«01_k».proof.Proof.BwdFfnBits.Run

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  fun m ρ _ => Cert.BwdFfnBits.frame_printed m ρ, fun m ρ _ => Cert.BwdFfn.frame_ideal m ρ, Cert.BwdFfn.frame_reference,
  fun m ρ _ => Cert.Kernel2.Gen.frame m ρ, fun m ρ _ => Cert.Kernel2Ideal.Gen.frame m ρ, Cert.DwFf2.frame_reference,
  fun m ρ _ => Cert.Kernel3.Gen.frame m ρ, fun m ρ _ => Cert.Kernel3Ideal.Gen.frame m ρ, Cert.DwFf1.frame_reference,
  fun m ρ _ => Cert.FwdFfnBits.frame_printed m ρ, fun m ρ _ => Cert.FwdFfn.frame_ideal m ρ, Cert.FwdFfn.frame_reference,
  fun m ρ _ => Cert.Kernel5.Gen.frame m ρ, fun m ρ _ => Cert.Kernel5Ideal.Gen.frame m ρ, Cert.DwIn.frame_reference,
  fun m ρ _ => Cert.Kernel6.Gen.frame m ρ, fun m ρ _ => Cert.Kernel6Ideal.Gen.frame m ρ, Cert.DwOut.frame_reference,
  fun m ρ _ => Cert.Kernel7.Gen.frame m ρ, fun m ρ _ => Cert.Kernel7Ideal.Gen.frame m ρ, Cert.FwdIn.frame_reference,
  fun m ρ _ => Cert.Kernel8.Gen.frame m ρ, fun m ρ _ => Cert.Kernel8Ideal.Gen.frame m ρ, Cert.DwO.frame_reference,
  fun m ρ _ => Cert.Kernel9.Gen.frame m ρ, fun m ρ _ => Cert.Kernel9Ideal.Gen.frame m ρ, Cert.DwPw.frame_reference,
  fun m ρ _ => Cert.Kernel10.Gen.frame m ρ, fun m ρ _ => Cert.Kernel10Ideal.Gen.frame m ρ, Cert.Adam.frame_reference,
  fun m ρ _ => Cert.Kernel11.Gen.frame m ρ, fun m ρ _ => Cert.Kernel11Ideal.Gen.frame m ρ, Cert.AdaMod.frame_reference,
  fun m ρ _ => Cert.Kernel12.Gen.frame m ρ, fun m ρ _ => Cert.Kernel12Ideal.Gen.frame m ρ, Cert.AdamFf2.frame_reference,
  fun m ρ _ => Cert.Kernel13.Gen.frame m ρ, fun m ρ _ => Cert.Kernel13Ideal.Gen.frame m ρ, Cert.AdamAda.frame_reference,
  fun m ρ _ => Cert.Kernel14.Gen.frame m ρ, fun m ρ _ => Cert.Kernel14Ideal.Gen.frame m ρ, Cert.AdamIn.frame_reference,
  fun m ρ _ => Cert.Kernel15.Gen.frame m ρ, fun m ρ _ => Cert.Kernel15Ideal.Gen.frame m ρ, Cert.AdaBwd.frame_reference,
  trivial, Cert.BwdFfn.equation, trivial, Cert.DwFf2.equation, trivial, Cert.DwFf1.equation,
  trivial, Cert.FwdFfn.equation, trivial, Cert.DwIn.equation, trivial, Cert.DwOut.equation,
  trivial, Cert.FwdIn.equation, trivial, Cert.DwO.equation, trivial, Cert.DwPw.equation, trivial, Cert.Adam.equation, trivial, Cert.AdaMod.equation, trivial, Cert.AdamFf2.equation, trivial, Cert.AdamAda.equation, trivial, Cert.AdamIn.equation, trivial, Cert.AdaBwd.equation⟩

end Cert.Proof

end
